-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_experts6 [hPre_experts6 : Cert.Pre_experts6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_experts6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_experts6 [hPre_experts6 : Cert.Pre_experts6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_experts6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_above7 [hPre_above7 : Cert.Pre_above7.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_above7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_above7 [hPre_above7 : Cert.Pre_above7.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_above7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Kernel6Ideal_pre_experts6 [hKernel6Ideal : Cert.Kernel6Ideal.Facts] [hPre_experts6 : Cert.Pre_experts6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_experts6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Reference6Ideal_pre_experts6 [hReference6Ideal : Cert.Reference6Ideal.Facts] [hPre_experts6 : Cert.Pre_experts6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_experts6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Kernel7Ideal_pre_above7 [hKernel7Ideal : Cert.Kernel7Ideal.Facts] [hPre_above7 : Cert.Pre_above7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_above7 m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Reference7Ideal_pre_above7 [hReference7Ideal : Cert.Reference7Ideal.Facts] [hPre_above7 : Cert.Pre_above7.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_above7 m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v29_0)) (v1 : (c : Dev Cert.Kernel2Ideal.nD) → Buf (Elt Ideal) ((c.tc : Thread Cert.Kernel2Ideal.nD Cert.Kernel2Ideal.τ).loc Cert.Kernel2Ideal.main_v29_1)) (v2 : (c : Dev Cert.Kernel2Ideal.nD) → Buf (Elt Ideal) ((c.tc : Thread Cert.Kernel2Ideal.nD Cert.Kernel2Ideal.τ).loc Cert.Kernel2Ideal.main_v29_2)) (v3 : (c : Dev Cert.Kernel2Ideal.nD) → Buf (Elt Ideal) ((c.tc : Thread Cert.Kernel2Ideal.nD Cert.Kernel2Ideal.τ).loc Cert.Kernel2Ideal.main_v29_3)) (v4 : (c : Dev Cert.Kernel2Ideal.nD) → Buf (Elt Ideal) ((c.tc : Thread Cert.Kernel2Ideal.nD Cert.Kernel2Ideal.τ).loc Cert.Kernel2Ideal.main_v29_4)) (v5 : (c : Dev Cert.Kernel2Ideal.nD) → Buf (Elt Ideal) ((c.tc : Thread Cert.Kernel2Ideal.nD Cert.Kernel2Ideal.τ).loc Cert.Kernel2Ideal.main_v29_5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v29_0) = v0 c
          ∧ r.2.mem ((c.tc : Thread Cert.Kernel2Ideal.nD Cert.Kernel2Ideal.τ).loc Cert.Kernel2Ideal.main_v29_1) = v1 c
          ∧ r.2.mem ((c.tc : Thread Cert.Kernel2Ideal.nD Cert.Kernel2Ideal.τ).loc Cert.Kernel2Ideal.main_v29_2) = v2 c
          ∧ r.2.mem ((c.tc : Thread Cert.Kernel2Ideal.nD Cert.Kernel2Ideal.τ).loc Cert.Kernel2Ideal.main_v29_3) = v3 c
          ∧ r.2.mem ((c.tc : Thread Cert.Kernel2Ideal.nD Cert.Kernel2Ideal.τ).loc Cert.Kernel2Ideal.main_v29_4) = v4 c
          ∧ r.2.mem ((c.tc : Thread Cert.Kernel2Ideal.nD Cert.Kernel2Ideal.τ).loc Cert.Kernel2Ideal.main_v29_5) = v5 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v76) = v0 c
          ∧ r.2.mem ((c.tc : Thread Cert.Reference2Ideal.nD Cert.Reference2Ideal.τ).loc Cert.Reference2Ideal.main_v77) = v1 c
          ∧ r.2.mem ((c.tc : Thread Cert.Reference2Ideal.nD Cert.Reference2Ideal.τ).loc Cert.Reference2Ideal.main_v79) = v2 c
          ∧ r.2.mem ((c.tc : Thread Cert.Reference2Ideal.nD Cert.Reference2Ideal.τ).loc Cert.Reference2Ideal.main_v80) = v3 c
          ∧ r.2.mem ((c.tc : Thread Cert.Reference2Ideal.nD Cert.Reference2Ideal.τ).loc Cert.Reference2Ideal.main_v82) = v4 c
          ∧ r.2.mem ((c.tc : Thread Cert.Reference2Ideal.nD Cert.Reference2Ideal.τ).loc Cert.Reference2Ideal.main_v84) = v5 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)) →
    ∃ (v0 : (c : Dev Cert.Kernel4Ideal.nD) → Buf (Elt Ideal) ((c.tc : Thread Cert.Kernel4Ideal.nD Cert.Kernel4Ideal.τ).loc Cert.Kernel4Ideal.main_v21_0)) (v1 : (c : Dev Cert.Kernel4Ideal.nD) → Buf (Elt Ideal) ((c.tc : Thread Cert.Kernel4Ideal.nD Cert.Kernel4Ideal.τ).loc Cert.Kernel4Ideal.main_v21_1)) (v2 : (c : Dev Cert.Kernel4Ideal.nD) → Buf (Elt Ideal) ((c.tc : Thread Cert.Kernel4Ideal.nD Cert.Kernel4Ideal.τ).loc Cert.Kernel4Ideal.main_v21_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v21_0) = v0 c
          ∧ r.2.mem ((c.tc : Thread Cert.Kernel4Ideal.nD Cert.Kernel4Ideal.τ).loc Cert.Kernel4Ideal.main_v21_1) = v1 c
          ∧ r.2.mem ((c.tc : Thread Cert.Kernel4Ideal.nD Cert.Kernel4Ideal.τ).loc Cert.Kernel4Ideal.main_v21_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v106) = v0 c
          ∧ r.2.mem ((c.tc : Thread Cert.Reference4Ideal.nD Cert.Reference4Ideal.τ).loc Cert.Reference4Ideal.main_v107) = v1 c
          ∧ r.2.mem ((c.tc : Thread Cert.Reference4Ideal.nD Cert.Reference4Ideal.τ).loc Cert.Reference4Ideal.main_v110) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)) →
    ∃ (v0 : (c : Dev Cert.Kernel5Ideal.nD) → Buf (Elt Ideal) ((c.tc : Thread Cert.Kernel5Ideal.nD Cert.Kernel5Ideal.τ).loc Cert.Kernel5Ideal.main_v28)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v28) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v34) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0))

def preserves_Kernel6_Kernel6Ideal : Prop :=
  True

def algebraic_Kernel6Ideal_Reference6Ideal_pre_experts6 [hKernel6Ideal : Cert.Kernel6Ideal.Facts] [hReference6Ideal : Cert.Reference6Ideal.Facts] [hPre_experts6 : Cert.Pre_experts6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_experts6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v7) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal_pre_above7 [hKernel7Ideal : Cert.Kernel7Ideal.Facts] [hReference7Ideal : Cert.Reference7Ideal.Facts] [hPre_above7 : Cert.Pre_above7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_above7 m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v10_0)) (v1 : (c : Dev Cert.Kernel7Ideal.nD) → Buf (Elt Ideal) ((c.tc : Thread Cert.Kernel7Ideal.nD Cert.Kernel7Ideal.τ).loc Cert.Kernel7Ideal.main_v10_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v10_0) = v0 c
          ∧ r.2.mem ((c.tc : Thread Cert.Kernel7Ideal.nD Cert.Kernel7Ideal.τ).loc Cert.Kernel7Ideal.main_v10_2) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v27) = v0 c
          ∧ r.2.mem ((c.tc : Thread Cert.Reference7Ideal.nD Cert.Reference7Ideal.τ).loc Cert.Reference7Ideal.main_v28) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite : Cert.Pre_finite.Facts) (hPre_finite4 : Cert.Pre_finite4.Facts) (hPre_experts6 : Cert.Pre_experts6.Facts) (hPre_above7 : Cert.Pre_above7.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_experts6 (hKernel6Ideal := hKernel6Ideal) (hPre_experts6 := hPre_experts6)
    ∧ quiescent_Reference6Ideal (hReference6Ideal := hReference6Ideal)
    ∧ quiescent_Reference6Ideal_pre_experts6 (hReference6Ideal := hReference6Ideal) (hPre_experts6 := hPre_experts6)
    ∧ quiescent_Kernel7 (hKernel7 := hKernel7)
    ∧ quiescent_Kernel7Ideal (hKernel7Ideal := hKernel7Ideal)
    ∧ quiescent_Kernel7Ideal_pre_above7 (hKernel7Ideal := hKernel7Ideal) (hPre_above7 := hPre_above7)
    ∧ quiescent_Reference7Ideal (hReference7Ideal := hReference7Ideal)
    ∧ quiescent_Reference7Ideal_pre_above7 (hReference7Ideal := hReference7Ideal) (hPre_above7 := hPre_above7)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_experts6 (hKernel6Ideal := hKernel6Ideal) (hReference6Ideal := hReference6Ideal) (hPre_experts6 := hPre_experts6)
    ∧ preserves_Kernel7_Kernel7Ideal
    ∧ algebraic_Kernel7Ideal_Reference7Ideal_pre_above7 (hKernel7Ideal := hKernel7Ideal) (hReference7Ideal := hReference7Ideal) (hPre_above7 := hPre_above7)
-- ==== Pre_above7.lean ====
abbrev S256x65536 : Shape := ⟨2, ![256, 65536]⟩
abbrev S1x256 : Shape := ⟨2, ![1, 256]⟩
abbrev S_ : Shape := ⟨0, ![]⟩

class Facts : Prop where
  bcast_S_S1x256 : S_.BroadcastsInDim S1x256 (![] : Fin 0 → Fin S1x256.rank)
  reducesTo_S1x256_S_d0_1 : S1x256.ReducesTo [0, 1] S_
  h_S_ : 0 < S_.numel

variable [Facts]

def fn {F : FTy → Type} [FloatOps F] (main_arg0 : FVec F S256x65536 .f32) (main_arg1 : FVec F S1x256 .f32) : IVec S_ 1 :=
  let main_cst : FVec F S_ .f32 := constant S_ .f32 0xFF800000#32
  let main_v0 : FVec F S1x256 .f32 := broadcastInDim S1x256 ![] bcast_S_S1x256 main_cst
  let main_v1 : IVec S1x256 1 := cmpf .ogt main_arg1 main_v0
  let main_c : IVec S_ 1 := constantI S_ 1 1#1
  let main_v2 : IVec S_ 1 := (fun x v => Host.reduce IntOp.andi x v reducesTo_S1x256_S_d0_1 h_S_) main_v1 main_c
  main_v2
-- ==== Pre_experts6.lean ====
abbrev S8x65536 : Shape := ⟨2, ![8, 65536]⟩
abbrev S256 : Shape := ⟨1, ![256]⟩
abbrev S_ : Shape := ⟨0, ![]⟩

class Facts : Prop where
  bcast_S_S8x65536 : S_.BroadcastsInDim S8x65536 (![] : Fin 0 → Fin S8x65536.rank)
  reducesTo_S8x65536_S_d0_1 : S8x65536.ReducesTo [0, 1] S_
  h_S_ : 0 < S_.numel

variable [Facts]

def fn {F : FTy → Type} [FloatOps F] (main_arg0 : IVec S8x65536 32) (main_arg1 : IVec S8x65536 32) (main_arg2 : IVec S256 32) : IVec S_ 1 :=
  let main_c : IVec S_ 32 := constantI S_ 32 0#32
  let main_v0 : IVec S8x65536 32 := broadcastInDim S8x65536 ![] bcast_S_S8x65536 main_c
  let main_v1 : IVec S8x65536 1 := cmpi .sge main_arg0 main_v0
  let main_c_0 : IVec S_ 1 := constantI S_ 1 1#1
  let main_v2 : IVec S_ 1 := (fun x v => Host.reduce IntOp.andi x v reducesTo_S8x65536_S_d0_1 h_S_) main_v1 main_c_0
  let main_c_1 : IVec S_ 32 := constantI S_ 32 256#32
  let main_v3 : IVec S8x65536 32 := broadcastInDim S8x65536 ![] bcast_S_S8x65536 main_c_1
  let main_v4 : IVec S8x65536 1 := cmpi .slt main_arg0 main_v3
  let main_c_2 : IVec S_ 1 := constantI S_ 1 1#1
  let main_v5 : IVec S_ 1 := (fun x v => Host.reduce IntOp.andi x v reducesTo_S8x65536_S_d0_1 h_S_) main_v4 main_c_2
  let main_v6 : IVec S_ 1 := andi main_v2 main_v5
  main_v6
-- ==== Pre_finite.lean ====
abbrev S32x2048x8x2x64 : Shape := ⟨5, ![32, 2048, 8, 2, 64]⟩
abbrev S32x2048x8x128 : Shape := ⟨4, ![32, 2048, 8, 128]⟩
abbrev S32x2048x1024 : Shape := ⟨3, ![32, 2048, 1024]⟩
abbrev S32x8 : Shape := ⟨2, ![32, 8]⟩
abbrev S1x64 : Shape := ⟨2, ![1, 64]⟩
abbrev S1x128 : Shape := ⟨2, ![1, 128]⟩
abbrev S_ : Shape := ⟨0, ![]⟩

class Facts : Prop where
  bcast_S_S32x2048x8x128 : S_.BroadcastsInDim S32x2048x8x128 (![] : Fin 0 → Fin S32x2048x8x128.rank)
  reducesTo_S32x2048x8x128_S_d0_1_2_3 : S32x2048x8x128.ReducesTo [0, 1, 2, 3] S_
  h_S_ : 0 < S_.numel
  bcast_S_S1x64 : S_.BroadcastsInDim S1x64 (![] : Fin 0 → Fin S1x64.rank)
  reducesTo_S1x64_S_d0_1 : S1x64.ReducesTo [0, 1] S_

variable [Facts]

def fn_part1 {F : FTy → Type} [FloatOps F] (main_arg8 : FVec F S1x64 .f32) (main_v13 : IVec S_ 1) (main_v16 : IVec S1x64 1) : IVec S_ 1 :=
  let main_c_5 : IVec S_ 1 := constantI S_ 1 1#1
  let main_v17 : IVec S_ 1 := (fun x v => Host.reduce IntOp.andi x v reducesTo_S1x64_S_d0_1 h_S_) main_v16 main_c_5
  let main_v18 : IVec S_ 1 := andi main_v13 main_v17
  let main_v19 : FVec F S1x64 .f32 := Host.absf main_arg8
  let main_cst_6 : FVec F S_ .f32 := constant S_ .f32 0x7F800000#32
  let main_v20 : FVec F S1x64 .f32 := broadcastInDim S1x64 ![] bcast_S_S1x64 main_cst_6
  let main_v21 : IVec S1x64 1 := cmpf .olt main_v19 main_v20
  let main_c_7 : IVec S_ 1 := constantI S_ 1 1#1
  let main_v22 : IVec S_ 1 := (fun x v => Host.reduce IntOp.andi x v reducesTo_S1x64_S_d0_1 h_S_) main_v21 main_c_7
  let main_v23 : IVec S_ 1 := andi main_v18 main_v22
  main_v23

def fn {F : FTy → Type} [FloatOps F] (main_arg0 : FVec F S32x2048x8x2x64 .f32) (main_arg1 : FVec F S32x2048x8x2x64 .f32) (main_arg2 : FVec F S32x2048x8x128 .f32) (main_arg3 : FVec F S32x2048x1024 .f32) (main_arg4 : FVec F S32x8 .f32) (main_arg5 : FVec F S1x64 .f32) (main_arg6 : FVec F S1x64 .f32) (main_arg7 : FVec F S1x64 .f32) (main_arg8 : FVec F S1x64 .f32) (main_arg9 : FVec F S1x128 .f32) : IVec S_ 1 :=
  let main_v0 : FVec F S32x2048x8x128 .f32 := Host.absf main_arg2
  let main_cst : FVec F S_ .f32 := constant S_ .f32 0x7F800000#32
  let main_v1 : FVec F S32x2048x8x128 .f32 := broadcastInDim S32x2048x8x128 ![] bcast_S_S32x2048x8x128 main_cst
  let main_v2 : IVec S32x2048x8x128 1 := cmpf .olt main_v0 main_v1
  let main_c : IVec S_ 1 := constantI S_ 1 1#1
  let main_v3 : IVec S_ 1 := (fun x v => Host.reduce IntOp.andi x v reducesTo_S32x2048x8x128_S_d0_1_2_3 h_S_) main_v2 main_c
  let main_v4 : FVec F S1x64 .f32 := Host.absf main_arg5
  let main_cst_0 : FVec F S_ .f32 := constant S_ .f32 0x7F800000#32
  let main_v5 : FVec F S1x64 .f32 := broadcastInDim S1x64 ![] bcast_S_S1x64 main_cst_0
  let main_v6 : IVec S1x64 1 := cmpf .olt main_v4 main_v5
  let main_c_1 : IVec S_ 1 := constantI S_ 1 1#1
  let main_v7 : IVec S_ 1 := (fun x v => Host.reduce IntOp.andi x v reducesTo_S1x64_S_d0_1 h_S_) main_v6 main_c_1
  let main_v8 : IVec S_ 1 := andi main_v3 main_v7
  let main_v9 : FVec F S1x64 .f32 := Host.absf main_arg6
  let main_cst_2 : FVec F S_ .f32 := constant S_ .f32 0x7F800000#32
  let main_v10 : FVec F S1x64 .f32 := broadcastInDim S1x64 ![] bcast_S_S1x64 main_cst_2
  let main_v11 : IVec S1x64 1 := cmpf .olt main_v9 main_v10
  let main_c_3 : IVec S_ 1 := constantI S_ 1 1#1
  let main_v12 : IVec S_ 1 := (fun x v => Host.reduce IntOp.andi x v reducesTo_S1x64_S_d0_1 h_S_) main_v11 main_c_3
  let main_v13 : IVec S_ 1 := andi main_v8 main_v12
  let main_v14 : FVec F S1x64 .f32 := Host.absf main_arg7
  let main_cst_4 : FVec F S_ .f32 := constant S_ .f32 0x7F800000#32
  let main_v15 : FVec F S1x64 .f32 := broadcastInDim S1x64 ![] bcast_S_S1x64 main_cst_4
  let main_v16 : IVec S1x64 1 := cmpf .olt main_v14 main_v15
  fn_part1 (F := F) main_arg8 main_v13 main_v16
-- ==== Pre_finite4.lean ====
abbrev S32x2048x1024 : Shape := ⟨3, ![32, 2048, 1024]⟩
abbrev S32x6x1024 : Shape := ⟨3, ![32, 6, 1024]⟩
abbrev S1x4x256x256 : Shape := ⟨4, ![1, 4, 256, 256]⟩
abbrev S1x1024 : Shape := ⟨2, ![1, 1024]⟩
abbrev S1x1024x1024 : Shape := ⟨3, ![1, 1024, 1024]⟩
abbrev S1x1024x256 : Shape := ⟨3, ![1, 1024, 256]⟩
abbrev S_ : Shape := ⟨0, ![]⟩
abbrev S32x2x1024 : Shape := ⟨3, ![32, 2, 1024]⟩

class Facts : Prop where
  bcast_S_S32x2048x1024 : S_.BroadcastsInDim S32x2048x1024 (![] : Fin 0 → Fin S32x2048x1024.rank)
  reducesTo_S32x2048x1024_S_d0_1_2 : S32x2048x1024.ReducesTo [0, 1, 2] S_
  h_S_ : 0 < S_.numel
  slices_S32x6x1024_S32x2x1024_0_3_0 : S32x6x1024.Slices ![0, 3, 0] S32x2x1024
  bcast_S_S32x2x1024 : S_.BroadcastsInDim S32x2x1024 (![] : Fin 0 → Fin S32x2x1024.rank)
  reducesTo_S32x2x1024_S_d0_1_2 : S32x2x1024.ReducesTo [0, 1, 2] S_
  bcast_S_S1x1024 : S_.BroadcastsInDim S1x1024 (![] : Fin 0 → Fin S1x1024.rank)
  reducesTo_S1x1024_S_d0_1 : S1x1024.ReducesTo [0, 1] S_
  bcast_S_S1x1024x256 : S_.BroadcastsInDim S1x1024x256 (![] : Fin 0 → Fin S1x1024x256.rank)
  reducesTo_S1x1024x256_S_d0_1_2 : S1x1024x256.ReducesTo [0, 1, 2] S_

variable [Facts]

def fn_part1 {F : FTy → Type} [FloatOps F] (main_v14 : IVec S_ 1) (main_v15 : FVec F S1x1024x256 .f32) (main_v16 : FVec F S1x1024x256 .f32) : IVec S_ 1 :=
  let main_v17 : IVec S1x1024x256 1 := cmpf .olt main_v15 main_v16
  let main_c_5 : IVec S_ 1 := constantI S_ 1 1#1
  let main_v18 : IVec S_ 1 := (fun x v => Host.reduce IntOp.andi x v reducesTo_S1x1024x256_S_d0_1_2 h_S_) main_v17 main_c_5
  let main_v19 : IVec S_ 1 := andi main_v14 main_v18
  main_v19

def fn {F : FTy → Type} [FloatOps F] (main_arg0 : FVec F S32x2048x1024 .f32) (main_arg1 : FVec F S32x2048x1024 .f32) (main_arg2 : FVec F S32x2048x1024 .f32) (main_arg3 : FVec F S32x2048x1024 .f32) (main_arg4 : FVec F S32x6x1024 .f32) (main_arg5 : FVec F S1x4x256x256 .f32) (main_arg6 : FVec F S1x1024 .f32) (main_arg7 : FVec F S1x1024x1024 .f32) (main_arg8 : FVec F S1x1024 .f32) (main_arg9 : FVec F S1x1024x256 .f32) : IVec S_ 1 :=
  let main_v0 : FVec F S32x2048x1024 .f32 := Host.absf main_arg3
  let main_cst : FVec F S_ .f32 := constant S_ .f32 0x7F800000#32
  let main_v1 : FVec F S32x2048x1024 .f32 := broadcastInDim S32x2048x1024 ![] bcast_S_S32x2048x1024 main_cst
  let main_v2 : IVec S32x2048x1024 1 := cmpf .olt main_v0 main_v1
  let main_c : IVec S_ 1 := constantI S_ 1 1#1
  let main_v3 : IVec S_ 1 := (fun x v => Host.reduce IntOp.andi x v reducesTo_S32x2048x1024_S_d0_1_2 h_S_) main_v2 main_c
  let main_v4 : FVec F S32x2x1024 .f32 := (extractStridedSlice S32x2x1024 ![0, 3, 0] · slices_S32x6x1024_S32x2x1024_0_3_0) main_arg4
  let main_v5 : FVec F S32x2x1024 .f32 := Host.absf main_v4
  let main_cst_0 : FVec F S_ .f32 := constant S_ .f32 0x7F800000#32
  let main_v6 : FVec F S32x2x1024 .f32 := broadcastInDim S32x2x1024 ![] bcast_S_S32x2x1024 main_cst_0
  let main_v7 : IVec S32x2x1024 1 := cmpf .olt main_v5 main_v6
  let main_c_1 : IVec S_ 1 := constantI S_ 1 1#1
  let main_v8 : IVec S_ 1 := (fun x v => Host.reduce IntOp.andi x v reducesTo_S32x2x1024_S_d0_1_2 h_S_) main_v7 main_c_1
  let main_v9 : IVec S_ 1 := andi main_v3 main_v8
  let main_v10 : FVec F S1x1024 .f32 := Host.absf main_arg8
  let main_cst_2 : FVec F S_ .f32 := constant S_ .f32 0x7F800000#32
  let main_v11 : FVec F S1x1024 .f32 := broadcastInDim S1x1024 ![] bcast_S_S1x1024 main_cst_2
  let main_v12 : IVec S1x1024 1 := cmpf .olt main_v10 main_v11
  let main_c_3 : IVec S_ 1 := constantI S_ 1 1#1
  let main_v13 : IVec S_ 1 := (fun x v => Host.reduce IntOp.andi x v reducesTo_S1x1024_S_d0_1 h_S_) main_v12 main_c_3
  let main_v14 : IVec S_ 1 := andi main_v9 main_v13
  let main_v15 : FVec F S1x1024x256 .f32 := Host.absf main_arg9
  let main_cst_4 : FVec F S_ .f32 := constant S_ .f32 0x7F800000#32
  let main_v16 : FVec F S1x1024x256 .f32 := broadcastInDim S1x1024x256 ![] bcast_S_S1x1024x256 main_cst_4
  fn_part1 (F := F) main_v14 main_v15 main_v16
-- ==== Kernel.lean ====
abbrev S32x2048x8x2x64 : Shape := ⟨5, ![32, 2048, 8, 2, 64]⟩
abbrev S32x2048x8x128 : Shape := ⟨4, ![32, 2048, 8, 128]⟩
abbrev S32x2048x1024 : Shape := ⟨3, ![32, 2048, 1024]⟩
abbrev S32x8 : Shape := ⟨2, ![32, 8]⟩
abbrev S1x64 : Shape := ⟨2, ![1, 64]⟩
abbrev S1x128 : Shape := ⟨2, ![1, 128]⟩
abbrev S65536x1024 : Shape := ⟨2, ![65536, 1024]⟩
abbrev S32x4x512x8x128 : Shape := ⟨5, ![32, 4, 512, 8, 128]⟩
abbrev S32x8x4x128x512 : Shape := ⟨5, ![32, 8, 4, 128, 512]⟩
abbrev S4096 : Shape := ⟨1, ![4096]⟩
abbrev S_ : Shape := ⟨0, ![]⟩
abbrev S4096x1 : Shape := ⟨2, ![4096, 1]⟩
abbrev S4096x8 : Shape := ⟨2, ![4096, 8]⟩
abbrev S8x4096 : Shape := ⟨2, ![8, 4096]⟩
abbrev S8x3072 : Shape := ⟨2, ![8, 3072]⟩
abbrev S8x1x3072 : Shape := ⟨3, ![8, 1, 3072]⟩
abbrev S8x2x3072 : Shape := ⟨3, ![8, 2, 3072]⟩
abbrev S16x1x3072 : Shape := ⟨3, ![16, 1, 3072]⟩
abbrev S64 : Shape := ⟨1, ![64]⟩
abbrev S4x64 : Shape := ⟨2, ![4, 64]⟩
abbrev S128 : Shape := ⟨1, ![128]⟩
abbrev S1024x128 : Shape := ⟨2, ![1024, 128]⟩
abbrev S1x1x4x128x512 : Shape := ⟨5, ![1, 1, 4, 128, 512]⟩
abbrev S2048x128 : Shape := ⟨2, ![2048, 128]⟩
abbrev S1x1x3072 : Shape := ⟨3, ![1, 1, 3072]⟩
abbrev S4x1024x512 : Shape := ⟨3, ![4, 1024, 512]⟩
abbrev S4x2048x512 : Shape := ⟨3, ![4, 2048, 512]⟩
abbrev S2048x256 : Shape := ⟨2, ![2048, 256]⟩
abbrev S3072 : Shape := ⟨1, ![3072]⟩
abbrev S1x3072 : Shape := ⟨2, ![1, 3072]⟩
abbrev S1024x3072 : Shape := ⟨2, ![1024, 3072]⟩
abbrev S1024x1024 : Shape := ⟨2, ![1024, 1024]⟩
abbrev S1024x4096 : Shape := ⟨2, ![1024, 4096]⟩
abbrev S1024x512 : Shape := ⟨2, ![1024, 512]⟩
abbrev S1x1024x512 : Shape := ⟨3, ![1, 1024, 512]⟩
abbrev S1 : Shape := ⟨1, ![1]⟩
abbrev S1x1 : Shape := ⟨2, ![1, 1]⟩
abbrev S1x1x1x128x512 : Shape := ⟨5, ![1, 1, 1, 128, 512]⟩
abbrev S128x512 : Shape := ⟨2, ![128, 512]⟩
abbrev S2048x512 : Shape := ⟨2, ![2048, 512]⟩
abbrev S1x2048x512 : Shape := ⟨3, ![1, 2048, 512]⟩
abbrev S2048 : Shape := ⟨1, ![2048]⟩
abbrev S2048x1 : Shape := ⟨2, ![2048, 1]⟩
abbrev S512x128 : Shape := ⟨2, ![512, 128]⟩
abbrev S512x256 : Shape := ⟨2, ![512, 256]⟩
abbrev S1024x256 : Shape := ⟨2, ![1024, 256]⟩
abbrev S1024x1 : Shape := ⟨2, ![1024, 1]⟩
abbrev S1024 : Shape := ⟨1, ![1024]⟩

abbrev nBuf : Space → Nat
  | .hbm => 87
  | .vmem => 18
  | .smem => 0
  | _ => 0

abbrev bufTy : (tb : Table) → Fin (tcTables nBuf tb) → BufTy
  | .hbm, ⟨0, _⟩ => ⟨S32x2048x8x2x64, .f32⟩
  | .hbm, ⟨1, _⟩ => ⟨S32x2048x8x2x64, .f32⟩
  | .hbm, ⟨2, _⟩ => ⟨S32x2048x8x128, .f32⟩
  | .hbm, ⟨3, _⟩ => ⟨S32x2048x1024, .f32⟩
  | .hbm, ⟨4, _⟩ => ⟨S32x8, .f32⟩
  | .hbm, ⟨5, _⟩ => ⟨S1x64, .f32⟩
  | .hbm, ⟨6, _⟩ => ⟨S1x64, .f32⟩
  | .hbm, ⟨7, _⟩ => ⟨S1x64, .f32⟩
  | .hbm, ⟨8, _⟩ => ⟨S1x64, .f32⟩
  | .hbm, ⟨9, _⟩ => ⟨S1x128, .f32⟩
  | .hbm, ⟨10, _⟩ => ⟨S65536x1024, .f32⟩
  | .hbm, ⟨11, _⟩ => ⟨S65536x1024, .bf16⟩
  | .hbm, ⟨12, _⟩ => ⟨S32x4x512x8x128, .f32⟩
  | .hbm, ⟨13, _⟩ => ⟨S32x8x4x128x512, .f32⟩
  | .hbm, ⟨14, _⟩ => ⟨S32x8x4x128x512, .bf16⟩
  | .hbm, ⟨15, _⟩ => ⟨S65536x1024, .f32⟩
  | .hbm, ⟨16, _⟩ => ⟨S65536x1024, .bf16⟩
  | .hbm, ⟨17, _⟩ => ⟨S65536x1024, .f32⟩
  | .hbm, ⟨18, _⟩ => ⟨S65536x1024, .bf16⟩
  | .hbm, ⟨19, _⟩ => ⟨S4096, .i32⟩
  | .hbm, ⟨20, _⟩ => ⟨S_, .i32⟩
  | .hbm, ⟨21, _⟩ => ⟨S4096, .i32⟩
  | .hbm, ⟨22, _⟩ => ⟨S4096, .i32⟩
  | .hbm, ⟨23, _⟩ => ⟨S4096, .i32⟩
  | .hbm, ⟨24, _⟩ => ⟨S_, .i32⟩
  | .hbm, ⟨25, _⟩ => ⟨S4096, .i32⟩
  | .hbm, ⟨26, _⟩ => ⟨S4096, .i32⟩
  | .hbm, ⟨27, _⟩ => ⟨S4096, .f32⟩
  | .hbm, ⟨28, _⟩ => ⟨S_, .f32⟩
  | .hbm, ⟨29, _⟩ => ⟨S4096, .f32⟩
  | .hbm, ⟨30, _⟩ => ⟨S4096, .f32⟩
  | .hbm, ⟨31, _⟩ => ⟨S4096, .f32⟩
  | .hbm, ⟨32, _⟩ => ⟨S_, .f32⟩
  | .hbm, ⟨33, _⟩ => ⟨S4096, .f32⟩
  | .hbm, ⟨34, _⟩ => ⟨S4096, .f32⟩
  | .hbm, ⟨35, _⟩ => ⟨S_, .f32⟩
  | .hbm, ⟨36, _⟩ => ⟨S4096, .f32⟩
  | .hbm, ⟨37, _⟩ => ⟨S4096, .f32⟩
  | .hbm, ⟨38, _⟩ => ⟨S4096, .i32⟩
  | .hbm, ⟨39, _⟩ => ⟨S_, .i32⟩
  | .hbm, ⟨40, _⟩ => ⟨S4096, .i32⟩
  | .hbm, ⟨41, _⟩ => ⟨S4096, .i32⟩
  | .hbm, ⟨42, _⟩ => ⟨S_, .i32⟩
  | .hbm, ⟨43, _⟩ => ⟨S4096, .i32⟩
  | .hbm, ⟨44, _⟩ => ⟨S4096, .i32⟩
  | .hbm, ⟨45, _⟩ => ⟨S_, .i32⟩
  | .hbm, ⟨46, _⟩ => ⟨S4096, .i32⟩
  | .hbm, ⟨47, _⟩ => ⟨S4096, .i1⟩
  | .hbm, ⟨48, _⟩ => ⟨S_, .i32⟩
  | .hbm, ⟨49, _⟩ => ⟨S_, .i32⟩
  | .hbm, ⟨50, _⟩ => ⟨S4096, .i32⟩
  | .hbm, ⟨51, _⟩ => ⟨S4096, .i32⟩
  | .hbm, ⟨52, _⟩ => ⟨S4096, .i32⟩
  | .hbm, ⟨53, _⟩ => ⟨S_, .i32⟩
  | .hbm, ⟨54, _⟩ => ⟨S4096, .i32⟩
  | .hbm, ⟨55, _⟩ => ⟨S4096, .i1⟩
  | .hbm, ⟨56, _⟩ => ⟨S4096, .i32⟩
  | .hbm, ⟨57, _⟩ => ⟨S4096, .i32⟩
  | .hbm, ⟨58, _⟩ => ⟨S4096, .i32⟩
  | .hbm, ⟨59, _⟩ => ⟨S_, .i32⟩
  | .hbm, ⟨60, _⟩ => ⟨S4096, .i32⟩
  | .hbm, ⟨61, _⟩ => ⟨S4096, .i1⟩
  | .hbm, ⟨62, _⟩ => ⟨S_, .i32⟩
  | .hbm, ⟨63, _⟩ => ⟨S4096, .i32⟩
  | .hbm, ⟨64, _⟩ => ⟨S4096, .i32⟩
  | .hbm, ⟨65, _⟩ => ⟨S4096, .i32⟩
  | .hbm, ⟨66, _⟩ => ⟨S4096x1, .i32⟩
  | .hbm, ⟨67, _⟩ => ⟨S4096x8, .f32⟩
  | .hbm, ⟨68, _⟩ => ⟨S8x4096, .f32⟩
  | .hbm, ⟨69, _⟩ => ⟨S8x3072, .f32⟩
  | .hbm, ⟨70, _⟩ => ⟨S8x3072, .f32⟩
  | .hbm, ⟨71, _⟩ => ⟨S8x1x3072, .f32⟩
  | .hbm, ⟨72, _⟩ => ⟨S8x1x3072, .f32⟩
  | .hbm, ⟨73, _⟩ => ⟨S8x2x3072, .f32⟩
  | .hbm, ⟨74, _⟩ => ⟨S16x1x3072, .f32⟩
  | .hbm, ⟨75, _⟩ => ⟨S64, .f32⟩
  | .hbm, ⟨76, _⟩ => ⟨S64, .f32⟩
  | .hbm, ⟨77, _⟩ => ⟨S64, .f32⟩
  | .hbm, ⟨78, _⟩ => ⟨S64, .f32⟩
  | .hbm, ⟨79, _⟩ => ⟨S1x64, .f32⟩
  | .hbm, ⟨80, _⟩ => ⟨S1x64, .f32⟩
  | .hbm, ⟨81, _⟩ => ⟨S1x64, .f32⟩
  | .hbm, ⟨82, _⟩ => ⟨S1x64, .f32⟩
  | .hbm, ⟨83, _⟩ => ⟨S4x64, .f32⟩
  | .hbm, ⟨84, _⟩ => ⟨S128, .f32⟩
  | .hbm, ⟨85, _⟩ => ⟨S1x128, .f32⟩
  | .hbm, ⟨86, _⟩ => ⟨S65536x1024, .bf16⟩
  | .local _ .vmem, ⟨0, _⟩ => ⟨S1024x128, .bf16⟩
  | .local _ .vmem, ⟨1, _⟩ => ⟨S1024x128, .bf16⟩
  | .local _ .vmem, ⟨2, _⟩ => ⟨S1x1x4x128x512, .bf16⟩
  | .local _ .vmem, ⟨3, _⟩ => ⟨S1x1x4x128x512, .bf16⟩
  | .local _ .vmem, ⟨4, _⟩ => ⟨S2048x128, .bf16⟩
  | .local _ .vmem, ⟨5, _⟩ => ⟨S2048x128, .bf16⟩
  | .local _ .vmem, ⟨6, _⟩ => ⟨S1024x128, .bf16⟩
  | .local _ .vmem, ⟨7, _⟩ => ⟨S1024x128, .bf16⟩
  | .local _ .vmem, ⟨8, _⟩ => ⟨S1x1x3072, .f32⟩
  | .local _ .vmem, ⟨9, _⟩ => ⟨S1x1x3072, .f32⟩
  | .local _ .vmem, ⟨10, _⟩ => ⟨S4x64, .f32⟩
  | .local _ .vmem, ⟨11, _⟩ => ⟨S1x128, .f32⟩
  | .local _ .vmem, ⟨12, _⟩ => ⟨S1024x128, .bf16⟩
  | .local _ .vmem, ⟨13, _⟩ => ⟨S1024x128, .bf16⟩
  | .local _ .vmem, ⟨14, _⟩ => ⟨S4x1024x512, .f32⟩
  | .local _ .vmem, ⟨15, _⟩ => ⟨S4x2048x512, .f32⟩
  | .local _ .vmem, ⟨16, _⟩ => ⟨S2048x128, .f32⟩
  | .local _ .vmem, ⟨17, _⟩ => ⟨S2048x256, .f32⟩
  | _, _ => ⟨S32x2048x8x2x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c_0 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_1 : Ref sig .tc := ⟨.hbm, 32, rfl⟩
abbrev main_v19 : Ref sig .tc := ⟨.hbm, 33, rfl⟩
abbrev main_v20 : Ref sig .tc := ⟨.hbm, 34, rfl⟩
abbrev main_cst_2 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_3 : Ref sig .tc := ⟨.hbm, 39, rfl⟩
abbrev main_v24 : Ref sig .tc := ⟨.hbm, 40, rfl⟩
abbrev main_v25 : Ref sig .tc := ⟨.hbm, 41, rfl⟩
abbrev main_c_4 : Ref sig .tc := ⟨.hbm, 42, rfl⟩
abbrev main_v26 : Ref sig .tc := ⟨.hbm, 43, rfl⟩
abbrev main_v27 : Ref sig .tc := ⟨.hbm, 44, rfl⟩
abbrev main_c_5 : Ref sig .tc := ⟨.hbm, 45, rfl⟩
abbrev main_v28 : Ref sig .tc := ⟨.hbm, 46, rfl⟩
abbrev main_v29 : Ref sig .tc := ⟨.hbm, 47, rfl⟩
abbrev main_c_6 : Ref sig .tc := ⟨.hbm, 48, rfl⟩
abbrev main_c_7 : Ref sig .tc := ⟨.hbm, 49, rfl⟩
abbrev main_call0_v0 : Ref sig .tc := ⟨.hbm, 50, rfl⟩
abbrev main_call0_v1 : Ref sig .tc := ⟨.hbm, 51, rfl⟩
abbrev main_v30 : Ref sig .tc := ⟨.hbm, 52, rfl⟩
abbrev main_c_8 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_c_9 : Ref sig .tc := ⟨.hbm, 59, rfl⟩
abbrev main_v36 : Ref sig .tc := ⟨.hbm, 60, rfl⟩
abbrev main_v37 : Ref sig .tc := ⟨.hbm, 61, rfl⟩
abbrev main_c_10 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨3, ![8, 2, 32], ![false, false, false]⟩

@[reducible] def k0_t1_loop : Scf.Loop 32 :=
  let c0_i32_75 : BitVec 32 := 0#32
  let c4_i32 : BitVec 32 := 4#32
  let v135 : BitVec 32 := Scalar.addi c0_i32_75 c4_i32
  let c1_i32 : BitVec 32 := 1#32
  ⟨c0_i32_75, v135, c1_i32⟩
def k0_off1 (k0_t1 : Fin k0_t1_loop.trips) : Fin 3 → Nat :=
  let c0_i32_75 : BitVec 32 := 0#32
  let c1_i32 : BitVec 32 := 1#32
  let arg15 : BitVec 32 := Scf.iv c0_i32_75 c1_i32 k0_t1
  let v178 : Index := Scalar.indexCast arg15
  let c0_92 : Index := 0#32
  let c0_93 : Index := 0#32
  ![v178.toNat, 0, 0]
def k0_mult1 (k0_t1 : Fin k0_t1_loop.trips) : BitVec 32 :=
  let c0_i32_75 : BitVec 32 := 0#32
  let c1_i32 : BitVec 32 := 1#32
  let arg15 : BitVec 32 := Scf.iv c0_i32_75 c1_i32 k0_t1
  let c512_i32 : BitVec 32 := 512#32
  let v184 : BitVec 32 := Scalar.muli arg15 c512_i32
  v184
def k0_off2 (k0_t1 : Fin k0_t1_loop.trips) : Fin 2 → Nat :=
  let c0_i32_75 : BitVec 32 := 0#32
  let c1_i32 : BitVec 32 := 1#32
  let arg15 : BitVec 32 := Scf.iv c0_i32_75 c1_i32 k0_t1
  let c512_i32 : BitVec 32 := 512#32
  let v184 : BitVec 32 := Scalar.muli arg15 c512_i32
  let v185 : BitVec 32 := v184
  let v186 : Index := Scalar.indexCast v185
  let c0_94 : Index := 0#32
  ![v186.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg2 c2_i32
  let v1 : BitVec 32 := Scalar.addi v0 arg1
  let c0_i32 : BitVec 32 := 0#32
  ![v1.toNat, arg0.toNat]

def cc0_transform_1 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg2.toNat, arg0.toNat, c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg2 c2_i32
  let v1 : BitVec 32 := Scalar.addi v0 arg1
  let c0_i32 : BitVec 32 := 0#32
  ![v1.toNat, arg0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg2 c2_i32
  let v1 : BitVec 32 := Scalar.addi v0 arg1
  let c0_i32 : BitVec 32 := 0#32
  ![v1.toNat, arg0.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x4x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 1 → Memref sig .tc .vmem S4x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S1024x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S32x2048x8x2x64 : Shape := ⟨5, ![32, 2048, 8, 2, 64]⟩
abbrev S32x2048x8x128 : Shape := ⟨4, ![32, 2048, 8, 128]⟩
abbrev S32x2048x1024 : Shape := ⟨3, ![32, 2048, 1024]⟩
abbrev S32x8 : Shape := ⟨2, ![32, 8]⟩
abbrev S1x64 : Shape := ⟨2, ![1, 64]⟩
abbrev S1x128 : Shape := ⟨2, ![1, 128]⟩
abbrev S64 : Shape := ⟨1, ![64]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S2048x2048x1 : Shape := ⟨3, ![2048, 2048, 1]⟩
abbrev S2048x2048x8 : Shape := ⟨3, ![2048, 2048, 8]⟩
abbrev S8x2048x2048 : Shape := ⟨3, ![8, 2048, 2048]⟩
abbrev S32x2x8x2048x2048 : Shape := ⟨5, ![32, 2, 8, 2048, 2048]⟩
abbrev S1x1x8x2048x2048 : Shape := ⟨5, ![1, 1, 8, 2048, 2048]⟩
abbrev S32x2x8x2048 : Shape := ⟨4, ![32, 2, 8, 2048]⟩
abbrev S32x2x8x2048x1 : Shape := ⟨5, ![32, 2, 8, 2048, 1]⟩
abbrev S32x1x8x2048x2048 : Shape := ⟨5, ![32, 1, 8, 2048, 2048]⟩
abbrev S32x8x2048x2048 : Shape := ⟨4, ![32, 8, 2048, 2048]⟩
abbrev S32x8x128x2048 : Shape := ⟨4, ![32, 8, 128, 2048]⟩
abbrev S128 : Shape := ⟨1, ![128]⟩
abbrev S32x2048x8 : Shape := ⟨3, ![32, 2048, 8]⟩
abbrev S32x2048x8x1 : Shape := ⟨4, ![32, 2048, 8, 1]⟩
abbrev S1x1x1x128 : Shape := ⟨4, ![1, 1, 1, 128]⟩
abbrev S65536x1024 : Shape := ⟨2, ![65536, 1024]⟩

abbrev nBuf : Space → Nat
  | .hbm => 128
  | .vmem => 0
  | .smem => 0
  | _ => 0

abbrev bufTy : (tb : Table) → Fin (tcTables nBuf tb) → BufTy
  | .hbm, ⟨0, _⟩ => ⟨S32x2048x8x2x64, .f32⟩
  | .hbm, ⟨1, _⟩ => ⟨S32x2048x8x2x64, .f32⟩
  | .hbm, ⟨2, _⟩ => ⟨S32x2048x8x128, .f32⟩
  | .hbm, ⟨3, _⟩ => ⟨S32x2048x1024, .f32⟩
  | .hbm, ⟨4, _⟩ => ⟨S32x8, .f32⟩
  | .hbm, ⟨5, _⟩ => ⟨S1x64, .f32⟩
  | .hbm, ⟨6, _⟩ => ⟨S1x64, .f32⟩
  | .hbm, ⟨7, _⟩ => ⟨S1x64, .f32⟩
  | .hbm, ⟨8, _⟩ => ⟨S1x64, .f32⟩
  | .hbm, ⟨9, _⟩ => ⟨S1x128, .f32⟩
  | .hbm, ⟨10, _⟩ => ⟨S64, .f32⟩
  | .hbm, ⟨11, _⟩ => ⟨S64, .f32⟩
  | .hbm, ⟨12, _⟩ => ⟨S64, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S64, .f32⟩
  | .hbm, ⟨17, _⟩ => ⟨S64, .f32⟩
  | .hbm, ⟨18, _⟩ => ⟨S64, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S2048, .i32⟩
  | .hbm, ⟨26, _⟩ => ⟨S1x2048, .i32⟩
  | .hbm, ⟨27, _⟩ => ⟨S2048x1, .i32⟩
  | .hbm, ⟨28, _⟩ => ⟨S2048x2048, .i32⟩
  | .hbm, ⟨29, _⟩ => ⟨S2048x2048, .i32⟩
  | .hbm, ⟨30, _⟩ => ⟨S2048x2048, .i32⟩
  | .hbm, ⟨31, _⟩ => ⟨S2048x2048, .i32⟩
  | .hbm, ⟨32, _⟩ => ⟨S_, .i32⟩
  | .hbm, ⟨33, _⟩ => ⟨S2048x2048, .i32⟩
  | .hbm, ⟨34, _⟩ => ⟨S2048x2048, .i32⟩
  | .hbm, ⟨35, _⟩ => ⟨S2048x2048, .f32⟩
  | .hbm, ⟨36, _⟩ => ⟨S_, .f32⟩
  | .hbm, ⟨37, _⟩ => ⟨S2048x2048, .f32⟩
  | .hbm, ⟨38, _⟩ => ⟨S2048x2048, .f32⟩
  | .hbm, ⟨39, _⟩ => ⟨S2048x2048, .f32⟩
  | .hbm, ⟨40, _⟩ => ⟨S_, .f32⟩
  | .hbm, ⟨41, _⟩ => ⟨S2048x2048, .f32⟩
  | .hbm, ⟨42, _⟩ => ⟨S2048x2048, .f32⟩
  | .hbm, ⟨43, _⟩ => ⟨S_, .f32⟩
  | .hbm, ⟨44, _⟩ => ⟨S2048x2048, .f32⟩
  | .hbm, ⟨45, _⟩ => ⟨S2048x2048, .f32⟩
  | .hbm, ⟨46, _⟩ => ⟨S2048x2048, .i32⟩
  | .hbm, ⟨47, _⟩ => ⟨S_, .i32⟩
  | .hbm, ⟨48, _⟩ => ⟨S2048x2048, .i32⟩
  | .hbm, ⟨49, _⟩ => ⟨S2048x2048, .i32⟩
  | .hbm, ⟨50, _⟩ => ⟨S_, .i32⟩
  | .hbm, ⟨51, _⟩ => ⟨S2048x2048, .i32⟩
  | .hbm, ⟨52, _⟩ => ⟨S2048x2048, .i32⟩
  | .hbm, ⟨53, _⟩ => ⟨S_, .i32⟩
  | .hbm, ⟨54, _⟩ => ⟨S2048x2048, .i32⟩
  | .hbm, ⟨55, _⟩ => ⟨S2048x2048, .i1⟩
  | .hbm, ⟨56, _⟩ => ⟨S_, .i32⟩
  | .hbm, ⟨57, _⟩ => ⟨S_, .i32⟩
  | .hbm, ⟨58, _⟩ => ⟨S2048x2048, .i32⟩
  | .hbm, ⟨59, _⟩ => ⟨S2048x2048, .i32⟩
  | .hbm, ⟨60, _⟩ => ⟨S2048x2048, .i32⟩
  | .hbm, ⟨61, _⟩ => ⟨S_, .i32⟩
  | .hbm, ⟨62, _⟩ => ⟨S2048x2048, .i32⟩
  | .hbm, ⟨63, _⟩ => ⟨S2048x2048, .i1⟩
  | .hbm, ⟨64, _⟩ => ⟨S2048x2048, .i32⟩
  | .hbm, ⟨65, _⟩ => ⟨S2048x2048, .i32⟩
  | .hbm, ⟨66, _⟩ => ⟨S2048x2048, .i32⟩
  | .hbm, ⟨67, _⟩ => ⟨S_, .i32⟩
  | .hbm, ⟨68, _⟩ => ⟨S2048x2048, .i32⟩
  | .hbm, ⟨69, _⟩ => ⟨S2048x2048, .i1⟩
  | .hbm, ⟨70, _⟩ => ⟨S_, .i32⟩
  | .hbm, ⟨71, _⟩ => ⟨S2048x2048, .i32⟩
  | .hbm, ⟨72, _⟩ => ⟨S2048x2048, .i32⟩
  | .hbm, ⟨73, _⟩ => ⟨S2048x2048, .i32⟩
  | .hbm, ⟨74, _⟩ => ⟨S2048x2048x1, .i32⟩
  | .hbm, ⟨75, _⟩ => ⟨S2048x2048x8, .f32⟩
  | .hbm, ⟨76, _⟩ => ⟨S8x2048x2048, .f32⟩
  | .hbm, ⟨77, _⟩ => ⟨S32x2x8x2048x2048, .f32⟩
  | .hbm, ⟨78, _⟩ => ⟨S1x1x8x2048x2048, .f32⟩
  | .hbm, ⟨79, _⟩ => ⟨S32x2x8x2048x2048, .f32⟩
  | .hbm, ⟨80, _⟩ => ⟨S32x2x8x2048x2048, .f32⟩
  | .hbm, ⟨81, _⟩ => ⟨S_, .f32⟩
  | .hbm, ⟨82, _⟩ => ⟨S32x2x8x2048, .f32⟩
  | .hbm, ⟨83, _⟩ => ⟨S_, .f32⟩
  | .hbm, ⟨84, _⟩ => ⟨S32x2x8x2048, .f32⟩
  | .hbm, ⟨85, _⟩ => ⟨S32x2x8x2048, .f32⟩
  | .hbm, ⟨86, _⟩ => ⟨S32x2x8x2048x1, .f32⟩
  | .hbm, ⟨87, _⟩ => ⟨S32x2x8x2048x2048, .f32⟩
  | .hbm, ⟨88, _⟩ => ⟨S32x2x8x2048x2048, .f32⟩
  | .hbm, ⟨89, _⟩ => ⟨S32x2x8x2048x2048, .f32⟩
  | .hbm, ⟨90, _⟩ => ⟨S_, .f32⟩
  | .hbm, ⟨91, _⟩ => ⟨S32x2x8x2048, .f32⟩
  | .hbm, ⟨92, _⟩ => ⟨S32x2x8x2048x1, .f32⟩
  | .hbm, ⟨93, _⟩ => ⟨S32x2x8x2048x2048, .f32⟩
  | .hbm, ⟨94, _⟩ => ⟨S32x2x8x2048x2048, .f32⟩
  | .hbm, ⟨95, _⟩ => ⟨S32x1x8x2048x2048, .f32⟩
  | .hbm, ⟨96, _⟩ => ⟨S32x8x2048x2048, .f32⟩
  | .hbm, ⟨97, _⟩ => ⟨S32x1x8x2048x2048, .f32⟩
  | .hbm, ⟨98, _⟩ => ⟨S32x8x2048x2048, .f32⟩
  | .hbm, ⟨99, _⟩ => ⟨S32x8x2048x2048, .f32⟩
  | .hbm, ⟨100, _⟩ => ⟨S32x8x2048x2048, .f32⟩
  | .hbm, ⟨101, _⟩ => ⟨S32x8x2048x2048, .f32⟩
  | .hbm, ⟨102, _⟩ => ⟨S32x8x128x2048, .f32⟩
  | .hbm, ⟨103, _⟩ => ⟨S32x2048x8x128, .f32⟩
  | .hbm, ⟨104, _⟩ => ⟨S128, .f32⟩
  | .hbm, ⟨105, _⟩ => ⟨S32x2048x8x128, .f32⟩
  | .hbm, ⟨106, _⟩ => ⟨S_, .f32⟩
  | .hbm, ⟨107, _⟩ => ⟨S32x2048x8, .f32⟩
  | .hbm, ⟨108, _⟩ => ⟨S32x2048x8x1, .f32⟩
  | .hbm, ⟨109, _⟩ => ⟨S_, .f32⟩
  | .hbm, ⟨110, _⟩ => ⟨S32x2048x8x1, .f32⟩
  | .hbm, ⟨111, _⟩ => ⟨S32x2048x8x1, .f32⟩
  | .hbm, ⟨112, _⟩ => ⟨S_, .f32⟩
  | .hbm, ⟨113, _⟩ => ⟨S32x2048x8x1, .f32⟩
  | .hbm, ⟨114, _⟩ => ⟨S32x2048x8x1, .f32⟩
  | .hbm, ⟨115, _⟩ => ⟨S32x2048x8x1, .f32⟩
  | .hbm, ⟨116, _⟩ => ⟨S32x2048x8x128, .f32⟩
  | .hbm, ⟨117, _⟩ => ⟨S32x2048x8x128, .f32⟩
  | .hbm, ⟨118, _⟩ => ⟨S1x1x1x128, .f32⟩
  | .hbm, ⟨119, _⟩ => ⟨S32x2048x8x128, .f32⟩
  | .hbm, ⟨120, _⟩ => ⟨S32x2048x8x128, .f32⟩
  | .hbm, ⟨121, _⟩ => ⟨S_, .f32⟩
  | .hbm, ⟨122, _⟩ => ⟨S32x2048x8x128, .f32⟩
  | .hbm, ⟨123, _⟩ => ⟨S32x2048x8x128, .f32⟩
  | .hbm, ⟨124, _⟩ => ⟨S32x2048x1024, .f32⟩
  | .hbm, ⟨125, _⟩ => ⟨S32x2048x1024, .f32⟩
  | .hbm, ⟨126, _⟩ => ⟨S65536x1024, .f32⟩
  | .hbm, ⟨127, _⟩ => ⟨S65536x1024, .bf16⟩
  | _, _ => ⟨S32x2048x8x2x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_2 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_3 : Ref sig .tc := ⟨.hbm, 40, rfl⟩
abbrev main_v25 : Ref sig .tc := ⟨.hbm, 41, rfl⟩
abbrev main_v26 : Ref sig .tc := ⟨.hbm, 42, rfl⟩
abbrev main_cst_4 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_5 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_c_8 : Ref sig .tc := ⟨.hbm, 56, rfl⟩
abbrev main_c_9 : Ref sig .tc := ⟨.hbm, 57, rfl⟩
abbrev main_call0_v0 : Ref sig .tc := ⟨.hbm, 58, rfl⟩
abbrev main_call0_v1 : Ref sig .tc := ⟨.hbm, 59, rfl⟩
abbrev main_v36 : Ref sig .tc := ⟨.hbm, 60, rfl⟩
abbrev main_c_10 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_c_11 : Ref sig .tc := ⟨.hbm, 67, rfl⟩
abbrev main_v42 : Ref sig .tc := ⟨.hbm, 68, rfl⟩
abbrev main_v43 : Ref sig .tc := ⟨.hbm, 69, rfl⟩
abbrev main_c_12 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_cst_13 : Ref sig .tc := ⟨.hbm, 81, rfl⟩
abbrev main_v54 : Ref sig .tc := ⟨.hbm, 82, rfl⟩
abbrev main_cst_14 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_cst_15 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_cst_16 : Ref sig .tc := ⟨.hbm, 106, rfl⟩
abbrev main_v76 : Ref sig .tc := ⟨.hbm, 107, rfl⟩
abbrev main_v77 : Ref sig .tc := ⟨.hbm, 108, rfl⟩
abbrev main_cst_17 : Ref sig .tc := ⟨.hbm, 109, rfl⟩
abbrev main_v78 : Ref sig .tc := ⟨.hbm, 110, rfl⟩
abbrev main_v79 : Ref sig .tc := ⟨.hbm, 111, rfl⟩
abbrev main_cst_18 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_cst_19 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩

abbrev nD : Nat := 1
abbrev τ : Topo := Topo.v7x

variable {F : FTy → Type} [FloatOps F]
-- ==== Kernel2.lean ====
abbrev S32x2048x1024 : Shape := ⟨3, ![32, 2048, 1024]⟩
abbrev S32x6x1024 : Shape := ⟨3, ![32, 6, 1024]⟩
abbrev S1x1024 : Shape := ⟨2, ![1, 1024]⟩
abbrev S1x1024x6144 : Shape := ⟨3, ![1, 1024, 6144]⟩
abbrev S1x64 : Shape := ⟨2, ![1, 64]⟩
abbrev S64 : Shape := ⟨1, ![64]⟩
abbrev S16x64 : Shape := ⟨2, ![16, 64]⟩
abbrev S1024 : Shape := ⟨1, ![1024]⟩
abbrev S_ : Shape := ⟨0, ![]⟩
abbrev S65536x1024 : Shape := ⟨2, ![65536, 1024]⟩
abbrev S1024x6144 : Shape := ⟨2, ![1024, 6144]⟩
abbrev S1024x1 : Shape := ⟨2, ![1024, 1]⟩
abbrev S128 : Shape := ⟨1, ![128]⟩
abbrev S1x128 : Shape := ⟨2, ![1, 128]⟩
abbrev S1024x128 : Shape := ⟨2, ![1024, 128]⟩
abbrev S128x1024 : Shape := ⟨2, ![128, 1024]⟩
abbrev S256x1024 : Shape := ⟨2, ![256, 1024]⟩
abbrev S32x8x4x128x512 : Shape := ⟨5, ![32, 8, 4, 128, 512]⟩
abbrev S512x1024 : Shape := ⟨2, ![512, 1024]⟩
abbrev S1x6x1024 : Shape := ⟨3, ![1, 6, 1024]⟩
abbrev S1x8x1x128x512 : Shape := ⟨5, ![1, 8, 1, 128, 512]⟩
abbrev S512 : Shape := ⟨1, ![512]⟩
abbrev S512x1 : Shape := ⟨2, ![512, 1]⟩
abbrev S1x1x1024 : Shape := ⟨3, ![1, 1, 1024]⟩
abbrev S1024x1024 : Shape := ⟨2, ![1024, 1024]⟩
abbrev S512x128 : Shape := ⟨2, ![512, 128]⟩
abbrev S512x256 : Shape := ⟨2, ![512, 256]⟩
abbrev S128x512 : Shape := ⟨2, ![128, 512]⟩
abbrev S1x1x1x128x512 : Shape := ⟨5, ![1, 1, 1, 128, 512]⟩

abbrev nBuf : Space → Nat
  | .hbm => 59
  | .vmem => 22
  | .smem => 0
  | _ => 0

abbrev bufTy : (tb : Table) → Fin (tcTables nBuf tb) → BufTy
  | .hbm, ⟨0, _⟩ => ⟨S32x2048x1024, .f32⟩
  | .hbm, ⟨1, _⟩ => ⟨S32x6x1024, .f32⟩
  | .hbm, ⟨2, _⟩ => ⟨S1x1024, .f32⟩
  | .hbm, ⟨3, _⟩ => ⟨S1x1024x6144, .f32⟩
  | .hbm, ⟨4, _⟩ => ⟨S1x64, .f32⟩
  | .hbm, ⟨5, _⟩ => ⟨S1x64, .f32⟩
  | .hbm, ⟨6, _⟩ => ⟨S64, .f32⟩
  | .hbm, ⟨7, _⟩ => ⟨S1x64, .f32⟩
  | .hbm, ⟨8, _⟩ => ⟨S16x64, .f32⟩
  | .hbm, ⟨9, _⟩ => ⟨S1024, .f32⟩
  | .hbm, ⟨10, _⟩ => ⟨S_, .f32⟩
  | .hbm, ⟨11, _⟩ => ⟨S1024, .f32⟩
  | .hbm, ⟨12, _⟩ => ⟨S1024, .f32⟩
  | .hbm, ⟨13, _⟩ => ⟨S1x1024, .f32⟩
  | .hbm, ⟨14, _⟩ => ⟨S64, .f32⟩
  | .hbm, ⟨15, _⟩ => ⟨S1x64, .f32⟩
  | .hbm, ⟨16, _⟩ => ⟨S16x64, .f32⟩
  | .hbm, ⟨17, _⟩ => ⟨S1024, .f32⟩
  | .hbm, ⟨18, _⟩ => ⟨S1x1024, .f32⟩
  | .hbm, ⟨19, _⟩ => ⟨S65536x1024, .f32⟩
  | .hbm, ⟨20, _⟩ => ⟨S1024, .f32⟩
  | .hbm, ⟨21, _⟩ => ⟨S1x1024, .f32⟩
  | .hbm, ⟨22, _⟩ => ⟨S1024x6144, .f32⟩
  | .hbm, ⟨23, _⟩ => ⟨S1024x6144, .bf16⟩
  | .hbm, ⟨24, _⟩ => ⟨S1024, .i32⟩
  | .hbm, ⟨25, _⟩ => ⟨S_, .i32⟩
  | .hbm, ⟨26, _⟩ => ⟨S_, .i32⟩
  | .hbm, ⟨27, _⟩ => ⟨S1024, .i32⟩
  | .hbm, ⟨28, _⟩ => ⟨S1024, .i32⟩
  | .hbm, ⟨29, _⟩ => ⟨S1024, .i32⟩
  | .hbm, ⟨30, _⟩ => ⟨S_, .i32⟩
  | .hbm, ⟨31, _⟩ => ⟨S1024, .i32⟩
  | .hbm, ⟨32, _⟩ => ⟨S1024, .i1⟩
  | .hbm, ⟨33, _⟩ => ⟨S1024, .i32⟩
  | .hbm, ⟨34, _⟩ => ⟨S1024, .i32⟩
  | .hbm, ⟨35, _⟩ => ⟨S_, .i32⟩
  | .hbm, ⟨36, _⟩ => ⟨S1024, .i32⟩
  | .hbm, ⟨37, _⟩ => ⟨S1024, .i1⟩
  | .hbm, ⟨38, _⟩ => ⟨S1024, .i1⟩
  | .hbm, ⟨39, _⟩ => ⟨S_, .i32⟩
  | .hbm, ⟨40, _⟩ => ⟨S1024, .i32⟩
  | .hbm, ⟨41, _⟩ => ⟨S1024, .i32⟩
  | .hbm, ⟨42, _⟩ => ⟨S1024, .i32⟩
  | .hbm, ⟨43, _⟩ => ⟨S1024x1, .i32⟩
  | .hbm, ⟨44, _⟩ => ⟨S128, .i32⟩
  | .hbm, ⟨45, _⟩ => ⟨S1x128, .i32⟩
  | .hbm, ⟨46, _⟩ => ⟨S1024x128, .i32⟩
  | .hbm, ⟨47, _⟩ => ⟨S1024x128, .i32⟩
  | .hbm, ⟨48, _⟩ => ⟨S1024x128, .i1⟩
  | .hbm, ⟨49, _⟩ => ⟨S1024x128, .bf16⟩
  | .hbm, ⟨50, _⟩ => ⟨S128x1024, .bf16⟩
  | .hbm, ⟨51, _⟩ => ⟨S128x1024, .bf16⟩
  | .hbm, ⟨52, _⟩ => ⟨S256x1024, .bf16⟩
  | .hbm, ⟨53, _⟩ => ⟨S65536x1024, .bf16⟩
  | .hbm, ⟨54, _⟩ => ⟨S32x8x4x128x512, .bf16⟩
  | .hbm, ⟨55, _⟩ => ⟨S65536x1024, .bf16⟩
  | .hbm, ⟨56, _⟩ => ⟨S65536x1024, .f32⟩
  | .hbm, ⟨57, _⟩ => ⟨S65536x1024, .bf16⟩
  | .hbm, ⟨58, _⟩ => ⟨S65536x1024, .bf16⟩
  | .local _ .vmem, ⟨0, _⟩ => ⟨S512x1024, .f32⟩
  | .local _ .vmem, ⟨1, _⟩ => ⟨S512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x6144, .bf16⟩
  | .local _ .vmem, ⟨6, _⟩ => ⟨S1024x128, .bf16⟩
  | .local _ .vmem, ⟨7, _⟩ => ⟨S256x1024, .bf16⟩
  | .local _ .vmem, ⟨8, _⟩ => ⟨S1x1024, .f32⟩
  | .local _ .vmem, ⟨9, _⟩ => ⟨S1x1024, .f32⟩
  | .local _ .vmem, ⟨10, _⟩ => ⟨S512x1024, .bf16⟩
  | .local _ .vmem, ⟨11, _⟩ => ⟨S512x1024, .bf16⟩
  | .local _ .vmem, ⟨12, _⟩ => ⟨S1x8x1x128x512, .bf16⟩
  | .local _ .vmem, ⟨13, _⟩ => ⟨S1x8x1x128x512, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .f32⟩
  | .local _ .vmem, ⟨17, _⟩ => ⟨S512x1024, .f32⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_c : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_v6 : Ref sig .tc := ⟨.hbm, 32, rfl⟩
abbrev main_call0_v7 : Ref sig .tc := ⟨.hbm, 33, rfl⟩
abbrev main_call0_v8 : Ref sig .tc := ⟨.hbm, 34, rfl⟩
abbrev main_call0_c : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_call0_c_0 : Ref sig .tc := ⟨.hbm, 39, rfl⟩
abbrev main_call0_v12 : Ref sig .tc := ⟨.hbm, 40, rfl⟩
abbrev main_call0_v13 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29_0 : Ref sig .tc := ⟨.hbm, 53, rfl⟩
abbrev main_v29_1 : Ref sig .tc := ⟨.hbm, 54, rfl⟩
abbrev main_v29_2 : Ref sig .tc := ⟨.hbm, 55, rfl⟩
abbrev main_v29_3 : Ref sig .tc := ⟨.hbm, 56, rfl⟩
abbrev main_v29_4 : Ref sig .tc := ⟨.hbm, 57, rfl⟩
abbrev main_v29_5 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 5 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  let c0_i32_13 : BitVec 32 := 0#32
  ![v16.toNat, c0_i32_10.toNat, v26.toNat, c0_i32_11.toNat, c0_i32_12.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x6144 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x8x1x128x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference2Ideal.lean ====
abbrev S32x2048x1024 : Shape := ⟨3, ![32, 2048, 1024]⟩
abbrev S32x6x1024 : Shape := ⟨3, ![32, 6, 1024]⟩
abbrev S1x1024 : Shape := ⟨2, ![1, 1024]⟩
abbrev S1x1024x6144 : Shape := ⟨3, ![1, 1024, 6144]⟩
abbrev S1x64 : Shape := ⟨2, ![1, 64]⟩
abbrev S32x1x1024 : Shape := ⟨3, ![32, 1, 1024]⟩
abbrev S32x1024 : Shape := ⟨2, ![32, 1024]⟩
abbrev S1024 : Shape := ⟨1, ![1024]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S1024x6144 : Shape := ⟨2, ![1024, 6144]⟩
abbrev S32x2048x6144 : Shape := ⟨3, ![32, 2048, 6144]⟩
abbrev S32x2048x2048 : Shape := ⟨3, ![32, 2048, 2048]⟩
abbrev S32x2048x8x2x64 : Shape := ⟨5, ![32, 2048, 8, 2, 64]⟩
abbrev S64 : Shape := ⟨1, ![64]⟩
abbrev S32x2048x8x2 : Shape := ⟨4, ![32, 2048, 8, 2]⟩
abbrev S32x2048x8x2x1 : Shape := ⟨5, ![32, 2048, 8, 2, 1]⟩
abbrev S1x1x1x1x64 : Shape := ⟨5, ![1, 1, 1, 1, 64]⟩
abbrev S32x4x512x8x128 : Shape := ⟨5, ![32, 4, 512, 8, 128]⟩
abbrev S32x8x4x128x512 : Shape := ⟨5, ![32, 8, 4, 128, 512]⟩
abbrev S65536x1024 : Shape := ⟨2, ![65536, 1024]⟩

abbrev nBuf : Space → Nat
  | .hbm => 104
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S32x6x1024, .f32⟩
  | .hbm, ⟨2, _⟩ => ⟨S1x1024, .f32⟩
  | .hbm, ⟨3, _⟩ => ⟨S1x1024x6144, .f32⟩
  | .hbm, ⟨4, _⟩ => ⟨S1x64, .f32⟩
  | .hbm, ⟨5, _⟩ => ⟨S1x64, .f32⟩
  | .hbm, ⟨6, _⟩ => ⟨S32x1x1024, .f32⟩
  | .hbm, ⟨7, _⟩ => ⟨S32x1024, .f32⟩
  | .hbm, ⟨8, _⟩ => ⟨S32x1x1024, .f32⟩
  | .hbm, ⟨9, _⟩ => ⟨S32x1x1024, .f32⟩
  | .hbm, ⟨10, _⟩ => ⟨S32x1024, .f32⟩
  | .hbm, ⟨11, _⟩ => ⟨S32x1x1024, .f32⟩
  | .hbm, ⟨12, _⟩ => ⟨S1024, .f32⟩
  | .hbm, ⟨13, _⟩ => ⟨S32x2048x1024, .f32⟩
  | .hbm, ⟨14, _⟩ => ⟨S_, .f32⟩
  | .hbm, ⟨15, _⟩ => ⟨S32x2048, .f32⟩
  | .hbm, ⟨16, _⟩ => ⟨S32x2048x1, .f32⟩
  | .hbm, ⟨17, _⟩ => ⟨S_, .f32⟩
  | .hbm, ⟨18, _⟩ => ⟨S32x2048x1, .f32⟩
  | .hbm, ⟨19, _⟩ => ⟨S32x2048x1, .f32⟩
  | .hbm, ⟨20, _⟩ => ⟨S_, .f32⟩
  | .hbm, ⟨21, _⟩ => ⟨S32x2048x1, .f32⟩
  | .hbm, ⟨22, _⟩ => ⟨S32x2048x1, .f32⟩
  | .hbm, ⟨23, _⟩ => ⟨S32x2048x1, .f32⟩
  | .hbm, ⟨24, _⟩ => ⟨S32x2048x1024, .f32⟩
  | .hbm, ⟨25, _⟩ => ⟨S32x2048x1024, .f32⟩
  | .hbm, ⟨26, _⟩ => ⟨S1x1x1024, .f32⟩
  | .hbm, ⟨27, _⟩ => ⟨S32x2048x1024, .f32⟩
  | .hbm, ⟨28, _⟩ => ⟨S32x2048x1024, .f32⟩
  | .hbm, ⟨29, _⟩ => ⟨S_, .f32⟩
  | .hbm, ⟨30, _⟩ => ⟨S32x1x1024, .f32⟩
  | .hbm, ⟨31, _⟩ => ⟨S32x1x1024, .f32⟩
  | .hbm, ⟨32, _⟩ => ⟨S32x2048x1024, .f32⟩
  | .hbm, ⟨33, _⟩ => ⟨S32x2048x1024, .f32⟩
  | .hbm, ⟨34, _⟩ => ⟨S32x2048x1024, .f32⟩
  | .hbm, ⟨35, _⟩ => ⟨S32x2048x1024, .f32⟩
  | .hbm, ⟨36, _⟩ => ⟨S1024x6144, .f32⟩
  | .hbm, ⟨37, _⟩ => ⟨S32x2048x6144, .f32⟩
  | .hbm, ⟨38, _⟩ => ⟨S32x2048x1024, .f32⟩
  | .hbm, ⟨39, _⟩ => ⟨S32x2048x1024, .f32⟩
  | .hbm, ⟨40, _⟩ => ⟨S32x2048x1024, .f32⟩
  | .hbm, ⟨41, _⟩ => ⟨S32x2048x1024, .f32⟩
  | .hbm, ⟨42, _⟩ => ⟨S32x2048x2048, .f32⟩
  | .hbm, ⟨43, _⟩ => ⟨S32x2048x8x2x64, .f32⟩
  | .hbm, ⟨44, _⟩ => ⟨S64, .f32⟩
  | .hbm, ⟨45, _⟩ => ⟨S32x2048x8x2x64, .f32⟩
  | .hbm, ⟨46, _⟩ => ⟨S_, .f32⟩
  | .hbm, ⟨47, _⟩ => ⟨S32x2048x8x2, .f32⟩
  | .hbm, ⟨48, _⟩ => ⟨S32x2048x8x2x1, .f32⟩
  | .hbm, ⟨49, _⟩ => ⟨S_, .f32⟩
  | .hbm, ⟨50, _⟩ => ⟨S32x2048x8x2x1, .f32⟩
  | .hbm, ⟨51, _⟩ => ⟨S32x2048x8x2x1, .f32⟩
  | .hbm, ⟨52, _⟩ => ⟨S_, .f32⟩
  | .hbm, ⟨53, _⟩ => ⟨S32x2048x8x2x1, .f32⟩
  | .hbm, ⟨54, _⟩ => ⟨S32x2048x8x2x1, .f32⟩
  | .hbm, ⟨55, _⟩ => ⟨S32x2048x8x2x1, .f32⟩
  | .hbm, ⟨56, _⟩ => ⟨S32x2048x8x2x64, .f32⟩
  | .hbm, ⟨57, _⟩ => ⟨S32x2048x8x2x64, .f32⟩
  | .hbm, ⟨58, _⟩ => ⟨S1x1x1x1x64, .f32⟩
  | .hbm, ⟨59, _⟩ => ⟨S32x2048x8x2x64, .f32⟩
  | .hbm, ⟨60, _⟩ => ⟨S32x2048x8x2x64, .f32⟩
  | .hbm, ⟨61, _⟩ => ⟨S_, .f32⟩
  | .hbm, ⟨62, _⟩ => ⟨S32x2048x8x2x64, .f32⟩
  | .hbm, ⟨63, _⟩ => ⟨S32x2048x8x2x64, .f32⟩
  | .hbm, ⟨64, _⟩ => ⟨S32x2048x8x2x64, .f32⟩
  | .hbm, ⟨65, _⟩ => ⟨S64, .f32⟩
  | .hbm, ⟨66, _⟩ => ⟨S32x2048x8x2x64, .f32⟩
  | .hbm, ⟨67, _⟩ => ⟨S_, .f32⟩
  | .hbm, ⟨68, _⟩ => ⟨S32x2048x8x2, .f32⟩
  | .hbm, ⟨69, _⟩ => ⟨S32x2048x8x2x1, .f32⟩
  | .hbm, ⟨70, _⟩ => ⟨S_, .f32⟩
  | .hbm, ⟨71, _⟩ => ⟨S32x2048x8x2x1, .f32⟩
  | .hbm, ⟨72, _⟩ => ⟨S32x2048x8x2x1, .f32⟩
  | .hbm, ⟨73, _⟩ => ⟨S_, .f32⟩
  | .hbm, ⟨74, _⟩ => ⟨S32x2048x8x2x1, .f32⟩
  | .hbm, ⟨75, _⟩ => ⟨S32x2048x8x2x1, .f32⟩
  | .hbm, ⟨76, _⟩ => ⟨S32x2048x8x2x1, .f32⟩
  | .hbm, ⟨77, _⟩ => ⟨S32x2048x8x2x64, .f32⟩
  | .hbm, ⟨78, _⟩ => ⟨S32x2048x8x2x64, .f32⟩
  | .hbm, ⟨79, _⟩ => ⟨S1x1x1x1x64, .f32⟩
  | .hbm, ⟨80, _⟩ => ⟨S32x2048x8x2x64, .f32⟩
  | .hbm, ⟨81, _⟩ => ⟨S32x2048x8x2x64, .f32⟩
  | .hbm, ⟨82, _⟩ => ⟨S32x2048x2048, .f32⟩
  | .hbm, ⟨83, _⟩ => ⟨S32x2048x2048, .f32⟩
  | .hbm, ⟨84, _⟩ => ⟨S_, .f32⟩
  | .hbm, ⟨85, _⟩ => ⟨S32x2048x2048, .f32⟩
  | .hbm, ⟨86, _⟩ => ⟨S32x2048x2048, .f32⟩
  | .hbm, ⟨87, _⟩ => ⟨S_, .f32⟩
  | .hbm, ⟨88, _⟩ => ⟨S32x2048x2048, .f32⟩
  | .hbm, ⟨89, _⟩ => ⟨S32x2048x2048, .f32⟩
  | .hbm, ⟨90, _⟩ => ⟨S32x2048x1024, .f32⟩
  | .hbm, ⟨91, _⟩ => ⟨S32x2048x1024, .f32⟩
  | .hbm, ⟨92, _⟩ => ⟨S32x4x512x8x128, .f32⟩
  | .hbm, ⟨93, _⟩ => ⟨S32x8x4x128x512, .f32⟩
  | .hbm, ⟨94, _⟩ => ⟨S65536x1024, .f32⟩
  | .hbm, ⟨95, _⟩ => ⟨S65536x1024, .bf16⟩
  | .hbm, ⟨96, _⟩ => ⟨S32x8x4x128x512, .bf16⟩
  | .hbm, ⟨97, _⟩ => ⟨S65536x1024, .f32⟩
  | .hbm, ⟨98, _⟩ => ⟨S65536x1024, .bf16⟩
  | .hbm, ⟨99, _⟩ => ⟨S65536x1024, .f32⟩
  | .hbm, ⟨100, _⟩ => ⟨S65536x1024, .f32⟩
  | .hbm, ⟨101, _⟩ => ⟨S65536x1024, .bf16⟩
  | .hbm, ⟨102, _⟩ => ⟨S65536x1024, .f32⟩
  | .hbm, ⟨103, _⟩ => ⟨S65536x1024, .bf16⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_3 : Ref sig .tc := ⟨.hbm, 46, rfl⟩
abbrev main_v36 : Ref sig .tc := ⟨.hbm, 47, rfl⟩
abbrev main_v37 : Ref sig .tc := ⟨.hbm, 48, rfl⟩
abbrev main_cst_4 : Ref sig .tc := ⟨.hbm, 49, rfl⟩
abbrev main_v38 : Ref sig .tc := ⟨.hbm, 50, rfl⟩
abbrev main_v39 : Ref sig .tc := ⟨.hbm, 51, rfl⟩
abbrev main_cst_5 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_cst_6 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_cst_7 : Ref sig .tc := ⟨.hbm, 67, rfl⟩
abbrev main_v53 : Ref sig .tc := ⟨.hbm, 68, rfl⟩
abbrev main_v54 : Ref sig .tc := ⟨.hbm, 69, rfl⟩
abbrev main_cst_8 : Ref sig .tc := ⟨.hbm, 70, rfl⟩
abbrev main_v55 : Ref sig .tc := ⟨.hbm, 71, rfl⟩
abbrev main_v56 : Ref sig .tc := ⟨.hbm, 72, rfl⟩
abbrev main_cst_9 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_cst_10 : Ref sig .tc := ⟨.hbm, 84, rfl⟩
abbrev main_v67 : Ref sig .tc := ⟨.hbm, 85, rfl⟩
abbrev main_v68 : Ref sig .tc := ⟨.hbm, 86, rfl⟩
abbrev main_cst_11 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩

abbrev nD : Nat := 1
abbrev τ : Topo := Topo.v7x

variable {F : FTy → Type} [FloatOps F]
-- ==== Kernel3.lean ====
abbrev S32x1024 : Shape := ⟨2, ![32, 1024]⟩
abbrev S1x1024x6144 : Shape := ⟨3, ![1, 1024, 6144]⟩
abbrev S1x6144 : Shape := ⟨2, ![1, 6144]⟩
abbrev S1024x6144 : Shape := ⟨2, ![1024, 6144]⟩
abbrev S6144 : Shape := ⟨1, ![6144]⟩
abbrev S32x6144 : Shape := ⟨2, ![32, 6144]⟩
abbrev S1024x1024 : Shape := ⟨2, ![1024, 1024]⟩
abbrev S1x1024 : Shape := ⟨2, ![1, 1024]⟩

abbrev nBuf : Space → Nat
  | .hbm => 7
  | .vmem => 7
  | .smem => 0
  | _ => 0

abbrev bufTy : (tb : Table) → Fin (tcTables nBuf tb) → BufTy
  | .hbm, ⟨0, _⟩ => ⟨S32x1024, .f32⟩
  | .hbm, ⟨1, _⟩ => ⟨S1x1024x6144, .f32⟩
  | .hbm, ⟨2, _⟩ => ⟨S1x6144, .f32⟩
  | .hbm, ⟨3, _⟩ => ⟨S1024x6144, .f32⟩
  | .hbm, ⟨4, _⟩ => ⟨S6144, .f32⟩
  | .hbm, ⟨5, _⟩ => ⟨S1x6144, .f32⟩
  | .hbm, ⟨6, _⟩ => ⟨S32x6144, .f32⟩
  | .local _ .vmem, ⟨0, _⟩ => ⟨S32x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1x1024, .f32⟩
  | .local _ .vmem, ⟨5, _⟩ => ⟨S32x1024, .f32⟩
  | .local _ .vmem, ⟨6, _⟩ => ⟨S32x1024, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference3Ideal.lean ====
abbrev S32x1024 : Shape := ⟨2, ![32, 1024]⟩
abbrev S1x1024x6144 : Shape := ⟨3, ![1, 1024, 6144]⟩
abbrev S1x6144 : Shape := ⟨2, ![1, 6144]⟩
abbrev S_ : Shape := ⟨0, ![]⟩
abbrev S1024x6144 : Shape := ⟨2, ![1024, 6144]⟩
abbrev S32x6144 : Shape := ⟨2, ![32, 6144]⟩
abbrev S6144 : Shape := ⟨1, ![6144]⟩

abbrev nBuf : Space → Nat
  | .hbm => 18
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S1x1024x6144, .f32⟩
  | .hbm, ⟨2, _⟩ => ⟨S1x6144, .f32⟩
  | .hbm, ⟨3, _⟩ => ⟨S32x1024, .f32⟩
  | .hbm, ⟨4, _⟩ => ⟨S32x1024, .f32⟩
  | .hbm, ⟨5, _⟩ => ⟨S_, .f32⟩
  | .hbm, ⟨6, _⟩ => ⟨S32x1024, .f32⟩
  | .hbm, ⟨7, _⟩ => ⟨S32x1024, .f32⟩
  | .hbm, ⟨8, _⟩ => ⟨S_, .f32⟩
  | .hbm, ⟨9, _⟩ => ⟨S32x1024, .f32⟩
  | .hbm, ⟨10, _⟩ => ⟨S32x1024, .f32⟩
  | .hbm, ⟨11, _⟩ => ⟨S32x1024, .f32⟩
  | .hbm, ⟨12, _⟩ => ⟨S1024x6144, .f32⟩
  | .hbm, ⟨13, _⟩ => ⟨S32x6144, .f32⟩
  | .hbm, ⟨14, _⟩ => ⟨S6144, .f32⟩
  | .hbm, ⟨15, _⟩ => ⟨S1x6144, .f32⟩
  | .hbm, ⟨16, _⟩ => ⟨S32x6144, .f32⟩
  | .hbm, ⟨17, _⟩ => ⟨S32x6144, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩

abbrev nD : Nat := 1
abbrev τ : Topo := Topo.v7x

variable {F : FTy → Type} [FloatOps F]
-- ==== Kernel4.lean ====
abbrev S32x2048x1024 : Shape := ⟨3, ![32, 2048, 1024]⟩
abbrev S32x6x1024 : Shape := ⟨3, ![32, 6, 1024]⟩
abbrev S1x4x256x256 : Shape := ⟨4, ![1, 4, 256, 256]⟩
abbrev S1x1024 : Shape := ⟨2, ![1, 1024]⟩
abbrev S1x1024x1024 : Shape := ⟨3, ![1, 1024, 1024]⟩
abbrev S1x1024x256 : Shape := ⟨3, ![1, 1024, 256]⟩
abbrev S65536x1024 : Shape := ⟨2, ![65536, 1024]⟩
abbrev S4x256x256 : Shape := ⟨3, ![4, 256, 256]⟩
abbrev S1024 : Shape := ⟨1, ![1024]⟩
abbrev S1024x1024 : Shape := ⟨2, ![1024, 1024]⟩
abbrev S1024x256 : Shape := ⟨2, ![1024, 256]⟩
abbrev S256x1024 : Shape := ⟨2, ![256, 1024]⟩
abbrev S512x1024 : Shape := ⟨2, ![512, 1024]⟩
abbrev S256x65536 : Shape := ⟨2, ![256, 65536]⟩
abbrev S8x1024 : Shape := ⟨2, ![8, 1024]⟩
abbrev S1x6x1024 : Shape := ⟨3, ![1, 6, 1024]⟩
abbrev S256x512 : Shape := ⟨2, ![256, 512]⟩
abbrev S528x1 : Shape := ⟨2, ![528, 1]⟩
abbrev S528x1024 : Shape := ⟨2, ![528, 1024]⟩
abbrev S512x1 : Shape := ⟨2, ![512, 1]⟩
abbrev S528x256 : Shape := ⟨2, ![528, 256]⟩
abbrev S512x256 : Shape := ⟨2, ![512, 256]⟩
abbrev S1x256x256 : Shape := ⟨3, ![1, 256, 256]⟩
abbrev S256x256 : Shape := ⟨2, ![256, 256]⟩
abbrev S1x256 : Shape := ⟨2, ![1, 256]⟩
abbrev S1x1x1024 : Shape := ⟨3, ![1, 1, 1024]⟩
abbrev S512 : Shape := ⟨1, ![512]⟩
abbrev S512x512 : Shape := ⟨2, ![512, 512]⟩

abbrev nBuf : Space → Nat
  | .hbm => 34
  | .vmem => 25
  | .smem => 0
  | _ => 0

abbrev bufTy : (tb : Table) → Fin (tcTables nBuf tb) → BufTy
  | .hbm, ⟨0, _⟩ => ⟨S32x2048x1024, .f32⟩
  | .hbm, ⟨1, _⟩ => ⟨S32x2048x1024, .f32⟩
  | .hbm, ⟨2, _⟩ => ⟨S32x2048x1024, .f32⟩
  | .hbm, ⟨3, _⟩ => ⟨S32x2048x1024, .f32⟩
  | .hbm, ⟨4, _⟩ => ⟨S32x6x1024, .f32⟩
  | .hbm, ⟨5, _⟩ => ⟨S1x4x256x256, .f32⟩
  | .hbm, ⟨6, _⟩ => ⟨S1x1024, .f32⟩
  | .hbm, ⟨7, _⟩ => ⟨S1x1024x1024, .f32⟩
  | .hbm, ⟨8, _⟩ => ⟨S1x1024, .f32⟩
  | .hbm, ⟨9, _⟩ => ⟨S1x1024x256, .f32⟩
  | .hbm, ⟨10, _⟩ => ⟨S65536x1024, .f32⟩
  | .hbm, ⟨11, _⟩ => ⟨S65536x1024, .f32⟩
  | .hbm, ⟨12, _⟩ => ⟨S65536x1024, .bf16⟩
  | .hbm, ⟨13, _⟩ => ⟨S65536x1024, .f32⟩
  | .hbm, ⟨14, _⟩ => ⟨S65536x1024, .bf16⟩
  | .hbm, ⟨15, _⟩ => ⟨S65536x1024, .f32⟩
  | .hbm, ⟨16, _⟩ => ⟨S4x256x256, .f32⟩
  | .hbm, ⟨17, _⟩ => ⟨S4x256x256, .bf16⟩
  | .hbm, ⟨18, _⟩ => ⟨S1024, .f32⟩
  | .hbm, ⟨19, _⟩ => ⟨S1x1024, .f32⟩
  | .hbm, ⟨20, _⟩ => ⟨S1024x1024, .f32⟩
  | .hbm, ⟨21, _⟩ => ⟨S1024x1024, .bf16⟩
  | .hbm, ⟨22, _⟩ => ⟨S1024, .f32⟩
  | .hbm, ⟨23, _⟩ => ⟨S1x1024, .f32⟩
  | .hbm, ⟨24, _⟩ => ⟨S1024x256, .f32⟩
  | .hbm, ⟨25, _⟩ => ⟨S256x1024, .f32⟩
  | .hbm, ⟨26, _⟩ => ⟨S256x1024, .bf16⟩
  | .hbm, ⟨27, _⟩ => ⟨S256x1024, .f32⟩
  | .hbm, ⟨28, _⟩ => ⟨S256x1024, .f32⟩
  | .hbm, ⟨29, _⟩ => ⟨S256x1024, .bf16⟩
  | .hbm, ⟨30, _⟩ => ⟨S512x1024, .bf16⟩
  | .hbm, ⟨31, _⟩ => ⟨S65536x1024, .f32⟩
  | .hbm, ⟨32, _⟩ => ⟨S65536x1024, .bf16⟩
  | .hbm, ⟨33, _⟩ => ⟨S256x65536, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S8x1024, .f32⟩
  | .local _ .vmem, ⟨9, _⟩ => ⟨S8x1024, .f32⟩
  | .local _ .vmem, ⟨10, _⟩ => ⟨S8x1024, .f32⟩
  | .local _ .vmem, ⟨11, _⟩ => ⟨S8x1024, .f32⟩
  | .local _ .vmem, ⟨12, _⟩ => ⟨S1x6x1024, .f32⟩
  | .local _ .vmem, ⟨13, _⟩ => ⟨S1x6x1024, .f32⟩
  | .local _ .vmem, ⟨14, _⟩ => ⟨S4x256x256, .bf16⟩
  | .local _ .vmem, ⟨15, _⟩ => ⟨S1x1024, .f32⟩
  | .local _ .vmem, ⟨16, _⟩ => ⟨S1024x1024, .bf16⟩
  | .local _ .vmem, ⟨17, _⟩ => ⟨S1x1024, .f32⟩
  | .local _ .vmem, ⟨18, _⟩ => ⟨S512x1024, .bf16⟩
  | .local _ .vmem, ⟨19, _⟩ => ⟨S512x1024, .f32⟩
  | .local _ .vmem, ⟨20, _⟩ => ⟨S512x1024, .f32⟩
  | .local _ .vmem, ⟨21, _⟩ => ⟨S512x1024, .bf16⟩
  | .local _ .vmem, ⟨22, _⟩ => ⟨S512x1024, .bf16⟩
  | .local _ .vmem, ⟨23, _⟩ => ⟨S256x512, .f32⟩
  | .local _ .vmem, ⟨24, _⟩ => ⟨S256x512, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21_0 : Ref sig .tc := ⟨.hbm, 31, rfl⟩
abbrev main_v21_1 : Ref sig .tc := ⟨.hbm, 32, rfl⟩
abbrev main_v21_2 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c8191_i32 : BitVec 32 := 8191#32
  let v2 : BitVec 32 := Scalar.minsi v1 c8191_i32
  let c0_i32 : BitVec 32 := 0#32
  let c0_i32_0 : BitVec 32 := 0#32
  ![v2.toNat, c0_i32.toNat]

def cc0_transform_6 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x6x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S4x256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference4Ideal.lean ====
abbrev S32x2048x1024 : Shape := ⟨3, ![32, 2048, 1024]⟩
abbrev S32x6x1024 : Shape := ⟨3, ![32, 6, 1024]⟩
abbrev S1x4x256x256 : Shape := ⟨4, ![1, 4, 256, 256]⟩
abbrev S1x1024 : Shape := ⟨2, ![1, 1024]⟩
abbrev S1x1024x1024 : Shape := ⟨3, ![1, 1024, 1024]⟩
abbrev S1x1024x256 : Shape := ⟨3, ![1, 1024, 256]⟩
abbrev S4 : Shape := ⟨1, ![4]⟩
abbrev S32x1x1024 : Shape := ⟨3, ![32, 1, 1024]⟩
abbrev S32x1024 : Shape := ⟨2, ![32, 1024]⟩
abbrev S4x256x256 : Shape := ⟨3, ![4, 256, 256]⟩
abbrev S1024 : Shape := ⟨1, ![1024]⟩
abbrev S32x2048x4x256 : Shape := ⟨4, ![32, 2048, 4, 256]⟩
abbrev S32x1x4x256 : Shape := ⟨4, ![32, 1, 4, 256]⟩
abbrev S_ : Shape := ⟨0, ![]⟩
abbrev S32x2049x4x256 : Shape := ⟨4, ![32, 2049, 4, 256]⟩
abbrev S2048 : Shape := ⟨1, ![2048]⟩
abbrev S2048x1 : Shape := ⟨2, ![2048, 1]⟩
abbrev S1x4 : Shape := ⟨2, ![1, 4]⟩
abbrev S2048x4 : Shape := ⟨2, ![2048, 4]⟩
abbrev S2048x4x1 : Shape := ⟨3, ![2048, 4, 1]⟩
abbrev S2048x4x2 : Shape := ⟨3, ![2048, 4, 2]⟩
abbrev S1x2048x4x1 : Shape := ⟨4, ![1, 2048, 4, 1]⟩
abbrev S4x256x32x2048 : Shape := ⟨4, ![4, 256, 32, 2048]⟩
abbrev S1x1x1024 : Shape := ⟨3, ![1, 1, 1024]⟩
abbrev S1024x1024 : Shape := ⟨2, ![1024, 1024]⟩
abbrev S32x2048 : Shape := ⟨2, ![32, 2048]⟩
abbrev S32x2048x1 : Shape := ⟨3, ![32, 2048, 1]⟩
abbrev S65536x1024 : Shape := ⟨2, ![65536, 1024]⟩
abbrev S1024x256 : Shape := ⟨2, ![1024, 256]⟩
abbrev S65536x256 : Shape := ⟨2, ![65536, 256]⟩
abbrev S256x65536 : Shape := ⟨2, ![256, 65536]⟩

abbrev nBuf : Space → Nat
  | .hbm => 154
  | .vmem => 0
  | .smem => 0
  | _ => 0

abbrev hbmTy0_0 (i : Nat) : BufTy := match i % 128 with
  | 0 => ⟨S32x2048x1024, .f32⟩
  | 1 => ⟨S32x2048x1024, .f32⟩
  | 2 => ⟨S32x2048x1024, .f32⟩
  | 3 => ⟨S32x2048x1024, .f32⟩
  | 4 => ⟨S32x6x1024, .f32⟩
  | 5 => ⟨S1x4x256x256, .f32⟩
  | 6 => ⟨S1x1024, .f32⟩
  | 7 => ⟨S1x1024x1024, .f32⟩
  | 8 => ⟨S1x1024, .f32⟩
  | 9 => ⟨S1x1024x256, .f32⟩
  | 10 => ⟨S4, .i32⟩
  | 11 => ⟨S32x1x1024, .f32⟩
  | 12 => ⟨S32x1024, .f32⟩
  | 13 => ⟨S32x1x1024, .f32⟩
  | 14 => ⟨S32x1x1024, .f32⟩
  | 15 => ⟨S32x1024, .f32⟩
  | 16 => ⟨S32x1x1024, .f32⟩
  | 17 => ⟨S32x1x1024, .f32⟩
  | 18 => ⟨S32x1024, .f32⟩
  | 19 => ⟨S32x1x1024, .f32⟩
  | 20 => ⟨S4x256x256, .f32⟩
  | 21 => ⟨S1024, .f32⟩
  | 22 => ⟨S32x2048x4x256, .f32⟩
  | 23 => ⟨S32x1x4x256, .f32⟩
  | 24 => ⟨S_, .f32⟩
  | 25 => ⟨S32x1x4x256, .f32⟩
  | 26 => ⟨S_, .f32⟩
  | 27 => ⟨S_, .f32⟩
  | 28 => ⟨S32x2048x4x256, .f32⟩
  | 29 => ⟨S32x2049x4x256, .f32⟩
  | 30 => ⟨S2048, .i32⟩
  | 31 => ⟨S2048x1, .i32⟩
  | 32 => ⟨S1x4, .i32⟩
  | 33 => ⟨S2048x4, .i32⟩
  | 34 => ⟨S2048x4, .i32⟩
  | 35 => ⟨S2048x4, .i32⟩
  | 36 => ⟨S_, .i32⟩
  | 37 => ⟨S_, .i32⟩
  | 38 => ⟨S_, .i32⟩
  | 39 => ⟨S2048x4, .i32⟩
  | 40 => ⟨S2048x4, .i32⟩
  | 41 => ⟨S_, .i32⟩
  | 42 => ⟨S2048x4, .i32⟩
  | 43 => ⟨S2048x4, .i32⟩
  | 44 => ⟨S2048x4, .i32⟩
  | 45 => ⟨S2048x4, .i32⟩
  | 46 => ⟨S2048x4, .i32⟩
  | 47 => ⟨S_, .i32⟩
  | 48 => ⟨S2048x4, .i32⟩
  | 49 => ⟨S2048x4, .i32⟩
  | 50 => ⟨S_, .i32⟩
  | 51 => ⟨S_, .i32⟩
  | 52 => ⟨S_, .i32⟩
  | 53 => ⟨S2048x4, .i32⟩
  | 54 => ⟨S2048x4, .i32⟩
  | 55 => ⟨S_, .i32⟩
  | 56 => ⟨S2048x4, .i32⟩
  | 57 => ⟨S2048x4, .i32⟩
  | 58 => ⟨S4, .i32⟩
  | 59 => ⟨S1x4, .i32⟩
  | 60 => ⟨S_, .i32⟩
  | 61 => ⟨S2048x4, .i32⟩
  | 62 => ⟨S2048x4, .i32⟩
  | 63 => ⟨S_, .i32⟩
  | 64 => ⟨S2048x4, .i32⟩
  | 65 => ⟨S2048x4, .i1⟩
  | 66 => ⟨S_, .i32⟩
  | 67 => ⟨S2048x4, .i32⟩
  | 68 => ⟨S2048x4, .i32⟩
  | 69 => ⟨S2048x4, .i32⟩
  | 70 => ⟨S_, .i32⟩
  | 71 => ⟨S1x4, .i32⟩
  | 72 => ⟨S1x4, .i1⟩
  | 73 => ⟨S_, .i32⟩
  | 74 => ⟨S1x4, .i32⟩
  | 75 => ⟨S1x4, .i32⟩
  | 76 => ⟨S1x4, .i32⟩
  | 77 => ⟨S2048x4, .i32⟩
  | 78 => ⟨S2048x4x1, .i32⟩
  | 79 => ⟨S2048x4x1, .i32⟩
  | 80 => ⟨S2048x4x2, .i32⟩
  | 81 => ⟨S32x2048x4x256, .f32⟩
  | 82 => ⟨S_, .i32⟩
  | 83 => ⟨S2048x4, .i32⟩
  | 84 => ⟨S2048x4, .i1⟩
  | 85 => ⟨S_, .i32⟩
  | 86 => ⟨S2048x4, .i32⟩
  | 87 => ⟨S2048x4, .i32⟩
  | 88 => ⟨S2048x4, .i32⟩
  | 89 => ⟨S_, .i32⟩
  | 90 => ⟨S1x4, .i32⟩
  | 91 => ⟨S1x4, .i1⟩
  | 92 => ⟨S_, .i32⟩
  | 93 => ⟨S1x4, .i32⟩
  | 94 => ⟨S1x4, .i32⟩
  | 95 => ⟨S1x4, .i32⟩
  | 96 => ⟨S2048x4, .i32⟩
  | 97 => ⟨S2048x4x1, .i32⟩
  | 98 => ⟨S2048x4x1, .i32⟩
  | 99 => ⟨S2048x4x2, .i32⟩
  | 100 => ⟨S32x2048x4x256, .f32⟩
  | 101 => ⟨S32x2048x4x256, .f32⟩
  | 102 => ⟨S2048x4, .i32⟩
  | 103 => ⟨S_, .i32⟩
  | 104 => ⟨S2048x4, .i32⟩
  | 105 => ⟨S2048x4, .i32⟩
  | 106 => ⟨S2048x4, .f32⟩
  | 107 => ⟨S1x2048x4x1, .f32⟩
  | 108 => ⟨S32x2048x4x256, .f32⟩
  | 109 => ⟨S32x2048x4x256, .f32⟩
  | 110 => ⟨S32x2048x4x256, .f32⟩
  | 111 => ⟨S4x256x32x2048, .f32⟩
  | 112 => ⟨S32x2048x4x256, .f32⟩
  | 113 => ⟨S32x2048x1024, .f32⟩
  | 114 => ⟨S1x1x1024, .f32⟩
  | 115 => ⟨S32x2048x1024, .f32⟩
  | 116 => ⟨S32x2048x1024, .f32⟩
  | 117 => ⟨S32x2048x1024, .f32⟩
  | 118 => ⟨S32x2048x1024, .f32⟩
  | 119 => ⟨S1024x1024, .f32⟩
  | 120 => ⟨S32x2048x1024, .f32⟩
  | 121 => ⟨S32x2048x1024, .f32⟩
  | 122 => ⟨S32x2048x1024, .f32⟩
  | 123 => ⟨S32x2048x1024, .f32⟩
  | 124 => ⟨S1024, .f32⟩
  | 125 => ⟨S32x2048x1024, .f32⟩
  | 126 => ⟨S_, .f32⟩
  | 127 => ⟨S32x2048, .f32⟩
  | _ => ⟨S32x2048x1024, .f32⟩

abbrev hbmTy0_1 (i : Nat) : BufTy := match i % 128 with
  | 0 => ⟨S32x2048x1, .f32⟩
  | 1 => ⟨S_, .f32⟩
  | 2 => ⟨S32x2048x1, .f32⟩
  | 3 => ⟨S32x2048x1, .f32⟩
  | 4 => ⟨S_, .f32⟩
  | 5 => ⟨S32x2048x1, .f32⟩
  | 6 => ⟨S32x2048x1, .f32⟩
  | 7 => ⟨S32x2048x1, .f32⟩
  | 8 => ⟨S32x2048x1024, .f32⟩
  | 9 => ⟨S32x2048x1024, .f32⟩
  | 10 => ⟨S1x1x1024, .f32⟩
  | 11 => ⟨S32x2048x1024, .f32⟩
  | 12 => ⟨S32x2048x1024, .f32⟩
  | 13 => ⟨S_, .f32⟩
  | 14 => ⟨S32x1x1024, .f32⟩
  | 15 => ⟨S32x1x1024, .f32⟩
  | 16 => ⟨S32x2048x1024, .f32⟩
  | 17 => ⟨S32x2048x1024, .f32⟩
  | 18 => ⟨S32x2048x1024, .f32⟩
  | 19 => ⟨S32x2048x1024, .f32⟩
  | 20 => ⟨S65536x1024, .f32⟩
  | 21 => ⟨S65536x1024, .f32⟩
  | 22 => ⟨S65536x1024, .bf16⟩
  | 23 => ⟨S1024x256, .f32⟩
  | 24 => ⟨S65536x256, .f32⟩
  | 25 => ⟨S256x65536, .f32⟩
  | _ => ⟨S32x2048x1024, .f32⟩

abbrev hbmTy (i : Nat) : BufTy := match i / 128 with
  | 0 => hbmTy0_0 i
  | 1 => hbmTy0_1 i
  | _ => ⟨S32x2048x1024, .f32⟩

abbrev bufTy : (tb : Table) → Fin (tcTables nBuf tb) → BufTy
  | .hbm, ⟨i, _⟩ => hbmTy i
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst : Ref sig .tc := ⟨.hbm, 24, rfl⟩
abbrev main_v13 : Ref sig .tc := ⟨.hbm, 25, rfl⟩
abbrev main_call0_call0_cst : Ref sig .tc := ⟨.hbm, 26, rfl⟩
abbrev main_call0_call0_v0 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_0 : Ref sig .tc := ⟨.hbm, 36, rfl⟩
abbrev main_c_1 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_c_2 : Ref sig .tc := ⟨.hbm, 47, rfl⟩
abbrev main_v26 : Ref sig .tc := ⟨.hbm, 48, rfl⟩
abbrev main_v27 : Ref sig .tc := ⟨.hbm, 49, rfl⟩
abbrev main_c_3 : Ref sig .tc := ⟨.hbm, 50, rfl⟩
abbrev main_c_4 : Ref sig .tc := ⟨.hbm, 51, rfl⟩
abbrev main_call2_v0 : Ref sig .tc := ⟨.hbm, 52, rfl⟩
abbrev main_call2_v1 : Ref sig .tc := ⟨.hbm, 53, rfl⟩
abbrev main_call2_v2 : Ref sig .tc := ⟨.hbm, 54, rfl⟩
abbrev main_call2_v3 : Ref sig .tc := ⟨.hbm, 55, rfl⟩
abbrev main_call2_v4 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_c_5 : Ref sig .tc := ⟨.hbm, 60, rfl⟩
abbrev main_v31 : Ref sig .tc := ⟨.hbm, 61, rfl⟩
abbrev main_v32 : Ref sig .tc := ⟨.hbm, 62, rfl⟩
abbrev main_c_6 : Ref sig .tc := ⟨.hbm, 63, rfl⟩
abbrev main_v33 : Ref sig .tc := ⟨.hbm, 64, rfl⟩
abbrev main_v34 : Ref sig .tc := ⟨.hbm, 65, rfl⟩
abbrev main_c_7 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_c_8 : Ref sig .tc := ⟨.hbm, 70, rfl⟩
abbrev main_v38 : Ref sig .tc := ⟨.hbm, 71, rfl⟩
abbrev main_v39 : Ref sig .tc := ⟨.hbm, 72, rfl⟩
abbrev main_c_9 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_c_10 : Ref sig .tc := ⟨.hbm, 82, rfl⟩
abbrev main_v48 : Ref sig .tc := ⟨.hbm, 83, rfl⟩
abbrev main_v49 : Ref sig .tc := ⟨.hbm, 84, rfl⟩
abbrev main_c_11 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_c_12 : Ref sig .tc := ⟨.hbm, 89, rfl⟩
abbrev main_v53 : Ref sig .tc := ⟨.hbm, 90, rfl⟩
abbrev main_v54 : Ref sig .tc := ⟨.hbm, 91, rfl⟩
abbrev main_c_13 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_c_14 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_cst_15 : Ref sig .tc := ⟨.hbm, 126, rfl⟩
abbrev main_v87 : Ref sig .tc := ⟨.hbm, 127, rfl⟩
abbrev main_v88 : Ref sig .tc := ⟨.hbm, 128, rfl⟩
abbrev main_cst_16 : Ref sig .tc := ⟨.hbm, 129, rfl⟩
abbrev main_v89 : Ref sig .tc := ⟨.hbm, 130, rfl⟩
abbrev main_v90 : Ref sig .tc := ⟨.hbm, 131, rfl⟩
abbrev main_cst_17 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_cst_18 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩

abbrev nD : Nat := 1
abbrev τ : Topo := Topo.v7x

variable {F : FTy → Type} [FloatOps F]
-- ==== Kernel5.lean ====
abbrev S32x8 : Shape := ⟨2, ![32, 8]⟩
abbrev S4096 : Shape := ⟨1, ![4096]⟩
abbrev S_ : Shape := ⟨0, ![]⟩
abbrev S1x4096 : Shape := ⟨2, ![1, 4096]⟩
abbrev S8x4096 : Shape := ⟨2, ![8, 4096]⟩
abbrev S32x4096 : Shape := ⟨2, ![32, 4096]⟩

abbrev nBuf : Space → Nat
  | .hbm => 43
  | .vmem => 3
  | .smem => 0
  | _ => 0

abbrev bufTy : (tb : Table) → Fin (tcTables nBuf tb) → BufTy
  | .hbm, ⟨0, _⟩ => ⟨S32x8, .f32⟩
  | .hbm, ⟨1, _⟩ => ⟨S4096, .i32⟩
  | .hbm, ⟨2, _⟩ => ⟨S_, .i32⟩
  | .hbm, ⟨3, _⟩ => ⟨S4096, .i32⟩
  | .hbm, ⟨4, _⟩ => ⟨S4096, .i32⟩
  | .hbm, ⟨5, _⟩ => ⟨S4096, .i32⟩
  | .hbm, ⟨6, _⟩ => ⟨S_, .i32⟩
  | .hbm, ⟨7, _⟩ => ⟨S4096, .i32⟩
  | .hbm, ⟨8, _⟩ => ⟨S4096, .i32⟩
  | .hbm, ⟨9, _⟩ => ⟨S4096, .f32⟩
  | .hbm, ⟨10, _⟩ => ⟨S_, .f32⟩
  | .hbm, ⟨11, _⟩ => ⟨S4096, .f32⟩
  | .hbm, ⟨12, _⟩ => ⟨S4096, .f32⟩
  | .hbm, ⟨13, _⟩ => ⟨S4096, .f32⟩
  | .hbm, ⟨14, _⟩ => ⟨S_, .f32⟩
  | .hbm, ⟨15, _⟩ => ⟨S4096, .f32⟩
  | .hbm, ⟨16, _⟩ => ⟨S4096, .f32⟩
  | .hbm, ⟨17, _⟩ => ⟨S_, .f32⟩
  | .hbm, ⟨18, _⟩ => ⟨S4096, .f32⟩
  | .hbm, ⟨19, _⟩ => ⟨S4096, .f32⟩
  | .hbm, ⟨20, _⟩ => ⟨S4096, .i32⟩
  | .hbm, ⟨21, _⟩ => ⟨S_, .i32⟩
  | .hbm, ⟨22, _⟩ => ⟨S4096, .i32⟩
  | .hbm, ⟨23, _⟩ => ⟨S4096, .i32⟩
  | .hbm, ⟨24, _⟩ => ⟨S_, .i32⟩
  | .hbm, ⟨25, _⟩ => ⟨S4096, .i32⟩
  | .hbm, ⟨26, _⟩ => ⟨S4096, .i32⟩
  | .hbm, ⟨27, _⟩ => ⟨S_, .i32⟩
  | .hbm, ⟨28, _⟩ => ⟨S4096, .i32⟩
  | .hbm, ⟨29, _⟩ => ⟨S4096, .i1⟩
  | .hbm, ⟨30, _⟩ => ⟨S_, .i32⟩
  | .hbm, ⟨31, _⟩ => ⟨S_, .i32⟩
  | .hbm, ⟨32, _⟩ => ⟨S4096, .i32⟩
  | .hbm, ⟨33, _⟩ => ⟨S4096, .i32⟩
  | .hbm, ⟨34, _⟩ => ⟨S4096, .i32⟩
  | .hbm, ⟨35, _⟩ => ⟨S_, .i32⟩
  | .hbm, ⟨36, _⟩ => ⟨S4096, .i32⟩
  | .hbm, ⟨37, _⟩ => ⟨S4096, .i1⟩
  | .hbm, ⟨38, _⟩ => ⟨S4096, .i32⟩
  | .hbm, ⟨39, _⟩ => ⟨S4096, .i32⟩
  | .hbm, ⟨40, _⟩ => ⟨S4096, .i32⟩
  | .hbm, ⟨41, _⟩ => ⟨S1x4096, .i32⟩
  | .hbm, ⟨42, _⟩ => ⟨S8x4096, .f32⟩
  | .local _ .vmem, ⟨0, _⟩ => ⟨S1x4096, .i32⟩
  | .local _ .vmem, ⟨1, _⟩ => ⟨S32x8, .f32⟩
  | .local _ .vmem, ⟨2, _⟩ => ⟨S8x4096, .f32⟩
  | _, _ => ⟨S32x8, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c_3 : Ref sig .tc := ⟨.hbm, 21, rfl⟩
abbrev main_v15 : Ref sig .tc := ⟨.hbm, 22, rfl⟩
abbrev main_v16 : Ref sig .tc := ⟨.hbm, 23, rfl⟩
abbrev main_c_4 : Ref sig .tc := ⟨.hbm, 24, rfl⟩
abbrev main_v17 : Ref sig .tc := ⟨.hbm, 25, rfl⟩
abbrev main_v18 : Ref sig .tc := ⟨.hbm, 26, rfl⟩
abbrev main_c_5 : Ref sig .tc := ⟨.hbm, 27, rfl⟩
abbrev main_v19 : Ref sig .tc := ⟨.hbm, 28, rfl⟩
abbrev main_v20 : Ref sig .tc := ⟨.hbm, 29, rfl⟩
abbrev main_c_6 : Ref sig .tc := ⟨.hbm, 30, rfl⟩
abbrev main_c_7 : Ref sig .tc := ⟨.hbm, 31, rfl⟩
abbrev main_call0_v0 : Ref sig .tc := ⟨.hbm, 32, rfl⟩
abbrev main_call0_v1 : Ref sig .tc := ⟨.hbm, 33, rfl⟩
abbrev main_v21 : Ref sig .tc := ⟨.hbm, 34, rfl⟩
abbrev main_c_8 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S1x4096 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Reference5Ideal.lean ====
abbrev S32x8 : Shape := ⟨2, ![32, 8]⟩
abbrev S4096 : Shape := ⟨1, ![4096]⟩
abbrev S_ : Shape := ⟨0, ![]⟩
abbrev S4096x1 : Shape := ⟨2, ![4096, 1]⟩
abbrev S4096x8 : Shape := ⟨2, ![4096, 8]⟩
abbrev S8x4096 : Shape := ⟨2, ![8, 4096]⟩

abbrev nBuf : Space → Nat
  | .hbm => 51
  | .vmem => 0
  | .smem => 0
  | _ => 0

abbrev bufTy : (tb : Table) → Fin (tcTables nBuf tb) → BufTy
  | .hbm, ⟨0, _⟩ => ⟨S32x8, .f32⟩
  | .hbm, ⟨1, _⟩ => ⟨S4096, .i32⟩
  | .hbm, ⟨2, _⟩ => ⟨S_, .i32⟩
  | .hbm, ⟨3, _⟩ => ⟨S4096, .i32⟩
  | .hbm, ⟨4, _⟩ => ⟨S4096, .i32⟩
  | .hbm, ⟨5, _⟩ => ⟨S4096, .i32⟩
  | .hbm, ⟨6, _⟩ => ⟨S_, .i32⟩
  | .hbm, ⟨7, _⟩ => ⟨S4096, .i32⟩
  | .hbm, ⟨8, _⟩ => ⟨S4096, .i32⟩
  | .hbm, ⟨9, _⟩ => ⟨S4096, .f32⟩
  | .hbm, ⟨10, _⟩ => ⟨S_, .f32⟩
  | .hbm, ⟨11, _⟩ => ⟨S4096, .f32⟩
  | .hbm, ⟨12, _⟩ => ⟨S4096, .f32⟩
  | .hbm, ⟨13, _⟩ => ⟨S4096, .f32⟩
  | .hbm, ⟨14, _⟩ => ⟨S_, .f32⟩
  | .hbm, ⟨15, _⟩ => ⟨S4096, .f32⟩
  | .hbm, ⟨16, _⟩ => ⟨S4096, .f32⟩
  | .hbm, ⟨17, _⟩ => ⟨S_, .f32⟩
  | .hbm, ⟨18, _⟩ => ⟨S4096, .f32⟩
  | .hbm, ⟨19, _⟩ => ⟨S4096, .f32⟩
  | .hbm, ⟨20, _⟩ => ⟨S4096, .i32⟩
  | .hbm, ⟨21, _⟩ => ⟨S_, .i32⟩
  | .hbm, ⟨22, _⟩ => ⟨S4096, .i32⟩
  | .hbm, ⟨23, _⟩ => ⟨S4096, .i32⟩
  | .hbm, ⟨24, _⟩ => ⟨S_, .i32⟩
  | .hbm, ⟨25, _⟩ => ⟨S4096, .i32⟩
  | .hbm, ⟨26, _⟩ => ⟨S4096, .i32⟩
  | .hbm, ⟨27, _⟩ => ⟨S_, .i32⟩
  | .hbm, ⟨28, _⟩ => ⟨S4096, .i32⟩
  | .hbm, ⟨29, _⟩ => ⟨S4096, .i1⟩
  | .hbm, ⟨30, _⟩ => ⟨S_, .i32⟩
  | .hbm, ⟨31, _⟩ => ⟨S_, .i32⟩
  | .hbm, ⟨32, _⟩ => ⟨S4096, .i32⟩
  | .hbm, ⟨33, _⟩ => ⟨S4096, .i32⟩
  | .hbm, ⟨34, _⟩ => ⟨S4096, .i32⟩
  | .hbm, ⟨35, _⟩ => ⟨S_, .i32⟩
  | .hbm, ⟨36, _⟩ => ⟨S4096, .i32⟩
  | .hbm, ⟨37, _⟩ => ⟨S4096, .i1⟩
  | .hbm, ⟨38, _⟩ => ⟨S4096, .i32⟩
  | .hbm, ⟨39, _⟩ => ⟨S4096, .i32⟩
  | .hbm, ⟨40, _⟩ => ⟨S4096, .i32⟩
  | .hbm, ⟨41, _⟩ => ⟨S_, .i32⟩
  | .hbm, ⟨42, _⟩ => ⟨S4096, .i32⟩
  | .hbm, ⟨43, _⟩ => ⟨S4096, .i1⟩
  | .hbm, ⟨44, _⟩ => ⟨S_, .i32⟩
  | .hbm, ⟨45, _⟩ => ⟨S4096, .i32⟩
  | .hbm, ⟨46, _⟩ => ⟨S4096, .i32⟩
  | .hbm, ⟨47, _⟩ => ⟨S4096, .i32⟩
  | .hbm, ⟨48, _⟩ => ⟨S4096x1, .i32⟩
  | .hbm, ⟨49, _⟩ => ⟨S4096x8, .f32⟩
  | .hbm, ⟨50, _⟩ => ⟨S8x4096, .f32⟩
  | _, _ => ⟨S32x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c_3 : Ref sig .tc := ⟨.hbm, 21, rfl⟩
abbrev main_v15 : Ref sig .tc := ⟨.hbm, 22, rfl⟩
abbrev main_v16 : Ref sig .tc := ⟨.hbm, 23, rfl⟩
abbrev main_c_4 : Ref sig .tc := ⟨.hbm, 24, rfl⟩
abbrev main_v17 : Ref sig .tc := ⟨.hbm, 25, rfl⟩
abbrev main_v18 : Ref sig .tc := ⟨.hbm, 26, rfl⟩
abbrev main_c_5 : Ref sig .tc := ⟨.hbm, 27, rfl⟩
abbrev main_v19 : Ref sig .tc := ⟨.hbm, 28, rfl⟩
abbrev main_v20 : Ref sig .tc := ⟨.hbm, 29, rfl⟩
abbrev main_c_6 : Ref sig .tc := ⟨.hbm, 30, rfl⟩
abbrev main_c_7 : Ref sig .tc := ⟨.hbm, 31, rfl⟩
abbrev main_call0_v0 : Ref sig .tc := ⟨.hbm, 32, rfl⟩
abbrev main_call0_v1 : Ref sig .tc := ⟨.hbm, 33, rfl⟩
abbrev main_v21 : Ref sig .tc := ⟨.hbm, 34, rfl⟩
abbrev main_c_8 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_9 : Ref sig .tc := ⟨.hbm, 41, rfl⟩
abbrev main_v27 : Ref sig .tc := ⟨.hbm, 42, rfl⟩
abbrev main_v28 : Ref sig .tc := ⟨.hbm, 43, rfl⟩
abbrev main_c_10 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩

abbrev nD : Nat := 1
abbrev τ : Topo := Topo.v7x

variable {F : FTy → Type} [FloatOps F]
-- ==== Kernel6.lean ====
abbrev S8x65536 : Shape := ⟨2, ![8, 65536]⟩
abbrev S256 : Shape := ⟨1, ![256]⟩
abbrev S256x1 : Shape := ⟨2, ![256, 1]⟩
abbrev S8x512 : Shape := ⟨2, ![8, 512]⟩
abbrev S256x512 : Shape := ⟨2, ![256, 512]⟩
abbrev S1x512 : Shape := ⟨2, ![1, 512]⟩
abbrev S512 : Shape := ⟨1, ![512]⟩

abbrev nBuf : Space → Nat
  | .hbm => 6
  | .vmem => 7
  | .smem => 0
  | _ => 0

abbrev bufTy : (tb : Table) → Fin (tcTables nBuf tb) → BufTy
  | .hbm, ⟨0, _⟩ => ⟨S8x65536, .i32⟩
  | .hbm, ⟨1, _⟩ => ⟨S8x65536, .i32⟩
  | .hbm, ⟨2, _⟩ => ⟨S256, .i32⟩
  | .hbm, ⟨3, _⟩ => ⟨S256, .f32⟩
  | .hbm, ⟨4, _⟩ => ⟨S256x1, .f32⟩
  | .hbm, ⟨5, _⟩ => ⟨S8x65536, .i32⟩
  | .local _ .vmem, ⟨0, _⟩ => ⟨S8x512, .i32⟩
  | .local _ .vmem, ⟨1, _⟩ => ⟨S8x512, .i32⟩
  | .local _ .vmem, ⟨2, _⟩ => ⟨S8x512, .i32⟩
  | .local _ .vmem, ⟨3, _⟩ => ⟨S8x512, .i32⟩
  | .local _ .vmem, ⟨4, _⟩ => ⟨S256x1, .f32⟩
  | .local _ .vmem, ⟨5, _⟩ => ⟨S8x512, .i32⟩
  | .local _ .vmem, ⟨6, _⟩ => ⟨S8x512, .i32⟩
  | _, _ => ⟨S8x65536, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference6Ideal.lean ====
abbrev S8x65536 : Shape := ⟨2, ![8, 65536]⟩
abbrev S256 : Shape := ⟨1, ![256]⟩
abbrev S_ : Shape := ⟨0, ![]⟩
abbrev S8x65536x1 : Shape := ⟨3, ![8, 65536, 1]⟩

abbrev nBuf : Space → Nat
  | .hbm => 13
  | .vmem => 0
  | .smem => 0
  | _ => 0

abbrev bufTy : (tb : Table) → Fin (tcTables nBuf tb) → BufTy
  | .hbm, ⟨0, _⟩ => ⟨S8x65536, .i32⟩
  | .hbm, ⟨1, _⟩ => ⟨S8x65536, .i32⟩
  | .hbm, ⟨2, _⟩ => ⟨S256, .i32⟩
  | .hbm, ⟨3, _⟩ => ⟨S_, .i32⟩
  | .hbm, ⟨4, _⟩ => ⟨S8x65536, .i32⟩
  | .hbm, ⟨5, _⟩ => ⟨S8x65536, .i1⟩
  | .hbm, ⟨6, _⟩ => ⟨S_, .i32⟩
  | .hbm, ⟨7, _⟩ => ⟨S8x65536, .i32⟩
  | .hbm, ⟨8, _⟩ => ⟨S8x65536, .i32⟩
  | .hbm, ⟨9, _⟩ => ⟨S8x65536, .i32⟩
  | .hbm, ⟨10, _⟩ => ⟨S8x65536x1, .i32⟩
  | .hbm, ⟨11, _⟩ => ⟨S8x65536, .i32⟩
  | .hbm, ⟨12, _⟩ => ⟨S8x65536, .i32⟩
  | _, _ => ⟨S8x65536, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Kernel7.lean ====
abbrev S256x65536 : Shape := ⟨2, ![256, 65536]⟩
abbrev S1x256 : Shape := ⟨2, ![1, 256]⟩
abbrev S256 : Shape := ⟨1, ![256]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S256x1 : Shape := ⟨2, ![256, 1]⟩
abbrev S8x65536 : Shape := ⟨2, ![8, 65536]⟩
abbrev S256x512 : Shape := ⟨2, ![256, 512]⟩
abbrev S8x512 : Shape := ⟨2, ![8, 512]⟩
abbrev S8x32x512 : Shape := ⟨3, ![8, 32, 512]⟩
abbrev S8x1x512 : Shape := ⟨3, ![8, 1, 512]⟩

abbrev nBuf : Space → Nat
  | .hbm => 16
  | .vmem => 11
  | .smem => 0
  | _ => 0

abbrev bufTy : (tb : Table) → Fin (tcTables nBuf tb) → BufTy
  | .hbm, ⟨0, _⟩ => ⟨S256x65536, .f32⟩
  | .hbm, ⟨1, _⟩ => ⟨S1x256, .f32⟩
  | .hbm, ⟨2, _⟩ => ⟨S256, .f32⟩
  | .hbm, ⟨3, _⟩ => ⟨S512, .i32⟩
  | .hbm, ⟨4, _⟩ => ⟨S512x1, .i32⟩
  | .hbm, ⟨5, _⟩ => ⟨S512, .i32⟩
  | .hbm, ⟨6, _⟩ => ⟨S1x512, .i32⟩
  | .hbm, ⟨7, _⟩ => ⟨S512x512, .i32⟩
  | .hbm, ⟨8, _⟩ => ⟨S512x512, .i32⟩
  | .hbm, ⟨9, _⟩ => ⟨S512x512, .i1⟩
  | .hbm, ⟨10, _⟩ => ⟨S512x512, .bf16⟩
  | .hbm, ⟨11, _⟩ => ⟨S256x1, .f32⟩
  | .hbm, ⟨12, _⟩ => ⟨S8x65536, .i32⟩
  | .hbm, ⟨13, _⟩ => ⟨S8x65536, .i32⟩
  | .hbm, ⟨14, _⟩ => ⟨S8x65536, .f32⟩
  | .hbm, ⟨15, _⟩ => ⟨S256x1, .f32⟩
  | .local _ .vmem, ⟨0, _⟩ => ⟨S256x512, .f32⟩
  | .local _ .vmem, ⟨1, _⟩ => ⟨S256x512, .f32⟩
  | .local _ .vmem, ⟨2, _⟩ => ⟨S256x1, .f32⟩
  | .local _ .vmem, ⟨3, _⟩ => ⟨S512x512, .bf16⟩
  | .local _ .vmem, ⟨4, _⟩ => ⟨S8x512, .i32⟩
  | .local _ .vmem, ⟨5, _⟩ => ⟨S8x512, .i32⟩
  | .local _ .vmem, ⟨6, _⟩ => ⟨S8x512, .i32⟩
  | .local _ .vmem, ⟨7, _⟩ => ⟨S8x512, .i32⟩
  | .local _ .vmem, ⟨8, _⟩ => ⟨S8x512, .f32⟩
  | .local _ .vmem, ⟨9, _⟩ => ⟨S8x512, .f32⟩
  | .local _ .vmem, ⟨10, _⟩ => ⟨S256x1, .f32⟩
  | _, _ => ⟨S256x65536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10_0 : Ref sig .tc := ⟨.hbm, 12, rfl⟩
abbrev main_v10_1 : Ref sig .tc := ⟨.hbm, 13, rfl⟩
abbrev main_v10_2 : Ref sig .tc := ⟨.hbm, 14, rfl⟩
abbrev main_v10_3 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x512 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S256x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference7Ideal.lean ====
abbrev S256x65536 : Shape := ⟨2, ![256, 65536]⟩
abbrev S1x256 : Shape := ⟨2, ![1, 256]⟩
abbrev S65536x256 : Shape := ⟨2, ![65536, 256]⟩
abbrev S_ : Shape := ⟨0, ![]⟩
abbrev S256 : Shape := ⟨1, ![256]⟩
abbrev S65536x8x32 : Shape := ⟨3, ![65536, 8, 32]⟩
abbrev S65536x8x2 : Shape := ⟨3, ![65536, 8, 2]⟩
abbrev S65536x8 : Shape := ⟨2, ![65536, 8]⟩
abbrev S65536x4 : Shape := ⟨2, ![65536, 4]⟩
abbrev S65536x4x1 : Shape := ⟨3, ![65536, 4, 1]⟩
abbrev S1x1x8 : Shape := ⟨3, ![1, 1, 8]⟩
abbrev S65536x4x8 : Shape := ⟨3, ![65536, 4, 8]⟩
abbrev S65536x8x1 : Shape := ⟨3, ![65536, 8, 1]⟩
abbrev S1 : Shape := ⟨1, ![1]⟩
abbrev S1x1x1 : Shape := ⟨3, ![1, 1, 1]⟩
abbrev S65536 : Shape := ⟨1, ![65536]⟩
abbrev S65536x1 : Shape := ⟨2, ![65536, 1]⟩
abbrev S8x65536 : Shape := ⟨2, ![8, 65536]⟩

abbrev nBuf : Space → Nat
  | .hbm => 73
  | .vmem => 0
  | .smem => 0
  | _ => 0

abbrev bufTy : (tb : Table) → Fin (tcTables nBuf tb) → BufTy
  | .hbm, ⟨0, _⟩ => ⟨S256x65536, .f32⟩
  | .hbm, ⟨1, _⟩ => ⟨S1x256, .f32⟩
  | .hbm, ⟨2, _⟩ => ⟨S65536x256, .f32⟩
  | .hbm, ⟨3, _⟩ => ⟨S65536x256, .f32⟩
  | .hbm, ⟨4, _⟩ => ⟨S65536x256, .f32⟩
  | .hbm, ⟨5, _⟩ => ⟨S_, .f32⟩
  | .hbm, ⟨6, _⟩ => ⟨S65536x256, .f32⟩
  | .hbm, ⟨7, _⟩ => ⟨S65536x256, .f32⟩
  | .hbm, ⟨8, _⟩ => ⟨S_, .f32⟩
  | .hbm, ⟨9, _⟩ => ⟨S65536x256, .f32⟩
  | .hbm, ⟨10, _⟩ => ⟨S65536x256, .f32⟩
  | .hbm, ⟨11, _⟩ => ⟨S256, .f32⟩
  | .hbm, ⟨12, _⟩ => ⟨S1x256, .f32⟩
  | .hbm, ⟨13, _⟩ => ⟨S65536x256, .f32⟩
  | .hbm, ⟨14, _⟩ => ⟨S65536x256, .f32⟩
  | .hbm, ⟨15, _⟩ => ⟨S65536x8x32, .f32⟩
  | .hbm, ⟨16, _⟩ => ⟨S65536x8x2, .f32⟩
  | .hbm, ⟨17, _⟩ => ⟨S65536x8x2, .i32⟩
  | .hbm, ⟨18, _⟩ => ⟨S_, .f32⟩
  | .hbm, ⟨19, _⟩ => ⟨S65536x8, .f32⟩
  | .hbm, ⟨20, _⟩ => ⟨S65536x4, .f32⟩
  | .hbm, ⟨21, _⟩ => ⟨S65536x4, .i32⟩
  | .hbm, ⟨22, _⟩ => ⟨S65536x4x1, .i32⟩
  | .hbm, ⟨23, _⟩ => ⟨S1x1x8, .i32⟩
  | .hbm, ⟨24, _⟩ => ⟨S65536x4x8, .i32⟩
  | .hbm, ⟨25, _⟩ => ⟨S65536x4x8, .i32⟩
  | .hbm, ⟨26, _⟩ => ⟨S65536x4x8, .i1⟩
  | .hbm, ⟨27, _⟩ => ⟨S65536x4x8, .f32⟩
  | .hbm, ⟨28, _⟩ => ⟨S_, .f32⟩
  | .hbm, ⟨29, _⟩ => ⟨S65536x8, .f32⟩
  | .hbm, ⟨30, _⟩ => ⟨S_, .f32⟩
  | .hbm, ⟨31, _⟩ => ⟨S65536x8, .f32⟩
  | .hbm, ⟨32, _⟩ => ⟨S65536x8, .i1⟩
  | .hbm, ⟨33, _⟩ => ⟨S65536x8x32, .i1⟩
  | .hbm, ⟨34, _⟩ => ⟨S65536x256, .i1⟩
  | .hbm, ⟨35, _⟩ => ⟨S_, .f32⟩
  | .hbm, ⟨36, _⟩ => ⟨S_, .f32⟩
  | .hbm, ⟨37, _⟩ => ⟨S65536x256, .f32⟩
  | .hbm, ⟨38, _⟩ => ⟨S65536x256, .f32⟩
  | .hbm, ⟨39, _⟩ => ⟨S65536x8, .f32⟩
  | .hbm, ⟨40, _⟩ => ⟨S65536x8, .i32⟩
  | .hbm, ⟨41, _⟩ => ⟨S_, .i32⟩
  | .hbm, ⟨42, _⟩ => ⟨S65536x8, .i32⟩
  | .hbm, ⟨43, _⟩ => ⟨S65536x8, .i1⟩
  | .hbm, ⟨44, _⟩ => ⟨S_, .i32⟩
  | .hbm, ⟨45, _⟩ => ⟨S65536x8, .i32⟩
  | .hbm, ⟨46, _⟩ => ⟨S65536x8, .i32⟩
  | .hbm, ⟨47, _⟩ => ⟨S65536x8, .i32⟩
  | .hbm, ⟨48, _⟩ => ⟨S65536x8x1, .i32⟩
  | .hbm, ⟨49, _⟩ => ⟨S1, .i32⟩
  | .hbm, ⟨50, _⟩ => ⟨S_, .i32⟩
  | .hbm, ⟨51, _⟩ => ⟨S65536x8x1, .i32⟩
  | .hbm, ⟨52, _⟩ => ⟨S65536x8x1, .i1⟩
  | .hbm, ⟨53, _⟩ => ⟨S1x1x1, .i32⟩
  | .hbm, ⟨54, _⟩ => ⟨S65536x8x1, .i32⟩
  | .hbm, ⟨55, _⟩ => ⟨S65536x8x1, .i1⟩
  | .hbm, ⟨56, _⟩ => ⟨S65536x8x1, .i1⟩
  | .hbm, ⟨57, _⟩ => ⟨S_, .i1⟩
  | .hbm, ⟨58, _⟩ => ⟨S65536x8, .i1⟩
  | .hbm, ⟨59, _⟩ => ⟨S65536x8, .f32⟩
  | .hbm, ⟨60, _⟩ => ⟨S_, .f32⟩
  | .hbm, ⟨61, _⟩ => ⟨S65536x8, .f32⟩
  | .hbm, ⟨62, _⟩ => ⟨S65536x8, .f32⟩
  | .hbm, ⟨63, _⟩ => ⟨S_, .f32⟩
  | .hbm, ⟨64, _⟩ => ⟨S65536, .f32⟩
  | .hbm, ⟨65, _⟩ => ⟨S65536x1, .f32⟩
  | .hbm, ⟨66, _⟩ => ⟨S65536x8, .f32⟩
  | .hbm, ⟨67, _⟩ => ⟨S65536x8, .f32⟩
  | .hbm, ⟨68, _⟩ => ⟨S_, .f32⟩
  | .hbm, ⟨69, _⟩ => ⟨S65536x8, .f32⟩
  | .hbm, ⟨70, _⟩ => ⟨S65536x8, .f32⟩
  | .hbm, ⟨71, _⟩ => ⟨S8x65536, .i32⟩
  | .hbm, ⟨72, _⟩ => ⟨S8x65536, .f32⟩
  | _, _ => ⟨S256x65536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_values : Ref sig .tc := ⟨.hbm, 16, rfl⟩
abbrev main_indices : Ref sig .tc := ⟨.hbm, 17, rfl⟩
abbrev main_cst_1 : Ref sig .tc := ⟨.hbm, 18, rfl⟩
abbrev main_v12 : Ref sig .tc := ⟨.hbm, 19, rfl⟩
abbrev main_values_2 : Ref sig .tc := ⟨.hbm, 20, rfl⟩
abbrev main_indices_3 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_v13 : Ref sig .tc := ⟨.hbm, 27, rfl⟩
abbrev main_cst_4 : Ref sig .tc := ⟨.hbm, 28, rfl⟩
abbrev main_v14 : Ref sig .tc := ⟨.hbm, 29, rfl⟩
abbrev main_cst_5 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_6 : Ref sig .tc := ⟨.hbm, 35, rfl⟩
abbrev main_call1_v0 : Ref sig .tc := ⟨.hbm, 36, rfl⟩
abbrev main_call1_v1 : Ref sig .tc := ⟨.hbm, 37, rfl⟩
abbrev main_v19 : Ref sig .tc := ⟨.hbm, 38, rfl⟩
abbrev main_values_7 : Ref sig .tc := ⟨.hbm, 39, rfl⟩
abbrev main_indices_8 : Ref sig .tc := ⟨.hbm, 40, rfl⟩
abbrev main_call2_c : Ref sig .tc := ⟨.hbm, 41, rfl⟩
abbrev main_call2_v0 : Ref sig .tc := ⟨.hbm, 42, rfl⟩
abbrev main_call2_v1 : Ref sig .tc := ⟨.hbm, 43, rfl⟩
abbrev main_call2_c_0 : Ref sig .tc := ⟨.hbm, 44, rfl⟩
abbrev main_call2_v2 : Ref sig .tc := ⟨.hbm, 45, rfl⟩
abbrev main_call2_v3 : Ref sig .tc := ⟨.hbm, 46, rfl⟩
abbrev main_call2_v4 : Ref sig .tc := ⟨.hbm, 47, rfl⟩
abbrev main_call2_v5 : Ref sig .tc := ⟨.hbm, 48, rfl⟩
abbrev main_call2_c_1 : Ref sig .tc := ⟨.hbm, 49, rfl⟩
abbrev main_call2_c_2 : Ref sig .tc := ⟨.hbm, 50, rfl⟩
abbrev main_call2_v6 : Ref sig .tc := ⟨.hbm, 51, rfl⟩
abbrev main_call2_v7 : Ref sig .tc := ⟨.hbm, 52, rfl⟩
abbrev main_call2_v8 : Ref sig .tc := ⟨.hbm, 53, rfl⟩
abbrev main_call2_v9 : Ref sig .tc := ⟨.hbm, 54, rfl⟩
abbrev main_call2_v10 : Ref sig .tc := ⟨.hbm, 55, rfl⟩
abbrev main_call2_v11 : Ref sig .tc := ⟨.hbm, 56, rfl⟩
abbrev main_call2_c_3 : Ref sig .tc := ⟨.hbm, 57, rfl⟩
abbrev main_call2_v12 : Ref sig .tc := ⟨.hbm, 58, rfl⟩
abbrev main_call2_v13 : Ref sig .tc := ⟨.hbm, 59, rfl⟩
abbrev main_call2_cst : Ref sig .tc := ⟨.hbm, 60, rfl⟩
abbrev main_call2_v14 : Ref sig .tc := ⟨.hbm, 61, rfl⟩
abbrev main_v20 : Ref sig .tc := ⟨.hbm, 62, rfl⟩
abbrev main_cst_9 : Ref sig .tc := ⟨.hbm, 63, rfl⟩
abbrev main_v21 : Ref sig .tc := ⟨.hbm, 64, rfl⟩
abbrev main_v22 : Ref sig .tc := ⟨.hbm, 65, rfl⟩
abbrev main_v23 : Ref sig .tc := ⟨.hbm, 66, rfl⟩
abbrev main_v24 : Ref sig .tc := ⟨.hbm, 67, rfl⟩
abbrev main_cst_10 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩

abbrev nD : Nat := 1
abbrev τ : Topo := Topo.v7x

variable {F : FTy → Type} [FloatOps F]
-- ==== Proof.Body.lean ====
module
public import proofs.«01_k».proof.Proof.Gen.KernelIdeal.Value
public import Idealize.ShloMosaic.Lib.Pipeline.ValueKit
public import Idealize.ShloMosaic.Lib.Pipeline.ReadBack
@[expose] public section
set_option maxRecDepth 16384
noncomputable section
open Idealize.ShloMosaic Idealize.ShloMosaic.TcCoe Idealize.SL.Sem
namespace Cert.KernelIdeal.Attn
open Cert.KernelIdeal Cert.KernelIdeal.Gen
variable {F : FTy → Type} [FloatOps F] [Named F]

/-- Key tile `j`'s slice of the bias scratch. -/
abbrev bt (xs : Vec F S4x1024x512 .f32) (j : ℕ) (h : ∀ a, ![j, 0, 0] a + S1x1024x512.size a ≤ S4x1024x512.size a) : Vec F S1x1024x512 .f32 :=
  View.ld xs (Rect.unit ![j, 0, 0] S1x1024x512.size h)
/-- Key tile `j` of the block of transposed keys. -/
abbrev ktile (x1 : Vec F S1x1x4x128x512 .bf16) (j : ℕ) (h : ∀ a, ![0, 0, j, 0, 0] a + S1x1x1x128x512.size a ≤ S1x1x4x128x512.size a) : Vec F S1x1x1x128x512 .bf16 :=
  View.ld x1 (Rect.unit ![0, 0, j, 0, 0] S1x1x1x128x512.size h)
/-- Row tile `j` of the values. -/
abbrev vtile (x2 : Vec F S2048x128 .bf16) (o : ℕ) (h : ∀ a, ![o, 0] a + S512x128.size a ≤ S2048x128.size a) : Vec F S512x128 .bf16 :=
  View.ld x2 (Rect.unit ![o, 0] S512x128.size h)

variable (x0 : Vec F S1024x128 .bf16) (x1 : Vec F S1x1x4x128x512 .bf16) (x2 : Vec F S2048x128 .bf16) (b0 b1 b2 b3 : Vec F S1x1024x512 .f32)

/-- The scores of the four key tiles, as stored. -/
def X0 : Vec F S1x2048x512 .f32 := k0_pay11 (k0_pay8 x0) (k0_pay9 b0) (ktile x1 0 inb_S1x1x4x128x512_S1x1x1x128x512_0_0_0_0_0)
def X1 : Vec F S1x2048x512 .f32 := k0_pay14 (k0_pay8 x0) b1 (ktile x1 1 inb_S1x1x4x128x512_S1x1x1x128x512_0_0_1_0_0)
def X2 : Vec F S1x2048x512 .f32 := k0_pay18 (k0_pay8 x0) b2 (ktile x1 2 inb_S1x1x4x128x512_S1x1x1x128x512_0_0_2_0_0)
def X3 : Vec F S1x2048x512 .f32 := k0_pay22 (k0_pay8 x0) (k0_pay20 b3) (ktile x1 3 inb_S1x1x4x128x512_S1x1x1x128x512_0_0_3_0_0)
/-- The running lane maxima after the four key tiles. -/
def M0 : Vec F S2048x128 .f32 := k0_pay12 (k0_pay8 x0) (k0_pay9 b0) (ktile x1 0 inb_S1x1x4x128x512_S1x1x1x128x512_0_0_0_0_0)
def M1 : Vec F S2048x128 .f32 := k0_pay16 (k0_pay15 (k0_pay8 x0) b1 (ktile x1 1 inb_S1x1x4x128x512_S1x1x1x128x512_0_0_1_0_0)) (M0 x0 x1 b0)
def M2 : Vec F S2048x128 .f32 := k0_pay19 (k0_pay8 x0) b2 (ktile x1 2 inb_S1x1x4x128x512_S1x1x1x128x512_0_0_2_0_0) (M1 x0 x1 b0 b1)
def M3 : Vec F S2048x128 .f32 := k0_pay23 (k0_pay8 x0) (k0_pay20 b3) (ktile x1 3 inb_S1x1x4x128x512_S1x1x1x128x512_0_0_3_0_0) (M2 x0 x1 b0 b1 b2)
/-- The row maximum, spread over the lanes. -/
def MM : Vec F S2048x128 .f32 := k0_pay24 (M3 x0 x1 b0 b1 b2 b3)

theorem inb_v (o : ℕ) (h : o ≤ 1536) : ∀ a, ![o, 0] a + S512x128.size a ≤ S2048x128.size a := by
  intro a
  match a with
  | ⟨0, _⟩ => show o + 512 ≤ 2048; omega
  | ⟨1, _⟩ => show 0 + 128 ≤ 128; omega

/-- The accumulator after the four key tiles: the weighted values beside the weights' sums. -/
def A1 : Vec F S2048x256 .f32 := k0_pay26 (MM x0 x1 b0 b1 b2 b3) (X0 x0 x1 b0) (vtile x2 0 (inb_v 0 (by decide))) k0_pay25
def A2 : Vec F S2048x256 .f32 := k0_pay26 (MM x0 x1 b0 b1 b2 b3) (X1 x0 x1 b1) (vtile x2 512 (inb_v 512 (by decide))) (A1 x0 x1 x2 b0 b1 b2 b3)
def A3 : Vec F S2048x256 .f32 := k0_pay26 (MM x0 x1 b0 b1 b2 b3) (X2 x0 x1 b2) (vtile x2 1024 (inb_v 1024 (by decide))) (A2 x0 x1 x2 b0 b1 b2 b3)
def A4 : Vec F S2048x256 .f32 := k0_pay26 (MM x0 x1 b0 b1 b2 b3) (X3 x0 x1 b3) (vtile x2 1536 (inb_v 1536 (by decide))) (A3 x0 x1 x2 b0 b1 b2 b3)

section
variable (𝒱 : Variants) (c : Dev nD) (bd : Option 𝒱.V) (i : grid0.Coords) (arg3 : Memref sig .tc .vmem S1024x128 .bf16) (harg3 : arg3.IsWhole) (arg4 : Memref sig .tc .vmem S1x1x4x128x512 .bf16) (harg4 : arg4.IsWhole) (arg5 : Memref sig .tc .vmem S2048x128 .bf16) (harg5 : arg5.IsWhole) (arg6 : Memref sig .tc .vmem S1024x128 .bf16) (harg6 : arg6.IsWhole) (arg7 : Memref sig .tc .vmem S1x1x3072 .f32) (harg7 : arg7.IsWhole) (arg8 : Memref sig .tc .vmem S4x64 .f32) (harg8 : arg8.IsWhole) (arg9 : Memref sig .tc .vmem S1x128 .f32) (harg9 : arg9.IsWhole) (arg10 : Memref sig .tc .vmem S1024x128 .bf16) (harg10 : arg10.IsWhole) (arg11 : Memref sig .tc .vmem S4x1024x512 .f32) (harg11 : arg11.IsWhole) (arg12 : Memref sig .tc .vmem S4x2048x512 .f32) (harg12 : arg12.IsWhole) (arg13 : Memref sig .tc .vmem S2048x128 .f32) (harg13 : arg13.IsWhole) (arg14 : Memref sig .tc .vmem S2048x256 .f32) (harg14 : arg14.IsWhole)
  (v36 : FVec F S2048x128 .bf16) (v102 : FVec F S1024x512 .f32) (v103 : Vec F S1x1x1x128x512 .bf16) (X5 : BufTy.Contents (Elt F) arg5.view.ty) (X12 : BufTy.Contents (Elt F) arg12.view.ty) (X13 : BufTy.Contents (Elt F) arg13.view.ty)

/-- One trip's piece: the accumulator plus the trip's products. -/
theorem trip_eq (k : Fin k0_t1_loop.trips) (f : BufTy.Contents (Elt F) arg14.view.ty) :
    tripL_k0_t1 𝒱 c bd i arg3 harg3 arg4 harg4 arg5 harg5 arg6 harg6 arg7 harg7 arg8 harg8 arg9 harg9 arg10 harg10 arg11 harg11 arg12 harg12 arg13 harg13 arg14 harg14 v36 v102 v103 X5 X12 X13 k f = [⟨Rect.unit (s := S2048x256) ![0, 0] S2048x256.size inb_S2048x256_S2048x256_0_0,
      k0_pay26 (arg13.view.readAt (Elt F) (Rect.unit (s := S2048x128) ![0, 0] S2048x128.size inb_S2048x128_S2048x128_0_0).toLoadRect X13)
        (arg12.view.readAt (Elt F) (Rect.unit (s := S4x2048x512) (k0_off1 k) S1x2048x512.size (k0_off1_inb k)).toLoadRect X12)
        (arg5.view.readAt (Elt F) (Rect.unit (s := S2048x128) (k0_off2 k) S512x128.size (k0_off2_inb k)).toLoadRect X5)
        (arg14.view.readAt (Elt F) (Rect.unit (s := S2048x256) ![0, 0] S2048x256.size inb_S2048x256_S2048x256_0_0).toLoadRect f)⟩] := by
  unfold tripL_k0_t1 trip_k0_t1
  rfl

/-- The accumulator after one trip more, read whole. -/
theorem loop_step (Z : Vec F S2048x256 .f32) (k : ℕ) (h : k < k0_t1_loop.trips) :
    arg14.view.readCov (pb_k0_t1 𝒱 c bd i arg3 harg3 arg4 harg4 arg5 harg5 arg6 harg6 arg7 harg7 arg8 harg8 arg9 harg9 arg10 harg10 arg11 harg11 arg12 harg12 arg13 harg13 arg14 harg14 v36 v102 v103 X5 X12 X13 (arg14.view.writes (Elt F) arg14.view.junk [⟨Rect.unit (s := S2048x256) ![0, 0] S2048x256.size inb_S2048x256_S2048x256_0_0, Z⟩]) (k + 1) ++ [⟨Rect.unit (s := S2048x256) ![0, 0] S2048x256.size inb_S2048x256_S2048x256_0_0, Z⟩]) (Rect.unit (s := S2048x256) ![0, 0] S2048x256.size inb_S2048x256_S2048x256_0_0).toLoadRect
    = k0_pay26 (arg13.view.readAt (Elt F) (Rect.unit (s := S2048x128) ![0, 0] S2048x128.size inb_S2048x128_S2048x128_0_0).toLoadRect X13)
        (arg12.view.readAt (Elt F) (Rect.unit (s := S4x2048x512) (k0_off1 ⟨k, h⟩) S1x2048x512.size (k0_off1_inb ⟨k, h⟩)).toLoadRect X12)
        (arg5.view.readAt (Elt F) (Rect.unit (s := S2048x128) (k0_off2 ⟨k, h⟩) S512x128.size (k0_off2_inb ⟨k, h⟩)).toLoadRect X5)
        (arg14.view.readCov (pb_k0_t1 𝒱 c bd i arg3 harg3 arg4 harg4 arg5 harg5 arg6 harg6 arg7 harg7 arg8 harg8 arg9 harg9 arg10 harg10 arg11 harg11 arg12 harg12 arg13 harg13 arg14 harg14 v36 v102 v103 X5 X12 X13 (arg14.view.writes (Elt F) arg14.view.junk [⟨Rect.unit (s := S2048x256) ![0, 0] S2048x256.size inb_S2048x256_S2048x256_0_0, Z⟩]) k ++ [⟨Rect.unit (s := S2048x256) ![0, 0] S2048x256.size inb_S2048x256_S2048x256_0_0, Z⟩]) (Rect.unit (s := S2048x256) ![0, 0] S2048x256.size inb_S2048x256_S2048x256_0_0).toLoadRect) := by
  have e := pb_k0_t1_succ 𝒱 c bd i arg3 harg3 arg4 harg4 arg5 harg5 arg6 harg6 arg7 harg7 arg8 harg8 arg9 harg9 arg10 harg10 arg11 harg11 arg12 harg12 arg13 harg13 arg14 harg14 v36 v102 v103 X5 X12 X13 (arg14.view.writes (Elt F) arg14.view.junk [⟨Rect.unit (s := S2048x256) ![0, 0] S2048x256.size inb_S2048x256_S2048x256_0_0, Z⟩]) ⟨k, h⟩
  dsimp only at e
  rw [e, trip_eq, List.append_assoc, List.singleton_append, View.readCov_cons_toLoadRect, ← View.writes_append]
  rfl
end

theorem trips_eq : k0_t1_loop.trips = 4 := by decide

theorem off1_0 (h : 0 < k0_t1_loop.trips) : k0_off1 ⟨0, h⟩ = ![0, 0, 0] := by decide +revert
theorem off1_1 (h : 1 < k0_t1_loop.trips) : k0_off1 ⟨1, h⟩ = ![1, 0, 0] := by decide +revert
theorem off1_2 (h : 2 < k0_t1_loop.trips) : k0_off1 ⟨2, h⟩ = ![2, 0, 0] := by decide +revert
theorem off1_3 (h : 3 < k0_t1_loop.trips) : k0_off1 ⟨3, h⟩ = ![3, 0, 0] := by decide +revert
theorem off2_0 (h : 0 < k0_t1_loop.trips) : k0_off2 ⟨0, h⟩ = ![0, 0] := by decide +revert
theorem off2_1 (h : 1 < k0_t1_loop.trips) : k0_off2 ⟨1, h⟩ = ![512, 0] := by decide +revert
theorem off2_2 (h : 2 < k0_t1_loop.trips) : k0_off2 ⟨2, h⟩ = ![1024, 0] := by decide +revert
theorem off2_3 (h : 3 < k0_t1_loop.trips) : k0_off2 ⟨3, h⟩ = ![1536, 0] := by decide +revert

theorem readAt_junk {sp : Space} {s : Shape} {e : EltTy} (v : View sig .tc sp s e) (L : List (View.Piece (Elt F) s e)) (B : LoadRect s) :
    v.readAt (Elt F) B (v.writes (Elt F) v.junk L) = v.readCov L B := rfl

/-- A load of the score scratch after the four stores reads the tile stored there. -/
theorem read12 (m : Memref sig .tc .vmem S4x2048x512 .f32) (Y0 Y1 Y2 Y3 : Vec F S1x2048x512 .f32) (j : ℕ) (Y : Vec F S1x2048x512 .f32)
    (hj : j = 0 ∧ Y = Y0 ∨ j = 1 ∧ Y = Y1 ∨ j = 2 ∧ Y = Y2 ∨ j = 3 ∧ Y = Y3) (off : Fin 3 → ℕ) (e : off = ![j, 0, 0]) (h : ∀ a, off a + S1x2048x512.size a ≤ S4x2048x512.size a) :
    m.view.readAt (Elt F) (Rect.unit (s := S4x2048x512) off S1x2048x512.size h).toLoadRect (m.view.writes (Elt F) m.view.junk
      [⟨Rect.unit (s := S4x2048x512) ![3, 0, 0] S1x2048x512.size inb_S4x2048x512_S1x2048x512_3_0_0, Y3⟩, ⟨Rect.unit (s := S4x2048x512) ![2, 0, 0] S1x2048x512.size inb_S4x2048x512_S1x2048x512_2_0_0, Y2⟩,
       ⟨Rect.unit (s := S4x2048x512) ![1, 0, 0] S1x2048x512.size inb_S4x2048x512_S1x2048x512_1_0_0, Y1⟩, ⟨Rect.unit (s := S4x2048x512) ![0, 0, 0] S1x2048x512.size inb_S4x2048x512_S1x2048x512_0_0_0, Y0⟩]) = Y := by
  subst e
  rw [readAt_junk]
  rcases hj with ⟨rfl, rfl⟩ | ⟨rfl, rfl⟩ | ⟨rfl, rfl⟩ | ⟨rfl, rfl⟩
  · obtain rfl : h = inb_S4x2048x512_S1x2048x512_0_0_0 := rfl
    simp (disch := decide) only [↓ View.readCov_skip, ↓ View.readCov_cons_toLoadRect]
  · obtain rfl : h = inb_S4x2048x512_S1x2048x512_1_0_0 := rfl
    simp (disch := decide) only [↓ View.readCov_skip, ↓ View.readCov_cons_toLoadRect]
  · obtain rfl : h = inb_S4x2048x512_S1x2048x512_2_0_0 := rfl
    simp (disch := decide) only [↓ View.readCov_skip, ↓ View.readCov_cons_toLoadRect]
  · obtain rfl : h = inb_S4x2048x512_S1x2048x512_3_0_0 := rfl
    simp (disch := decide) only [↓ View.readCov_skip, ↓ View.readCov_cons_toLoadRect]

theorem read5 {arg5 : Memref sig .tc .vmem S2048x128 .bf16} (harg5 : arg5.IsWhole) (o : ℕ) (ho : o ≤ 1536) (off : Fin 2 → ℕ) (e : off = ![o, 0]) (h : ∀ a, off a + S512x128.size a ≤ S2048x128.size a) :
    arg5.view.readAt (Elt F) (Rect.unit (s := S2048x128) off S512x128.size h).toLoadRect (harg5.unread x2) = vtile x2 o (inb_v o ho) := by
  subst e
  rw [View.readAt_eq_ld, harg5.read_unread]

/-- The accumulator's scratch after the loop. -/
theorem loop_all (c : Dev nD) (i : grid0.Coords) (arg3 : Memref sig .tc .vmem S1024x128 .bf16) (harg3 : arg3.IsWhole) (arg4 : Memref sig .tc .vmem S1x1x4x128x512 .bf16) (harg4 : arg4.IsWhole) (arg5 : Memref sig .tc .vmem S2048x128 .bf16) (harg5 : arg5.IsWhole) (arg6 : Memref sig .tc .vmem S1024x128 .bf16) (harg6 : arg6.IsWhole) (arg7 : Memref sig .tc .vmem S1x1x3072 .f32) (harg7 : arg7.IsWhole) (arg8 : Memref sig .tc .vmem S4x64 .f32) (harg8 : arg8.IsWhole) (arg9 : Memref sig .tc .vmem S1x128 .f32) (harg9 : arg9.IsWhole) (arg10 : Memref sig .tc .vmem S1024x128 .bf16) (harg10 : arg10.IsWhole) (arg11 : Memref sig .tc .vmem S4x1024x512 .f32) (harg11 : arg11.IsWhole) (arg12 : Memref sig .tc .vmem S4x2048x512 .f32) (harg12 : arg12.IsWhole) (arg13 : Memref sig .tc .vmem S2048x128 .f32) (harg13 : arg13.IsWhole) (arg14 : Memref sig .tc .vmem S2048x256 .f32) (harg14 : arg14.IsWhole) (v36 : FVec F S2048x128 .bf16) (v102 : FVec F S1024x512 .f32) (v103 : Vec F S1x1x1x128x512 .bf16)
    (x0 : Vec F S1024x128 .bf16) (x1 : Vec F S1x1x4x128x512 .bf16) (x2 : Vec F S2048x128 .bf16) (b0 b1 b2 b3 : Vec F S1x1024x512 .f32) (L : List (View.Piece (Elt F) S2048x128 .f32)) (bd : Option Variants.none.V) :
    arg14.view.readCov (pb_k0_t1 Variants.none c bd i arg3 harg3 arg4 harg4 arg5 harg5 arg6 harg6 arg7 harg7 arg8 harg8 arg9 harg9 arg10 harg10 arg11 harg11 arg12 harg12 arg13 harg13 arg14 harg14 v36 v102 v103 (harg5.unread x2)
      (arg12.view.writes (Elt F) arg12.view.junk
      [⟨Rect.unit (s := S4x2048x512) ![3, 0, 0] S1x2048x512.size inb_S4x2048x512_S1x2048x512_3_0_0, X3 x0 x1 b3⟩, ⟨Rect.unit (s := S4x2048x512) ![2, 0, 0] S1x2048x512.size inb_S4x2048x512_S1x2048x512_2_0_0, X2 x0 x1 b2⟩,
       ⟨Rect.unit (s := S4x2048x512) ![1, 0, 0] S1x2048x512.size inb_S4x2048x512_S1x2048x512_1_0_0, X1 x0 x1 b1⟩, ⟨Rect.unit (s := S4x2048x512) ![0, 0, 0] S1x2048x512.size inb_S4x2048x512_S1x2048x512_0_0_0, X0 x0 x1 b0⟩])
      (arg13.view.writes (Elt F) arg13.view.junk (⟨Rect.unit (s := S2048x128) ![0, 0] S2048x128.size inb_S2048x128_S2048x128_0_0, MM x0 x1 b0 b1 b2 b3⟩ :: L))
      (arg14.view.writes (Elt F) arg14.view.junk [⟨Rect.unit (s := S2048x256) ![0, 0] S2048x256.size inb_S2048x256_S2048x256_0_0, k0_pay25⟩]) 4 ++ [⟨Rect.unit (s := S2048x256) ![0, 0] S2048x256.size inb_S2048x256_S2048x256_0_0, k0_pay25⟩]) (Rect.unit (s := S2048x256) ![0, 0] S2048x256.size inb_S2048x256_S2048x256_0_0).toLoadRect
    = A4 x0 x1 x2 b0 b1 b2 b3 := by
  have e13 : arg13.view.readAt (Elt F) (Rect.unit (s := S2048x128) ![0, 0] S2048x128.size inb_S2048x128_S2048x128_0_0).toLoadRect
      (arg13.view.writes (Elt F) arg13.view.junk (⟨Rect.unit (s := S2048x128) ![0, 0] S2048x128.size inb_S2048x128_S2048x128_0_0, MM x0 x1 b0 b1 b2 b3⟩ :: L)) = MM x0 x1 b0 b1 b2 b3 := by
    rw [readAt_junk, View.readCov_cons_toLoadRect]
  rw [loop_step (h := by decide), loop_step (h := by decide), loop_step (h := by decide), loop_step (h := by decide), e13,
    read12 (j := 3) (Y := X3 x0 x1 b3) (hj := by simp) (e := off1_3 _), read12 (j := 2) (Y := X2 x0 x1 b2) (hj := by simp) (e := off1_2 _),
    read12 (j := 1) (Y := X1 x0 x1 b1) (hj := by simp) (e := off1_1 _), read12 (j := 0) (Y := X0 x0 x1 b0) (hj := by simp) (e := off1_0 _),
    read5 (o := 1536) (ho := by decide) (e := off2_3 _), read5 (o := 1024) (ho := by decide) (e := off2_2 _),
    read5 (o := 512) (ho := by decide) (e := off2_1 _), read5 (o := 0) (ho := by decide) (e := off2_0 _)]
  rw [show pb_k0_t1 Variants.none c bd i arg3 harg3 arg4 harg4 arg5 harg5 arg6 harg6 arg7 harg7 arg8 harg8 arg9 harg9 arg10 harg10 arg11 harg11 arg12 harg12 arg13 harg13 arg14 harg14 v36 v102 v103 (harg5.unread x2) _ _ _ 0 = [] from rfl, List.nil_append, View.readCov_cons_toLoadRect]
  rfl

/-- What a point leaves in the output block, from its input blocks and the bias scratch. -/
def res (x3 : Vec F S1024x128 .bf16) (x5 : Vec F S4x64 .f32) (x6 : Vec F S1x128 .f32) : Vec F S1024x128 .bf16 :=
  k0_pay1 (k0_pay7 x5) (A4 x0 x1 x2 b0 b1 b2 b3) x6 x3

theorem out_B (c : Dev nD) (i : grid0.Coords) (arg3 : Memref sig .tc .vmem S1024x128 .bf16) (harg3 : arg3.IsWhole) (arg4 : Memref sig .tc .vmem S1x1x4x128x512 .bf16) (harg4 : arg4.IsWhole) (arg5 : Memref sig .tc .vmem S2048x128 .bf16) (harg5 : arg5.IsWhole) (arg6 : Memref sig .tc .vmem S1024x128 .bf16) (harg6 : arg6.IsWhole) (arg7 : Memref sig .tc .vmem S1x1x3072 .f32) (harg7 : arg7.IsWhole) (arg8 : Memref sig .tc .vmem S4x64 .f32) (harg8 : arg8.IsWhole) (arg9 : Memref sig .tc .vmem S1x128 .f32) (harg9 : arg9.IsWhole) (arg10 : Memref sig .tc .vmem S1024x128 .bf16) (harg10 : arg10.IsWhole) (arg11 : Memref sig .tc .vmem S4x1024x512 .f32) (harg11 : arg11.IsWhole) (arg12 : Memref sig .tc .vmem S4x2048x512 .f32) (harg12 : arg12.IsWhole) (arg13 : Memref sig .tc .vmem S2048x128 .f32) (harg13 : arg13.IsWhole) (arg14 : Memref sig .tc .vmem S2048x256 .f32) (harg14 : arg14.IsWhole) (hc0 : ¬cond0_0 i)
    (x0 : Vec F S1024x128 .bf16) (x1 : Vec F S1x1x4x128x512 .bf16) (x2 : Vec F S2048x128 .bf16) (x3 : Vec F S1024x128 .bf16) (x4 : Vec F S1x1x3072 .f32) (x5 : Vec F S4x64 .f32) (x6 : Vec F S1x128 .f32) (xs0 : Vec F S4x1024x512 .f32) :
    out0_B_7 c i arg3 harg3 arg4 harg4 arg5 harg5 arg6 harg6 arg7 harg7 arg8 harg8 arg9 harg9 arg10 harg10 arg11 harg11 arg12 harg12 arg13 harg13 arg14 harg14 hc0 x0 x1 x2 x3 x4 x5 x6 xs0 = res x0 x1 x2 (bt xs0 0 inb_S4x1024x512_S1x1024x512_0_0_0) (bt xs0 1 inb_S4x1024x512_S1x1024x512_1_0_0) (bt xs0 2 inb_S4x1024x512_S1x1024x512_2_0_0) (bt xs0 3 inb_S4x1024x512_S1x1024x512_3_0_0) x3 x5 x6 := by
  frame_open
  simp (disch := decide) only [↓ View.readCov_skip, ↓ View.readCov_cons_toLoadRect, ↓ View.readCov_fill]
  frame_out
  exact congrArg (fun A => k0_pay1 (k0_pay7 x5) A x6 x3)
    (loop_all c i arg3 harg3 arg4 harg4 arg5 harg5 arg6 harg6 arg7 harg7 arg8 harg8 arg9 harg9 arg10 harg10 arg11 harg11 arg12 harg12 arg13 harg13 arg14 harg14 _ _ _ x0 x1 x2 _ _ _ _ _ _)

/-- The bias scratch's contents after the first batch of a head's query tile: the four column slices of the turned window. -/
def bscr (x4 : Vec F S1x1x3072 .f32) : Vec F S4x1024x512 .f32 := View.canon
  [⟨Rect.unit (s := S4x1024x512) ![3, 0, 0] S1x1024x512.size inb_S4x1024x512_S1x1024x512_3_0_0, k0_pay6 x4⟩,
   ⟨Rect.unit (s := S4x1024x512) ![2, 0, 0] S1x1024x512.size inb_S4x1024x512_S1x1024x512_2_0_0, k0_pay5 x4⟩,
   ⟨Rect.unit (s := S4x1024x512) ![1, 0, 0] S1x1024x512.size inb_S4x1024x512_S1x1024x512_1_0_0, k0_pay4 x4⟩,
   ⟨Rect.unit (s := S4x1024x512) ![0, 0, 0] S1x1024x512.size inb_S4x1024x512_S1x1024x512_0_0_0, k0_pay3 x4⟩]

theorem ld_canon {sp : Space} {s : Shape} {e : EltTy} (v : View sig .tc sp s e) (L : List (View.Piece (Elt F) s e)) (r : Rect s) :
    View.ld (View.canon L) r = v.readCov L r.toLoadRect := by
  rw [View.readCov_eq_canon']

theorem bt_0 (m : Memref sig .tc .vmem S4x1024x512 .f32) (x4 : Vec F S1x1x3072 .f32) : k0_pay3 x4 = bt (bscr x4) 0 inb_S4x1024x512_S1x1024x512_0_0_0 := by
  unfold bt bscr
  rw [ld_canon m.view]
  simp (disch := decide) only [↓ View.readCov_skip, ↓ View.readCov_cons_toLoadRect]
theorem bt_1 (m : Memref sig .tc .vmem S4x1024x512 .f32) (x4 : Vec F S1x1x3072 .f32) : k0_pay4 x4 = bt (bscr x4) 1 inb_S4x1024x512_S1x1024x512_1_0_0 := by
  unfold bt bscr
  rw [ld_canon m.view]
  simp (disch := decide) only [↓ View.readCov_skip, ↓ View.readCov_cons_toLoadRect]
theorem bt_2 (m : Memref sig .tc .vmem S4x1024x512 .f32) (x4 : Vec F S1x1x3072 .f32) : k0_pay5 x4 = bt (bscr x4) 2 inb_S4x1024x512_S1x1024x512_2_0_0 := by
  unfold bt bscr
  rw [ld_canon m.view]
  simp (disch := decide) only [↓ View.readCov_skip, ↓ View.readCov_cons_toLoadRect]
theorem bt_3 (m : Memref sig .tc .vmem S4x1024x512 .f32) (x4 : Vec F S1x1x3072 .f32) : k0_pay6 x4 = bt (bscr x4) 3 inb_S4x1024x512_S1x1024x512_3_0_0 := by
  unfold bt bscr
  rw [ld_canon m.view]
  simp (disch := decide) only [↓ View.readCov_skip, ↓ View.readCov_cons_toLoadRect]

theorem sout_A (c : Dev nD) (i : grid0.Coords) (arg3 : Memref sig .tc .vmem S1024x128 .bf16) (harg3 : arg3.IsWhole) (arg4 : Memref sig .tc .vmem S1x1x4x128x512 .bf16) (harg4 : arg4.IsWhole) (arg5 : Memref sig .tc .vmem S2048x128 .bf16) (harg5 : arg5.IsWhole) (arg6 : Memref sig .tc .vmem S1024x128 .bf16) (harg6 : arg6.IsWhole) (arg7 : Memref sig .tc .vmem S1x1x3072 .f32) (harg7 : arg7.IsWhole) (arg8 : Memref sig .tc .vmem S4x64 .f32) (harg8 : arg8.IsWhole) (arg9 : Memref sig .tc .vmem S1x128 .f32) (harg9 : arg9.IsWhole) (arg10 : Memref sig .tc .vmem S1024x128 .bf16) (harg10 : arg10.IsWhole) (arg11 : Memref sig .tc .vmem S4x1024x512 .f32) (harg11 : arg11.IsWhole) (arg12 : Memref sig .tc .vmem S4x2048x512 .f32) (harg12 : arg12.IsWhole) (arg13 : Memref sig .tc .vmem S2048x128 .f32) (harg13 : arg13.IsWhole) (arg14 : Memref sig .tc .vmem S2048x256 .f32) (harg14 : arg14.IsWhole) (hc0 : cond0_0 i)
    (x0 : Vec F S1024x128 .bf16) (x1 : Vec F S1x1x4x128x512 .bf16) (x2 : Vec F S2048x128 .bf16) (x3 : Vec F S1024x128 .bf16) (x4 : Vec F S1x1x3072 .f32) (x5 : Vec F S4x64 .f32) (x6 : Vec F S1x128 .f32) :
    sout0_A_0 c i arg3 harg3 arg4 harg4 arg5 harg5 arg6 harg6 arg7 harg7 arg8 harg8 arg9 harg9 arg10 harg10 arg11 harg11 arg12 harg12 arg13 harg13 arg14 harg14 hc0 x0 x1 x2 x3 x4 x5 x6 = bscr x4 := by
  frame_out

theorem out_A (c : Dev nD) (i : grid0.Coords) (arg3 : Memref sig .tc .vmem S1024x128 .bf16) (harg3 : arg3.IsWhole) (arg4 : Memref sig .tc .vmem S1x1x4x128x512 .bf16) (harg4 : arg4.IsWhole) (arg5 : Memref sig .tc .vmem S2048x128 .bf16) (harg5 : arg5.IsWhole) (arg6 : Memref sig .tc .vmem S1024x128 .bf16) (harg6 : arg6.IsWhole) (arg7 : Memref sig .tc .vmem S1x1x3072 .f32) (harg7 : arg7.IsWhole) (arg8 : Memref sig .tc .vmem S4x64 .f32) (harg8 : arg8.IsWhole) (arg9 : Memref sig .tc .vmem S1x128 .f32) (harg9 : arg9.IsWhole) (arg10 : Memref sig .tc .vmem S1024x128 .bf16) (harg10 : arg10.IsWhole) (arg11 : Memref sig .tc .vmem S4x1024x512 .f32) (harg11 : arg11.IsWhole) (arg12 : Memref sig .tc .vmem S4x2048x512 .f32) (harg12 : arg12.IsWhole) (arg13 : Memref sig .tc .vmem S2048x128 .f32) (harg13 : arg13.IsWhole) (arg14 : Memref sig .tc .vmem S2048x256 .f32) (harg14 : arg14.IsWhole) (hc0 : cond0_0 i)
    (x0 : Vec F S1024x128 .bf16) (x1 : Vec F S1x1x4x128x512 .bf16) (x2 : Vec F S2048x128 .bf16) (x3 : Vec F S1024x128 .bf16) (x4 : Vec F S1x1x3072 .f32) (x5 : Vec F S4x64 .f32) (x6 : Vec F S1x128 .f32) :
    out0_A_7 c i arg3 harg3 arg4 harg4 arg5 harg5 arg6 harg6 arg7 harg7 arg8 harg8 arg9 harg9 arg10 harg10 arg11 harg11 arg12 harg12 arg13 harg13 arg14 harg14 hc0 x0 x1 x2 x3 x4 x5 x6 = res x0 x1 x2 (k0_pay3 x4) (k0_pay4 x4) (k0_pay5 x4) (k0_pay6 x4) x3 x5 x6 := by
  frame_open
  simp (disch := decide) only [↓ View.readCov_skip, ↓ View.readCov_cons_toLoadRect, ↓ View.readCov_fill]
  frame_out
  exact congrArg (fun A => k0_pay1 (k0_pay7 x5) A x6 x3)
    (loop_all c i arg3 harg3 arg4 harg4 arg5 harg5 arg6 harg6 arg7 harg7 arg8 harg8 arg9 harg9 arg10 harg10 arg11 harg11 arg12 harg12 arg13 harg13 arg14 harg14 _ _ _ x0 x1 x2 _ _ _ _ _ _)

end Cert.KernelIdeal.Attn
-- ==== Proof.Runs.lean ====
module
public import proofs.«01_k».proof.Proof.Body
public import proofs.«01_k».proof.Proof.Gen.KernelIdeal.Value
public import Idealize.ShloMosaic.Lib.Pipeline.ValueKit.Held
@[expose] public section
set_option maxRecDepth 16384
noncomputable section
open Idealize.ShloMosaic Idealize.ShloMosaic.TcCoe Idealize.SL.Sem
namespace Cert.KernelIdeal.Attn
open Cert.KernelIdeal Cert.KernelIdeal.Gen
variable {F : FTy → Type} [FloatOps F] [Named F]
variable (m : (ℓ : Loc nD τ sig) → Buf (Elt F) ℓ) (c : Dev nD)

theorem idx : ∀ t : Fin cfg0.N,
    win0_0.index t = ![t.val % 32 * 2 + t.val / 32 % 2, t.val / 64] ∧ win0_1.index t = ![t.val % 32, t.val / 64, 0, 0, 0]
      ∧ win0_2.index t = ![t.val % 32, t.val / 64] ∧ win0_3.index t = ![t.val % 32 * 2 + t.val / 32 % 2, t.val / 64]
      ∧ win0_4.index t = ![t.val / 32, 0, 0] ∧ win0_5.index t = ![0, 0] ∧ win0_6.index t = ![0, 0]
      ∧ win0_7.index t = ![t.val % 32 * 2 + t.val / 32 % 2, t.val / 64] := by decide +kernel

theorem scr (t : Fin cfg0.N) : (outsAt0 m c t.val t.isLt).2 = bscr (iblk m c 4 t) := by
  rw [Pipeline.eq_of_write_hold (fun n h => (outsAt0 m c n h).2) 32 (fun t => bscr (iblk m c 4 t)) (fun t h => by rw [outsAt0_A m c t h]; dsimp only; rw [sout_A]) (fun t h => by rw [outsAt0_B m c t h]; rfl) t]
  refine congrArg bscr ?_
  funext x
  have e := (idx t).2.2.2.2.1
  have e' := (idx ⟨32 * (t.val / 32), Pipeline.run_start_lt t⟩).2.2.2.2.1
  have e2 : 32 * (t.val / 32) / 32 = t.val / 32 := by omega
  blk_ext [iblk, V, e, e', e2]

theorem out_pt (t : Fin cfg0.N) : (outsAt0 m c t.val t.isLt).1 = res (iblk m c 0 t) (iblk m c 1 t) (iblk m c 2 t) (k0_pay3 (iblk m c 4 t)) (k0_pay4 (iblk m c 4 t)) (k0_pay5 (iblk m c 4 t)) (k0_pay6 (iblk m c 4 t)) (iblk m c 3 t) (iblk m c 5 t) (iblk m c 6 t) := by
  by_cases h : t.val % 32 = 0
  · rw [outsAt0_A m c t h, out_A]
  · have hs := scr m c t
    rw [outsAt0_B m c t h] at hs ⊢
    rw [out_B]
    rw [show (outsAt0 m c (t.val - 1) (Nat.lt_of_le_of_lt (Nat.sub_le _ _) t.isLt)).2 = bscr (iblk m c 4 t) from hs]
    rw [bt_0 scM0_0, bt_1 scM0_0, bt_2 scM0_0, bt_3 scM0_0]

end Cert.KernelIdeal.Attn
-- ==== Proof.Row.lean ====
module
public import Idealize.ShloMosaic.PureOps.Ideal
@[expose] public section
noncomputable section
open Idealize.ShloMosaic
namespace DiffAttn

/-- The reciprocal of the natural logarithm of two. -/
def lg : EReal := (((Real.log 2)⁻¹ : ℝ) : EReal)

theorem lg_pos : (0 : ℝ) < (Real.log 2)⁻¹ := inv_pos.2 (Real.log_pos (by norm_num))

/-- A row of scores less its maximum, exponentiated. -/
def wt {n : ℕ} (y : Fin n → EReal) (k : Fin n) : EReal := Ideal.exp (y k - Finset.univ.sup y)

theorem lg_mul_sub (a b : EReal) : lg * a - lg * b = lg * (a - b) := by
  have h := lg_pos
  unfold lg
  induction a with
  | bot => rw [EReal.coe_mul_bot_of_pos h, EReal.bot_sub, EReal.bot_sub, EReal.coe_mul_bot_of_pos h]
  | top =>
    induction b with
    | bot => rw [EReal.coe_mul_bot_of_pos h, EReal.coe_mul_top_of_pos h]; simp [EReal.coe_mul_top_of_pos h]
    | top => rw [EReal.coe_mul_top_of_pos h, EReal.sub_top, EReal.coe_mul_bot_of_pos h]
    | coe b => rw [EReal.coe_mul_top_of_pos h, ← EReal.coe_mul, EReal.top_sub_coe, EReal.top_sub_coe, EReal.coe_mul_top_of_pos h]
  | coe a =>
    induction b with
    | bot => rw [EReal.coe_mul_bot_of_pos h, ← EReal.coe_mul, EReal.coe_sub_bot, EReal.coe_sub_bot, EReal.coe_mul_top_of_pos h]
    | top => rw [EReal.coe_mul_top_of_pos h, EReal.sub_top, EReal.sub_top, EReal.coe_mul_bot_of_pos h]
    | coe b => rw [← EReal.coe_mul, ← EReal.coe_mul, ← EReal.coe_sub, ← EReal.coe_sub, ← EReal.coe_mul, mul_sub]

theorem exp2_lg (x : EReal) : Ideal.exp2 (lg * x) = Ideal.exp x := by
  have h := lg_pos
  unfold lg
  induction x with
  | bot => rw [EReal.coe_mul_bot_of_pos h]; rfl
  | top => rw [EReal.coe_mul_top_of_pos h]; rfl
  | coe x =>
    rw [← EReal.coe_mul, Ideal.exp2_coe]
    show ((Real.rpow 2 _ : ℝ) : EReal) = ((Real.exp x : ℝ) : EReal)
    congr 1
    rw [show Real.rpow 2 ((Real.log 2)⁻¹ * x) = (2 : ℝ) ^ ((Real.log 2)⁻¹ * x) from rfl, Real.rpow_def_of_pos (by norm_num), ← mul_assoc, mul_inv_cancel₀ (Real.log_pos (by norm_num)).ne', one_mul]

theorem lg_mono : Monotone fun x : EReal => lg * x := fun _ _ h =>
  mul_le_mul_of_nonneg_left h (by unfold lg; exact_mod_cast lg_pos.le)

theorem sup_lg {n : ℕ} (y : Fin n → EReal) : (Finset.univ.sup fun k => lg * y k) = lg * Finset.univ.sup y :=
  (Finset.comp_sup_eq_sup_comp (s := Finset.univ) (f := y) (fun x : EReal => lg * x) (fun a b => lg_mono.map_sup a b) (by unfold lg; exact EReal.coe_mul_bot_of_pos lg_pos)).symm

/-- The weight from scores scaled by `lg` and the power of two. -/
theorem wt_exp2 {n : ℕ} (y : Fin n → EReal) (k : Fin n) :
    Ideal.exp2 (lg * y k - Finset.univ.sup fun k => lg * y k) = wt y k := by
  rw [sup_lg, lg_mul_sub, exp2_lg, wt]

/-- A row's weights are all zero, or are reals of positive sum. -/
theorem wt_cases {n : ℕ} [NeZero n] (y : Fin n → EReal) :
    (∀ k, wt y k = 0) ∨ ∃ r : Fin n → ℝ, (∀ k, wt y k = (r k : EReal)) ∧ 0 < ∑ k, r k := by
  unfold wt
  have hle : ∀ k, y k ≤ Finset.univ.sup y := fun k => Finset.le_sup (Finset.mem_univ k)
  obtain ⟨k0, -, h0⟩ := Finset.exists_mem_eq_sup (Finset.univ : Finset (Fin n)) Finset.univ_nonempty y
  revert hle h0
  generalize Finset.univ.sup y = m
  intro hle h0
  induction m with
  | bot => exact Or.inl fun k => by rw [le_bot_iff.1 (hle k)]; rfl
  | top => exact Or.inl fun k => by rw [EReal.sub_top]; rfl
  | coe m =>
    right
    have hex : ∀ k, ∃ r : ℝ, Ideal.exp (y k - (m : EReal)) = (r : EReal) ∧ 0 ≤ r ∧ (y k = (m : EReal) → 0 < r) := by
      intro k
      have hk := hle k
      generalize y k = a at hk ⊢
      induction a with
      | bot => exact ⟨0, by rw [EReal.bot_sub]; rfl, le_refl _, fun e => absurd e (EReal.bot_ne_coe m)⟩
      | top => exact absurd hk (not_le.2 (EReal.coe_lt_top m))
      | coe a => exact ⟨Real.exp (a - m), by rw [← EReal.coe_sub]; rfl, (Real.exp_pos _).le, fun _ => Real.exp_pos _⟩
    choose r hr using hex
    exact ⟨r, fun k => (hr k).1, Finset.sum_pos' (fun k _ => (hr k).2.1) ⟨k0, Finset.mem_univ _, (hr k0).2.2 h0.symm⟩⟩

/-- The values a lane of a row without finite weights can take. -/
def Inf (x : EReal) : Prop := x = 0 ∨ x = ⊤ ∨ x = ⊥

theorem Inf.add {x y : EReal} (hx : Inf x) (hy : Inf y) : Inf (x + y) := by
  rcases hx with rfl | rfl | rfl <;> rcases hy with rfl | rfl | rfl <;> simp [Inf]

theorem Inf.sum {ι : Type*} (s : Finset ι) (f : ι → EReal) (h : ∀ i ∈ s, Inf (f i)) : Inf (∑ i ∈ s, f i) := by
  classical
  induction s using Finset.induction_on with
  | empty => exact Or.inl rfl
  | insert a s ha ih =>
    rw [Finset.sum_insert ha]
    exact (h a (Finset.mem_insert_self _ _)).add (ih fun i hi => h i (Finset.mem_insert_of_mem hi))

theorem Inf.coe_mul (a : ℝ) {x : EReal} (hx : Inf x) : Inf ((a : EReal) * x) := by
  rcases hx with rfl | rfl | rfl
  · exact Or.inl (mul_zero _)
  · rcases lt_trichotomy a 0 with h | rfl | h
    · exact Or.inr (Or.inr (EReal.coe_mul_top_of_neg h))
    · exact Or.inl (zero_mul _)
    · exact Or.inr (Or.inl (EReal.coe_mul_top_of_pos h))
  · rcases lt_trichotomy a 0 with h | rfl | h
    · exact Or.inr (Or.inl (EReal.coe_mul_bot_of_neg h))
    · exact Or.inl (zero_mul _)
    · exact Or.inr (Or.inr (EReal.coe_mul_bot_of_pos h))

/-- A row's lane times the reciprocal root of its mean square. -/
def nrm (N eps : EReal) (f : Fin 128 → EReal) (d : Fin 128) : EReal :=
  f d * Ideal.rsqrt (Ideal.div (∑ d, f d * f d) N + eps)

theorem Inf.sq {x : EReal} (h : Inf x) : x * x = 0 ∧ x = 0 ∨ x * x = ⊤ := by
  rcases h with rfl | rfl | rfl <;> simp

/-- A row of zeros and infinities is normalised to zero. -/
theorem nrm_inf (N eps : ℝ) (hN : 0 < N) (f : Fin 128 → EReal) (h : ∀ d, Inf (f d)) (d : Fin 128) :
    nrm N eps f d = 0 := by
  unfold nrm
  by_cases h0 : f d = 0
  · rw [h0, zero_mul]
  · have hs : ∑ d, f d * f d = ⊤ := by
      have hd : f d * f d = ⊤ := (h d).sq.resolve_left fun e => h0 e.2
      rw [← Finset.add_sum_erase _ _ (Finset.mem_univ d), hd]
      refine EReal.top_add_of_ne_bot (ne_of_gt (lt_of_lt_of_le EReal.bot_lt_zero (Finset.sum_nonneg fun i _ => ?_)))
      rcases (h i).sq with e | e
      · rw [e.1]
      · rw [e]; exact le_top
    rw [hs]
    have e1 : Ideal.div ⊤ (N : EReal) = ⊤ := by
      unfold Ideal.div
      rw [if_neg (by exact_mod_cast hN.ne'), ← EReal.coe_inv, EReal.top_mul_coe_of_pos (inv_pos.2 hN)]
    rw [e1, EReal.top_add_of_ne_bot (EReal.coe_ne_bot _)]
    exact mul_zero _

theorem div_zero_zero : Ideal.div 0 0 = ⊥ := by
  unfold Ideal.div
  rw [if_pos rfl, if_neg (lt_irrefl _)]

theorem div_coe (a b : ℝ) (h : 0 < b) : Ideal.div (a : EReal) (b : EReal) = ((a / b : ℝ) : EReal) := by
  unfold Ideal.div
  rw [if_neg (by exact_mod_cast h.ne'), ← EReal.coe_inv, ← EReal.coe_mul, div_eq_mul_inv]

theorem coe_sum {ι : Type*} (s : Finset ι) (f : ι → ℝ) : ((∑ i ∈ s, f i : ℝ) : EReal) = ∑ i ∈ s, (f i : EReal) := by
  classical
  induction s using Finset.induction_on with
  | empty => rfl
  | insert a s ha ih => rw [Finset.sum_insert ha, Finset.sum_insert ha, EReal.coe_add, ih]

variable {n : ℕ} [NeZero n]

/-- A lane of the row as the quotient of sums. -/
def rowK (y0 y1 : Fin n → EReal) (v : Fin n → Fin 128 → EReal) (lam : EReal) (d : Fin 128) : EReal :=
  Ideal.div (∑ k, wt y0 k * v k d) (∑ k, wt y0 k) - lam * Ideal.div (∑ k, wt y1 k * v k d) (∑ k, wt y1 k)

/-- A lane of the row as the sum of quotients. -/
def rowR (y0 y1 : Fin n → EReal) (v : Fin n → Fin 128 → EReal) (lam : EReal) (d : Fin 128) : EReal :=
  ∑ k, v k d * (Ideal.div (wt y0 k) (∑ k, wt y0 k) - lam * Ideal.div (wt y1 k) (∑ k, wt y1 k))

theorem half_bad (y : Fin n → EReal) (h : ∀ k, wt y k = 0) (v : Fin n → Fin 128 → EReal) (d : Fin 128) (k : Fin n) :
    Ideal.div (∑ k, wt y k * v k d) (∑ k, wt y k) = ⊥ ∧ Ideal.div (wt y k) (∑ k, wt y k) = ⊥ := by
  simp only [h, zero_mul, Finset.sum_const_zero, div_zero_zero, and_self]

theorem half_good (y : Fin n → EReal) (r : Fin n → ℝ) (h : ∀ k, wt y k = (r k : EReal)) (hp : 0 < ∑ k, r k) (v : Fin n → Fin 128 → ℝ) (d : Fin 128) (k : Fin n) :
    Ideal.div (∑ k, wt y k * (v k d : EReal)) (∑ k, wt y k) = ((∑ k, v k d * (r k / ∑ k, r k) : ℝ) : EReal)
      ∧ Ideal.div (wt y k) (∑ k, wt y k) = ((r k / ∑ k, r k : ℝ) : EReal) := by
  simp only [h, ← EReal.coe_mul, ← coe_sum]
  rw [div_coe _ _ hp, div_coe _ _ hp]
  refine ⟨congrArg _ ?_, rfl⟩
  rw [Finset.sum_div]
  exact Finset.sum_congr rfl fun k _ => by ring

/-- The two forms of a row agree once normalised. -/
theorem nrm_row (N eps : ℝ) (hN : 0 < N) (y0 y1 : Fin n → EReal) (v : Fin n → Fin 128 → ℝ) (lam : ℝ) (d : Fin 128) :
    nrm N eps (rowK y0 y1 (fun k d => (v k d : EReal)) lam) d = nrm N eps (rowR y0 y1 (fun k d => (v k d : EReal)) lam) d := by
  have k0 : Fin n := 0
  rcases wt_cases y0 with h0 | ⟨r0, h0, p0⟩
  · -- the first half has no finite weight
    rw [nrm_inf N eps hN, nrm_inf N eps hN]
    · intro d
      unfold rowR
      refine Inf.sum _ _ fun k _ => Inf.coe_mul _ ?_
      rw [(half_bad y0 h0 (fun k d => (v k d : EReal)) d k).2, EReal.bot_sub]
      exact Or.inr (Or.inr rfl)
    · intro d
      unfold rowK
      rw [(half_bad y0 h0 (fun k d => (v k d : EReal)) d k0).1, EReal.bot_sub]
      exact Or.inr (Or.inr rfl)
  · rcases wt_cases y1 with h1 | ⟨r1, h1, p1⟩
    · by_cases hl : lam = 0
      · subst hl
        have e : rowK y0 y1 (fun k d => (v k d : EReal)) ((0 : ℝ) : EReal) = rowR y0 y1 (fun k d => (v k d : EReal)) ((0 : ℝ) : EReal) := by
          funext d
          unfold rowK rowR
          simp only [EReal.coe_zero, zero_mul, sub_zero]
          rw [(half_good y0 r0 h0 p0 v d k0).1, coe_sum]
          exact Finset.sum_congr rfl fun k _ => by rw [(half_good y0 r0 h0 p0 v d k).2, ← EReal.coe_mul]
        rw [e]
      · have hb : Inf ((lam : EReal) * ⊥) ∧ (lam : EReal) * ⊥ ≠ 0 := by
          rcases lt_or_gt_of_ne hl with h | h
          · rw [EReal.coe_mul_bot_of_neg h]; exact ⟨Or.inr (Or.inl rfl), EReal.top_ne_zero⟩
          · rw [EReal.coe_mul_bot_of_pos h]; exact ⟨Or.inr (Or.inr rfl), EReal.bot_ne_zero⟩
        have hs : ∀ a : ℝ, Inf ((a : EReal) - (lam : EReal) * ⊥) := by
          intro a
          rcases hb.1 with e | e | e
          · exact absurd e hb.2
          · rw [e, EReal.sub_top]; exact Or.inr (Or.inr rfl)
          · rw [e, EReal.coe_sub_bot]; exact Or.inr (Or.inl rfl)
        rw [nrm_inf N eps hN, nrm_inf N eps hN]
        · intro d
          unfold rowR
          refine Inf.sum _ _ fun k _ => Inf.coe_mul _ ?_
          rw [(half_bad y1 h1 (fun k d => (v k d : EReal)) d k).2, (half_good y0 r0 h0 p0 v d k).2]
          exact hs _
        · intro d
          unfold rowK
          rw [(half_bad y1 h1 (fun k d => (v k d : EReal)) d k0).1, (half_good y0 r0 h0 p0 v d k0).1]
          exact hs _
    · have e : rowK y0 y1 (fun k d => (v k d : EReal)) (lam : EReal) = rowR y0 y1 (fun k d => (v k d : EReal)) (lam : EReal) := by
        funext d
        unfold rowK rowR
        rw [(half_good y0 r0 h0 p0 v d k0).1, (half_good y1 r1 h1 p1 v d k0).1, ← EReal.coe_mul, ← EReal.coe_sub, Finset.mul_sum,
          ← Finset.sum_sub_distrib, coe_sum]
        refine Finset.sum_congr rfl fun k _ => ?_
        rw [(half_good y0 r0 h0 p0 v d k).2, (half_good y1 r1 h1 p1 v d k).2, ← EReal.coe_mul, ← EReal.coe_sub, ← EReal.coe_mul]
        congr 1
        ring
      rw [e]

end DiffAttn
-- ==== Proof.Gath.lean ====
module
public import Idealize.ShloMosaic.Lib.Pointwise
@[expose] public section
set_option maxRecDepth 16384
noncomputable section
open Idealize.ShloMosaic Idealize.SL.Sem
namespace DiffAttn

/-- The row of a 32-row table a start index stands for. -/
def rowOf (w : BitVec 32) : Fin 32 := ⟨min w.toInt.toNat 31, Nat.lt_of_le_of_lt (Nat.min_le_right _ _) (by decide)⟩

/-- Rows of a `[32, 8]` table taken at a list of indices. -/
theorem gather_list {α : Type} {n : ℕ} (w : GatherDims.WF ⟨2, ![32, 8]⟩ ⟨2, ![n, 1]⟩ ⟨2, ![n, 8]⟩ [1] [0] [] [0] [] 1 ![1, 8]) (x : (⟨2, ![32, 8]⟩ : Shape).Idx → α) (idx : IVec ⟨2, ![n, 1]⟩ 32)
    (c : Fin n) (h : Fin 8) : Host.gather (⟨[1], [0], [], [], [0], 1, ![1, 8], w⟩ : GatherDims _ _ _) x idx (ix2 c h) = x (ix2 (rowOf (idx (ix2 c (0 : Fin 1)))) h) := by
  unfold Host.gather
  refine congrArg x (funext fun a => Fin.ext ?_)
  match a with
  | ⟨0, _⟩ =>
    show GatherDims.start _ (ix2 c h) idx 0 + GatherDims.batchCoord _ (ix2 c h) 0 + GatherDims.offCoord _ (ix2 c h) 0 = _
    rw [GatherDims.batchCoord_eq_zero _ _ _ (show (0 : Fin 2) ∉ ([] : List (Fin 2)) by decide), GatherDims.offCoord_eq_zero _ _ _ (show (0 : Fin 2) ∉ ([1] : List (Fin 2)) by decide)]
    simp only [Nat.add_zero]
    unfold GatherDims.start
    rw [dif_pos (show (0 : Fin 2) ∈ ([0] : List (Fin 2)) by decide)]
    have e : GatherDims.siIdx (⟨[1], [0], [], [], [0], 1, ![1, 8], w⟩ : GatherDims ⟨2, ![32, 8]⟩ ⟨2, ![n, 1]⟩ ⟨2, ![n, 8]⟩) (ix2 c h) ⟨0, Nat.one_pos⟩ = ix2 c (0 : Fin 1) := by
      funext b
      match b with
      | ⟨0, _⟩ => rfl
      | ⟨1, _⟩ => rfl
    exact congrArg (fun j => min (idx j).toInt.toNat 31) e
  | ⟨1, _⟩ =>
    show GatherDims.start _ (ix2 c h) idx 1 + GatherDims.batchCoord _ (ix2 c h) 1 + GatherDims.offCoord _ (ix2 c h) 1 = h.val
    rw [GatherDims.batchCoord_eq_zero _ _ _ (show (1 : Fin 2) ∉ ([] : List (Fin 2)) by decide)]
    unfold GatherDims.start GatherDims.offCoord
    rw [dif_neg (show (1 : Fin 2) ∉ ([0] : List (Fin 2)) by decide)]
    split
    · simp only [Nat.add_zero, Nat.zero_add]
      rfl
    · rename_i hn
      exact absurd (show (1 : Fin 2) ∈ ([1] : List (Fin 2)) by decide) hn

/-- Rows of a `[32, 8]` table taken at a square of indices. -/
theorem gather_square {α : Type} {n m : ℕ} (w : GatherDims.WF ⟨2, ![32, 8]⟩ ⟨3, ![n, m, 1]⟩ ⟨3, ![n, m, 8]⟩ [2] [0] [] [0] [] 2 ![1, 8]) (x : (⟨2, ![32, 8]⟩ : Shape).Idx → α) (idx : IVec ⟨3, ![n, m, 1]⟩ 32)
    (c : Fin n) (e : Fin m) (h : Fin 8) : Host.gather (⟨[2], [0], [], [], [0], 2, ![1, 8], w⟩ : GatherDims _ _ _) x idx (ix3 c e h) = x (ix2 (rowOf (idx (ix3 c e (0 : Fin 1)))) h) := by
  unfold Host.gather
  refine congrArg x (funext fun a => Fin.ext ?_)
  match a with
  | ⟨0, _⟩ =>
    show GatherDims.start _ (ix3 c e h) idx 0 + GatherDims.batchCoord _ (ix3 c e h) 0 + GatherDims.offCoord _ (ix3 c e h) 0 = _
    rw [GatherDims.batchCoord_eq_zero _ _ _ (show (0 : Fin 2) ∉ ([] : List (Fin 2)) by decide), GatherDims.offCoord_eq_zero _ _ _ (show (0 : Fin 2) ∉ ([1] : List (Fin 2)) by decide)]
    simp only [Nat.add_zero]
    unfold GatherDims.start
    rw [dif_pos (show (0 : Fin 2) ∈ ([0] : List (Fin 2)) by decide)]
    have e : GatherDims.siIdx (⟨[2], [0], [], [], [0], 2, ![1, 8], w⟩ : GatherDims ⟨2, ![32, 8]⟩ ⟨3, ![n, m, 1]⟩ ⟨3, ![n, m, 8]⟩) (ix3 c e h) ⟨0, Nat.one_pos⟩ = ix3 c e (0 : Fin 1) := by
      funext b
      match b with
      | ⟨0, _⟩ => rfl
      | ⟨1, _⟩ => rfl
      | ⟨2, _⟩ => rfl
    exact congrArg (fun j => min (idx j).toInt.toNat 31) e
  | ⟨1, _⟩ =>
    show GatherDims.start _ (ix3 c e h) idx 1 + GatherDims.batchCoord _ (ix3 c e h) 1 + GatherDims.offCoord _ (ix3 c e h) 1 = h.val
    rw [GatherDims.batchCoord_eq_zero _ _ _ (show (1 : Fin 2) ∉ ([] : List (Fin 2)) by decide)]
    unfold GatherDims.start GatherDims.offCoord
    rw [dif_neg (show (1 : Fin 2) ∉ ([0] : List (Fin 2)) by decide)]
    split
    · simp only [Nat.add_zero, Nat.zero_add]
      rfl
    · rename_i hn
      exact absurd (show (1 : Fin 2) ∈ ([1] : List (Fin 2)) by decide) hn

end DiffAttn
-- ==== Proof.Spec.lean ====
module
public import proofs.«01_k».proof.Proof.Row
public import proofs.«01_k».proof.Proof.Gath
@[expose] public section
set_option maxRecDepth 16384
noncomputable section
open Idealize.ShloMosaic Idealize.SL.Sem
namespace DiffAttn

/-- The table row's number for a relative position. -/
def bkt (w : BitVec 32) : BitVec 32 :=
  IntOp.addi (Scalar.select (IntOp.cmpi CmpIPredicate.sgt w 0#32) 16#32 0#32)
    (Scalar.select (IntOp.cmpi CmpIPredicate.slt (IntOp.absi w) 8#32) (IntOp.absi w)
      (IntOp.minsi
        (IntOp.addi (8#32)
          (FloatOps.fptosi (F := Ideal) (φ := .f32) 32
            (Ideal.div
                (Ideal.log
                  (Ideal.div (FloatOps.sitofp (F := Ideal) FTy.f32 (IntOp.maxsi (IntOp.absi w) 1#32))
                    (Ideal.ofBits FTy.f32 1090519040#32)))
                (Ideal.ofBits FTy.f32 1076982296#32) *
              Ideal.ofBits FTy.f32 1090519040#32)))
        15#32))

/-- The number, with the table's length added to a negative one. -/
def bktw (w : BitVec 32) : BitVec 32 := Scalar.select (IntOp.cmpi CmpIPredicate.slt (bkt w) 0#32) (IntOp.addi (bkt w) 32#32) (bkt w)

/-- The position bias of key `k` at query `q`. -/
def bias (tab : FVec Ideal ⟨2, ![32, 8]⟩ .f32) (h : Fin 8) (q k : Fin 2048) : EReal :=
  tab (ix2 (rowOf (bktw (BitVec.ofNat 32 k.val - BitVec.ofNat 32 q.val))) h)

/-- A query's scores over the keys, for one half of a head. -/
def score (q k : FVec Ideal ⟨5, ![32, 2048, 8, 2, 64]⟩ .f32) (tab : FVec Ideal ⟨2, ![32, 8]⟩ .f32) (b : Fin 32) (h : Fin 8) (i : Fin 2048) (c : Fin 2) (kk : Fin 2048) : EReal :=
  (∑ x : Fin 64, q (ix5 b i h c x) * k (ix5 b kk h c x)) + bias tab h i kk

/-- The weight of the second half. -/
def lamV (a1 b1 a2 b2 : FVec Ideal ⟨2, ![1, 64]⟩ .f32) : EReal :=
  Ideal.exp (∑ x : Fin 64, a1 (ix2 0 x) * b1 (ix2 0 x)) - Ideal.exp (∑ x : Fin 64, a2 (ix2 0 x) * b2 (ix2 0 x)) + Ideal.ofBits FTy.f32 1045220557#32

/-- The whole part's result at a row and a lane, from the head's rows `f`. -/
def outV (f : Fin 128 → EReal) (d : Fin 128) (g ga : EReal) : EReal :=
  ga * (nrm (Ideal.ofBits FTy.f32 1124073472#32) (Ideal.ofBits FTy.f32 897988541#32) f d * g * Ideal.ofBits FTy.f32 1061997773#32)

theorem bits_bot : Ideal.ofBits FTy.f32 4286578688#32 = ⊥ := by simp [Ideal.ofBits, Ideal.ieee]

theorem bits_128 : Ideal.ofBits FTy.f32 1124073472#32 = ((128 : ℝ) : EReal) := by
  simp [Ideal.ofBits, Ideal.ieee]
  rw [← EReal.coe_mul]
  norm_num

theorem bits_eps : ∃ e : ℝ, Ideal.ofBits FTy.f32 897988541#32 = (e : EReal) := by
  simp [Ideal.ofBits, Ideal.ieee]
  exact ⟨_, by rw [← EReal.coe_mul]⟩

theorem bits_lam : ∃ e : ℝ, Ideal.ofBits FTy.f32 1045220557#32 = (e : EReal) := by
  simp [Ideal.ofBits, Ideal.ieee]
  exact ⟨_, by rw [← EReal.coe_mul]⟩

end DiffAttn
-- ==== Proof.Pay.lean ====
module
public import proofs.«01_k».proof.Proof.Body
public import proofs.«01_k».proof.Proof.Spec
public import Idealize.ShloMosaic.Lib.Pointwise
@[expose] public section
set_option maxRecDepth 16384
noncomputable section
open Idealize.ShloMosaic Idealize.ShloMosaic.TcCoe Idealize.SL.Sem DiffAttn
namespace Cert.KernelIdeal.Attn
open Cert.KernelIdeal Cert.KernelIdeal.Gen

/-- One key tile's scores. -/
abbrev Z (q : Vec Ideal S2048x128 .bf16) (b : Vec Ideal S1x1024x512 .f32) (k : Vec Ideal S1x1x1x128x512 .bf16) : FVec Ideal S2048x512 .f32 := k0_pay13 (F := Ideal) q b k

theorem z_at (q : Vec Ideal S2048x128 .bf16) (b : Vec Ideal S1x1024x512 .f32) (k : Vec Ideal S1x1x1x128x512 .bf16) (r : Fin 2048) (c : Fin 512) :
    Z q b k (ix2 r c) = ((∑ x : Fin 128, q (ix2 r x) * k (ix5 0 0 0 x c) : EReal) + b (ix3 0 ⟨r.val % 1024, by omega⟩ c) : EReal) := by
  have e : ∀ (h : r.val < 1024), (⟨r.val, h⟩ : Fin 1024) = ⟨r.val % 1024, by omega⟩ := fun h => Fin.ext (by show r.val = r.val % 1024; omega)
  have e' : ∀ (h : ¬r.val < 1024), (⟨r.val - 1024, by omega⟩ : Fin 1024) = ⟨r.val % 1024, by omega⟩ := fun h => Fin.ext (by show r.val - 1024 = r.val % 1024; omega)
  unfold Z k0_pay13
  pointwise
  refine congrArg _ ?_
  by_cases h : r.val < 1024
  · rw [dif_pos h, e h]
  · rw [dif_neg h, e' h]

/-- Four lanes of a tile, 128 apart. -/
def lane4 (z : FVec Ideal S2048x512 .f32) (r : Fin 2048) (l : Fin 128) : EReal :=
  max (max (max (z (ix2 r ⟨l.val, by omega⟩)) (z (ix2 r ⟨128 + l.val, by omega⟩))) (z (ix2 r ⟨256 + l.val, by omega⟩))) (z (ix2 r ⟨384 + l.val, by omega⟩))

theorem p12 (q : Vec Ideal S2048x128 .bf16) (b : Vec Ideal S1x1024x512 .f32) (k : Vec Ideal S1x1x1x128x512 .bf16) (r : Fin 2048) (l : Fin 128) :
    (k0_pay12 (F := Ideal) q (k0_pay9 b) k) (ix2 r l) = lane4 (Z q b k) r l := by
  have e : k0_pay10 (F := Ideal) q (k0_pay9 b) k = Z q b k := rfl
  unfold k0_pay12 lane4
  rw [e]
  generalize Z q b k = z
  pointwise

theorem p16 (q : Vec Ideal S2048x128 .bf16) (b : Vec Ideal S1x1024x512 .f32) (k : Vec Ideal S1x1x1x128x512 .bf16) (m : Vec Ideal S2048x128 .f32) (r : Fin 2048) (l : Fin 128) :
    (k0_pay16 (k0_pay15 (F := Ideal) q b k) m) (ix2 r l) = (max (m (ix2 r l)) (lane4 (Z q b k) r l) : EReal) := by
  unfold k0_pay16 k0_pay15 lane4 Z
  generalize k0_pay13 q b k = z
  pointwise

theorem p19 (q : Vec Ideal S2048x128 .bf16) (b : Vec Ideal S1x1024x512 .f32) (k : Vec Ideal S1x1x1x128x512 .bf16) (m : Vec Ideal S2048x128 .f32) (r : Fin 2048) (l : Fin 128) :
    (k0_pay19 (F := Ideal) q b k m) (ix2 r l) = (max (m (ix2 r l)) (lane4 (Z q b k) r l) : EReal) := by
  have e : k0_pay17 (F := Ideal) q b k = Z q b k := rfl
  unfold k0_pay19 lane4
  rw [e]
  generalize Z q b k = z
  pointwise

theorem p23 (q : Vec Ideal S2048x128 .bf16) (b : Vec Ideal S1x1024x512 .f32) (k : Vec Ideal S1x1x1x128x512 .bf16) (m : Vec Ideal S2048x128 .f32) (r : Fin 2048) (l : Fin 128) :
    (k0_pay23 (F := Ideal) q (k0_pay20 b) k m) (ix2 r l) = (max (m (ix2 r l)) (lane4 (Z q b k) r l) : EReal) := by
  have e : k0_pay21 (F := Ideal) q (k0_pay20 b) k = Z q b k := rfl
  unfold k0_pay23 lane4
  rw [e]
  generalize Z q b k = z
  pointwise

theorem p24 (m : Vec Ideal S2048x128 .f32) (r : Fin 2048) (l : Fin 128) :
    (k0_pay24 (F := Ideal) m) (ix2 r l) = (Finset.univ.sup fun x : Fin 128 => (m (ix2 r x) : EReal)) := by
  unfold k0_pay24
  pointwise
  rw [bits_bot]
  rfl

/-- The value columns beside the column of ones. -/
def vx (v : Vec Ideal S512x128 .bf16) (x : Fin 512) (c : Fin 256) : EReal :=
  if h : c.val < 128 then v (ix2 x ⟨c.val, h⟩) else FloatOps.sitofp (F := Ideal) .f32 ((IntOp.cmpi .eq (BitVec.ofNat 32 (c.val - 128)) 0#32).setWidth 32)

theorem p26 (m : Vec Ideal S2048x128 .f32) (M : EReal) (z : FVec Ideal S2048x512 .f32) (X : Vec Ideal S1x2048x512 .f32) (v : Vec Ideal S512x128 .bf16) (a : Vec Ideal S2048x256 .f32) (r : Fin 2048) (c : Fin 256)
    (hX : ∀ x, X (ix3 0 r x) = z (ix2 r x)) (hm : ∀ l, m (ix2 r l) = M) :
    (k0_pay26 (F := Ideal) m X v a) (ix2 r c) = (a (ix2 r c) + ∑ x : Fin 512, Ideal.exp2 (z (ix2 r x) - M) * vx v x c : EReal) := by
  have e : ∀ (h : ¬r.val < 1024) (h' : 1024 + (r.val - 1024) < 2048), (⟨1024 + (r.val - 1024), h'⟩ : Fin 2048) = r := fun h _ => Fin.ext (by show 1024 + (r.val - 1024) = r.val; omega)
  unfold k0_pay26 vx
  pointwise
  refine congrArg _ ?_
  by_cases h : r.val < 1024
  · rw [dif_pos h]
    refine Finset.sum_congr rfl fun x _ => ?_
    rw [hX]
    simp only [hm, dite_eq_ite, ite_self]
    rfl
  · rw [dif_neg h]
    refine Finset.sum_congr rfl fun x _ => ?_
    simp only [e h, hX, hm, dite_eq_ite, ite_self]
    rfl

theorem log2e_eq : (Named.named (F := Ideal) κ "log2e" (φ := .f32) 0x3FB8AA3B#32 : EReal) = lg := IdealRules.named_const.ideal_named_scalar _ _ _ _ rfl

theorem p8 (x0 : Vec Ideal S1024x128 .bf16) (r : Fin 2048) (d : Fin 128) :
    (k0_pay8 (F := Ideal) x0) (ix2 r d) = (if (d.val < 64 ↔ r.val < 1024) then x0 (ix2 ⟨r.val % 1024, by omega⟩ d) * lg else 0 : EReal) := by
  have e : ∀ (h : r.val < 1024), (⟨r.val, h⟩ : Fin 1024) = ⟨r.val % 1024, by omega⟩ := fun h => Fin.ext (by show r.val = r.val % 1024; omega)
  have e' : ∀ (h : ¬r.val < 1024), (⟨r.val - 1024, by omega⟩ : Fin 1024) = ⟨r.val % 1024, by omega⟩ := fun h => Fin.ext (by show r.val - 1024 = r.val % 1024; omega)
  have hc : IntOp.cmpi CmpIPredicate.slt (BitVec.ofNat 32 d.val) 64#32 = BitVec.ofBool (decide (d.val < 64)) := by
    revert d; decide
  rw [← log2e_eq]
  unfold k0_pay8
  pointwise
  rw [hc]
  by_cases hd : d.val < 64 <;> by_cases h : r.val < 1024
  · simp only [hd, h, decide_true, dite_true, iff_self, if_true]; rw [e h]; rfl
  · simp only [hd, h, decide_true, dite_false, if_false, iff_false, not_true]; rfl
  · simp only [hd, h, decide_false, dite_true, if_false, iff_true]; rfl
  · simp only [hd, h, decide_false, dite_false, iff_self, if_true]; rw [e' h]; rfl

theorem kt_at (x1 : Vec Ideal S1x1x4x128x512 .bf16) (j : ℕ) (hj : j < 4) (h) (x : Fin 128) (c : Fin 512) :
    ktile x1 j h (ix5 0 0 0 x c) = x1 (ix5 0 0 ⟨j, hj⟩ x c) := by
  unfold ktile
  pointwise

theorem vt_at (x2 : Vec Ideal S2048x128 .bf16) (o : ℕ) (h) (ho : o ≤ 1536) (x : Fin 512) (c : Fin 128) :
    vtile x2 o h (ix2 x c) = x2 (ix2 ⟨o + x.val, by omega⟩ c) := by
  unfold vtile
  pointwise

variable (x0 : Vec Ideal S1024x128 .bf16) (x1 : Vec Ideal S1x1x4x128x512 .bf16) (x2 : Vec Ideal S2048x128 .bf16) (b0 b1 b2 b3 : Vec Ideal S1x1024x512 .f32)

/-- The score of a stacked row at a key. -/
def ks (r kk : Fin 2048) : EReal :=
  (∑ x : Fin 128, k0_pay8 (F := Ideal) x0 (ix2 r x) * x1 (ix5 0 0 ⟨kk.val / 512, by omega⟩ x ⟨kk.val % 512, by omega⟩) : EReal)
    + (![b0, b1, b2, b3] ⟨kk.val / 512, by omega⟩ : Vec Ideal S1x1024x512 .f32) (ix3 0 ⟨r.val % 1024, by omega⟩ ⟨kk.val % 512, by omega⟩)

theorem ks_tile (j : ℕ) (hj : j < 4) (b : Vec Ideal S1x1024x512 .f32) (hb : (![b0, b1, b2, b3] : Fin 4 → Vec Ideal S1x1024x512 .f32) ⟨j, hj⟩ = b) (h) (r : Fin 2048) (c : Fin 512) :
    Z (k0_pay8 x0) b (ktile x1 j h) (ix2 r c) = ks x0 x1 b0 b1 b2 b3 r ⟨512 * j + c.val, by omega⟩ := by
  have e1 : (⟨(512 * j + c.val) / 512, by omega⟩ : Fin 4) = ⟨j, hj⟩ := Fin.ext (by show (512 * j + c.val) / 512 = j; omega)
  have e2 : (⟨(512 * j + c.val) % 512, by omega⟩ : Fin 512) = c := Fin.ext (by show (512 * j + c.val) % 512 = c.val; omega)
  rw [z_at]
  unfold ks
  simp only [e1, e2, hb, kt_at x1 j hj h]

theorem lane_sup (f : Fin 2048 → EReal) (m : Fin 128 → EReal)
    (hm : ∀ l : Fin 128, m l = max (max (max
      (max (max (max (f ⟨512 * 0 + l.val, by omega⟩) (f ⟨512 * 0 + (128 + l.val), by omega⟩)) (f ⟨512 * 0 + (256 + l.val), by omega⟩)) (f ⟨512 * 0 + (384 + l.val), by omega⟩))
      (max (max (max (f ⟨512 * 1 + l.val, by omega⟩) (f ⟨512 * 1 + (128 + l.val), by omega⟩)) (f ⟨512 * 1 + (256 + l.val), by omega⟩)) (f ⟨512 * 1 + (384 + l.val), by omega⟩)))
      (max (max (max (f ⟨512 * 2 + l.val, by omega⟩) (f ⟨512 * 2 + (128 + l.val), by omega⟩)) (f ⟨512 * 2 + (256 + l.val), by omega⟩)) (f ⟨512 * 2 + (384 + l.val), by omega⟩)))
      (max (max (max (f ⟨512 * 3 + l.val, by omega⟩) (f ⟨512 * 3 + (128 + l.val), by omega⟩)) (f ⟨512 * 3 + (256 + l.val), by omega⟩)) (f ⟨512 * 3 + (384 + l.val), by omega⟩))) :
    Finset.univ.sup m = Finset.univ.sup f := by
  apply le_antisymm
  · refine Finset.sup_le fun l _ => ?_
    rw [hm]
    simp only [max_le_iff]
    refine ⟨⟨⟨⟨⟨⟨?_, ?_⟩, ?_⟩, ?_⟩, ⟨⟨?_, ?_⟩, ?_⟩, ?_⟩, ⟨⟨?_, ?_⟩, ?_⟩, ?_⟩, ⟨⟨?_, ?_⟩, ?_⟩, ?_⟩ <;> exact Finset.le_sup (f := f) (Finset.mem_univ _)
  · refine Finset.sup_le fun k _ => ?_
    refine le_trans ?_ (Finset.le_sup (f := m) (Finset.mem_univ (⟨k.val % 128, by omega⟩ : Fin 128)))
    rw [hm]
    have key : ∀ (n : ℕ) (hn : n < 2048), k.val = n → f k = f ⟨n, hn⟩ := fun n hn h => congrArg f (Fin.ext h)
    have hk := k.isLt
    simp only [le_max_iff]
    have hq : k.val / 128 < 16 := by omega
    generalize hqq : k.val / 128 = q at hq
    interval_cases q
    · exact Or.inl (Or.inl (Or.inl (Or.inl (Or.inl (Or.inl (key _ _ (by omega)).le)))))
    · exact Or.inl (Or.inl (Or.inl (Or.inl (Or.inl (Or.inr (key _ _ (by omega)).le)))))
    · exact Or.inl (Or.inl (Or.inl (Or.inl (Or.inr (key _ _ (by omega)).le))))
    · exact Or.inl (Or.inl (Or.inl (Or.inr (key _ _ (by omega)).le)))
    · exact Or.inl (Or.inl (Or.inr (Or.inl (Or.inl (Or.inl (key _ _ (by omega)).le)))))
    · exact Or.inl (Or.inl (Or.inr (Or.inl (Or.inl (Or.inr (key _ _ (by omega)).le)))))
    · exact Or.inl (Or.inl (Or.inr (Or.inl (Or.inr (key _ _ (by omega)).le))))
    · exact Or.inl (Or.inl (Or.inr (Or.inr (key _ _ (by omega)).le)))
    · exact Or.inl (Or.inr (Or.inl (Or.inl (Or.inl (key _ _ (by omega)).le))))
    · exact Or.inl (Or.inr (Or.inl (Or.inl (Or.inr (key _ _ (by omega)).le))))
    · exact Or.inl (Or.inr (Or.inl (Or.inr (key _ _ (by omega)).le)))
    · exact Or.inl (Or.inr (Or.inr (key _ _ (by omega)).le))
    · exact Or.inr (Or.inl (Or.inl (Or.inl (key _ _ (by omega)).le)))
    · exact Or.inr (Or.inl (Or.inl (Or.inr (key _ _ (by omega)).le)))
    · exact Or.inr (Or.inl (Or.inr (key _ _ (by omega)).le))
    · exact Or.inr (Or.inr (key _ _ (by omega)).le)

/-- The row maximum. -/
theorem mm_at (r : Fin 2048) (l : Fin 128) : MM x0 x1 b0 b1 b2 b3 (ix2 r l) = Finset.univ.sup (ks x0 x1 b0 b1 b2 b3 r) := by
  unfold MM
  rw [p24]
  refine lane_sup _ _ fun l => ?_
  unfold M3 M2 M1 M0
  rw [p23, p19, p16, p12]
  unfold lane4
  simp only [ks_tile x0 x1 b0 b1 b2 b3 0 (by decide) b0 rfl, ks_tile x0 x1 b0 b1 b2 b3 1 (by decide) b1 rfl,
    ks_tile x0 x1 b0 b1 b2 b3 2 (by decide) b2 rfl, ks_tile x0 x1 b0 b1 b2 b3 3 (by decide) b3 rfl]

theorem sum4 (f : Fin 2048 → EReal) :
    0 + (∑ x : Fin 512, f ⟨512 * 0 + x.val, by omega⟩) + (∑ x : Fin 512, f ⟨512 * 1 + x.val, by omega⟩) + (∑ x : Fin 512, f ⟨512 * 2 + x.val, by omega⟩)
      + (∑ x : Fin 512, f ⟨512 * 3 + x.val, by omega⟩) = ∑ k, f k := by
  have e := Fin.sum_univ_add (a := 512 + 512 + 512) (b := 512) f
  rw [Fin.sum_univ_add (a := 512 + 512) (b := 512), Fin.sum_univ_add (a := 512) (b := 512)] at e
  refine Eq.trans ?_ e.symm
  rw [zero_add]
  refine congrArg₂ _ (congrArg₂ _ (congrArg₂ _ ?_ ?_) ?_) ?_ <;>
    exact Finset.sum_congr rfl fun x _ => congrArg f (Fin.ext (by simp <;> omega))

/-- The value columns beside the column of ones, over all keys. -/
def vy (k : Fin 2048) (c : Fin 256) : EReal :=
  if h : c.val < 128 then x2 (ix2 k ⟨c.val, h⟩) else FloatOps.sitofp (F := Ideal) .f32 ((IntOp.cmpi .eq (BitVec.ofNat 32 (c.val - 128)) 0#32).setWidth 32)

theorem vx_tile (o : ℕ) (h) (ho : o ≤ 1536) (x : Fin 512) (c : Fin 256) : vx (vtile x2 o h) x c = vy x2 ⟨o + x.val, by omega⟩ c := by
  unfold vx vy
  split
  · rw [vt_at x2 o h ho]
  · rfl

theorem a4_at (r : Fin 2048) (c : Fin 256) : A4 x0 x1 x2 b0 b1 b2 b3 (ix2 r c)
    = ∑ k, Ideal.exp2 (ks x0 x1 b0 b1 b2 b3 r k - Finset.univ.sup (ks x0 x1 b0 b1 b2 b3 r)) * vy x2 k c := by
  have hm := mm_at x0 x1 b0 b1 b2 b3 r
  unfold A4 A3 A2 A1
  rw [p26 _ _ (Z (k0_pay8 x0) b3 (ktile x1 3 inb_S1x1x4x128x512_S1x1x1x128x512_0_0_3_0_0)) _ _ _ r c (fun x => ?_) hm,
    p26 _ _ (Z (k0_pay8 x0) b2 (ktile x1 2 inb_S1x1x4x128x512_S1x1x1x128x512_0_0_2_0_0)) _ _ _ r c (fun x => ?_) hm,
    p26 _ _ (Z (k0_pay8 x0) b1 (ktile x1 1 inb_S1x1x4x128x512_S1x1x1x128x512_0_0_1_0_0)) _ _ _ r c (fun x => ?_) hm,
    p26 _ _ (Z (k0_pay8 x0) b0 (ktile x1 0 inb_S1x1x4x128x512_S1x1x1x128x512_0_0_0_0_0)) _ _ _ r c (fun x => ?_) hm]
  · simp only [ks_tile x0 x1 b0 b1 b2 b3 0 (by decide) b0 rfl, ks_tile x0 x1 b0 b1 b2 b3 1 (by decide) b1 rfl,
      ks_tile x0 x1 b0 b1 b2 b3 2 (by decide) b2 rfl, ks_tile x0 x1 b0 b1 b2 b3 3 (by decide) b3 rfl]
    refine Eq.trans ?_ (sum4 _)
    refine congrArg₂ _ (congrArg₂ _ (congrArg₂ _ (congrArg₂ _ ?_ ?_) ?_) ?_) ?_
    · unfold k0_pay25
      pointwise
    all_goals exact Finset.sum_congr rfl fun x _ => congrArg _ (vx_tile x2 _ _ (by decide) x c)
  · unfold X0 k0_pay11
    rw [show k0_pay10 (F := Ideal) (k0_pay8 x0) (k0_pay9 b0) (ktile x1 0 inb_S1x1x4x128x512_S1x1x1x128x512_0_0_0_0_0) = Z (k0_pay8 x0) b0 (ktile x1 0 inb_S1x1x4x128x512_S1x1x1x128x512_0_0_0_0_0) from rfl]
    generalize Z _ _ _ = z
    pointwise
  · unfold X1 k0_pay14
    rw [show k0_pay13 (F := Ideal) (k0_pay8 x0) b1 (ktile x1 1 inb_S1x1x4x128x512_S1x1x1x128x512_0_0_1_0_0) = Z (k0_pay8 x0) b1 (ktile x1 1 inb_S1x1x4x128x512_S1x1x1x128x512_0_0_1_0_0) from rfl]
    generalize Z _ _ _ = z
    pointwise
  · unfold X2 k0_pay18
    rw [show k0_pay17 (F := Ideal) (k0_pay8 x0) b2 (ktile x1 2 inb_S1x1x4x128x512_S1x1x1x128x512_0_0_2_0_0) = Z (k0_pay8 x0) b2 (ktile x1 2 inb_S1x1x4x128x512_S1x1x1x128x512_0_0_2_0_0) from rfl]
    generalize Z _ _ _ = z
    pointwise
  · unfold X3 k0_pay22
    rw [show k0_pay21 (F := Ideal) (k0_pay8 x0) (k0_pay20 b3) (ktile x1 3 inb_S1x1x4x128x512_S1x1x1x128x512_0_0_3_0_0) = Z (k0_pay8 x0) b3 (ktile x1 3 inb_S1x1x4x128x512_S1x1x1x128x512_0_0_3_0_0) from rfl]
    generalize Z _ _ _ = z
    pointwise

theorem vy_lane (k : Fin 2048) (d : Fin 128) : vy x2 k ⟨d.val, by omega⟩ = x2 (ix2 k d) := by
  unfold vy
  rw [dif_pos d.isLt]

theorem vy_one (k : Fin 2048) : vy x2 k 128 = 1 := by
  unfold vy
  rw [dif_neg (by decide)]
  show ((((IntOp.cmpi .eq (BitVec.ofNat 32 0) 0#32).setWidth 32).toInt : ℝ) : EReal) = 1
  rw [show ((IntOp.cmpi .eq (BitVec.ofNat 32 0) 0#32).setWidth 32).toInt = 1 from by decide]
  simp

/-- The parameters' word. -/
def lamK (x5 : Vec Ideal S4x64 .f32) : EReal :=
  Ideal.exp (∑ x : Fin 64, x5 (ix2 0 x) * x5 (ix2 1 x)) - Ideal.exp (∑ x : Fin 64, x5 (ix2 2 x) * x5 (ix2 3 x)) + Ideal.ofBits FTy.f32 1045220557#32

theorem res_fin (A : Vec Ideal S2048x256 .f32) (x5 : Vec Ideal S4x64 .f32) (x6 : Vec Ideal S1x128 .f32) (x3 : Vec Ideal S1024x128 .bf16) (r : Fin 1024) (c : Fin 128) (K : Fin 128 → EReal)
    (hK : ∀ d : Fin 128, (Ideal.div (A (ix2 ⟨r.val, by omega⟩ ⟨d.val, by omega⟩)) (A (ix2 ⟨r.val, by omega⟩ 128)) - lamK x5 * Ideal.div (A (ix2 ⟨1024 + r.val, by omega⟩ ⟨d.val, by omega⟩)) (A (ix2 ⟨1024 + r.val, by omega⟩ 128)) : EReal) = K d) :
    (k0_pay1 (F := Ideal) (k0_pay7 x5) A x6 x3) (ix2 r c) = outV K c (x6 (ix2 0 c)) (x3 (ix2 r c)) := by
  unfold lamK at hK
  unfold k0_pay1 k0_pay7 outV nrm
  pointwise
  simp only [hK]
  exact mul_comm _ _

/-- A point's result at an index. -/
theorem res_at (x3 : Vec Ideal S1024x128 .bf16) (x5 : Vec Ideal S4x64 .f32) (x6 : Vec Ideal S1x128 .f32) (r : Fin 1024) (d : Fin 128) (y0 y1 : Fin 2048 → EReal)
    (h0 : ∀ k, ks x0 x1 b0 b1 b2 b3 ⟨r.val, by omega⟩ k = lg * y0 k) (h1 : ∀ k, ks x0 x1 b0 b1 b2 b3 ⟨1024 + r.val, by omega⟩ k = lg * y1 k) :
    res x0 x1 x2 b0 b1 b2 b3 x3 x5 x6 (ix2 r d) = outV (rowK y0 y1 (fun k d => x2 (ix2 k d)) (lamK x5)) d (x6 (ix2 0 d)) (x3 (ix2 r d)) := by
  have e0 : ks x0 x1 b0 b1 b2 b3 ⟨r.val, by omega⟩ = fun k => lg * y0 k := funext h0
  have e1 : ks x0 x1 b0 b1 b2 b3 ⟨1024 + r.val, by omega⟩ = fun k => lg * y1 k := funext h1
  unfold res
  refine res_fin _ x5 x6 x3 r d _ fun d => ?_
  rw [a4_at, a4_at, a4_at, a4_at]
  unfold rowK
  simp only [e0, e1, vy_lane, vy_one, mul_one, wt_exp2]

end Cert.KernelIdeal.Attn
-- ==== Proof.Score.lean ====
module
public import proofs.«01_k».proof.Proof.Pay
@[expose] public section
set_option maxRecDepth 16384
noncomputable section
open Idealize.ShloMosaic Idealize.ShloMosaic.TcCoe Idealize.SL.Sem DiffAttn
namespace Cert.KernelIdeal.Attn
open Cert.KernelIdeal Cert.KernelIdeal.Gen

/-- The turned window at a query row and a key column: the window's element a row's distance away. -/
theorem turn_at (x4 : Vec Ideal S1x1x3072 .f32) (i : Fin 1024) (c : Fin 4096) (h : c.val < 2048) :
    k0_pay2 (F := Ideal) x4 (ix2 i c) = (x4 (ix3 0 0 ⟨c.val + 1024 - i.val, by omega⟩) * lg : EReal) := by
  rw [← log2e_eq]
  unfold k0_pay2
  pointwise
  split
  · refine congrArg (fun j => (x4 (ix3 0 0 j) * _ : EReal)) (Fin.ext ?_)
    show (c.val + 4096 - (3072 + i.val) % 4096) % 4096 = c.val + 1024 - i.val
    omega
  · omega

theorem tile_0 (x4 : Vec Ideal S1x1x3072 .f32) (i : Fin 1024) (c : Fin 512) : k0_pay3 (F := Ideal) x4 (ix3 0 i c) = k0_pay2 (F := Ideal) x4 (ix2 i ⟨512 * 0 + c.val, by omega⟩) := by
  unfold k0_pay3
  generalize k0_pay2 (F := Ideal) x4 = z
  pointwise
theorem tile_1 (x4 : Vec Ideal S1x1x3072 .f32) (i : Fin 1024) (c : Fin 512) : k0_pay4 (F := Ideal) x4 (ix3 0 i c) = k0_pay2 (F := Ideal) x4 (ix2 i ⟨512 * 1 + c.val, by omega⟩) := by
  unfold k0_pay4
  generalize k0_pay2 (F := Ideal) x4 = z
  pointwise
theorem tile_2 (x4 : Vec Ideal S1x1x3072 .f32) (i : Fin 1024) (c : Fin 512) : k0_pay5 (F := Ideal) x4 (ix3 0 i c) = k0_pay2 (F := Ideal) x4 (ix2 i ⟨512 * 2 + c.val, by omega⟩) := by
  unfold k0_pay5
  generalize k0_pay2 (F := Ideal) x4 = z
  pointwise
theorem tile_3 (x4 : Vec Ideal S1x1x3072 .f32) (i : Fin 1024) (c : Fin 512) : k0_pay6 (F := Ideal) x4 (ix3 0 i c) = k0_pay2 (F := Ideal) x4 (ix2 i ⟨512 * 3 + c.val, by omega⟩) := by
  unfold k0_pay6
  generalize k0_pay2 (F := Ideal) x4 = z
  pointwise

theorem lg_sum {n : ℕ} (f : Fin n → EReal) : lg * (∑ x, f x) = ∑ x, lg * f x := by
  have h : ∀ a b : EReal, lg * (a + b) = lg * a + lg * b := fun a b => by
    unfold lg
    exact EReal.left_distrib_of_nonneg_of_ne_top (by exact_mod_cast lg_pos.le) (EReal.coe_ne_top _) a b
  induction n with
  | zero => simp
  | succ n ih => rw [Fin.sum_univ_succ, Fin.sum_univ_succ, h, ih]

theorem tiles (x4 : Vec Ideal S1x1x3072 .f32) (j : Fin 4) (i : Fin 1024) (c : Fin 512) :
    (![k0_pay3 (F := Ideal) x4, k0_pay4 x4, k0_pay5 x4, k0_pay6 x4] j : Vec Ideal S1x1024x512 .f32) (ix3 0 i c) = (x4 (ix3 0 0 ⟨512 * j.val + c.val + 1024 - i.val, by omega⟩) * lg : EReal) := by
  fin_cases j
  · exact (tile_0 x4 i c).trans (turn_at x4 i _ (by show 512 * 0 + c.val < 2048; omega))
  · exact (tile_1 x4 i c).trans (turn_at x4 i _ (by show 512 * 1 + c.val < 2048; omega))
  · exact (tile_2 x4 i c).trans (turn_at x4 i _ (by show 512 * 2 + c.val < 2048; omega))
  · exact (tile_3 x4 i c).trans (turn_at x4 i _ (by show 512 * 3 + c.val < 2048; omega))

/-- The kernel's score of key `kk` at row `i` of half `p` is the reference's, scaled. -/
theorem ks_score (q k : FVec Ideal ⟨5, ![32, 2048, 8, 2, 64]⟩ .f32) (tab : FVec Ideal ⟨2, ![32, 8]⟩ .f32) (b : Fin 32) (h : Fin 8) (qi : Fin 2048) (i : Fin 1024)
    (x0 : Vec Ideal S1024x128 .bf16) (x1 : Vec Ideal S1x1x4x128x512 .bf16) (x4 : Vec Ideal S1x1x3072 .f32)
    (hq : ∀ x : Fin 128, x0 (ix2 i x) = q (ix5 b qi h ⟨x.val / 64, by omega⟩ ⟨x.val % 64, by omega⟩))
    (hk : ∀ (j : Fin 4) (x : Fin 128) (c : Fin 512), x1 (ix5 0 0 j x c) = k (ix5 b ⟨j.val * 512 + c.val, by omega⟩ h ⟨x.val / 64, by omega⟩ ⟨x.val % 64, by omega⟩))
    (hb : ∀ kk : Fin 2048, x4 (ix3 0 0 ⟨kk.val + 1024 - i.val, by omega⟩) = bias tab h qi kk) (p : Fin 2) (kk : Fin 2048) :
    ks x0 x1 (k0_pay3 x4) (k0_pay4 x4) (k0_pay5 x4) (k0_pay6 x4) ⟨1024 * p.val + i.val, by omega⟩ kk = lg * score q k tab b h qi p kk := by
  have hadd : ∀ a b : EReal, lg * (a + b) = lg * a + lg * b := fun a b => by
    unfold lg
    exact EReal.left_distrib_of_nonneg_of_ne_top (by exact_mod_cast lg_pos.le) (EReal.coe_ne_top _) a b
  have ei : (⟨(1024 * p.val + i.val) % 1024, by omega⟩ : Fin 1024) = i := Fin.ext (by show (1024 * p.val + i.val) % 1024 = i.val; omega)
  have ek : (⟨512 * (kk.val / 512) + kk.val % 512 + 1024 - (1024 * p.val + i.val) % 1024, by omega⟩ : Fin 3072) = ⟨kk.val + 1024 - i.val, by omega⟩ := Fin.ext (by show 512 * (kk.val / 512) + kk.val % 512 + 1024 - (1024 * p.val + i.val) % 1024 = kk.val + 1024 - i.val; omega)
  have ej : (⟨kk.val / 512 * 512 + kk.val % 512, by omega⟩ : Fin 2048) = kk := Fin.ext (by show kk.val / 512 * 512 + kk.val % 512 = kk.val; omega)
  unfold ks score
  rw [hadd, tiles]
  simp only [ek, hb, ei, p8, hq, hk, ej]
  refine congrArg₂ (fun a b : EReal => a + b) ?_ (mul_comm _ _)
  rw [lg_sum, show (∑ x : Fin 128, (_ : EReal)) = _ from Fin.sum_univ_add (a := 64) (b := 64) _]
  have e0 : ∀ x : Fin 64, (⟨x.val / 64, by omega⟩ : Fin 2) = 0 := fun x => Fin.ext (by show x.val / 64 = 0; omega)
  have e1 : ∀ x : Fin 64, (⟨(64 + x.val) / 64, by omega⟩ : Fin 2) = 1 := fun x => Fin.ext (by show (64 + x.val) / 64 = 1; omega)
  have e2 : ∀ x : Fin 64, (⟨x.val % 64, by omega⟩ : Fin 64) = x := fun x => Fin.ext (by show x.val % 64 = x.val; omega)
  have e3 : ∀ x : Fin 64, (⟨(64 + x.val) % 64, by omega⟩ : Fin 64) = x := fun x => Fin.ext (by show (64 + x.val) % 64 = x.val; omega)
  have hz : ∀ x : Fin 64, (x.val < 64) = True := fun x => eq_true x.isLt
  have hz' : ∀ x : Fin 64, (64 + x.val < 64) = False := fun x => eq_false (by omega)
  have hp0 : (1024 * ((0 : Fin 2) : ℕ) + i.val < 1024) = True := eq_true (by show 1024 * 0 + i.val < 1024; omega)
  have hp1 : (1024 * ((1 : Fin 2) : ℕ) + i.val < 1024) = False := eq_false (by show ¬1024 * 1 + i.val < 1024; omega)
  have hm : ∀ a b : EReal, a * lg * b = lg * (a * b) := fun a b => by rw [mul_comm a, mul_assoc]
  simp only [Fin.val_castAdd, Fin.val_natAdd, hz, hz', e0, e1, e2, e3]
  obtain rfl | rfl : p = 0 ∨ p = 1 := by omega
  · simp only [hp0, iff_true, if_true, if_false, iff_self, zero_mul, Finset.sum_const_zero, add_zero, hm, false_iff, not_true]
  · simp only [hp1, iff_false, not_true, not_false_iff, if_true, if_false, zero_mul, Finset.sum_const_zero, zero_add, hm, iff_self]

end Cert.KernelIdeal.Attn
-- ==== Proof.Host.lean ====
module
public import proofs.«01_k».proof.Proof.Gen.KernelIdeal.Value
public import proofs.«01_k».proof.Proof.Spec
public import Idealize.ShloMosaic.Lib.StableHlo.ReadAt
public import Idealize.ShloMosaic.Lib.Pointwise
@[expose] public section
set_option maxRecDepth 16384
noncomputable section
open Idealize.ShloMosaic Idealize.ShloMosaic.TcCoe Idealize.SL.Sem DiffAttn
namespace Cert.KernelIdeal.Attn
open Cert.KernelIdeal Cert.KernelIdeal.Gen
variable (m : (ℓ : Loc nD τ sig) → Buf (Elt Ideal) ℓ) (c : Dev nD)

abbrev Q : FVec Ideal S32x2048x8x2x64 .f32 := m ((c : Thread nD τ).loc main_arg0)
abbrev K : FVec Ideal S32x2048x8x2x64 .f32 := m ((c : Thread nD τ).loc main_arg1)
abbrev W : FVec Ideal S32x2048x8x128 .f32 := m ((c : Thread nD τ).loc main_arg2)
abbrev GA : FVec Ideal S32x2048x1024 .f32 := m ((c : Thread nD τ).loc main_arg3)
abbrev TB : FVec Ideal S32x8 .f32 := m ((c : Thread nD τ).loc main_arg4)
abbrev L1 : FVec Ideal S1x64 .f32 := m ((c : Thread nD τ).loc main_arg5)
abbrev L2 : FVec Ideal S1x64 .f32 := m ((c : Thread nD τ).loc main_arg6)
abbrev L3 : FVec Ideal S1x64 .f32 := m ((c : Thread nD τ).loc main_arg7)
abbrev L4 : FVec Ideal S1x64 .f32 := m ((c : Thread nD τ).loc main_arg8)
abbrev SG : FVec Ideal S1x128 .f32 := m ((c : Thread nD τ).loc main_arg9)

theorem v1_at (r : Fin 65536) (e : Fin 1024) : (V m c main_v1 : FVec Ideal S65536x1024 .bf16) (ix2 r e)
    = Q m c (ix5 ⟨r.val / 2048, by omega⟩ ⟨r.val % 2048, by omega⟩ ⟨e.val / 128, by omega⟩ ⟨e.val / 64 % 2, by omega⟩ ⟨e.val % 64, by omega⟩) := by
  unfold V
  after_reads_at

theorem v4_at (b : Fin 32) (h : Fin 8) (j : Fin 4) (x : Fin 128) (k : Fin 512) : (V m c main_v4 : FVec Ideal S32x8x4x128x512 .bf16) (ix5 b h j x k)
    = K m c (ix5 b ⟨j.val * 512 + k.val, by omega⟩ h ⟨x.val / 64, by omega⟩ ⟨x.val % 64, by omega⟩) := by
  unfold V
  after_reads_at

theorem v6_at (r : Fin 65536) (e : Fin 1024) : (V m c main_v6 : FVec Ideal S65536x1024 .bf16) (ix2 r e)
    = W m c (ix4 ⟨r.val / 2048, by omega⟩ ⟨r.val % 2048, by omega⟩ ⟨e.val / 128, by omega⟩ ⟨e.val % 128, by omega⟩) := by
  unfold V
  after_reads_at

theorem v8_at (r : Fin 65536) (e : Fin 1024) : (V m c main_v8 : FVec Ideal S65536x1024 .bf16) (ix2 r e)
    = GA m c (ix3 ⟨r.val / 2048, by omega⟩ ⟨r.val % 2048, by omega⟩ e) := by
  unfold V
  after_reads_at

theorem v60_at (x : Fin 128) : (V m c main_v60 : FVec Ideal S1x128 .f32) (ix2 0 x) = SG m c (ix2 0 x) := by
  unfold V
  after_reads_at

theorem v58_0 (x : Fin 64) : (V m c main_v58 : FVec Ideal S4x64 .f32) (ix2 0 x) = L1 m c (ix2 0 x) := by
  unfold V
  after_reads_at
  after_reads_at
theorem v58_1 (x : Fin 64) : (V m c main_v58 : FVec Ideal S4x64 .f32) (ix2 1 x) = L2 m c (ix2 0 x) := by
  unfold V
  after_reads_at
  after_reads_at
theorem v58_2 (x : Fin 64) : (V m c main_v58 : FVec Ideal S4x64 .f32) (ix2 2 x) = L3 m c (ix2 0 x) := by
  unfold V
  after_reads_at
  after_reads_at
theorem v58_3 (x : Fin 64) : (V m c main_v58 : FVec Ideal S4x64 .f32) (ix2 3 x) = L4 m c (ix2 0 x) := by
  unfold V
  after_reads_at
  after_reads_at

set_option maxHeartbeats 1600000 in
theorem v49_at (g : Fin 16) (x : Fin 3072) : (V m c main_v49 : FVec Ideal S16x1x3072 .f32) (ix3 g 0 x)
    = TB m c (ix2 (rowOf (bktw (IntOp.subi (BitVec.ofNat 32 (1024 - 1024 * (g.val % 2) + x.val)) 2048#32))) ⟨g.val / 2, by omega⟩) := by
  unfold V
  after_reads_at
  by_cases h : g.val % 2 < 1
  · rw [dif_pos h, show 1024 - 1024 * (g.val % 2) + x.val = 1024 + x.val by omega]
    after_reads_at
    refine (gather_list _ _ _ _ _).trans ?_
    refine congrArg (fun w => TB m c (ix2 (rowOf w) _)) ?_
    unfold bktw bkt
    pointwise
    simp only [id]
    pointwise
  · rw [dif_neg h, show 1024 - 1024 * (g.val % 2) + x.val = x.val by omega]
    after_reads_at
    refine (gather_list _ _ _ _ _).trans ?_
    refine congrArg (fun w => TB m c (ix2 (rowOf w) _)) ?_
    unfold bktw bkt
    pointwise
    simp only [id]
    pointwise
end Cert.KernelIdeal.Attn
-- ==== Proof.Arr.lean ====
module
public import proofs.«01_k».proof.Proof.Runs
public import proofs.«01_k».proof.Proof.Score
public import proofs.«01_k».proof.Proof.Host
public import Idealize.ShloMosaic.Lib.Pipeline.Covers
@[expose] public section
set_option maxRecDepth 16384
noncomputable section
open Idealize.ShloMosaic Idealize.ShloMosaic.TcCoe Idealize.SL.Sem DiffAttn
namespace Cert.KernelIdeal.Attn
open Cert.KernelIdeal Cert.KernelIdeal.Gen
variable (m : (ℓ : Loc nD τ sig) → Buf (Elt Ideal) ℓ) (c : Dev nD)

/-- The result at a row and a column, from the arguments. -/
def val (r : Fin 65536) (e : Fin 1024) : EReal :=
  outV (rowK (score (Q m c) (K m c) (TB m c) ⟨r.val / 2048, by omega⟩ ⟨e.val / 128, by omega⟩ ⟨r.val % 2048, by omega⟩ 0)
      (score (Q m c) (K m c) (TB m c) ⟨r.val / 2048, by omega⟩ ⟨e.val / 128, by omega⟩ ⟨r.val % 2048, by omega⟩ 1)
      (fun k d => W m c (ix4 ⟨r.val / 2048, by omega⟩ k ⟨e.val / 128, by omega⟩ d)) (lamV (L1 m c) (L2 m c) (L3 m c) (L4 m c)))
    ⟨e.val % 128, by omega⟩ (SG m c (ix2 0 ⟨e.val % 128, by omega⟩)) (GA m c (ix3 ⟨r.val / 2048, by omega⟩ ⟨r.val % 2048, by omega⟩ e))

theorem pt_lt (t : Fin cfg0.N) : t.val < 512 := t.isLt

/-- The batch, the head and the query tile of a point. -/
abbrev pb (t : Fin cfg0.N) : Fin 32 := ⟨t.val % 32, by omega⟩
abbrev ph (t : Fin cfg0.N) : Fin 8 := ⟨t.val / 64, by have := pt_lt t; omega⟩
abbrev pq (t : Fin cfg0.N) (i : Fin 1024) : Fin 2048 := ⟨t.val / 32 % 2 * 1024 + i.val, by omega⟩

theorem b0 (t : Fin cfg0.N) (i : Fin 1024) (x : Fin 128) : (iblk m c 0 t : Vec Ideal S1024x128 .bf16) (ix2 i x)
    = (V m c main_v1 : FVec Ideal S65536x1024 .bf16) (ix2 ⟨t.val % 32 * 2048 + t.val / 32 % 2 * 1024 + i.val, by omega⟩ ⟨t.val / 64 * 128 + x.val, by have := pt_lt t; omega⟩) := by
  blk_ext [iblk, idx t]
theorem b1 (t : Fin cfg0.N) (j : Fin 4) (x : Fin 128) (k : Fin 512) : (iblk m c 1 t : Vec Ideal S1x1x4x128x512 .bf16) (ix5 0 0 j x k)
    = (V m c main_v4 : FVec Ideal S32x8x4x128x512 .bf16) (ix5 (pb t) (ph t) j x k) := by
  blk_ext [iblk, idx t]
theorem b2 (t : Fin cfg0.N) (i : Fin 2048) (x : Fin 128) : (iblk m c 2 t : Vec Ideal S2048x128 .bf16) (ix2 i x)
    = (V m c main_v6 : FVec Ideal S65536x1024 .bf16) (ix2 ⟨t.val % 32 * 2048 + i.val, by omega⟩ ⟨t.val / 64 * 128 + x.val, by have := pt_lt t; omega⟩) := by
  blk_ext [iblk, idx t]
theorem b3 (t : Fin cfg0.N) (i : Fin 1024) (x : Fin 128) : (iblk m c 3 t : Vec Ideal S1024x128 .bf16) (ix2 i x)
    = (V m c main_v8 : FVec Ideal S65536x1024 .bf16) (ix2 ⟨t.val % 32 * 2048 + t.val / 32 % 2 * 1024 + i.val, by omega⟩ ⟨t.val / 64 * 128 + x.val, by have := pt_lt t; omega⟩) := by
  blk_ext [iblk, idx t]
theorem b4 (t : Fin cfg0.N) (x : Fin 3072) : (iblk m c 4 t : Vec Ideal S1x1x3072 .f32) (ix3 0 0 x)
    = (V m c main_v49 : FVec Ideal S16x1x3072 .f32) (ix3 ⟨t.val / 32, by have := pt_lt t; omega⟩ 0 x) := by
  blk_ext [iblk, idx t]
theorem b5 (t : Fin cfg0.N) (j : Fin 4) (x : Fin 64) : (iblk m c 5 t : Vec Ideal S4x64 .f32) (ix2 j x)
    = (V m c main_v58 : FVec Ideal S4x64 .f32) (ix2 j x) := by
  blk_ext [iblk, idx t]
theorem b6 (t : Fin cfg0.N) (x : Fin 128) : (iblk m c 6 t : Vec Ideal S1x128 .f32) (ix2 0 x)
    = (V m c main_v60 : FVec Ideal S1x128 .f32) (ix2 0 x) := by
  blk_ext [iblk, idx t]

theorem ix_eq2 {n k : ℕ} {a a' : Fin n} {b b' : Fin k} (h : a.val = a'.val) (h' : b.val = b'.val) : ix2 a b = ix2 a' b' := by
  rw [Fin.ext h, Fin.ext h']

theorem rel_word (a i k : ℕ) (ha : a < 2) (hi : i < 1024) (hk : k < 2048) :
    IntOp.subi (BitVec.ofNat 32 (1024 - 1024 * a + (k + 1024 - i))) 2048#32 = BitVec.ofNat 32 k - BitVec.ofNat 32 (a * 1024 + i) := by
  apply BitVec.eq_of_toNat_eq
  simp only [IntOp.subi, BitVec.toNat_sub, BitVec.toNat_ofNat]
  omega

theorem bias_pt (t : Fin cfg0.N) (i : Fin 1024) (kk : Fin 2048) :
    (iblk m c 4 t : Vec Ideal S1x1x3072 .f32) (ix3 0 0 ⟨kk.val + 1024 - i.val, by omega⟩) = bias (TB m c) (ph t) (pq t i) kk := by
  rw [b4, v49_at]
  unfold bias
  have e := rel_word (t.val / 32 % 2) i.val kk.val (by omega) i.isLt kk.isLt
  have eh : (⟨t.val / 32 / 2, by have := pt_lt t; omega⟩ : Fin 8) = ph t := Fin.ext (by show t.val / 32 / 2 = t.val / 64; omega)
  dsimp only at *
  rw [eh, e]

theorem l0 (t : Fin cfg0.N) (x : Fin 64) : (iblk m c 5 t : Vec Ideal S4x64 .f32) (ix2 0 x) = L1 m c (ix2 0 x) := (b5 m c t 0 x).trans (v58_0 m c x)
theorem l1 (t : Fin cfg0.N) (x : Fin 64) : (iblk m c 5 t : Vec Ideal S4x64 .f32) (ix2 1 x) = L2 m c (ix2 0 x) := (b5 m c t 1 x).trans (v58_1 m c x)
theorem l2 (t : Fin cfg0.N) (x : Fin 64) : (iblk m c 5 t : Vec Ideal S4x64 .f32) (ix2 2 x) = L3 m c (ix2 0 x) := (b5 m c t 2 x).trans (v58_2 m c x)
theorem l3 (t : Fin cfg0.N) (x : Fin 64) : (iblk m c 5 t : Vec Ideal S4x64 .f32) (ix2 3 x) = L4 m c (ix2 0 x) := (b5 m c t 3 x).trans (v58_3 m c x)

theorem vals (t : Fin cfg0.N) (k : Fin 2048) (d : Fin 128) : (iblk m c 2 t : Vec Ideal S2048x128 .bf16) (ix2 k d) = W m c (ix4 (pb t) k (ph t) d) := by
  have ht := pt_lt t
  have e3 : (⟨(t.val / 64 * 128 + d.val) / 128, by omega⟩ : Fin 8) = ph t := Fin.ext (by show (t.val / 64 * 128 + d.val) / 128 = t.val / 64; omega)
  have e4 : (⟨(t.val / 64 * 128 + d.val) % 128, by omega⟩ : Fin 128) = d := Fin.ext (by show (t.val / 64 * 128 + d.val) % 128 = d.val; omega)
  have e7 : (⟨(t.val % 32 * 2048 + k.val) / 2048, by omega⟩ : Fin 32) = pb t := Fin.ext (by show (t.val % 32 * 2048 + k.val) / 2048 = t.val % 32; omega)
  have e8 : (⟨(t.val % 32 * 2048 + k.val) % 2048, by omega⟩ : Fin 2048) = k := Fin.ext (by show (t.val % 32 * 2048 + k.val) % 2048 = k.val; omega)
  rw [b2, v6_at]
  simp only [e3, e4, e7, e8]

theorem lam_pt (t : Fin cfg0.N) : lamK (iblk m c 5 t) = lamV (L1 m c) (L2 m c) (L3 m c) (L4 m c) := by
  unfold lamK lamV
  simp only [l0, l1, l2, l3]

theorem pt_at (t : Fin cfg0.N) (i : Fin 1024) (d : Fin 128) : ((outsAt0 m c t.val t.isLt).1 : Vec Ideal S1024x128 .bf16) (ix2 i d)
    = val m c ⟨t.val % 32 * 2048 + t.val / 32 % 2 * 1024 + i.val, by omega⟩ ⟨t.val / 64 * 128 + d.val, by have := pt_lt t; omega⟩ := by
  have ht := pt_lt t
  have e1 : (⟨(t.val % 32 * 2048 + t.val / 32 % 2 * 1024 + i.val) / 2048, by omega⟩ : Fin 32) = pb t := Fin.ext (by show (t.val % 32 * 2048 + t.val / 32 % 2 * 1024 + i.val) / 2048 = t.val % 32; omega)
  have e2 : (⟨(t.val % 32 * 2048 + t.val / 32 % 2 * 1024 + i.val) % 2048, by omega⟩ : Fin 2048) = pq t i := Fin.ext (by show (t.val % 32 * 2048 + t.val / 32 % 2 * 1024 + i.val) % 2048 = t.val / 32 % 2 * 1024 + i.val; omega)
  have e3 : ∀ d : Fin 128, (⟨(t.val / 64 * 128 + d.val) / 128, by omega⟩ : Fin 8) = ph t := fun d => Fin.ext (by show (t.val / 64 * 128 + d.val) / 128 = t.val / 64; omega)
  have e4 : ∀ d : Fin 128, (⟨(t.val / 64 * 128 + d.val) % 128, by omega⟩ : Fin 128) = d := fun d => Fin.ext (by show (t.val / 64 * 128 + d.val) % 128 = d.val; omega)
  have e5 : ∀ x : Fin 128, (⟨(t.val / 64 * 128 + x.val) / 64 % 2, by omega⟩ : Fin 2) = ⟨x.val / 64, by omega⟩ := fun x => Fin.ext (by show (t.val / 64 * 128 + x.val) / 64 % 2 = x.val / 64; omega)
  have e6 : ∀ x : Fin 128, (⟨(t.val / 64 * 128 + x.val) % 64, by omega⟩ : Fin 64) = ⟨x.val % 64, by omega⟩ := fun x => Fin.ext (by show (t.val / 64 * 128 + x.val) % 64 = x.val % 64; omega)
  have hs := ks_score (Q m c) (K m c) (TB m c) (pb t) (ph t) (pq t i) i (iblk m c 0 t) (iblk m c 1 t) (iblk m c 4 t)
    (fun x => by rw [b0, v1_at]; simp only [e1, e2, e3, e5, e6]) (fun j x k => by rw [b1, v4_at]) (bias_pt m c t i)
  rw [out_pt]
  rw [res_at _ _ _ _ _ _ _ _ _ _ i d (score (Q m c) (K m c) (TB m c) (pb t) (ph t) (pq t i) 0) (score (Q m c) (K m c) (TB m c) (pb t) (ph t) (pq t i) 1)
    (fun k => (congrArg (fun r => ks _ _ _ _ _ _ r k) (Fin.ext (by show i.val = 1024 * 0 + i.val; omega))).trans (hs 0 k)) (fun k => hs 1 k)]
  rw [lam_pt, b6, v60_at, b3, v8_at]
  simp only [vals, val, e1, e2, e3, e4]

theorem cover_nat (a b : ℕ) (ha : a < 64) (hb : b < 8) :
    (b * 64 + a % 2 * 32 + a / 2) % 32 * 2 + (b * 64 + a % 2 * 32 + a / 2) / 32 % 2 = a ∧ (b * 64 + a % 2 * 32 + a / 2) / 64 = b := by
  have h1 : (b * 64 + a % 2 * 32 + a / 2) / 32 = b * 2 + a % 2 := by
    rw [show b * 64 + a % 2 * 32 + a / 2 = a / 2 + (b * 2 + a % 2) * 32 by omega, Nat.add_mul_div_right _ _ (by norm_num), Nat.div_eq_of_lt (by omega), zero_add]
  have h2 : (b * 64 + a % 2 * 32 + a / 2) % 32 = a / 2 := by
    rw [show b * 64 + a % 2 * 32 + a / 2 = a / 2 + (b * 2 + a % 2) * 32 by omega, Nat.add_mul_mod_self_right, Nat.mod_eq_of_lt (by omega)]
  have h3 : (b * 64 + a % 2 * 32 + a / 2) / 64 = b := by
    rw [show b * 64 + a % 2 * 32 + a / 2 = (a % 2 * 32 + a / 2) + b * 64 by omega, Nat.add_mul_div_right _ _ (by norm_num), Nat.div_eq_of_lt (by omega), zero_add]
  rw [h1, h2, h3]
  omega

theorem covers7 : (cfg0.win 7).Covers :=
  (cfg0.win 7).covers_of_index_surj rfl (by decide) fun β => by
    have h0 : (β (0 : Fin 2)).val < 64 := lt_of_lt_of_eq (β (0 : Fin 2)).isLt (by decide : (cfg0.win 7).nblk (0 : Fin 2) = 64)
    have h1 : (β (1 : Fin 2)).val < 8 := lt_of_lt_of_eq (β (1 : Fin 2)).isLt (by decide : (cfg0.win 7).nblk (1 : Fin 2) = 8)
    have hi := (idx ⟨(β (1 : Fin 2)).val * 64 + (β (0 : Fin 2)).val % 2 * 32 + (β (0 : Fin 2)).val / 2, by show _ < 512; omega⟩).2.2.2.2.2.2.2
    have hn := cover_nat (β (0 : Fin 2)).val (β (1 : Fin 2)).val h0 h1
    refine ⟨⟨(β (1 : Fin 2)).val * 64 + (β (0 : Fin 2)).val % 2 * 32 + (β (0 : Fin 2)).val / 2, by show _ < 512; omega⟩, ?_⟩
    show ∀ a : Fin 2, win0_7.index _ a = (β a).val
    rw [hi]
    exact Fin.forall_fin_two.2 hn

/-- The result array. -/
def fin7 : FVec Ideal S65536x1024 .bf16 := fun j => val m c (j 0) (j 1)

theorem pt_ix (t : Fin cfg0.N) (y : S1024x128.Idx) : ((outsAt0 m c t.val t.isLt).1 : Vec Ideal S1024x128 .bf16) y
    = val m c ⟨t.val % 32 * 2048 + t.val / 32 % 2 * 1024 + (y 0).val, by have : (y 0).val < 1024 := (y 0).isLt; omega⟩ ⟨t.val / 64 * 128 + (y 1).val, by have := pt_lt t; have : (y 1).val < 128 := (y 1).isLt; omega⟩ := by
  have e : y = ix2 (show Fin 1024 from y 0) (show Fin 128 from y 1) := by
    funext a
    revert a
    exact Fin.forall_fin_two.2 ⟨rfl, rfl⟩
  rw [e]
  exact pt_at m c t (show Fin 1024 from y 0) (show Fin 128 from y 1)

theorem arr_eq : (dats m 0 c).arrAt 7 cfg0.N = fin7 m c := by
  refine (dats m 0 c).arrAt_eq_of_covers 7 _ covers7 fun t hf y => ?_
  blk_simp
  rw [after0_7]
  refine (pt_ix m c t y).trans (congrArg₂ (val m c) (Fin.ext ?_) (Fin.ext ?_))
  · blk_simp [idx t]
    dsimp only
    omega
  · blk_simp [idx t]

/-- The result array, element by element. -/
theorem arr_at (r : Fin 65536) (e : Fin 1024) : ((dats m 0 c).arrAt 7 cfg0.N : FVec Ideal S65536x1024 .bf16) (ix2 r e) = val m c r e := by
  rw [arr_eq]
  rfl

end Cert.KernelIdeal.Attn
-- ==== Proof.Ref.lean ====
module
public import proofs.«01_k».proof.Proof.Gen.ReferenceIdeal.Run
public import proofs.«01_k».proof.Proof.Spec
public import Idealize.ShloMosaic.Lib.Pointwise
public import Idealize.ShloMosaic.Lib.Tactic.CleanTypes
@[expose] public section
set_option maxRecDepth 16384
noncomputable section
open Idealize.ShloMosaic Idealize.ShloMosaic.TcCoe Idealize.SL.Sem DiffAttn
namespace Cert.ReferenceIdeal.Attn
open Cert.ReferenceIdeal Cert.ReferenceIdeal.Gen Cert.ReferenceIdeal.Value
variable (V0 : Valuation τ sig (Elt Ideal))

abbrev Q : FVec Ideal S32x2048x8x2x64 .f32 := V0 (Proc.devRef .tc main_arg0)
abbrev K : FVec Ideal S32x2048x8x2x64 .f32 := V0 (Proc.devRef .tc main_arg1)
abbrev W : FVec Ideal S32x2048x8x128 .f32 := V0 (Proc.devRef .tc main_arg2)
abbrev GA : FVec Ideal S32x2048x1024 .f32 := V0 (Proc.devRef .tc main_arg3)
abbrev TB : FVec Ideal S32x8 .f32 := V0 (Proc.devRef .tc main_arg4)
abbrev L1 : FVec Ideal S1x64 .f32 := V0 (Proc.devRef .tc main_arg5)
abbrev L2 : FVec Ideal S1x64 .f32 := V0 (Proc.devRef .tc main_arg6)
abbrev L3 : FVec Ideal S1x64 .f32 := V0 (Proc.devRef .tc main_arg7)
abbrev L4 : FVec Ideal S1x64 .f32 := V0 (Proc.devRef .tc main_arg8)
abbrev SG : FVec Ideal S1x128 .f32 := V0 (Proc.devRef .tc main_arg9)

theorem v17_at (q k : Fin 2048) : (res_main_v17 V0 : IVec S2048x2048 32) (ix2 q k) = BitVec.ofNat 32 k.val - BitVec.ofNat 32 q.val := by
  unfold res_main_v17 res_main_v12
  clean_types
  pointwise
  rfl

theorem v41_at (q k : Fin 2048) : (res_main_v41 V0 : IVec S2048x2048 32) (ix2 q k) = bkt (BitVec.ofNat 32 k.val - BitVec.ofNat 32 q.val) := by
  rw [← v17_at V0]
  unfold res_main_v41 res_main_v18
  clean_types
  simp only [id]
  generalize res_main_v17 V0 = Z
  pointwise
  rfl

theorem v53_at (b : Fin 32) (c : Fin 2) (h : Fin 8) (q k : Fin 2048) :
    (res_main_v53 V0 : FVec Ideal S32x2x8x2048x2048 .f32) (ix5 b c h q k) = score (Q V0) (K V0) (TB V0) b h q c k := by
  unfold score bias bktw
  rw [← v41_at V0]
  unfold res_main_v53
  generalize res_main_v41 V0 = Z
  clean_types
  pointwise
  refine congrArg _ ?_
  refine (gather_square _ _ _ q k h).trans ?_
  pointwise

/-- The row maxima, as the greatest of the row. -/
theorem red_at (Z : FVec Ideal S32x2x8x2048x2048 .f32) (b : Fin 32) (c : Fin 2) (h : Fin 8) (q : Fin 2048) :
    (Host.reduce FloatOps.maximumf Z (constant S_ .f32 0xFF800000#32) reducesTo_S32x2x8x2048x2048_S32x2x8x2048_d4 h_S_ : FVec Ideal S32x2x8x2048 .f32) (ix4 b c h q)
      = Finset.fold max (Ideal.ofBits FTy.f32 4286578688#32) (fun x => Z (ix5 b c h q x)) Finset.univ := by
  pointwise

/-- The exponentials, with the row maxima left as `R`. -/
theorem exp_at (Z : FVec Ideal S32x2x8x2048x2048 .f32) (R : FVec Ideal S32x2x8x2048 .f32) (b : Fin 32) (c : Fin 2) (h : Fin 8) (q k : Fin 2048) :
    (Host.exp (subf Z (broadcastInDim S32x2x8x2048x2048 ![0, 1, 2, 3, 4] bcast_S32x2x8x2048x1_S32x2x8x2048x2048_0_1_2_3_4 (broadcastInDim S32x2x8x2048x1 ![0, 1, 2, 3] bcast_S32x2x8x2048_S32x2x8x2048x1_0_1_2_3 (maximumf (broadcastInDim S32x2x8x2048 ![] bcast_S_S32x2x8x2048 (constant S_ .f32 0xFF800000#32)) R)))) : FVec Ideal S32x2x8x2048x2048 .f32) (ix5 b c h q k)
      = Ideal.exp (Z (ix5 b c h q k) - max (Ideal.ofBits FTy.f32 4286578688#32) (R (ix4 b c h q))) := by
  pointwise

theorem v60_at (b : Fin 32) (c : Fin 2) (h : Fin 8) (q k : Fin 2048) :
    (res_main_v60 V0 : FVec Ideal S32x2x8x2048x2048 .f32) (ix5 b c h q k) = wt (score (Q V0) (K V0) (TB V0) b h q c) k := by
  unfold res_main_v60
  refine (exp_at (res_main_v53 V0) _ b c h q k).trans ?_
  rw [red_at, bits_bot, max_eq_right bot_le]
  unfold wt
  rw [v53_at]
  have e : Finset.fold max (⊥ : EReal) (fun x : Fin 2048 => (res_main_v53 V0 : FVec Ideal S32x2x8x2048x2048 .f32) (ix5 b c h q x)) Finset.univ
      = Finset.univ.sup (score (Q V0) (K V0) (TB V0) b h q c) := Finset.fold_congr fun x _ => v53_at V0 b c h q x
  exact congrArg (fun m : EReal => Ideal.exp (score (Q V0) (K V0) (TB V0) b h q c k - m)) e

theorem v64_at (b : Fin 32) (c : Fin 2) (h : Fin 8) (q k : Fin 2048) :
    (res_main_v64 V0 : FVec Ideal S32x2x8x2048x2048 .f32) (ix5 b c h q k)
      = Ideal.div (wt (score (Q V0) (K V0) (TB V0) b h q c) k) (∑ k, wt (score (Q V0) (K V0) (TB V0) b h q c) k) := by
  have e : ∀ k, wt (score (Q V0) (K V0) (TB V0) b h q c) k = (res_main_v60 V0 : FVec Ideal S32x2x8x2048x2048 .f32) (ix5 b c h q k) := fun k => (v60_at V0 b c h q k).symm
  simp only [e]
  unfold res_main_v64
  generalize res_main_v60 V0 = Z
  clean_types
  pointwise

theorem v73_raw (b : Fin 32) (h : Fin 8) (q : Fin 2048) (d : Fin 128) (Z : FVec Ideal S32x2x8x2048x2048 .f32) (hZ : res_main_v64 V0 = Z) : (res_main_v73 V0 : FVec Ideal S32x2048x8x128 .f32) (ix4 b q h d)
    = (∑ k : Fin 2048, W V0 (ix4 b k h d) * (Z (ix5 b 0 h q k) -
     (Ideal.exp (∑ x : Fin 64, L1 V0 (ix2 0 x) * L2 V0 (ix2 0 x)) - Ideal.exp (∑ x : Fin 64, L3 V0 (ix2 0 x) * L4 V0 (ix2 0 x)) + Ideal.ofBits FTy.f32 1045220557#32)
      * Z (ix5 b 1 h q k)) : EReal) := by
  unfold res_main_v73
  rw [hZ]
  clean_types
  pointwise

theorem v73_at (b : Fin 32) (h : Fin 8) (q : Fin 2048) (d : Fin 128) : (res_main_v73 V0 : FVec Ideal S32x2048x8x128 .f32) (ix4 b q h d)
    = rowR (score (Q V0) (K V0) (TB V0) b h q 0) (score (Q V0) (K V0) (TB V0) b h q 1) (fun k d => W V0 (ix4 b k h d)) (lamV (L1 V0) (L2 V0) (L3 V0) (L4 V0)) d := by
  refine (v73_raw V0 b h q d _ rfl).trans ?_
  unfold rowR lamV
  refine @Finset.sum_congr _ EReal _ _ _ _ _ rfl fun k _ => ?_
  rw [v64_at, v64_at]

/-- The reference's result. -/
def result : FVec Ideal S65536x1024 .bf16 := (truncf .bf16 (shapeCast _ (mulf (GA V0) (shapeCast _ (mulf (mulf (mulf (res_main_v73 V0) (broadcastInDim S32x2048x8x128 ![0, 1, 2, 3] bcast_S32x2048x8x1_S32x2048x8x128_0_1_2_3 (Host.rsqrt (addf (Host.divf (broadcastInDim S32x2048x8x1 ![0, 1, 2] bcast_S32x2048x8_S32x2048x8x1_0_1_2 (Host.reduceAdd (mulf (res_main_v73 V0) (res_main_v73 V0)) (constant S_ .f32 0x00000000#32) reducesTo_S32x2048x8x128_S32x2048x8_d3 h_S_)) (broadcastInDim S32x2048x8x1 ![] bcast_S_S32x2048x8x1 (constant S_ .f32 0x43000000#32))) (broadcastInDim S32x2048x8x1 ![] bcast_S_S32x2048x8x1 (constant S_ .f32 0x358637BD#32)))))) (broadcastInDim S32x2048x8x128 ![0, 1, 2, 3] bcast_S1x1x1x128_S32x2048x8x128_0_1_2_3 (broadcastInDim S1x1x1x128 ![3] bcast_S128_S1x1x1x128_3 (shapeCast _ (SG V0) shapeCasts_S1x128_S128)))) (broadcastInDim S32x2048x8x128 ![] bcast_S_S32x2048x8x128 (constant S_ .f32 0x3F4CCCCD#32))) shapeCasts_S32x2048x8x128_S32x2048x1024)) shapeCasts_S32x2048x1024_S65536x1024) bitsLt_bf16_f32 : FVec Ideal S65536x1024 .bf16)

/-- The result at an index. -/
theorem result_at (r : Fin 65536) (e : Fin 1024) : result V0 (ix2 r e)
    = outV (rowR (score (Q V0) (K V0) (TB V0) ⟨r.val / 2048, by omega⟩ ⟨e.val / 128, by omega⟩ ⟨r.val % 2048, by omega⟩ 0)
        (score (Q V0) (K V0) (TB V0) ⟨r.val / 2048, by omega⟩ ⟨e.val / 128, by omega⟩ ⟨r.val % 2048, by omega⟩ 1)
        (fun k d => W V0 (ix4 ⟨r.val / 2048, by omega⟩ k ⟨e.val / 128, by omega⟩ d)) (lamV (L1 V0) (L2 V0) (L3 V0) (L4 V0)))
      ⟨e.val % 128, by omega⟩ (SG V0 (ix2 0 ⟨e.val % 128, by omega⟩)) (GA V0 (ix3 ⟨r.val / 2048, by omega⟩ ⟨r.val % 2048, by omega⟩ e)) := by
  unfold outV nrm
  simp only [← v73_at]
  unfold result
  generalize res_main_v73 V0 = Z
  clean_types
  pointwise

end Cert.ReferenceIdeal.Attn
-- ==== Proof.Pre.lean ====
module
public import proofs.«01_k».proof.Defs
public import Idealize.ShloMosaic.Lib.ReduceAll
public import Idealize.ShloMosaic.Lib.Pointwise
@[expose] public section
set_option maxRecDepth 16384
noncomputable section
open Idealize.ShloMosaic Idealize.SL.Sem
namespace Cert.Pre_finite

theorem facts : Facts where
  bcast_S_S32x2048x8x128 := by decide
  reducesTo_S32x2048x8x128_S_d0_1_2_3 := by decide
  h_S_ := by decide
  bcast_S_S1x64 := by decide
  reducesTo_S1x64_S_d0_1 := by decide

theorem real_of_lt {s : Shape} (x : FVec Ideal s .f32) (y : FVec Ideal s .f32) (i : s.Idx) (hy : y i = ⊤) (h : cmpf .olt (Host.absf x) y i = 1#1) : ∃ r : ℝ, x i = (r : EReal) := by
  have h' : Ideal.cmp .olt (FloatOps.absf (F := Ideal) (φ := .f32) (x i)) (y i) = 1#1 := h
  rw [hy] at h'
  generalize x i = z at h'
  have h2 : (max (z : EReal) (-z : EReal)) < (⊤ : EReal) := by
    by_contra hn
    exact absurd h' (by rw [show Ideal.cmp .olt (FloatOps.absf (F := Ideal) (φ := .f32) z) ⊤ = BitVec.ofBool (decide ((max (z : EReal) (-z : EReal)) < (⊤ : EReal))) from rfl, decide_eq_false hn]; decide)
  have h3 : (z : EReal) ≠ ⊤ := fun e => absurd h2 (by rw [e]; simp)
  have h4 : (z : EReal) ≠ ⊥ := fun e => absurd h2 (by rw [e]; simp)
  exact ⟨EReal.toReal z, (EReal.coe_toReal h3 h4).symm⟩

instance : Subsingleton (Shape.Idx S_) := ⟨fun a b => funext fun i => i.elim0⟩

theorem unpack [hf : Facts] (a0 a1 : FVec Ideal S32x2048x8x2x64 .f32) (a2 : FVec Ideal S32x2048x8x128 .f32) (a3 : FVec Ideal S32x2048x1024 .f32) (a4 : FVec Ideal S32x8 .f32)
    (a5 a6 a7 a8 : FVec Ideal S1x64 .f32) (a9 : FVec Ideal S1x128 .f32) (h : fn (F := Ideal) a0 a1 a2 a3 a4 a5 a6 a7 a8 a9 = fun _ => 1#1) :
    (∀ i, ∃ r : ℝ, a2 i = (r : EReal)) ∧ (∀ i, ∃ r : ℝ, a5 i = (r : EReal)) ∧ (∀ i, ∃ r : ℝ, a6 i = (r : EReal)) ∧ (∀ i, ∃ r : ℝ, a7 i = (r : EReal)) ∧ (∀ i, ∃ r : ℝ, a8 i = (r : EReal)) := by
  have h := congrFun h (Shape.Idx.first hf.h_S_)
  dsimp only [fn, fn_part1] at h
  obtain ⟨h, e8⟩ := IntOp.andi_eq_one.1 h
  obtain ⟨h, e7⟩ := IntOp.andi_eq_one.1 h
  obtain ⟨h, e6⟩ := IntOp.andi_eq_one.1 h
  obtain ⟨e2, e5⟩ := IntOp.andi_eq_one.1 h
  have top : Ideal.ofBits .f32 0x7F800000#32 = ⊤ := by simp [Ideal.ofBits, Ideal.ieee]
  exact ⟨fun i => real_of_lt _ _ i top (Host.reduce_andi_all _ _ _ _ _ e2 i), fun i => real_of_lt _ _ i top (Host.reduce_andi_all _ _ _ _ _ e5 i), fun i => real_of_lt _ _ i top (Host.reduce_andi_all _ _ _ _ _ e6 i),
    fun i => real_of_lt _ _ i top (Host.reduce_andi_all _ _ _ _ _ e7 i), fun i => real_of_lt _ _ i top (Host.reduce_andi_all _ _ _ _ _ e8 i)⟩

end Cert.Pre_finite
-- ==== Proof.Same.lean ====
module
public import proofs.«01_k».proof.Proof.Spec
@[expose] public section
set_option maxRecDepth 16384
noncomputable section
open Idealize.ShloMosaic Idealize.SL.Sem
namespace DiffAttn

theorem lam_real (a1 b1 a2 b2 : FVec Ideal ⟨2, ![1, 64]⟩ .f32) (h1 : ∀ i, ∃ r : ℝ, a1 i = (r : EReal)) (g1 : ∀ i, ∃ r : ℝ, b1 i = (r : EReal))
    (h2 : ∀ i, ∃ r : ℝ, a2 i = (r : EReal)) (g2 : ∀ i, ∃ r : ℝ, b2 i = (r : EReal)) : ∃ r : ℝ, lamV a1 b1 a2 b2 = (r : EReal) := by
  choose p1 h1 using h1
  choose q1 g1 using g1
  choose p2 h2 using h2
  choose q2 g2 using g2
  obtain ⟨e, he⟩ := bits_lam
  refine ⟨Real.exp (∑ x : Fin 64, p1 (ix2 0 x) * q1 (ix2 0 x)) - Real.exp (∑ x : Fin 64, p2 (ix2 0 x) * q2 (ix2 0 x)) + e, ?_⟩
  unfold lamV
  simp only [h1, g1, h2, g2, he, ← EReal.coe_mul, ← coe_sum]
  rw [show Ideal.exp ((_ : ℝ) : EReal) = ((Real.exp _ : ℝ) : EReal) from rfl, show Ideal.exp ((_ : ℝ) : EReal) = ((Real.exp _ : ℝ) : EReal) from rfl, ← EReal.coe_sub, ← EReal.coe_add]

/-- With real values and a real weight, the kernel's order of dividing gives the reference's result. -/
theorem out_same (y0 y1 : Fin 2048 → EReal) (v : Fin 2048 → Fin 128 → EReal) (lam : EReal) (hv : ∀ k d, ∃ r : ℝ, v k d = (r : EReal)) (hl : ∃ r : ℝ, lam = (r : EReal)) (d : Fin 128) (g ga : EReal) :
    outV (rowK y0 y1 v lam) d g ga = outV (rowR y0 y1 v lam) d g ga := by
  choose w hw using hv
  obtain ⟨l, rfl⟩ := hl
  obtain ⟨e, he⟩ := bits_eps
  obtain rfl : v = fun k d => (w k d : EReal) := funext fun k => funext fun d => hw k d
  unfold outV
  rw [bits_128, he, nrm_row 128 e (by norm_num)]

end DiffAttn
-- ==== Proof.InSpec.lean ====
module
public import Idealize.ShloMosaic.PureOps.Ideal
public import Idealize.ShloMosaic.Lib.Pointwise
@[expose] public section
noncomputable section
open Idealize.ShloMosaic Idealize.SL.Sem
namespace InProj

/-- The modulated row at a batch and a position. -/
def hrow (x : FVec Ideal ⟨3, ![32, 2048, 1024]⟩ .f32) (mod : FVec Ideal ⟨3, ![32, 6, 1024]⟩ .f32) (g : FVec Ideal ⟨2, ![1, 1024]⟩ .f32) (b : Fin 32) (s : Fin 2048) (d : Fin 1024) : EReal :=
  x (ix3 b s d) * Ideal.rsqrt (Ideal.div (∑ d : Fin 1024, x (ix3 b s d) * x (ix3 b s d) : EReal) (Ideal.ofBits FTy.f32 0x44800000#32) + Ideal.ofBits FTy.f32 0x358637BD#32) * g (ix2 0 d)
    * (Ideal.ofBits FTy.f32 0x3F800000#32 + mod (ix3 b 1 d)) + mod (ix3 b 0 d)

/-- The row's projection on one column of the weight. -/
def prj (x : FVec Ideal ⟨3, ![32, 2048, 1024]⟩ .f32) (mod : FVec Ideal ⟨3, ![32, 6, 1024]⟩ .f32) (g : FVec Ideal ⟨2, ![1, 1024]⟩ .f32) (w : FVec Ideal ⟨3, ![1, 1024, 6144]⟩ .f32) (b : Fin 32) (s : Fin 2048) (n : Fin 6144) : EReal :=
  ∑ d : Fin 1024, hrow x mod g b s d * w (ix3 0 d n)

/-- A row normalised over its groups of 64 lanes, weighted by `g`. -/
def grp (y : Fin 1024 → EReal) (g : FVec Ideal ⟨2, ![1, 64]⟩ .f32) (e : Fin 1024) : EReal :=
  y e * Ideal.rsqrt (Ideal.div (∑ u : Fin 64, y ⟨e.val / 64 * 64 + u.val, by omega⟩ * y ⟨e.val / 64 * 64 + u.val, by omega⟩ : EReal) (Ideal.ofBits FTy.f32 0x42800000#32) + Ideal.ofBits FTy.f32 0x358637BD#32)
    * g (ix2 0 ⟨e.val % 64, by omega⟩)

end InProj
-- ==== Proof.InPay.lean ====
module
public import proofs.«01_k».proof.Proof.Gen.Kernel2Ideal.Value
public import proofs.«01_k».proof.Proof.InSpec
public import Idealize.ShloMosaic.Lib.Pointwise
@[expose] public section
set_option maxRecDepth 16384
noncomputable section
open Idealize.ShloMosaic Idealize.ShloMosaic.TcCoe Idealize.SL.Sem InProj
namespace Cert.Kernel2Ideal.In
open Cert.Kernel2Ideal Cert.Kernel2Ideal.Gen

theorem p3 (x : Vec Ideal S512x1024 .f32) (g : Vec Ideal S1x1024 .f32) (m1 m0 : Vec Ideal S1x1x1024 .f32) (i : Fin 512) (d : Fin 1024) :
    (k0_pay3 (F := Ideal) x g m1 m0) (ix2 i d)
      = (x (ix2 i d) * Ideal.rsqrt (Ideal.div (∑ d : Fin 1024, x (ix2 i d) * x (ix2 i d) : EReal) (Ideal.ofBits FTy.f32 0x44800000#32) + Ideal.ofBits FTy.f32 0x358637BD#32) * g (ix2 0 d)
        * (Ideal.ofBits FTy.f32 0x3F800000#32 + m1 (ix3 0 0 d)) + m0 (ix3 0 0 d) : EReal) := by
  unfold k0_pay3
  pointwise

/-- A row of the block's projection. -/
def row (H : FVec Ideal S512x1024 .bf16) (w : Vec Ideal S1024x1024 .bf16) (i : Fin 512) (e : Fin 1024) : EReal := ∑ k : Fin 1024, H (ix2 i k) * w (ix2 k e)

theorem p4 (x : Vec Ideal S512x1024 .f32) (g : Vec Ideal S1x1024 .f32) (m1 m0 : Vec Ideal S1x1x1024 .f32) (w : Vec Ideal S1024x1024 .bf16) (i : Fin 512) (e : Fin 1024) :
    (k0_pay4 (F := Ideal) x g m1 m0 w) (ix2 i e) = row (k0_pay3 (F := Ideal) x g m1 m0) w i e := by
  unfold k0_pay4 row
  generalize k0_pay3 (F := Ideal) x g m1 m0 = H
  pointwise

theorem p18 (H : FVec Ideal S512x1024 .bf16) (w : Vec Ideal S1024x1024 .bf16) (i : Fin 512) (e : Fin 1024) : (k0_pay18 (F := Ideal) H w) (ix2 i e) = row H w i e := by
  unfold k0_pay18 row
  pointwise
theorem p19 (H : FVec Ideal S512x1024 .bf16) (w : Vec Ideal S1024x1024 .bf16) (i : Fin 512) (e : Fin 1024) : (k0_pay19 (F := Ideal) H w) (ix2 i e) = row H w i e := by
  unfold k0_pay19 row
  pointwise
theorem p1 (H : FVec Ideal S512x1024 .bf16) (w : Vec Ideal S1024x1024 .bf16) (i : Fin 512) (e : Fin 1024) : (k0_pay1 (F := Ideal) H w) (ix2 i e) = Ideal.logistic (row H w i e) := by
  unfold k0_pay1 row
  pointwise
theorem p2 (H : FVec Ideal S512x1024 .bf16) (w : Vec Ideal S1024x1024 .bf16) (i : Fin 512) (e : Fin 1024) : (k0_pay2 (F := Ideal) H w) (ix2 i e) = Ideal.logistic (row H w i e) := by
  unfold k0_pay2 row
  pointwise

/-- The groups' reciprocal roots, from a row and the group sums' matrix. -/
def rec (y : Fin 1024 → EReal) (gs : Vec Ideal S1024x128 .bf16) (l : Fin 128) : EReal :=
  Ideal.rsqrt ((∑ d : Fin 1024, y d * y d * gs (ix2 d l) : EReal) * Ideal.ofBits FTy.f32 0x3C800000#32 + Ideal.ofBits FTy.f32 0x358637BD#32)

/-- The row scaled by its groups' reciprocal roots, spread back over the lanes in two parts. -/
def scaled (y : Fin 1024 → EReal) (gs : Vec Ideal S1024x128 .bf16) (sp : Vec Ideal S256x1024 .bf16) (e : Fin 1024) : EReal :=
  y e * ∑ j : Fin 256, (if h : j.val < 128 then rec y gs ⟨j.val, h⟩ else rec y gs ⟨j.val - 128, by omega⟩ - rec y gs ⟨j.val - 128, by omega⟩) * sp (ix2 j e)

theorem p5 (x : Vec Ideal S512x1024 .f32) (g : Vec Ideal S1x1024 .f32) (m1 m0 : Vec Ideal S1x1x1024 .f32) (w : Vec Ideal S1024x1024 .bf16) (gs : Vec Ideal S1024x128 .bf16) (i : Fin 512) (l : Fin 128) :
    (k0_pay5 (F := Ideal) x g m1 m0 w gs) (ix2 i l) = ((∑ d : Fin 1024, row (k0_pay3 (F := Ideal) x g m1 m0) w i d * row (k0_pay3 (F := Ideal) x g m1 m0) w i d * gs (ix2 d l) : EReal) * Ideal.ofBits FTy.f32 0x3C800000#32 : EReal) := by
  simp only [← p4]
  unfold k0_pay5
  generalize k0_pay4 (F := Ideal) x g m1 m0 w = Y
  pointwise

theorem p6 (Y : FVec Ideal S512x1024 .f32) (R : FVec Ideal S512x128 .f32) (sp : Vec Ideal S256x1024 .bf16) (qg : Vec Ideal S1x1024 .f32) (gs : Vec Ideal S1024x128 .bf16) (y : Fin 1024 → EReal) (i : Fin 512) (e : Fin 1024)
    (hY : ∀ e, Y (ix2 i e) = y e) (hR : ∀ l, R (ix2 i l) = ((∑ d : Fin 1024, y d * y d * gs (ix2 d l) : EReal) * Ideal.ofBits FTy.f32 0x3C800000#32 : EReal)) :
    (k0_pay6 (F := Ideal) Y R (Scalar.ofBits .f32 0x358637BD#32) sp qg) (ix2 i e) = (scaled y gs sp e * qg (ix2 0 e) : EReal) := by
  unfold k0_pay6 scaled rec
  simp only [← hY] at hR ⊢
  simp only [← hR]
  pointwise

theorem p7 (H : FVec Ideal S512x1024 .bf16) (w : Vec Ideal S1024x1024 .bf16) (gs : Vec Ideal S1024x128 .bf16) (sp : Vec Ideal S256x1024 .bf16) (i : Fin 512) (e : Fin 1024) :
    (k0_pay7 (F := Ideal) H w gs sp) (ix2 i e) = scaled (row H w i) gs sp e := by
  unfold k0_pay7 scaled rec row
  pointwise
end Cert.Kernel2Ideal.In
-- ==== Proof.InGrp.lean ====
module
public import proofs.«01_k».proof.Proof.InPay
@[expose] public section
noncomputable section
open Idealize.ShloMosaic Idealize.SL.Sem InProj
namespace InProj

theorem bits_64 : Ideal.ofBits FTy.f32 0x42800000#32 = ((64 : ℝ) : EReal) := by
  simp [Ideal.ofBits, Ideal.ieee]
  rw [← EReal.coe_mul]
  norm_num

theorem bits_r64 : Ideal.ofBits FTy.f32 0x3C800000#32 = (((64 : ℝ)⁻¹ : ℝ) : EReal) := by
  simp [Ideal.ofBits, Ideal.ieee]
  rw [← EReal.coe_mul]
  norm_num

theorem bits_eps : ∃ e : ℝ, 0 < e ∧ Ideal.ofBits FTy.f32 0x358637BD#32 = (e : EReal) := by
  simp [Ideal.ofBits, Ideal.ieee]
  refine ⟨_, ?_, (EReal.coe_mul _ _).symm⟩
  positivity

theorem div_64 (x : EReal) : Ideal.div x (Ideal.ofBits FTy.f32 0x42800000#32) = x * Ideal.ofBits FTy.f32 0x3C800000#32 := by
  rw [bits_64, bits_r64]
  unfold Ideal.div
  rw [if_neg (by exact_mod_cast (by norm_num : (64 : ℝ) ≠ 0)), EReal.coe_inv]

theorem sq_nonneg (x : EReal) : 0 ≤ x * x := by
  induction x using EReal.rec with
  | bot => simp
  | top => simp
  | coe r => exact_mod_cast mul_self_nonneg r

/-- The reciprocal root of a mean of squares with the constant is a real. -/
theorem rsqrt_real (x : EReal) (hx : 0 ≤ x) : ∃ r : ℝ, Ideal.rsqrt (x * Ideal.ofBits FTy.f32 0x3C800000#32 + Ideal.ofBits FTy.f32 0x358637BD#32) = (r : EReal) := by
  obtain ⟨e, he, h⟩ := bits_eps
  rw [h, bits_r64]
  induction x using EReal.rec with
  | bot => simp at hx
  | top =>
    refine ⟨0, ?_⟩
    rw [EReal.top_mul_coe_of_pos (by norm_num), EReal.top_add_coe]
    rfl
  | coe r =>
    have hr : 0 ≤ r := by exact_mod_cast hx
    have hp : 0 < r * (64 : ℝ)⁻¹ + e := by positivity
    refine ⟨(Real.sqrt (r * (64 : ℝ)⁻¹ + e))⁻¹, ?_⟩
    rw [← EReal.coe_mul, ← EReal.coe_add]
    show (if r * (64 : ℝ)⁻¹ + e < 0 then (⊥ : EReal) else if r * (64 : ℝ)⁻¹ + e = 0 then ⊤ else _) = _
    rw [if_neg (not_lt.2 hp.le), if_neg hp.ne']

/-- A sum against a group's indicator is the sum over the group. -/
theorem sum_group (f : Fin 1024 → EReal) (a : ℕ) (ha : a < 16) :
    (∑ d : Fin 1024, f d * (if d.val / 64 = a then 1 else 0) : EReal) = ∑ u : Fin 64, f ⟨a * 64 + u.val, by omega⟩ := by
  simp only [mul_ite, mul_one, mul_zero]
  rw [← Finset.sum_filter]
  refine Finset.sum_nbij' (fun d => (⟨d.val % 64, by omega⟩ : Fin 64)) (fun u => (⟨a * 64 + u.val, by omega⟩ : Fin 1024)) ?_ ?_ ?_ ?_ ?_
  · intro d _
    exact Finset.mem_univ _
  · intro u _
    rw [Finset.mem_filter]
    exact ⟨Finset.mem_univ _, by show (a * 64 + u.val) / 64 = a; omega⟩
  · intro d h
    have h2 := (Finset.mem_filter.1 h).2
    exact Fin.ext (by show a * 64 + d.val % 64 = d.val; omega)
  · intro u _
    exact Fin.ext (by show (a * 64 + u.val) % 64 = u.val; omega)
  · intro d h
    have h2 := (Finset.mem_filter.1 h).2
    exact congrArg f (Fin.ext (by show d.val = a * 64 + d.val % 64; omega))

end InProj

namespace Cert.Kernel2Ideal.In
open Cert.Kernel2Ideal Cert.Kernel2Ideal.Gen

theorem rec_real (y : Fin 1024 → EReal) (gs : Vec Ideal S1024x128 .bf16) (hgs : ∀ d l, gs (ix2 d l) = (if d.val / 64 = l.val then 1 else 0 : EReal)) (l : Fin 128) (hl : l.val < 16) :
    ∃ r : ℝ, rec y gs l = (r : EReal) := by
  unfold rec
  simp only [hgs]
  rw [sum_group (fun d => y d * y d) l.val hl]
  exact rsqrt_real _ (Finset.sum_nonneg fun u _ => sq_nonneg _)

/-- The two parts add up to the group's reciprocal root. -/
theorem scaled_eq (y : Fin 1024 → EReal) (gs : Vec Ideal S1024x128 .bf16) (sp : Vec Ideal S256x1024 .bf16) (hgs : ∀ d l, gs (ix2 d l) = (if d.val / 64 = l.val then 1 else 0 : EReal))
    (hsp : ∀ j e, sp (ix2 j e) = (if e.val / 64 = j.val % 128 then 1 else 0 : EReal)) (e : Fin 1024) :
    scaled y gs sp e = y e * Ideal.rsqrt (Ideal.div (∑ u : Fin 64, y ⟨e.val / 64 * 64 + u.val, by omega⟩ * y ⟨e.val / 64 * 64 + u.val, by omega⟩ : EReal) (Ideal.ofBits FTy.f32 0x42800000#32) + Ideal.ofBits FTy.f32 0x358637BD#32) := by
  have hg : rec y gs ⟨e.val / 64, by omega⟩ = Ideal.rsqrt (Ideal.div (∑ u : Fin 64, y ⟨e.val / 64 * 64 + u.val, by omega⟩ * y ⟨e.val / 64 * 64 + u.val, by omega⟩ : EReal) (Ideal.ofBits FTy.f32 0x42800000#32) + Ideal.ofBits FTy.f32 0x358637BD#32) := by
    unfold rec
    simp only [hgs]
    rw [sum_group (fun d => y d * y d) (e.val / 64) (by omega), div_64]
  obtain ⟨r, hr⟩ := rec_real y gs hgs ⟨e.val / 64, by omega⟩ (by show e.val / 64 < 16; omega)
  unfold scaled
  rw [← hg]
  refine congrArg (y e * ·) ?_
  simp only [hsp]
  rw [Finset.sum_eq_add (⟨e.val / 64, by omega⟩ : Fin 256) (⟨128 + e.val / 64, by omega⟩ : Fin 256) (by intro h; have := Fin.mk.inj h; omega) ?_ (fun h => absurd (Finset.mem_univ _) h) (fun h => absurd (Finset.mem_univ _) h)]
  · dsimp only
    have h1 : e.val / 64 < 128 := by omega
    have h2 : ¬128 + e.val / 64 < 128 := by omega
    have e3 : (⟨128 + e.val / 64 - 128, by omega⟩ : Fin 128) = ⟨e.val / 64, by omega⟩ := Fin.ext (by show 128 + e.val / 64 - 128 = e.val / 64; omega)
    rw [dif_pos h1, dif_neg h2, if_pos (by omega), if_pos (by omega), mul_one, mul_one, e3, hr, ← EReal.coe_sub, sub_self, EReal.coe_zero, add_zero]
  · intro j _ hj
    have n1 : j.val ≠ e.val / 64 := fun h => hj.1 (Fin.ext h)
    have n2 : j.val ≠ 128 + e.val / 64 := fun h => hj.2 (Fin.ext h)
    rw [if_neg (by omega), mul_zero]

end Cert.Kernel2Ideal.In
-- ==== Proof.InHost.lean ====
module
public import proofs.«01_k».proof.Proof.Gen.Kernel2Ideal.Value
public import proofs.«01_k».proof.Proof.InSpec
public import Idealize.ShloMosaic.Lib.StableHlo.ReadAt
public import Idealize.ShloMosaic.Lib.Pointwise
@[expose] public section
set_option maxRecDepth 16384
noncomputable section
open Idealize.ShloMosaic Idealize.ShloMosaic.TcCoe Idealize.SL.Sem InProj
namespace Cert.Kernel2Ideal.In
open Cert.Kernel2Ideal Cert.Kernel2Ideal.Gen
variable (m : (ℓ : Loc nD τ sig) → Buf (Elt Ideal) ℓ) (c : Dev nD)

abbrev X : FVec Ideal S32x2048x1024 .f32 := m ((c : Thread nD τ).loc main_arg0)
abbrev M : FVec Ideal S32x6x1024 .f32 := m ((c : Thread nD τ).loc main_arg1)
abbrev G : FVec Ideal S1x1024 .f32 := m ((c : Thread nD τ).loc main_arg2)
abbrev W : FVec Ideal S1x1024x6144 .f32 := m ((c : Thread nD τ).loc main_arg3)
abbrev QG : FVec Ideal S1x64 .f32 := m ((c : Thread nD τ).loc main_arg4)
abbrev KG : FVec Ideal S1x64 .f32 := m ((c : Thread nD τ).loc main_arg5)

theorem v12_at (r : Fin 65536) (e : Fin 1024) : (V m c main_v12 : FVec Ideal S65536x1024 .f32) (ix2 r e) = X m c (ix3 ⟨r.val / 2048, by omega⟩ ⟨r.val % 2048, by omega⟩ e) := by
  unfold V
  after_reads_at
theorem varg1_at (b : Fin 32) (j : Fin 6) (e : Fin 1024) : (V m c main_arg1 : FVec Ideal S32x6x1024 .f32) (ix3 b j e) = M m c (ix3 b j e) := by
  unfold V
  after_reads_at
theorem v14_at (e : Fin 1024) : (V m c main_v14 : FVec Ideal S1x1024 .f32) (ix2 0 e) = G m c (ix2 0 e) := by
  unfold V
  after_reads_at
theorem v16_at (d : Fin 1024) (n : Fin 6144) : (V m c main_v16 : FVec Ideal S1024x6144 .bf16) (ix2 d n) = W m c (ix3 0 d n) := by
  unfold V
  after_reads_at
theorem v6_at (e : Fin 1024) : (V m c main_v6 : FVec Ideal S1x1024 .f32) (ix2 0 e) = (QG m c (ix2 0 ⟨e.val % 64, by omega⟩) * Ideal.ofBits FTy.f32 0x3E000000#32 : EReal) := by
  unfold V
  after_reads_at
theorem v11_at (e : Fin 1024) : (V m c main_v11 : FVec Ideal S1x1024 .f32) (ix2 0 e) = KG m c (ix2 0 ⟨e.val % 64, by omega⟩) := by
  unfold V
  after_reads_at

/-- A lane number's quotient by 64, rounded down, in words. -/
def fdw (w : BitVec 32) : BitVec 32 :=
  Scalar.select
    (IntOp.andi
      (IntOp.cmpi CmpIPredicate.ne (if w = 0 then 0 else if w.msb = true then -1 else 1 : BitVec 32)
        (if (64#32 : BitVec 32) = 0 then 0 else if BitVec.msb (64#32 : BitVec 32) = true then -1 else 1 : BitVec 32))
      (IntOp.cmpi CmpIPredicate.ne (IntOp.remsi ArithUnit.host w 64#32) 0#32))
    (IntOp.subi (IntOp.divsi ArithUnit.host w 64#32) 1#32) (IntOp.divsi ArithUnit.host w 64#32)

theorem fdw_eq : ∀ d : Fin 1024, fdw (BitVec.ofNat 32 d.val) = BitVec.ofNat 32 (d.val / 64) := by decide +kernel

theorem one_hot (a b : ℕ) (ha : a < 128) (hb : b < 128) :
    (FloatOps.uitofp (F := Ideal) FTy.bf16 (IntOp.cmpi CmpIPredicate.eq (BitVec.ofNat 32 a) (BitVec.ofNat 32 b)) : EReal) = (if a = b then 1 else 0 : EReal) := by
  by_cases h : a = b
  · subst h
    rw [if_pos rfl, show IntOp.cmpi CmpIPredicate.eq (BitVec.ofNat 32 a) (BitVec.ofNat 32 a) = 1#1 by simp [IntOp.cmpi]]
    simp [FloatOps.uitofp]
  · have n : BitVec.ofNat 32 a ≠ BitVec.ofNat 32 b := by
      intro e
      have e2 := congrArg BitVec.toNat e
      simp only [BitVec.toNat_ofNat] at e2
      omega
    rw [if_neg h, show IntOp.cmpi CmpIPredicate.eq (BitVec.ofNat 32 a) (BitVec.ofNat 32 b) = 0#1 by unfold IntOp.cmpi; dsimp only; rw [beq_eq_false_iff_ne.2 n]; rfl]
    simp [FloatOps.uitofp]

theorem v25_at (d : Fin 1024) (l : Fin 128) : (V m c main_v25 : FVec Ideal S1024x128 .bf16) (ix2 d l) = (if d.val / 64 = l.val then 1 else 0 : EReal) := by
  unfold V
  after_reads_at
  change FloatOps.uitofp (F := Ideal) FTy.bf16 (IntOp.cmpi CmpIPredicate.eq (fdw (BitVec.ofNat 32 d.val)) (BitVec.ofNat 32 l.val)) = _
  rw [fdw_eq]
  exact one_hot _ _ (by omega) (by omega)

theorem v28_at (j : Fin 256) (e : Fin 1024) : (V m c main_v28 : FVec Ideal S256x1024 .bf16) (ix2 j e) = (if e.val / 64 = j.val % 128 then 1 else 0 : EReal) := by
  unfold V
  after_reads_at
  by_cases h : j.val < 128
  · rw [dif_pos h]
    change FloatOps.uitofp (F := Ideal) FTy.bf16 (IntOp.cmpi CmpIPredicate.eq (fdw (BitVec.ofNat 32 e.val)) (BitVec.ofNat 32 j.val)) = _
    rw [fdw_eq, Nat.mod_eq_of_lt h]
    exact one_hot _ _ (by omega) h
  · rw [dif_neg h]
    change FloatOps.uitofp (F := Ideal) FTy.bf16 (IntOp.cmpi CmpIPredicate.eq (fdw (BitVec.ofNat 32 e.val)) (BitVec.ofNat 32 (j.val - 128))) = _
    rw [fdw_eq, show j.val % 128 = j.val - 128 by omega]
    exact one_hot _ _ (by omega) (by omega)
end Cert.Kernel2Ideal.In
-- ==== Proof.InBlk.lean ====
module
public import proofs.«01_k».proof.Proof.InGrp
public import proofs.«01_k».proof.Proof.InHost
public import Idealize.ShloMosaic.Lib.Pipeline.ValueKit.Held
public import Idealize.ShloMosaic.Lib.Pipeline.ValueKit.Tiles
@[expose] public section
set_option maxRecDepth 16384
noncomputable section
open Idealize.ShloMosaic Idealize.ShloMosaic.TcCoe Idealize.SL.Sem InProj
namespace Cert.Kernel2Ideal.In
open Cert.Kernel2Ideal Cert.Kernel2Ideal.Gen

theorem ld_x (x : Vec Ideal S512x1024 .f32) (i : Fin 512) (e : Fin 1024) : (View.ld x r0_0 : Vec Ideal S512x1024 .f32) (ix2 i e) = x (ix2 i e) := by
  refine View.ld_unit_apply_of x _ _ _ _ _ ?_
  show ∀ a : Fin 2, _
  exact Fin.forall_fin_two.2 ⟨(Nat.zero_add _).symm, (Nat.zero_add _).symm⟩
theorem ld_g (x : Vec Ideal S1x1024 .f32) (e : Fin 1024) : (View.ld x r0_1 : Vec Ideal S1x1024 .f32) (ix2 0 e) = x (ix2 0 e) := by
  refine View.ld_unit_apply_of x _ _ _ _ _ ?_
  show ∀ a : Fin 2, _
  exact Fin.forall_fin_two.2 ⟨rfl, (Nat.zero_add _).symm⟩
theorem ld_m1 (x : Vec Ideal S1x6x1024 .f32) (e : Fin 1024) : (View.ld x r0_2 : Vec Ideal S1x1x1024 .f32) (ix3 0 0 e) = x (ix3 0 1 e) := by
  refine View.ld_unit_apply_of x _ _ _ _ _ ?_
  show ∀ a : Fin 3, _
  exact Fin.forall_fin_succ.2 ⟨rfl, Fin.forall_fin_two.2 ⟨rfl, (Nat.zero_add _).symm⟩⟩
theorem ld_m0 (x : Vec Ideal S1x6x1024 .f32) (e : Fin 1024) : (View.ld x r0_3 : Vec Ideal S1x1x1024 .f32) (ix3 0 0 e) = x (ix3 0 0 e) := by
  refine View.ld_unit_apply_of x _ _ _ _ _ ?_
  show ∀ a : Fin 3, _
  exact Fin.forall_fin_succ.2 ⟨rfl, Fin.forall_fin_two.2 ⟨rfl, (Nat.zero_add _).symm⟩⟩
theorem ld_w (x : Vec Ideal S1024x6144 .bf16) (o : ℕ) (ho : o + 1024 ≤ 6144) (h) (k e : Fin 1024) :
    (View.ld x (Rect.unit (s := S1024x6144) ![0, o] S1024x1024.size h) : Vec Ideal S1024x1024 .bf16) (ix2 k e) = x (ix2 k ⟨o + e.val, by omega⟩) := by
  refine View.ld_unit_apply_of x _ _ _ _ _ ?_
  show ∀ a : Fin 2, _
  exact Fin.forall_fin_two.2 ⟨(Nat.zero_add _).symm, rfl⟩
theorem ld_gs (x : Vec Ideal S1024x128 .bf16) (k : Fin 1024) (e : Fin 128) : (View.ld x r0_5 : Vec Ideal S1024x128 .bf16) (ix2 k e) = x (ix2 k e) := by
  refine View.ld_unit_apply_of x _ _ _ _ _ ?_
  show ∀ a : Fin 2, _
  exact Fin.forall_fin_two.2 ⟨(Nat.zero_add _).symm, (Nat.zero_add _).symm⟩
theorem ld_sp (x : Vec Ideal S256x1024 .bf16) (k : Fin 256) (e : Fin 1024) : (View.ld x r0_6 : Vec Ideal S256x1024 .bf16) (ix2 k e) = x (ix2 k e) := by
  refine View.ld_unit_apply_of x _ _ _ _ _ ?_
  show ∀ a : Fin 2, _
  exact Fin.forall_fin_two.2 ⟨(Nat.zero_add _).symm, (Nat.zero_add _).symm⟩
end Cert.Kernel2Ideal.In
-- ==== Proof.InPt.lean ====
module
public import proofs.«01_k».proof.Proof.InBlk
public import Idealize.ShloMosaic.Lib.Pipeline.Covers
@[expose] public section
set_option maxRecDepth 16384
noncomputable section
open Idealize.ShloMosaic Idealize.ShloMosaic.TcCoe Idealize.SL.Sem InProj
namespace Cert.Kernel2Ideal.In
open Cert.Kernel2Ideal Cert.Kernel2Ideal.Gen
variable (m : (ℓ : Loc nD τ sig) → Buf (Elt Ideal) ℓ) (c : Dev nD)

theorem idx : ∀ t : Fin cfg0.N,
    win0_0.index t = ![t.val, 0] ∧ win0_1.index t = ![t.val / 4, 0, 0] ∧ win0_2.index t = ![0, 0] ∧ win0_3.index t = ![0, 0]
      ∧ win0_4.index t = ![0, 0] ∧ win0_5.index t = ![0, 0] ∧ win0_6.index t = ![0, 0] ∧ win0_7.index t = ![0, 0]
      ∧ win0_8.index t = ![t.val, 0] ∧ win0_9.index t = ![t.val / 4, 0, t.val % 4, 0, 0] ∧ win0_10.index t = ![t.val, 0]
      ∧ win0_11.index t = ![t.val, 0] ∧ win0_12.index t = ![t.val, 0] ∧ win0_13.index t = ![t.val, 0] := by decide +kernel

theorem pt_lt (t : Fin cfg0.N) : t.val < 128 := t.isLt

/-- The batch of a point, and the position of a row of its block. -/
abbrev pb (t : Fin cfg0.N) : Fin 32 := ⟨t.val / 4, by have := pt_lt t; omega⟩
abbrev ps (t : Fin cfg0.N) (i : Fin 512) : Fin 2048 := ⟨t.val % 4 * 512 + i.val, by omega⟩

theorem b0 (t : Fin cfg0.N) (i : Fin 512) (e : Fin 1024) : (iblk m c 0 t : Vec Ideal S512x1024 .f32) (ix2 i e)
    = (V m c main_v12 : FVec Ideal S65536x1024 .f32) (ix2 ⟨t.val * 512 + i.val, by have := pt_lt t; omega⟩ e) := by
  blk_ext [iblk, idx t]
theorem b1 (t : Fin cfg0.N) (j : Fin 6) (e : Fin 1024) : (iblk m c 1 t : Vec Ideal S1x6x1024 .f32) (ix3 0 j e)
    = (V m c main_arg1 : FVec Ideal S32x6x1024 .f32) (ix3 (pb t) j e) := by
  blk_ext [iblk, idx t]
theorem b2 (t : Fin cfg0.N) (e : Fin 1024) : (iblk m c 2 t : Vec Ideal S1x1024 .f32) (ix2 0 e) = (V m c main_v14 : FVec Ideal S1x1024 .f32) (ix2 0 e) := by
  blk_ext [iblk, idx t]
theorem b3 (t : Fin cfg0.N) (d : Fin 1024) (n : Fin 6144) : (iblk m c 3 t : Vec Ideal S1024x6144 .bf16) (ix2 d n) = (V m c main_v16 : FVec Ideal S1024x6144 .bf16) (ix2 d n) := by
  blk_ext [iblk, idx t]
theorem b4 (t : Fin cfg0.N) (d : Fin 1024) (l : Fin 128) : (iblk m c 4 t : Vec Ideal S1024x128 .bf16) (ix2 d l) = (V m c main_v25 : FVec Ideal S1024x128 .bf16) (ix2 d l) := by
  blk_ext [iblk, idx t]
theorem b5 (t : Fin cfg0.N) (j : Fin 256) (e : Fin 1024) : (iblk m c 5 t : Vec Ideal S256x1024 .bf16) (ix2 j e) = (V m c main_v28 : FVec Ideal S256x1024 .bf16) (ix2 j e) := by
  blk_ext [iblk, idx t]
theorem b6 (t : Fin cfg0.N) (e : Fin 1024) : (iblk m c 6 t : Vec Ideal S1x1024 .f32) (ix2 0 e) = (V m c main_v6 : FVec Ideal S1x1024 .f32) (ix2 0 e) := by
  blk_ext [iblk, idx t]
theorem b7 (t : Fin cfg0.N) (e : Fin 1024) : (iblk m c 7 t : Vec Ideal S1x1024 .f32) (ix2 0 e) = (V m c main_v11 : FVec Ideal S1x1024 .f32) (ix2 0 e) := by
  blk_ext [iblk, idx t]

theorem c0 (t : Fin cfg0.N) (i : Fin 512) (e : Fin 1024) : (iblk m c 0 t : Vec Ideal S512x1024 .f32) (ix2 i e) = X m c (ix3 (pb t) (ps t i) e) := by
  have ht := pt_lt t
  have e1 : (⟨(t.val * 512 + i.val) / 2048, by omega⟩ : Fin 32) = pb t := Fin.ext (by show (t.val * 512 + i.val) / 2048 = t.val / 4; omega)
  have e2 : (⟨(t.val * 512 + i.val) % 2048, by omega⟩ : Fin 2048) = ps t i := Fin.ext (by show (t.val * 512 + i.val) % 2048 = t.val % 4 * 512 + i.val; omega)
  rw [b0, v12_at]
  simp only [e1, e2]
theorem c1 (t : Fin cfg0.N) (j : Fin 6) (e : Fin 1024) : (iblk m c 1 t : Vec Ideal S1x6x1024 .f32) (ix3 0 j e) = M m c (ix3 (pb t) j e) := (b1 m c t j e).trans (varg1_at m c _ _ _)
theorem c2 (t : Fin cfg0.N) (e : Fin 1024) : (iblk m c 2 t : Vec Ideal S1x1024 .f32) (ix2 0 e) = G m c (ix2 0 e) := (b2 m c t e).trans (v14_at m c e)
theorem c3 (t : Fin cfg0.N) (d : Fin 1024) (n : Fin 6144) : (iblk m c 3 t : Vec Ideal S1024x6144 .bf16) (ix2 d n) = W m c (ix3 0 d n) := (b3 m c t d n).trans (v16_at m c d n)

/-- The block's modulated rows. -/
abbrev hb (t : Fin cfg0.N) : FVec Ideal S512x1024 .bf16 := k0_pay20 (F := Ideal) (iblk m c 0 t) (iblk m c 1 t) (iblk m c 2 t) (iblk m c 3 t) (iblk m c 4 t) (iblk m c 5 t) (iblk m c 6 t) (iblk m c 7 t)

theorem p3_of (x : Vec Ideal S512x1024 .f32) (g : Vec Ideal S1x1024 .f32) (m1 m0 : Vec Ideal S1x1x1024 .f32) (i : Fin 512) (d : Fin 1024)
    (xr : Fin 1024 → EReal) (gr r1 r0 : EReal) (hx : ∀ d, x (ix2 i d) = xr d) (hg : g (ix2 0 d) = gr) (h1 : m1 (ix3 0 0 d) = r1) (h0 : m0 (ix3 0 0 d) = r0) :
    (k0_pay3 (F := Ideal) x g m1 m0) (ix2 i d)
      = (xr d * Ideal.rsqrt (Ideal.div (∑ d : Fin 1024, xr d * xr d : EReal) (Ideal.ofBits FTy.f32 0x44800000#32) + Ideal.ofBits FTy.f32 0x358637BD#32) * gr
        * (Ideal.ofBits FTy.f32 0x3F800000#32 + r1) + r0 : EReal) := by
  rw [p3, hg, h1, h0]
  simp only [hx]

theorem hb_at (t : Fin cfg0.N) (i : Fin 512) (d : Fin 1024) : hb m c t (ix2 i d) = hrow (X m c) (M m c) (G m c) (pb t) (ps t i) d := by
  unfold hb k0_pay20
  exact p3_of _ _ _ _ i d _ _ _ _ (fun d => (ld_x _ i d).trans (c0 m c t i d)) ((ld_g _ d).trans (c2 m c t d)) ((ld_m1 _ d).trans (c1 m c t 1 d)) ((ld_m0 _ d).trans (c1 m c t 0 d))

theorem row_at (t : Fin cfg0.N) (o : ℕ) (ho : o + 1024 ≤ 6144) (h) (i : Fin 512) (e : Fin 1024) :
    row (hb m c t) (View.ld (iblk m c 3 t : Vec Ideal S1024x6144 .bf16) (Rect.unit (s := S1024x6144) ![0, o] S1024x1024.size h)) i e
      = prj (X m c) (M m c) (G m c) (W m c) (pb t) (ps t i) ⟨o + e.val, by omega⟩ := by
  unfold row prj
  refine @Finset.sum_congr _ EReal _ _ _ _ _ rfl fun k _ => ?_
  rw [hb_at, ld_w _ _ ho, c3]

theorem gs_at (t : Fin cfg0.N) (d : Fin 1024) (l : Fin 128) : (View.ld (iblk m c 4 t : Vec Ideal S1024x128 .bf16) r0_5 : Vec Ideal S1024x128 .bf16) (ix2 d l) = (if d.val / 64 = l.val then 1 else 0 : EReal) := by
  rw [ld_gs, b4, v25_at]
theorem sp_at (t : Fin cfg0.N) (j : Fin 256) (e : Fin 1024) : (View.ld (iblk m c 5 t : Vec Ideal S256x1024 .bf16) r0_6 : Vec Ideal S256x1024 .bf16) (ix2 j e) = (if e.val / 64 = j.val % 128 then 1 else 0 : EReal) := by
  rw [ld_sp, b5, v28_at]

theorem o8 (t : Fin cfg0.N) (i : Fin 512) (e : Fin 1024) : ((dats m 0 c).after 8 t : Vec Ideal S512x1024 .bf16) (ix2 i e)
    = (grp (fun e => prj (X m c) (M m c) (G m c) (W m c) (pb t) (ps t i) ⟨e.val, by omega⟩) (QG m c) e * Ideal.ofBits FTy.f32 0x3E000000#32 : EReal) := by
  rw [after0_8]
  unfold out0_8
  rw [View.canon_cons_unit_lit _ _ _ (by decide)]
  have hr : ∀ e : Fin 1024, row (hb m c t) (View.ld (iblk m c 3 t : Vec Ideal S1024x6144 .bf16) r0_4) i e = prj (X m c) (M m c) (G m c) (W m c) (pb t) (ps t i) ⟨e.val, by omega⟩ :=
    fun e => (row_at m c t 0 (by omega) inb_S1024x6144_S1024x1024_0_0 i e).trans (congrArg (prj (X m c) (M m c) (G m c) (W m c) (pb t) (ps t i)) (Fin.ext (Nat.zero_add _)))
  refine (p6 _ _ _ _ (View.ld (iblk m c 4 t : Vec Ideal S1024x128 .bf16) r0_5) (row (hb m c t) (View.ld (iblk m c 3 t : Vec Ideal S1024x6144 .bf16) r0_4) i) i e (fun e => p4 _ _ _ _ _ i e) (fun l => p5 _ _ _ _ _ _ i l)).trans ?_
  refine (congrArg₂ (fun a b : EReal => a * b) (scaled_eq _ _ _ (gs_at m c t) (sp_at m c t) e) ((ld_g _ e).trans ((b6 m c t e).trans (v6_at m c e)))).trans ?_
  unfold grp
  simp only [hr]
  rw [← mul_assoc]

theorem o9 (t : Fin cfg0.N) (h : Fin 8) (x : Fin 128) (k : Fin 512) : ((dats m 0 c).after 9 t : Vec Ideal S1x8x1x128x512 .bf16) (ix5 0 h 0 x k)
    = (grp (fun e => prj (X m c) (M m c) (G m c) (W m c) (pb t) (ps t k) ⟨1024 + e.val, by omega⟩) (KG m c) ⟨h.val * 128 + x.val, by omega⟩ : EReal) := by
  have hr := row_at m c t 1024 (by omega) inb_S1024x6144_S1024x1024_0_1024 k
  rw [after0_9]
  refine (Value.canon9_eq _ _ _ _ _ _ _ _ _).trans ?_
  show ((k0_pay7 (F := Ideal) (hb m c t) (View.ld (iblk m c 3 t) r0_7) (View.ld (iblk m c 4 t) r0_5) (View.ld (iblk m c 5 t) r0_6)) (Value.ix9_0 (ix5 0 h 0 x k)) * (View.ld (iblk m c 7 t) r0_1 : Vec Ideal S1x1024 .f32) (Value.ix9_1 (ix5 0 h 0 x k)) : EReal) = _
  have e0 : Value.ix9_0 (ix5 0 h 0 x k) = ix2 k ⟨h.val * 128 + x.val, by omega⟩ := by
    funext a
    revert a
    exact Fin.forall_fin_two.2 ⟨rfl, rfl⟩
  have e1 : Value.ix9_1 (ix5 0 h 0 x k) = ix2 0 ⟨h.val * 128 + x.val, by omega⟩ := by
    funext a
    revert a
    exact Fin.forall_fin_two.2 ⟨rfl, rfl⟩
  rw [e0, e1, p7, scaled_eq _ _ _ (gs_at m c t) (sp_at m c t), ld_g, b7, v11_at]
  unfold grp
  simp only [hr]

theorem o10 (t : Fin cfg0.N) (i : Fin 512) (e : Fin 1024) : ((dats m 0 c).after 10 t : Vec Ideal S512x1024 .bf16) (ix2 i e) = prj (X m c) (M m c) (G m c) (W m c) (pb t) (ps t i) ⟨2048 + e.val, by omega⟩ := by
  rw [after0_10]
  unfold out0_10
  rw [View.canon_cons_unit_lit _ _ _ (by decide), p18]
  exact row_at m c t 2048 (by omega) _ i e
theorem o11 (t : Fin cfg0.N) (i : Fin 512) (e : Fin 1024) : ((dats m 0 c).after 11 t : Vec Ideal S512x1024 .f32) (ix2 i e) = prj (X m c) (M m c) (G m c) (W m c) (pb t) (ps t i) ⟨3072 + e.val, by omega⟩ := by
  rw [after0_11]
  unfold out0_11
  rw [View.canon_cons_unit_lit _ _ _ (by decide), p19]
  exact row_at m c t 3072 (by omega) _ i e
theorem o12 (t : Fin cfg0.N) (i : Fin 512) (e : Fin 1024) : ((dats m 0 c).after 12 t : Vec Ideal S512x1024 .bf16) (ix2 i e) = Ideal.logistic (prj (X m c) (M m c) (G m c) (W m c) (pb t) (ps t i) ⟨4096 + e.val, by omega⟩) := by
  rw [after0_12]
  unfold out0_12
  rw [View.canon_cons_unit_lit _ _ _ (by decide), p1]
  exact congrArg Ideal.logistic (row_at m c t 4096 (by omega) _ i e)
theorem o13 (t : Fin cfg0.N) (i : Fin 512) (e : Fin 1024) : ((dats m 0 c).after 13 t : Vec Ideal S512x1024 .bf16) (ix2 i e) = Ideal.logistic (prj (X m c) (M m c) (G m c) (W m c) (pb t) (ps t i) ⟨5120 + e.val, by omega⟩) := by
  rw [after0_13]
  unfold out0_13
  rw [View.canon_cons_unit_lit _ _ _ (by decide), p2]
  exact congrArg Ideal.logistic (row_at m c t 5120 (by omega) _ i e)
end Cert.Kernel2Ideal.In
-- ==== Proof.InArr.lean ====
module
public import proofs.«01_k».proof.Proof.InPt
@[expose] public section
set_option maxRecDepth 16384
noncomputable section
open Idealize.ShloMosaic Idealize.ShloMosaic.TcCoe Idealize.SL.Sem InProj
namespace Cert.Kernel2Ideal.In
open Cert.Kernel2Ideal Cert.Kernel2Ideal.Gen
variable (m : (ℓ : Loc nD τ sig) → Buf (Elt Ideal) ℓ) (c : Dev nD)

/-- The projection at a row and a column. -/
def col (r : Fin 65536) (n : Fin 6144) : EReal := prj (X m c) (M m c) (G m c) (W m c) ⟨r.val / 2048, by omega⟩ ⟨r.val % 2048, by omega⟩ n

theorem col_pt (t : Fin cfg0.N) (i : Fin 512) (n : Fin 6144) : prj (X m c) (M m c) (G m c) (W m c) (pb t) (ps t i) n = col m c ⟨t.val * 512 + i.val, by have := pt_lt t; omega⟩ n := by
  have ht := pt_lt t
  have e1 : (⟨(t.val * 512 + i.val) / 2048, by omega⟩ : Fin 32) = pb t := Fin.ext (by show (t.val * 512 + i.val) / 2048 = t.val / 4; omega)
  have e2 : (⟨(t.val * 512 + i.val) % 2048, by omega⟩ : Fin 2048) = ps t i := Fin.ext (by show (t.val * 512 + i.val) % 2048 = t.val % 4 * 512 + i.val; omega)
  unfold col
  simp only [e1, e2]

theorem ix_eta (y : S512x1024.Idx) : y = ix2 (show Fin 512 from y 0) (show Fin 1024 from y 1) := by
  funext a
  revert a
  exact Fin.forall_fin_two.2 ⟨rfl, rfl⟩

/-- The results' elements, from the arguments. -/
def val8 (r : Fin 65536) (e : Fin 1024) : EReal := grp (fun e => col m c r ⟨e.val, by omega⟩) (QG m c) e * Ideal.ofBits FTy.f32 0x3E000000#32
def val10 (r : Fin 65536) (e : Fin 1024) : EReal := col m c r ⟨2048 + e.val, by omega⟩
def val11 (r : Fin 65536) (e : Fin 1024) : EReal := col m c r ⟨3072 + e.val, by omega⟩
def val12 (r : Fin 65536) (e : Fin 1024) : EReal := Ideal.logistic (col m c r ⟨4096 + e.val, by omega⟩)
def val13 (r : Fin 65536) (e : Fin 1024) : EReal := Ideal.logistic (col m c r ⟨5120 + e.val, by omega⟩)
def val9 (b : Fin 32) (h : Fin 8) (j : Fin 4) (x : Fin 128) (k : Fin 512) : EReal :=
  grp (fun e => prj (X m c) (M m c) (G m c) (W m c) b ⟨j.val * 512 + k.val, by omega⟩ ⟨1024 + e.val, by omega⟩) (KG m c) ⟨h.val * 128 + x.val, by omega⟩

/-- The result arrays. -/
def fin8 : FVec Ideal S65536x1024 .bf16 := fun j => val8 m c (j 0) (j 1)
def fin10 : FVec Ideal S65536x1024 .bf16 := fun j => val10 m c (j 0) (j 1)
def fin11 : FVec Ideal S65536x1024 .f32 := fun j => val11 m c (j 0) (j 1)
def fin12 : FVec Ideal S65536x1024 .bf16 := fun j => val12 m c (j 0) (j 1)
def fin13 : FVec Ideal S65536x1024 .bf16 := fun j => val13 m c (j 0) (j 1)
def fin9 : FVec Ideal S32x8x4x128x512 .bf16 := fun j => val9 m c (j 0) (j 1) (j 2) (j 3) (j 4)

theorem covers8 : (cfg0.win 8).Covers :=
  (cfg0.win 8).covers_of_index_surj rfl (by decide) fun β => by
    have h0 : (β (0 : Fin 2)).val < 128 := lt_of_lt_of_eq (β (0 : Fin 2)).isLt (by decide : (cfg0.win 8).nblk (0 : Fin 2) = 128)
    have h1 : (β (1 : Fin 2)).val < 1 := lt_of_lt_of_eq (β (1 : Fin 2)).isLt (by decide : (cfg0.win 8).nblk (1 : Fin 2) = 1)
    refine ⟨⟨(β (0 : Fin 2)).val, h0⟩, ?_⟩
    show ∀ a : Fin 2, win0_8.index _ a = (β a).val
    rw [(idx ⟨(β (0 : Fin 2)).val, h0⟩).2.2.2.2.2.2.2.2.1]
    exact Fin.forall_fin_two.2 ⟨rfl, (Nat.lt_one_iff.1 h1).symm⟩

theorem pt8 (t : Fin cfg0.N) (y : S512x1024.Idx) : ((dats m 0 c).after 8 t : Vec Ideal S512x1024 .bf16) y
    = val8 m c ⟨t.val * 512 + (y 0).val, by have := pt_lt t; have : (y 0).val < 512 := (y 0).isLt; omega⟩ ⟨(y 1).val, (y 1).isLt⟩ := by
  conv_lhs => rw [ix_eta y]
  refine (o8 m c t (show Fin 512 from y 0) (show Fin 1024 from y 1)).trans ?_
  exact congrArg (fun f => grp f (QG m c) (show Fin 1024 from y 1) * Ideal.ofBits FTy.f32 0x3E000000#32) (funext fun e => col_pt m c t (show Fin 512 from y 0) ⟨e.val, by omega⟩)

theorem arr8 : (dats m 0 c).arrAt 8 cfg0.N = fin8 m c := by
  refine (dats m 0 c).arrAt_eq_of_covers 8 _ covers8 fun t hf y => ?_
  blk_simp
  refine (pt8 m c t y).trans (congrArg₂ (val8 m c) (Fin.ext ?_) (Fin.ext ?_))
  · blk_simp [idx t]
  · blk_simp [idx t]

theorem covers10 : (cfg0.win 10).Covers :=
  (cfg0.win 10).covers_of_index_surj rfl (by decide) fun β => by
    have h0 : (β (0 : Fin 2)).val < 128 := lt_of_lt_of_eq (β (0 : Fin 2)).isLt (by decide : (cfg0.win 10).nblk (0 : Fin 2) = 128)
    have h1 : (β (1 : Fin 2)).val < 1 := lt_of_lt_of_eq (β (1 : Fin 2)).isLt (by decide : (cfg0.win 10).nblk (1 : Fin 2) = 1)
    refine ⟨⟨(β (0 : Fin 2)).val, h0⟩, ?_⟩
    show ∀ a : Fin 2, win0_10.index _ a = (β a).val
    rw [(idx ⟨(β (0 : Fin 2)).val, h0⟩).2.2.2.2.2.2.2.2.2.2.1]
    exact Fin.forall_fin_two.2 ⟨rfl, (Nat.lt_one_iff.1 h1).symm⟩

theorem pt10 (t : Fin cfg0.N) (y : S512x1024.Idx) : ((dats m 0 c).after 10 t : Vec Ideal S512x1024 .bf16) y
    = val10 m c ⟨t.val * 512 + (y 0).val, by have := pt_lt t; have : (y 0).val < 512 := (y 0).isLt; omega⟩ ⟨(y 1).val, (y 1).isLt⟩ := by
  conv_lhs => rw [ix_eta y]
  refine (o10 m c t (show Fin 512 from y 0) (show Fin 1024 from y 1)).trans ?_
  exact col_pt m c t (show Fin 512 from y 0) ⟨2048 + (show Fin 1024 from y 1).val, by omega⟩

theorem arr10 : (dats m 0 c).arrAt 10 cfg0.N = fin10 m c := by
  refine (dats m 0 c).arrAt_eq_of_covers 10 _ covers10 fun t hf y => ?_
  blk_simp
  refine (pt10 m c t y).trans (congrArg₂ (val10 m c) (Fin.ext ?_) (Fin.ext ?_))
  · blk_simp [idx t]
  · blk_simp [idx t]

theorem covers11 : (cfg0.win 11).Covers :=
  (cfg0.win 11).covers_of_index_surj rfl (by decide) fun β => by
    have h0 : (β (0 : Fin 2)).val < 128 := lt_of_lt_of_eq (β (0 : Fin 2)).isLt (by decide : (cfg0.win 11).nblk (0 : Fin 2) = 128)
    have h1 : (β (1 : Fin 2)).val < 1 := lt_of_lt_of_eq (β (1 : Fin 2)).isLt (by decide : (cfg0.win 11).nblk (1 : Fin 2) = 1)
    refine ⟨⟨(β (0 : Fin 2)).val, h0⟩, ?_⟩
    show ∀ a : Fin 2, win0_11.index _ a = (β a).val
    rw [(idx ⟨(β (0 : Fin 2)).val, h0⟩).2.2.2.2.2.2.2.2.2.2.2.1]
    exact Fin.forall_fin_two.2 ⟨rfl, (Nat.lt_one_iff.1 h1).symm⟩

theorem pt11 (t : Fin cfg0.N) (y : S512x1024.Idx) : ((dats m 0 c).after 11 t : Vec Ideal S512x1024 .f32) y
    = val11 m c ⟨t.val * 512 + (y 0).val, by have := pt_lt t; have : (y 0).val < 512 := (y 0).isLt; omega⟩ ⟨(y 1).val, (y 1).isLt⟩ := by
  conv_lhs => rw [ix_eta y]
  refine (o11 m c t (show Fin 512 from y 0) (show Fin 1024 from y 1)).trans ?_
  exact col_pt m c t (show Fin 512 from y 0) ⟨3072 + (show Fin 1024 from y 1).val, by omega⟩

theorem arr11 : (dats m 0 c).arrAt 11 cfg0.N = fin11 m c := by
  refine (dats m 0 c).arrAt_eq_of_covers 11 _ covers11 fun t hf y => ?_
  blk_simp
  refine (pt11 m c t y).trans (congrArg₂ (val11 m c) (Fin.ext ?_) (Fin.ext ?_))
  · blk_simp [idx t]
  · blk_simp [idx t]

theorem covers12 : (cfg0.win 12).Covers :=
  (cfg0.win 12).covers_of_index_surj rfl (by decide) fun β => by
    have h0 : (β (0 : Fin 2)).val < 128 := lt_of_lt_of_eq (β (0 : Fin 2)).isLt (by decide : (cfg0.win 12).nblk (0 : Fin 2) = 128)
    have h1 : (β (1 : Fin 2)).val < 1 := lt_of_lt_of_eq (β (1 : Fin 2)).isLt (by decide : (cfg0.win 12).nblk (1 : Fin 2) = 1)
    refine ⟨⟨(β (0 : Fin 2)).val, h0⟩, ?_⟩
    show ∀ a : Fin 2, win0_12.index _ a = (β a).val
    rw [(idx ⟨(β (0 : Fin 2)).val, h0⟩).2.2.2.2.2.2.2.2.2.2.2.2.1]
    exact Fin.forall_fin_two.2 ⟨rfl, (Nat.lt_one_iff.1 h1).symm⟩

theorem pt12 (t : Fin cfg0.N) (y : S512x1024.Idx) : ((dats m 0 c).after 12 t : Vec Ideal S512x1024 .bf16) y
    = val12 m c ⟨t.val * 512 + (y 0).val, by have := pt_lt t; have : (y 0).val < 512 := (y 0).isLt; omega⟩ ⟨(y 1).val, (y 1).isLt⟩ := by
  conv_lhs => rw [ix_eta y]
  refine (o12 m c t (show Fin 512 from y 0) (show Fin 1024 from y 1)).trans ?_
  exact congrArg Ideal.logistic (col_pt m c t (show Fin 512 from y 0) ⟨4096 + (show Fin 1024 from y 1).val, by omega⟩)

theorem arr12 : (dats m 0 c).arrAt 12 cfg0.N = fin12 m c := by
  refine (dats m 0 c).arrAt_eq_of_covers 12 _ covers12 fun t hf y => ?_
  blk_simp
  refine (pt12 m c t y).trans (congrArg₂ (val12 m c) (Fin.ext ?_) (Fin.ext ?_))
  · blk_simp [idx t]
  · blk_simp [idx t]

theorem covers13 : (cfg0.win 13).Covers :=
  (cfg0.win 13).covers_of_index_surj rfl (by decide) fun β => by
    have h0 : (β (0 : Fin 2)).val < 128 := lt_of_lt_of_eq (β (0 : Fin 2)).isLt (by decide : (cfg0.win 13).nblk (0 : Fin 2) = 128)
    have h1 : (β (1 : Fin 2)).val < 1 := lt_of_lt_of_eq (β (1 : Fin 2)).isLt (by decide : (cfg0.win 13).nblk (1 : Fin 2) = 1)
    refine ⟨⟨(β (0 : Fin 2)).val, h0⟩, ?_⟩
    show ∀ a : Fin 2, win0_13.index _ a = (β a).val
    rw [(idx ⟨(β (0 : Fin 2)).val, h0⟩).2.2.2.2.2.2.2.2.2.2.2.2.2]
    exact Fin.forall_fin_two.2 ⟨rfl, (Nat.lt_one_iff.1 h1).symm⟩

theorem pt13 (t : Fin cfg0.N) (y : S512x1024.Idx) : ((dats m 0 c).after 13 t : Vec Ideal S512x1024 .bf16) y
    = val13 m c ⟨t.val * 512 + (y 0).val, by have := pt_lt t; have : (y 0).val < 512 := (y 0).isLt; omega⟩ ⟨(y 1).val, (y 1).isLt⟩ := by
  conv_lhs => rw [ix_eta y]
  refine (o13 m c t (show Fin 512 from y 0) (show Fin 1024 from y 1)).trans ?_
  exact congrArg Ideal.logistic (col_pt m c t (show Fin 512 from y 0) ⟨5120 + (show Fin 1024 from y 1).val, by omega⟩)

theorem arr13 : (dats m 0 c).arrAt 13 cfg0.N = fin13 m c := by
  refine (dats m 0 c).arrAt_eq_of_covers 13 _ covers13 fun t hf y => ?_
  blk_simp
  refine (pt13 m c t y).trans (congrArg₂ (val13 m c) (Fin.ext ?_) (Fin.ext ?_))
  · blk_simp [idx t]
  · blk_simp [idx t]

theorem covers9 : (cfg0.win 9).Covers :=
  (cfg0.win 9).covers_of_index_surj rfl (by decide) fun β => by
    have h0 : (β (0 : Fin 5)).val < 32 := lt_of_lt_of_eq (β (0 : Fin 5)).isLt (by decide : (cfg0.win 9).nblk (0 : Fin 5) = 32)
    have h1 : (β (1 : Fin 5)).val < 1 := lt_of_lt_of_eq (β (1 : Fin 5)).isLt (by decide : (cfg0.win 9).nblk (1 : Fin 5) = 1)
    have h2 : (β (2 : Fin 5)).val < 4 := lt_of_lt_of_eq (β (2 : Fin 5)).isLt (by decide : (cfg0.win 9).nblk (2 : Fin 5) = 4)
    have h3 : (β (3 : Fin 5)).val < 1 := lt_of_lt_of_eq (β (3 : Fin 5)).isLt (by decide : (cfg0.win 9).nblk (3 : Fin 5) = 1)
    have h4 : (β (4 : Fin 5)).val < 1 := lt_of_lt_of_eq (β (4 : Fin 5)).isLt (by decide : (cfg0.win 9).nblk (4 : Fin 5) = 1)
    have hl : (β (0 : Fin 5)).val * 4 + (β (2 : Fin 5)).val < 128 := by omega
    have n0 : ((β (0 : Fin 5)).val * 4 + (β (2 : Fin 5)).val) / 4 = (β (0 : Fin 5)).val := by omega
    have n2 : ((β (0 : Fin 5)).val * 4 + (β (2 : Fin 5)).val) % 4 = (β (2 : Fin 5)).val := by omega
    refine ⟨⟨(β (0 : Fin 5)).val * 4 + (β (2 : Fin 5)).val, hl⟩, ?_⟩
    show ∀ a : Fin 5, win0_9.index _ a = (β a).val
    rw [(idx ⟨(β (0 : Fin 5)).val * 4 + (β (2 : Fin 5)).val, hl⟩).2.2.2.2.2.2.2.2.2.1]
    exact Fin.forall_fin_succ.2 ⟨n0, Fin.forall_fin_succ.2 ⟨(Nat.lt_one_iff.1 h1).symm, Fin.forall_fin_succ.2 ⟨n2, Fin.forall_fin_two.2 ⟨(Nat.lt_one_iff.1 h3).symm, (Nat.lt_one_iff.1 h4).symm⟩⟩⟩⟩

theorem ix_eta5 (y : S1x8x1x128x512.Idx) : y = ix5 0 (show Fin 8 from y 1) 0 (show Fin 128 from y 3) (show Fin 512 from y 4) := by
  have h0 : (y 0).val < 1 := (y 0).isLt
  have h2 : (y 2).val < 1 := (y 2).isLt
  funext a
  revert a
  exact Fin.forall_fin_succ.2 ⟨Fin.ext (Nat.lt_one_iff.1 h0), Fin.forall_fin_succ.2 ⟨rfl, Fin.forall_fin_succ.2 ⟨Fin.ext (Nat.lt_one_iff.1 h2), Fin.forall_fin_two.2 ⟨rfl, rfl⟩⟩⟩⟩

theorem pt9 (t : Fin cfg0.N) (y : S1x8x1x128x512.Idx) : ((dats m 0 c).after 9 t : Vec Ideal S1x8x1x128x512 .bf16) y
    = val9 m c (pb t) ⟨(y 1).val, (y 1).isLt⟩ ⟨t.val % 4, by omega⟩ ⟨(y 3).val, (y 3).isLt⟩ ⟨(y 4).val, (y 4).isLt⟩ := by
  conv_lhs => rw [ix_eta5 y]
  exact o9 m c t (show Fin 8 from y 1) (show Fin 128 from y 3) (show Fin 512 from y 4)

theorem val9_congr {b b' : Fin 32} {h h' : Fin 8} {j j' : Fin 4} {x x' : Fin 128} {k k' : Fin 512} (eb : b = b') (eh : h = h') (ej : j = j') (ex : x = x') (ek : k = k') :
    val9 m c b h j x k = val9 m c b' h' j' x' k' := by
  rw [eb, eh, ej, ex, ek]

theorem arr9 : (dats m 0 c).arrAt 9 cfg0.N = fin9 m c := by
  refine (dats m 0 c).arrAt_eq_of_covers 9 _ covers9 fun t hf y => ?_
  have h0 : (y (0 : Fin 5)).val < 1 := (y (0 : Fin 5)).isLt
  have h2 : (y (2 : Fin 5)).val < 1 := (y (2 : Fin 5)).isLt
  blk_simp
  refine (pt9 m c t y).trans (val9_congr m c (Fin.ext ?_) (Fin.ext ?_) (Fin.ext ?_) (Fin.ext ?_) (Fin.ext ?_))
  · blk_simp [idx t]
  · blk_simp [idx t]
  · blk_simp [idx t]
  · blk_simp [idx t]
  · blk_simp [idx t]
end Cert.Kernel2Ideal.In
-- ==== Proof.InRef.lean ====
module
public import proofs.«01_k».proof.Proof.Gen.Reference2Ideal.Run
public import proofs.«01_k».proof.Proof.InSpec
public import Idealize.ShloMosaic.Lib.Pointwise
public import Idealize.ShloMosaic.Lib.Tactic.CleanTypes
@[expose] public section
set_option maxRecDepth 16384
noncomputable section
open Idealize.ShloMosaic Idealize.ShloMosaic.TcCoe Idealize.SL.Sem InProj
namespace Cert.Reference2Ideal.In
open Cert.Reference2Ideal Cert.Reference2Ideal.Gen Cert.Reference2Ideal.Value

variable (X : FVec Ideal S32x2048x1024 .f32) (M : FVec Ideal S32x6x1024 .f32) (G : FVec Ideal S1x1024 .f32) (W : FVec Ideal S1x1024x6144 .f32)

/-- The modulated rows. -/
def hid : FVec Ideal S32x2048x1024 .f32 := addf (mulf (mulf (mulf X (broadcastInDim S32x2048x1024 ![0, 1, 2] bcast_S32x2048x1_S32x2048x1024_0_1_2 (Host.rsqrt (addf (Host.divf (broadcastInDim S32x2048x1 ![0, 1] bcast_S32x2048_S32x2048x1_0_1 (Host.reduceAdd (mulf X X) (constant S_ .f32 0x00000000#32) reducesTo_S32x2048x1024_S32x2048_d2 h_S_)) (broadcastInDim S32x2048x1 ![] bcast_S_S32x2048x1 (constant S_ .f32 0x44800000#32))) (broadcastInDim S32x2048x1 ![] bcast_S_S32x2048x1 (constant S_ .f32 0x358637BD#32)))))) (broadcastInDim S32x2048x1024 ![0, 1, 2] bcast_S1x1x1024_S32x2048x1024_0_1_2 (broadcastInDim S1x1x1024 ![2] bcast_S1024_S1x1x1024_2 (shapeCast _ G shapeCasts_S1x1024_S1024)))) (broadcastInDim S32x2048x1024 ![0, 1, 2] bcast_S32x1x1024_S32x2048x1024_0_1_2 (addf (broadcastInDim S32x1x1024 ![] bcast_S_S32x1x1024 (constant S_ .f32 0x3F800000#32)) (broadcastInDim S32x1x1024 ![0, 2] bcast_S32x1024_S32x1x1024_0_2 (shapeCast _ (extractStridedSlice S32x1x1024 ![0, 1, 0] M slices_S32x6x1024_S32x1x1024_0_1_0) shapeCasts_S32x1x1024_S32x1024))))) (broadcastInDim S32x2048x1024 ![0, 1, 2] bcast_S32x1x1024_S32x2048x1024_0_1_2 (broadcastInDim S32x1x1024 ![0, 2] bcast_S32x1024_S32x1x1024_0_2 (shapeCast _ (extractStridedSlice S32x1x1024 ![0, 0, 0] M slices_S32x6x1024_S32x1x1024_0_0_0) shapeCasts_S32x1x1024_S32x1024)))

/-- The projections. -/
def proj : FVec Ideal S32x2048x6144 .f32 := Host.dotGeneral dot_S32x2048x1024_S1024x6144_S32x2048x6144_2_0_01_1_n_n none (hid X M G) (shapeCast _ W shapeCasts_S1x1024x6144_S1024x6144)

theorem hid_at (b : Fin 32) (s : Fin 2048) (d : Fin 1024) : hid X M G (ix3 b s d) = hrow X M G b s d := by
  unfold hid hrow
  pointwise

theorem proj_at (b : Fin 32) (s : Fin 2048) (n : Fin 6144) : proj X M G W (ix3 b s n) = prj X M G W b s n := by
  unfold proj prj
  simp only [← hid_at]
  generalize hid X M G = H
  pointwise
variable (P : FVec Ideal S32x2048x6144 .f32) (QG KG : FVec Ideal S1x64 .f32)

/-- The six results, from the projections. -/
def q_of : FVec Ideal S65536x1024 .bf16 := truncf .bf16 (shapeCast _ (mulf (mulf (mulf (shapeCast _ (extractStridedSlice S32x2048x1024 ![0, 0, 0] P slices_S32x2048x6144_S32x2048x1024_0_0_0) shapeCasts_S32x2048x1024_S32x2048x8x2x64) (broadcastInDim S32x2048x8x2x64 ![0, 1, 2, 3, 4] bcast_S32x2048x8x2x1_S32x2048x8x2x64_0_1_2_3_4 (Host.rsqrt (addf (Host.divf (broadcastInDim S32x2048x8x2x1 ![0, 1, 2, 3] bcast_S32x2048x8x2_S32x2048x8x2x1_0_1_2_3 (Host.reduceAdd (mulf (shapeCast _ (extractStridedSlice S32x2048x1024 ![0, 0, 0] P slices_S32x2048x6144_S32x2048x1024_0_0_0) shapeCasts_S32x2048x1024_S32x2048x8x2x64) (shapeCast _ (extractStridedSlice S32x2048x1024 ![0, 0, 0] P slices_S32x2048x6144_S32x2048x1024_0_0_0) shapeCasts_S32x2048x1024_S32x2048x8x2x64)) (constant S_ .f32 0x00000000#32) reducesTo_S32x2048x8x2x64_S32x2048x8x2_d4 h_S_)) (broadcastInDim S32x2048x8x2x1 ![] bcast_S_S32x2048x8x2x1 (constant S_ .f32 0x42800000#32))) (broadcastInDim S32x2048x8x2x1 ![] bcast_S_S32x2048x8x2x1 (constant S_ .f32 0x358637BD#32)))))) (broadcastInDim S32x2048x8x2x64 ![0, 1, 2, 3, 4] bcast_S1x1x1x1x64_S32x2048x8x2x64_0_1_2_3_4 (broadcastInDim S1x1x1x1x64 ![4] bcast_S64_S1x1x1x1x64_4 (shapeCast _ QG shapeCasts_S1x64_S64)))) (broadcastInDim S32x2048x8x2x64 ![] bcast_S_S32x2048x8x2x64 (constant S_ .f32 0x3E000000#32))) shapeCasts_S32x2048x8x2x64_S65536x1024) bitsLt_bf16_f32
def k_of : FVec Ideal S32x8x4x128x512 .bf16 := truncf .bf16 (transpose S32x8x4x128x512 [0, 3, 1, 4, 2] (shapeCast _ (mulf (mulf (shapeCast _ (extractStridedSlice S32x2048x1024 ![0, 0, 1024] P slices_S32x2048x6144_S32x2048x1024_0_0_1024) shapeCasts_S32x2048x1024_S32x2048x8x2x64) (broadcastInDim S32x2048x8x2x64 ![0, 1, 2, 3, 4] bcast_S32x2048x8x2x1_S32x2048x8x2x64_0_1_2_3_4 (Host.rsqrt (addf (Host.divf (broadcastInDim S32x2048x8x2x1 ![0, 1, 2, 3] bcast_S32x2048x8x2_S32x2048x8x2x1_0_1_2_3 (Host.reduceAdd (mulf (shapeCast _ (extractStridedSlice S32x2048x1024 ![0, 0, 1024] P slices_S32x2048x6144_S32x2048x1024_0_0_1024) shapeCasts_S32x2048x1024_S32x2048x8x2x64) (shapeCast _ (extractStridedSlice S32x2048x1024 ![0, 0, 1024] P slices_S32x2048x6144_S32x2048x1024_0_0_1024) shapeCasts_S32x2048x1024_S32x2048x8x2x64)) (constant S_ .f32 0x00000000#32) reducesTo_S32x2048x8x2x64_S32x2048x8x2_d4 h_S_)) (broadcastInDim S32x2048x8x2x1 ![] bcast_S_S32x2048x8x2x1 (constant S_ .f32 0x42800000#32))) (broadcastInDim S32x2048x8x2x1 ![] bcast_S_S32x2048x8x2x1 (constant S_ .f32 0x358637BD#32)))))) (broadcastInDim S32x2048x8x2x64 ![0, 1, 2, 3, 4] bcast_S1x1x1x1x64_S32x2048x8x2x64_0_1_2_3_4 (broadcastInDim S1x1x1x1x64 ![4] bcast_S64_S1x1x1x1x64_4 (shapeCast _ KG shapeCasts_S1x64_S64)))) shapeCasts_S32x2048x8x2x64_S32x4x512x8x128) transposes_S32x4x512x8x128_S32x8x4x128x512_0_3_1_4_2) bitsLt_bf16_f32
def v_of : FVec Ideal S65536x1024 .bf16 := truncf .bf16 (shapeCast _ (extractStridedSlice S32x2048x1024 ![0, 0, 2048] P slices_S32x2048x6144_S32x2048x1024_0_0_2048) shapeCasts_S32x2048x1024_S65536x1024) bitsLt_bf16_f32
def p_of : FVec Ideal S65536x1024 .f32 := shapeCast _ (extractStridedSlice S32x2048x1024 ![0, 0, 3072] P slices_S32x2048x6144_S32x2048x1024_0_0_3072) shapeCasts_S32x2048x1024_S65536x1024
def ga_of : FVec Ideal S65536x1024 .bf16 := truncf .bf16 (shapeCast _ (extractStridedSlice S32x2048x1024 ![0, 0, 0] (Host.divf (broadcastInDim S32x2048x2048 ![] bcast_S_S32x2048x2048 (constant S_ .f32 0x3F800000#32)) (addf (broadcastInDim S32x2048x2048 ![] bcast_S_S32x2048x2048 (constant S_ .f32 0x3F800000#32)) (Host.exp (Host.negf (extractStridedSlice S32x2048x2048 ![0, 0, 4096] P slices_S32x2048x6144_S32x2048x2048_0_0_4096))))) slices_S32x2048x2048_S32x2048x1024_0_0_0) shapeCasts_S32x2048x1024_S65536x1024) bitsLt_bf16_f32
def gp_of : FVec Ideal S65536x1024 .bf16 := truncf .bf16 (shapeCast _ (extractStridedSlice S32x2048x1024 ![0, 0, 1024] (Host.divf (broadcastInDim S32x2048x2048 ![] bcast_S_S32x2048x2048 (constant S_ .f32 0x3F800000#32)) (addf (broadcastInDim S32x2048x2048 ![] bcast_S_S32x2048x2048 (constant S_ .f32 0x3F800000#32)) (Host.exp (Host.negf (extractStridedSlice S32x2048x2048 ![0, 0, 4096] P slices_S32x2048x6144_S32x2048x2048_0_0_4096))))) slices_S32x2048x2048_S32x2048x1024_0_0_1024) shapeCasts_S32x2048x1024_S65536x1024) bitsLt_bf16_f32

theorem q_at (r : Fin 65536) (e : Fin 1024) : q_of P QG (ix2 r e)
    = (grp (fun e => P (ix3 ⟨r.val / 2048, by omega⟩ ⟨r.val % 2048, by omega⟩ ⟨e.val, by omega⟩)) QG e * Ideal.ofBits FTy.f32 0x3E000000#32 : EReal) := by
  unfold q_of grp
  pointwise
  simp only [show e.val / 128 * 128 + e.val / 64 % 2 * 64 = e.val / 64 * 64 by omega]

theorem k_at (b : Fin 32) (h : Fin 8) (j : Fin 4) (x : Fin 128) (t : Fin 512) : k_of P KG (ix5 b h j x t)
    = (grp (fun e => P (ix3 b ⟨j.val * 512 + t.val, by omega⟩ ⟨1024 + e.val, by omega⟩)) KG ⟨h.val * 128 + x.val, by omega⟩ : EReal) := by
  unfold k_of grp
  pointwise
  simp only [show h.val * 128 + x.val / 64 * 64 + x.val % 64 = h.val * 128 + x.val by omega, show (h.val * 128 + x.val) / 64 * 64 = h.val * 128 + x.val / 64 * 64 by omega,
    show (h.val * 128 + x.val) % 64 = x.val % 64 by omega]

theorem v_at (r : Fin 65536) (e : Fin 1024) : v_of P (ix2 r e) = P (ix3 ⟨r.val / 2048, by omega⟩ ⟨r.val % 2048, by omega⟩ ⟨2048 + e.val, by omega⟩) := by
  unfold v_of
  pointwise
theorem p_at (r : Fin 65536) (e : Fin 1024) : p_of P (ix2 r e) = P (ix3 ⟨r.val / 2048, by omega⟩ ⟨r.val % 2048, by omega⟩ ⟨3072 + e.val, by omega⟩) := by
  unfold p_of
  pointwise
theorem ga_at (r : Fin 65536) (e : Fin 1024) : ga_of P (ix2 r e) = Ideal.logistic (P (ix3 ⟨r.val / 2048, by omega⟩ ⟨r.val % 2048, by omega⟩ ⟨4096 + e.val, by omega⟩)) := by
  unfold ga_of Ideal.logistic
  pointwise
theorem gp_at (r : Fin 65536) (e : Fin 1024) : gp_of P (ix2 r e) = Ideal.logistic (P (ix3 ⟨r.val / 2048, by omega⟩ ⟨r.val % 2048, by omega⟩ ⟨5120 + e.val, by omega⟩)) := by
  unfold gp_of Ideal.logistic
  pointwise
  simp only [show 4096 + (1024 + e.val) = 5120 + e.val by omega]
end Cert.Reference2Ideal.In
-- ==== Proof.InSame.lean ====
module
public import proofs.«01_k».proof.Proof.InArr
public import proofs.«01_k».proof.Proof.InRef
@[expose] public section
set_option maxRecDepth 16384
noncomputable section
open Idealize.ShloMosaic Idealize.ShloMosaic.TcCoe Idealize.SL.Sem
namespace InProj
open Cert.Reference2Ideal.In Cert.Kernel2Ideal.In
variable (m : (ℓ : Loc Cert.Kernel2Ideal.nD Cert.Kernel2Ideal.τ Cert.Kernel2Ideal.sig) → Buf (Elt Ideal) ℓ) (c : Dev Cert.Kernel2Ideal.nD)

theorem eta (j : (⟨2, ![65536, 1024]⟩ : Shape).Idx) : j = ix2 (show Fin 65536 from j 0) (show Fin 1024 from j 1) := by
  funext a
  revert a
  exact Fin.forall_fin_two.2 ⟨rfl, rfl⟩

theorem eta5 (j : (⟨5, ![32, 8, 4, 128, 512]⟩ : Shape).Idx) : j = ix5 (show Fin 32 from j 0) (show Fin 8 from j 1) (show Fin 4 from j 2) (show Fin 128 from j 3) (show Fin 512 from j 4) := by
  funext a
  revert a
  exact Fin.forall_fin_succ.2 ⟨rfl, Fin.forall_fin_succ.2 ⟨rfl, Fin.forall_fin_succ.2 ⟨rfl, Fin.forall_fin_two.2 ⟨rfl, rfl⟩⟩⟩⟩

/-- The reference's results and the kernel's result arrays, from the same arguments. -/
theorem same8 : q_of (proj (X m c) (M m c) (G m c) (W m c)) (QG m c) = fin8 m c := by
  funext j
  rw [eta j, q_at]
  simp only [proj_at]
  rfl
theorem same9 : k_of (proj (X m c) (M m c) (G m c) (W m c)) (KG m c) = fin9 m c := by
  funext j
  rw [eta5 j, k_at]
  exact congrArg (fun f => grp f (KG m c) _) (funext fun e => proj_at (X m c) (M m c) (G m c) (W m c) (show Fin 32 from j 0) ⟨(show Fin 4 from j 2).val * 512 + (show Fin 512 from j 4).val, by omega⟩ ⟨1024 + e.val, by omega⟩)
theorem same10 : v_of (proj (X m c) (M m c) (G m c) (W m c)) = fin10 m c := by
  funext j
  rw [eta j, v_at, proj_at]
  rfl
theorem same11 : p_of (proj (X m c) (M m c) (G m c) (W m c)) = fin11 m c := by
  funext j
  rw [eta j, p_at, proj_at]
  rfl
theorem same12 : ga_of (proj (X m c) (M m c) (G m c) (W m c)) = fin12 m c := by
  funext j
  rw [eta j, ga_at, proj_at]
  rfl
theorem same13 : gp_of (proj (X m c) (M m c) (G m c) (W m c)) = fin13 m c := by
  funext j
  rw [eta j, gp_at, proj_at]
  rfl

variable (m' : (ℓ : Loc Cert.Reference2Ideal.nD Cert.Reference2Ideal.τ Cert.Reference2Ideal.sig) → Buf (Elt Ideal) ℓ) (d : Dev Cert.Reference2Ideal.nD)

abbrev P' : FVec Ideal Cert.Reference2Ideal.S32x2048x6144 .f32 :=
  proj (m' ((d.tc : Thread Cert.Reference2Ideal.nD Cert.Reference2Ideal.τ).loc Cert.Reference2Ideal.main_arg0)) (m' ((d.tc : Thread Cert.Reference2Ideal.nD Cert.Reference2Ideal.τ).loc Cert.Reference2Ideal.main_arg1))
    (m' ((d.tc : Thread Cert.Reference2Ideal.nD Cert.Reference2Ideal.τ).loc Cert.Reference2Ideal.main_arg2)) (m' ((d.tc : Thread Cert.Reference2Ideal.nD Cert.Reference2Ideal.τ).loc Cert.Reference2Ideal.main_arg3))

theorem res8 : Cert.Reference2Ideal.Value.res_main_v76 m' d = q_of (P' m' d) (m' ((d.tc : Thread Cert.Reference2Ideal.nD Cert.Reference2Ideal.τ).loc Cert.Reference2Ideal.main_arg4)) := by
  unfold Cert.Reference2Ideal.Value.res_main_v76 q_of P' proj hid
  rfl
theorem res9 : Cert.Reference2Ideal.Value.res_main_v77 m' d = k_of (P' m' d) (m' ((d.tc : Thread Cert.Reference2Ideal.nD Cert.Reference2Ideal.τ).loc Cert.Reference2Ideal.main_arg5)) := by
  unfold Cert.Reference2Ideal.Value.res_main_v77 k_of P' proj hid
  rfl
end InProj
-- ==== Proof.Ada.lean ====
/- The product that makes the adaLN modulation: its block's payload, the result array, and the plain mathematics, element by element. -/
module
public import proofs.«01_k».proof.Proof.Gen.Kernel3Ideal.Value
public import proofs.«01_k».proof.Proof.Gen.Reference3Ideal.Run
public import Idealize.ShloMosaic.Lib.StableHlo.ReadAt
public import Idealize.ShloMosaic.Lib.Pointwise
public import Idealize.ShloMosaic.Lib.Pipeline.ValueKit
public import Idealize.ShloMosaic.Lib.Pipeline.Covers
@[expose] public section
set_option maxRecDepth 16384
noncomputable section
open Idealize.ShloMosaic Idealize.ShloMosaic.TcCoe Idealize.SL.Sem

namespace AdaMod
/-- One element of the modulation. -/
def ada (C : (⟨2, ![32, 1024]⟩ : Shape).Idx → EReal) (W : (⟨3, ![1, 1024, 6144]⟩ : Shape).Idx → EReal) (B : (⟨2, ![1, 6144]⟩ : Shape).Idx → EReal) (b : Fin 32) (n : Fin 6144) : EReal :=
  (∑ k : Fin 1024, C (ix2 b k) * Ideal.logistic (C (ix2 b k)) * W (ix3 0 k n) : EReal) + B (ix2 0 n)
end AdaMod

namespace Cert.Kernel3Ideal.Ada
open Cert.Kernel3Ideal Cert.Kernel3Ideal.Gen AdaMod

theorem p1 (x : Vec Ideal S32x1024 .f32) (w : Vec Ideal S1024x1024 .f32) (v : Vec Ideal S1x1024 .f32) (b : Fin 32) (n : Fin 1024) :
    (k0_pay1 (F := Ideal) x w v) (ix2 b n) = ((∑ k : Fin 1024, x (ix2 b k) * Ideal.logistic (x (ix2 b k)) * w (ix2 k n) : EReal) + v (ix2 0 n) : EReal) := by
  unfold k0_pay1
  pointwise

variable (m : (ℓ : Loc nD τ sig) → Buf (Elt Ideal) ℓ) (c : Dev nD)
abbrev C : FVec Ideal S32x1024 .f32 := m ((c : Thread nD τ).loc main_arg0)
abbrev W : FVec Ideal S1x1024x6144 .f32 := m ((c : Thread nD τ).loc main_arg1)
abbrev B : FVec Ideal S1x6144 .f32 := m ((c : Thread nD τ).loc main_arg2)

theorem v0_at (d : Fin 1024) (n : Fin 6144) : (V m c main_v0 : FVec Ideal S1024x6144 .f32) (ix2 d n) = W m c (ix3 0 d n) := by
  unfold V
  after_reads_at
theorem v2_at (n : Fin 6144) : (V m c main_v2 : FVec Ideal S1x6144 .f32) (ix2 0 n) = B m c (ix2 0 n) := by
  unfold V
  after_reads_at
theorem v_at (b : Fin 32) (d : Fin 1024) : (V m c main_arg0 : FVec Ideal S32x1024 .f32) (ix2 b d) = C m c (ix2 b d) := by
  unfold V
  after_reads_at

theorem idx : ∀ t : Fin cfg0.N, win0_0.index t = ![0, 0] ∧ win0_1.index t = ![0, t.val] ∧ win0_2.index t = ![0, t.val] ∧ win0_3.index t = ![0, t.val] := by decide +kernel
theorem pt_lt (t : Fin cfg0.N) : t.val < 6 := t.isLt

theorem b0 (t : Fin cfg0.N) (b : Fin 32) (e : Fin 1024) : (iblk m c 0 t : Vec Ideal S32x1024 .f32) (ix2 b e) = (V m c main_arg0 : FVec Ideal S32x1024 .f32) (ix2 b e) := by
  blk_ext [iblk, idx t]
theorem b1 (t : Fin cfg0.N) (d e : Fin 1024) : (iblk m c 1 t : Vec Ideal S1024x1024 .f32) (ix2 d e) = (V m c main_v0 : FVec Ideal S1024x6144 .f32) (ix2 d ⟨t.val * 1024 + e.val, by have := pt_lt t; omega⟩) := by
  blk_ext [iblk, idx t]
theorem b2 (t : Fin cfg0.N) (e : Fin 1024) : (iblk m c 2 t : Vec Ideal S1x1024 .f32) (ix2 0 e) = (V m c main_v2 : FVec Ideal S1x6144 .f32) (ix2 0 ⟨t.val * 1024 + e.val, by have := pt_lt t; omega⟩) := by
  blk_ext [iblk, idx t]

theorem ld_x (x : Vec Ideal S32x1024 .f32) (i : Fin 32) (e : Fin 1024) : (View.ld x r0_0 : Vec Ideal S32x1024 .f32) (ix2 i e) = x (ix2 i e) := by
  refine View.ld_unit_apply_of x _ _ _ _ _ ?_
  show ∀ a : Fin 2, _
  exact Fin.forall_fin_two.2 ⟨(Nat.zero_add _).symm, (Nat.zero_add _).symm⟩
theorem ld_w (x : Vec Ideal S1024x1024 .f32) (i e : Fin 1024) : (View.ld x r0_1 : Vec Ideal S1024x1024 .f32) (ix2 i e) = x (ix2 i e) := by
  refine View.ld_unit_apply_of x _ _ _ _ _ ?_
  show ∀ a : Fin 2, _
  exact Fin.forall_fin_two.2 ⟨(Nat.zero_add _).symm, (Nat.zero_add _).symm⟩
theorem ld_b (x : Vec Ideal S1x1024 .f32) (e : Fin 1024) : (View.ld x r0_2 : Vec Ideal S1x1024 .f32) (ix2 0 e) = x (ix2 0 e) := by
  refine View.ld_unit_apply_of x _ _ _ _ _ ?_
  show ∀ a : Fin 2, _
  exact Fin.forall_fin_two.2 ⟨rfl, (Nat.zero_add _).symm⟩

theorem o3 (t : Fin cfg0.N) (i : Fin 32) (e : Fin 1024) : ((dats m 0 c).after 3 t : Vec Ideal S32x1024 .f32) (ix2 i e) = ada (C m c) (W m c) (B m c) i ⟨t.val * 1024 + e.val, by have := pt_lt t; omega⟩ := by
  rw [after0_3]
  unfold out0_3
  rw [View.canon_cons_unit_lit _ _ _ (by decide)]
  refine (p1 _ _ _ i e).trans ?_
  unfold ada
  rw [ld_b, b2, v2_at]
  refine congrArg (· + _) (@Finset.sum_congr _ EReal _ _ _ _ _ rfl fun k _ => ?_)
  rw [ld_x, ld_w, b0, b1, v0_at, v_at]

theorem ix_eta (y : S32x1024.Idx) : y = ix2 (show Fin 32 from y 0) (show Fin 1024 from y 1) := by
  funext a
  revert a
  exact Fin.forall_fin_two.2 ⟨rfl, rfl⟩

/-- The result array. -/
def fin3 : FVec Ideal S32x6144 .f32 := fun j => ada (C m c) (W m c) (B m c) (j 0) (j 1)

theorem covers3 : (cfg0.win 3).Covers :=
  (cfg0.win 3).covers_of_index_surj rfl (by decide) fun β => by
    have h0 : (β (0 : Fin 2)).val < 1 := lt_of_lt_of_eq (β (0 : Fin 2)).isLt (by decide : (cfg0.win 3).nblk (0 : Fin 2) = 1)
    have h1 : (β (1 : Fin 2)).val < 6 := lt_of_lt_of_eq (β (1 : Fin 2)).isLt (by decide : (cfg0.win 3).nblk (1 : Fin 2) = 6)
    refine ⟨⟨(β (1 : Fin 2)).val, h1⟩, ?_⟩
    show ∀ a : Fin 2, win0_3.index _ a = (β a).val
    rw [(idx ⟨(β (1 : Fin 2)).val, h1⟩).2.2.2]
    exact Fin.forall_fin_two.2 ⟨(Nat.lt_one_iff.1 h0).symm, rfl⟩

theorem pt3 (t : Fin cfg0.N) (y : S32x1024.Idx) : ((dats m 0 c).after 3 t : Vec Ideal S32x1024 .f32) y
    = ada (C m c) (W m c) (B m c) ⟨(y 0).val, (y 0).isLt⟩ ⟨t.val * 1024 + (y 1).val, by have := pt_lt t; have : (y 1).val < 1024 := (y 1).isLt; omega⟩ := by
  conv_lhs => rw [ix_eta y]
  exact o3 m c t (show Fin 32 from y 0) (show Fin 1024 from y 1)

theorem arr3 : (dats m 0 c).arrAt 3 cfg0.N = fin3 m c := by
  refine (dats m 0 c).arrAt_eq_of_covers 3 _ covers3 fun t hf y => ?_
  refine (pt3 m c t y).trans (congrArg₂ (ada (C m c) (W m c) (B m c)) (Fin.ext ?_) (Fin.ext ?_))
  · blk_simp [idx t]
  · blk_simp [idx t]
end Cert.Kernel3Ideal.Ada

namespace Cert.Reference3Ideal.Ada
open Cert.Reference3Ideal Cert.Reference3Ideal.Gen AdaMod

/-- The reference's result. -/
def result (C : FVec Ideal S32x1024 .f32) (W : FVec Ideal S1x1024x6144 .f32) (B : FVec Ideal S1x6144 .f32) : FVec Ideal S32x6144 .f32 :=
  addf (Host.dotGeneral dot_S32x1024_S1024x6144_S32x6144_1_0_0_1_n_n none (mulf C (Host.divf (broadcastInDim S32x1024 ![] bcast_S_S32x1024 (constant S_ .f32 0x3F800000#32)) (addf (broadcastInDim S32x1024 ![] bcast_S_S32x1024 (constant S_ .f32 0x3F800000#32)) (Host.exp (Host.negf C))))) (shapeCast _ W shapeCasts_S1x1024x6144_S1024x6144)) (broadcastInDim S32x6144 ![0, 1] bcast_S1x6144_S32x6144_0_1 (broadcastInDim S1x6144 ![1] bcast_S6144_S1x6144_1 (shapeCast _ B shapeCasts_S1x6144_S6144)))

theorem result_at (C : FVec Ideal S32x1024 .f32) (W : FVec Ideal S1x1024x6144 .f32) (B : FVec Ideal S1x6144 .f32) (b : Fin 32) (n : Fin 6144) :
    result C W B (ix2 b n) = ada C W B b n := by
  unfold result ada
  refine Eq.trans (b := ((∑ k : Fin 1024, C (ix2 b k) * Ideal.div (Ideal.ofBits FTy.f32 0x3F800000#32) (Ideal.ofBits FTy.f32 0x3F800000#32 + Ideal.exp (-C (ix2 b k))) * W (ix3 0 k n) : EReal) + B (ix2 0 n) : EReal)) ?_ ?_
  · pointwise
  · rw [Ideal.ofBits_one_f32]
    rfl
end Cert.Reference3Ideal.Ada
-- ==== Proof.MixWin.lean ====
/- A prefix sum down the positions as the host writes it, rows of a table taken at pairs of indices, and a window of a sequence. -/
module
public import Idealize.ShloMosaic.Lib.Pointwise
@[expose] public section
set_option maxRecDepth 16384
noncomputable section
open Idealize.ShloMosaic Idealize.SL.Sem
namespace PoolMix

theorem foldl_sum {ι : Type} (l : List ι) (g : ι → EReal) (v : EReal) : l.foldl (fun r a => r + g a) v = v + (l.map g).sum := by
  induction l generalizing v with
  | nil => simp
  | cons a l ih => rw [List.foldl_cons, ih, List.map_cons, List.sum_cons, add_assoc]

theorem sum_shift (f : ℕ → EReal) (j : ℕ) (hj : j < 2048) :
    (∑ w : Fin 2048, (if 2047 ≤ j + w.val then f (j + w.val - 2047) else 0) : EReal) = (∑ q ∈ Finset.range (j + 1), f q : EReal) := by
  rw [Fin.sum_univ_eq_sum_range (fun w => if 2047 ≤ j + w then f (j + w - 2047) else 0) 2048]
  obtain ⟨d, hd⟩ : ∃ d, 2048 = d + (j + 1) := ⟨2047 - j, by omega⟩
  conv_lhs => rw [hd, Finset.sum_range_add]
  rw [Finset.sum_eq_zero fun w hw => if_neg (by have := Finset.mem_range.1 hw; omega), zero_add]
  refine Finset.sum_congr rfl fun i _ => ?_
  rw [if_pos (by omega)]
  exact congrArg f (by omega)

/-- The index of a window of one row's positions. -/
theorem sum_col (g : (⟨4, ![1, 2048, 1, 1]⟩ : Shape).Idx → EReal) : (∑ i, g i : EReal) = (∑ w : Fin 2048, g (ix4 0 w 0 0) : EReal) := by
  refine (Fintype.sum_bijective (fun w : Fin 2048 => (ix4 0 w 0 0 : (⟨4, ![1, 2048, 1, 1]⟩ : Shape).Idx)) ⟨fun a b h => congrFun h 1, fun i => ⟨i 1, ?_⟩⟩ _ _ fun _ => rfl).symm
  funext a
  revert a
  exact Fin.forall_fin_succ.2 ⟨Subsingleton.elim (α := Fin 1) _ _, Fin.forall_fin_succ.2 ⟨rfl, Fin.forall_fin_two.2 ⟨Subsingleton.elim (α := Fin 1) _ _, Subsingleton.elim (α := Fin 1) _ _⟩⟩⟩

theorem prefix_at (x : FVec Ideal ⟨4, ![32, 2048, 4, 256]⟩ .f32) (init : FVec Ideal ⟨0, ![]⟩ .f32) (h) (hu : 0 < (⟨0, ![]⟩ : Shape).numel) (h0 : ∀ i, init i = (0 : EReal))
    (b : Fin 32) (j : Fin 2048) (g : Fin 4) (d : Fin 256) (f : ℕ → EReal) (hf : ∀ q : Fin 2048, x (ix4 b q g d) = f q.val) :
    Host.reduceWindowAdd (F := Ideal) (t := ⟨4, ![32, 2048, 4, 256]⟩) ![1, 2048, 1, 1] ![1, 1, 1, 1] ![0, 2047, 0, 0] ![0, 0, 0, 0] x init h hu (ix4 b j g d)
      = (∑ q ∈ Finset.range (j.val + 1), f q : EReal) := by
  show Ideal.hostReduceWindowAdd _ _ _ _ h x (init (Shape.Idx.first hu)) (ix4 b j g d) = _
  rw [h0]
  unfold Ideal.hostReduceWindowAdd Host.reduceWindow
  refine (foldl_sum _ _ _).trans ?_
  rw [zero_add, ← Fin.sum_univ_def]
  refine Eq.trans (Finset.sum_congr rfl fun n _ => ?_) ((Equiv.sum_comp (Shape.rowMajor (⟨4, ![1, 2048, 1, 1]⟩ : Shape)).symm (fun i : (⟨4, ![1, 2048, 1, 1]⟩ : Shape).Idx =>
    (if 2047 ≤ j.val + (i 1).val then f (j.val + (i 1).val - 2047) else 0 : EReal))).trans ((sum_col _).trans (sum_shift f j.val j.isLt)))
  let i : (⟨4, ![1, 2048, 1, 1]⟩ : Shape).Idx := (Shape.rowMajor (⟨4, ![1, 2048, 1, 1]⟩ : Shape)).symm n
  show _ = (if 2047 ≤ j.val + (i 1).val then f (j.val + (i 1).val - 2047) else 0 : EReal)
  have i0 : (i 0).val < 1 := (i 0).isLt
  have i1 : (i 1).val < 2048 := (i 1).isLt
  have i2 : (i 2).val < 1 := (i 2).isLt
  have i3 : (i 3).val < 1 := (i 3).isLt
  by_cases hw : 2047 ≤ j.val + (i 1).val
  · rw [if_pos hw]
    refine (dif_pos ?_).trans ?_
    · refine Fin.forall_fin_succ.2 ⟨?_, Fin.forall_fin_succ.2 ⟨?_, Fin.forall_fin_two.2 ⟨?_, ?_⟩⟩⟩
      · show 0 ≤ b.val * 1 + (i 0).val ∧ b.val * 1 + (i 0).val - 0 < 32
        omega
      · show 2047 ≤ j.val * 1 + (i 1).val ∧ j.val * 1 + (i 1).val - 2047 < 2048
        omega
      · show 0 ≤ g.val * 1 + (i 2).val ∧ g.val * 1 + (i 2).val - 0 < 4
        omega
      · show 0 ≤ d.val * 1 + (i 3).val ∧ d.val * 1 + (i 3).val - 0 < 256
        omega
    · refine Eq.trans (congrArg x (funext fun a => Fin.ext ?_)) (hf ⟨j.val + (i 1).val - 2047, by omega⟩)
      revert a
      refine Fin.forall_fin_succ.2 ⟨?_, Fin.forall_fin_succ.2 ⟨?_, Fin.forall_fin_two.2 ⟨?_, ?_⟩⟩⟩
      · show b.val * 1 + (i 0).val - 0 = b.val
        omega
      · show j.val * 1 + (i 1).val - 2047 = j.val + (i 1).val - 2047
        omega
      · show g.val * 1 + (i 2).val - 0 = g.val
        omega
      · show d.val * 1 + (i 3).val - 0 = d.val
        omega
  · rw [if_neg hw]
    refine dif_neg fun hin => hw ?_
    have h1 := (hin 1).1
    change 2047 ≤ j.val * 1 + (i 1).val at h1
    omega

/-- The position of a 2049-long table and the group of a 4-group one that start indices stand for. -/
def posOf (w : BitVec 32) : Fin 2049 := ⟨min w.toInt.toNat 2048, Nat.lt_of_le_of_lt (Nat.min_le_right _ _) (by decide)⟩
def grpOf (w : BitVec 32) : Fin 4 := ⟨min w.toInt.toNat 3, Nat.lt_of_le_of_lt (Nat.min_le_right _ _) (by decide)⟩

theorem gather_pair {α : Type} (w : GatherDims.WF ⟨4, ![32, 2049, 4, 256]⟩ ⟨3, ![2048, 4, 2]⟩ ⟨4, ![32, 2048, 4, 256]⟩ [0, 3] [1, 2] [] [1, 2] [] 2 ![32, 1, 1, 256])
    (x : (⟨4, ![32, 2049, 4, 256]⟩ : Shape).Idx → α) (idx : IVec ⟨3, ![2048, 4, 2]⟩ 32) (b : Fin 32) (s : Fin 2048) (g : Fin 4) (d : Fin 256) :
    Host.gather (⟨[0, 3], [1, 2], [], [], [1, 2], 2, ![32, 1, 1, 256], w⟩ : GatherDims _ _ _) x idx (ix4 b s g d)
      = x (ix4 b (posOf (idx (ix3 s g (0 : Fin 2)))) (grpOf (idx (ix3 s g (1 : Fin 2)))) d) := by
  unfold Host.gather
  refine congrArg x (funext fun a => Fin.ext ?_)
  match a with
  | ⟨0, _⟩ =>
    show GatherDims.start _ (ix4 b s g d) idx 0 + GatherDims.batchCoord _ (ix4 b s g d) 0 + GatherDims.offCoord _ (ix4 b s g d) 0 = b.val
    rw [GatherDims.batchCoord_eq_zero _ _ _ (show (0 : Fin 4) ∉ ([] : List (Fin 4)) by decide)]
    unfold GatherDims.start GatherDims.offCoord
    rw [dif_neg (show (0 : Fin 4) ∉ ([1, 2] : List (Fin 4)) by decide)]
    split
    · simp only [Nat.add_zero, Nat.zero_add]
      rfl
    · rename_i hn
      exact absurd (show (0 : Fin 4) ∈ ([0, 3] : List (Fin 4)) by decide) hn
  | ⟨1, _⟩ =>
    show GatherDims.start _ (ix4 b s g d) idx 1 + GatherDims.batchCoord _ (ix4 b s g d) 1 + GatherDims.offCoord _ (ix4 b s g d) 1 = _
    rw [GatherDims.batchCoord_eq_zero _ _ _ (show (1 : Fin 4) ∉ ([] : List (Fin 4)) by decide), GatherDims.offCoord_eq_zero _ _ _ (show (1 : Fin 4) ∉ ([0, 3] : List (Fin 4)) by decide)]
    simp only [Nat.add_zero]
    unfold GatherDims.start
    rw [dif_pos (show (1 : Fin 4) ∈ ([1, 2] : List (Fin 4)) by decide)]
    have e : GatherDims.siIdx (⟨[0, 3], [1, 2], [], [], [1, 2], 2, ![32, 1, 1, 256], w⟩ : GatherDims ⟨4, ![32, 2049, 4, 256]⟩ ⟨3, ![2048, 4, 2]⟩ ⟨4, ![32, 2048, 4, 256]⟩) (ix4 b s g d) ⟨0, show 0 < 2 by decide⟩ = ix3 s g (0 : Fin 2) := by
      funext b
      match b with
      | ⟨0, _⟩ => rfl
      | ⟨1, _⟩ => rfl
      | ⟨2, _⟩ => rfl
    exact congrArg (fun j => min (idx j).toInt.toNat 2048) e
  | ⟨2, _⟩ =>
    show GatherDims.start _ (ix4 b s g d) idx 2 + GatherDims.batchCoord _ (ix4 b s g d) 2 + GatherDims.offCoord _ (ix4 b s g d) 2 = _
    rw [GatherDims.batchCoord_eq_zero _ _ _ (show (2 : Fin 4) ∉ ([] : List (Fin 4)) by decide), GatherDims.offCoord_eq_zero _ _ _ (show (2 : Fin 4) ∉ ([0, 3] : List (Fin 4)) by decide)]
    simp only [Nat.add_zero]
    unfold GatherDims.start
    rw [dif_pos (show (2 : Fin 4) ∈ ([1, 2] : List (Fin 4)) by decide)]
    have e : GatherDims.siIdx (⟨[0, 3], [1, 2], [], [], [1, 2], 2, ![32, 1, 1, 256], w⟩ : GatherDims ⟨4, ![32, 2049, 4, 256]⟩ ⟨3, ![2048, 4, 2]⟩ ⟨4, ![32, 2048, 4, 256]⟩) (ix4 b s g d) ⟨1, show 1 < 2 by decide⟩ = ix3 s g (1 : Fin 2) := by
      funext b
      match b with
      | ⟨0, _⟩ => rfl
      | ⟨1, _⟩ => rfl
      | ⟨2, _⟩ => rfl
    exact congrArg (fun j => min (idx j).toInt.toNat 3) e
  | ⟨3, _⟩ =>
    show GatherDims.start _ (ix4 b s g d) idx 3 + GatherDims.batchCoord _ (ix4 b s g d) 3 + GatherDims.offCoord _ (ix4 b s g d) 3 = d.val
    rw [GatherDims.batchCoord_eq_zero _ _ _ (show (3 : Fin 4) ∉ ([] : List (Fin 4)) by decide)]
    unfold GatherDims.start GatherDims.offCoord
    rw [dif_neg (show (3 : Fin 4) ∉ ([1, 2] : List (Fin 4)) by decide)]
    split
    · simp only [Nat.add_zero, Nat.zero_add]
      rfl
    · rename_i hn
      exact absurd (show (3 : Fin 4) ∈ ([0, 3] : List (Fin 4)) by decide) hn

/-! ## Positions as words -/

/-- Half a group's window, as a word and as a number; the first and the last position of a window, as words; how many positions it has. -/
def halfW (g : Fin 4) : BitVec 32 := ![1#32, 2#32, 4#32, 8#32] g
def halfN (g : Fin 4) : ℕ := ![1, 2, 4, 8] g
def loW (h p : BitVec 32) : BitVec 32 := IntOp.minsi 2047#32 (IntOp.maxsi 0#32 (IntOp.subi p h))
def hiW (h p : BitVec 32) : BitVec 32 := IntOp.minsi 2047#32 (IntOp.maxsi 0#32 (IntOp.subi (IntOp.addi p h) 1#32))
def cntW (h p : BitVec 32) : BitVec 32 := IntOp.addi (IntOp.subi (hiW h p) (loW h p)) 1#32
def wrapW (w : BitVec 32) : BitVec 32 := if IntOp.cmpi .slt w 0#32 = 1#1 then IntOp.addi w 2049#32 else w

def loN (g : Fin 4) (s : ℕ) : ℕ := s - halfN g
def hiN (g : Fin 4) (s : ℕ) : ℕ := min 2048 (s + halfN g)

theorem lo_pos : ∀ (g : Fin 4) (s : Fin 2048), (posOf (wrapW (loW (halfW g) (BitVec.ofNat 32 s.val)))).val = loN g s.val := by decide +kernel
theorem hi_pos : ∀ (g : Fin 4) (s : Fin 2048), (posOf (wrapW (IntOp.addi (hiW (halfW g) (BitVec.ofNat 32 s.val)) 1#32))).val = hiN g s.val := by decide +kernel

/-! ## A window's sum -/

/-- A sequence of 2048 put behind 8 zeros, with zeros after it. -/
def padded (p : ℕ → EReal) (k : ℕ) : EReal := if 8 ≤ k ∧ k < 2056 then p (k - 8) else 0

theorem win_padded (p : ℕ → EReal) (s h : ℕ) (hs : s < 2048) (h1 : 1 ≤ h) (h8 : h ≤ 8) :
    (∑ k ∈ Finset.Ico (s + 8 - h) (s + 8 + h), padded p k : EReal) = (∑ q ∈ Finset.Ico (s - h) (min 2048 (s + h)), p q : EReal) := by
  have e : (∑ q ∈ Finset.Ico (s - h) (min 2048 (s + h)), p q : EReal) = (∑ k ∈ Finset.Ico (s - h + 8) (min 2048 (s + h) + 8), padded p k : EReal) := by
    rw [← Finset.sum_Ico_add' (fun k => padded p k)]
    refine Finset.sum_congr rfl fun q hq => ?_
    have := Finset.mem_Ico.1 hq
    unfold padded
    rw [if_pos (by omega), Nat.add_sub_cancel]
  rw [e]
  refine (Finset.sum_subset (fun k hk => ?_) fun k hk hn => ?_).symm
  · have := Finset.mem_Ico.1 hk
    exact Finset.mem_Ico.2 (by omega)
  · have h2 := Finset.mem_Ico.1 hk
    rw [Finset.mem_Ico] at hn
    unfold padded
    exact if_neg (by omega)

theorem coe_sum {ι : Type} (u : Finset ι) (f : ι → ℝ) : ((∑ i ∈ u, f i : ℝ) : EReal) = (∑ i ∈ u, (f i : EReal) : EReal) := by
  classical
  induction u using Finset.induction_on with
  | empty => simp
  | insert a u ha ih => rw [Finset.sum_insert ha, Finset.sum_insert ha, EReal.coe_add, ih]

/-- A window of a sequence of numbers is the difference of two prefix sums. -/
theorem win_prefix (p : ℕ → ℝ) (a b : ℕ) (hab : a ≤ b) :
    ((∑ q ∈ Finset.range b, (p q : EReal) : EReal) - (∑ q ∈ Finset.range a, (p q : EReal) : EReal)) = (∑ q ∈ Finset.Ico a b, (p q : EReal) : EReal) := by
  rw [← coe_sum, ← coe_sum, ← coe_sum, ← EReal.coe_sub, Finset.sum_Ico_eq_sub _ hab]
end PoolMix
-- ==== Proof.MixSpec.lean ====
/- The pooling mixer, the output projection, the second norm and the router's logits, element by element, over a window's sum. -/
module
public import proofs.«01_k».proof.Proof.MixWin
@[expose] public section
set_option maxRecDepth 16384
noncomputable section
open Idealize.ShloMosaic Idealize.SL.Sem
namespace PoolMix

variable (win : Fin 32 → Fin 2048 → Fin 4 → Fin 256 → EReal)
  (X AM GP P : (⟨3, ![32, 2048, 1024]⟩ : Shape).Idx → EReal) (MOD : (⟨3, ![32, 6, 1024]⟩ : Shape).Idx → EReal)
  (PW : (⟨4, ![1, 4, 256, 256]⟩ : Shape).Idx → EReal) (PS : (⟨2, ![1, 1024]⟩ : Shape).Idx → EReal) (WO : (⟨3, ![1, 1024, 1024]⟩ : Shape).Idx → EReal)
  (G : (⟨2, ![1, 1024]⟩ : Shape).Idx → EReal) (WR : (⟨3, ![1, 1024, 256]⟩ : Shape).Idx → EReal)

/-- A window's count, as a number. -/
def cnt (g : Fin 4) (s : Fin 2048) : EReal := (((cntW (halfW g) (BitVec.ofNat 32 s.val)).toInt : ℝ) : EReal)
/-- The mean of a window, less the position's own value. -/
def mix (b : Fin 32) (s : Fin 2048) (g : Fin 4) (k : Fin 256) : EReal := Ideal.div (win b s g k) (cnt g s) - P (ix3 b s ⟨g.val * 256 + k.val, by omega⟩)
/-- A group's product. -/
def pooled (b : Fin 32) (s : Fin 2048) (g : Fin 4) (d : Fin 256) : EReal := ∑ k : Fin 256, mix win P b s g k * PW (ix4 0 g k d)
/-- The merged branches. -/
def mrg (b : Fin 32) (s : Fin 2048) (n : Fin 1024) : EReal :=
  AM (ix3 b s n) + GP (ix3 b s n) * (pooled win P PW b s ⟨n.val / 256, by omega⟩ ⟨n.val % 256, by omega⟩ * PS (ix2 0 n))
/-- The residual after the output projection. -/
def res (b : Fin 32) (s : Fin 2048) (e : Fin 1024) : EReal :=
  X (ix3 b s e) + MOD (ix3 b 2 e) * (∑ n : Fin 1024, mrg win AM GP P PW PS b s n * WO (ix3 0 n e) : EReal)
/-- A row, normalised and modulated. -/
def nrm (y : Fin 1024 → EReal) (b : Fin 32) (e : Fin 1024) : EReal :=
  y e * Ideal.rsqrt (Ideal.div (∑ d : Fin 1024, y d * y d : EReal) (Ideal.ofBits FTy.f32 0x44800000#32) + Ideal.ofBits FTy.f32 0x358637BD#32) * G (ix2 0 e)
    * (Ideal.ofBits FTy.f32 0x3F800000#32 + MOD (ix3 b 4 e)) + MOD (ix3 b 3 e)
/-- A router logit of a row. -/
def lgt (h : Fin 1024 → EReal) (k : Fin 256) : EReal := ∑ e : Fin 1024, h e * WR (ix3 0 e k)

/-- One feature's sequence. -/
def seq (b : Fin 32) (n : Fin 1024) (q : ℕ) : EReal := if h : q < 2048 then P (ix3 b ⟨q, h⟩ n) else 0
/-- A window's sum, and as the difference of two prefix sums. -/
def winSum (b : Fin 32) (s : Fin 2048) (g : Fin 4) (k : Fin 256) : EReal := ∑ q ∈ Finset.Ico (loN g s.val) (hiN g s.val), seq P b ⟨g.val * 256 + k.val, by omega⟩ q
def winDiff (b : Fin 32) (s : Fin 2048) (g : Fin 4) (k : Fin 256) : EReal :=
  (∑ q ∈ Finset.range (hiN g s.val), seq P b ⟨g.val * 256 + k.val, by omega⟩ q : EReal) - (∑ q ∈ Finset.range (loN g s.val), seq P b ⟨g.val * 256 + k.val, by omega⟩ q : EReal)

/-- Being a number. -/
def Rl (x : EReal) : Prop := ∃ r : ℝ, x = (r : EReal)

theorem seq_real (hP : ∀ i, Rl (P i)) (b : Fin 32) (n : Fin 1024) (q : ℕ) : Rl (seq P b n q) := by
  unfold seq
  by_cases h : q < 2048
  · rw [dif_pos h]
    exact hP _
  · rw [dif_neg h]
    exact ⟨0, rfl⟩

theorem win_same (hP : ∀ i, Rl (P i)) (b : Fin 32) (s : Fin 2048) (g : Fin 4) (k : Fin 256) : winDiff P b s g k = winSum P b s g k := by
  choose p hp using seq_real P hP b ⟨g.val * 256 + k.val, by omega⟩
  unfold winDiff winSum
  simp only [hp]
  exact win_prefix p _ _ (by unfold loN hiN; omega)

/-! ## Sums and products of numbers -/

theorem Rl.add {x y : EReal} (hx : Rl x) (hy : Rl y) : Rl (x + y) := by
  obtain ⟨r, rfl⟩ := hx
  obtain ⟨t, rfl⟩ := hy
  exact ⟨r + t, (EReal.coe_add r t).symm⟩
theorem Rl.mul {x y : EReal} (hx : Rl x) (hy : Rl y) : Rl (x * y) := by
  obtain ⟨r, rfl⟩ := hx
  obtain ⟨t, rfl⟩ := hy
  exact ⟨r * t, (EReal.coe_mul r t).symm⟩
end PoolMix
-- ==== Proof.MixPay.lean ====
/- The pooling mixer's payloads, read at an element. -/
module
public import proofs.«01_k».proof.Proof.Gen.Kernel4Ideal.Frame
public import proofs.«01_k».proof.Proof.MixSpec
public import Idealize.ShloMosaic.Lib.Pointwise
public import Idealize.ShloMosaic.Lib.KernelVsHost
public import Idealize.ShloMosaic.Lib.Tactic.CleanTypes
@[expose] public section
set_option maxRecDepth 16384
noncomputable section
open Idealize.ShloMosaic Idealize.SL.Sem PoolMix
namespace Cert.Kernel4Ideal.Mix
open Cert.Kernel4Ideal Cert.Kernel4Ideal.Gen

/-! ## Windows by doubling -/

theorem roll_at (x : FVec Ideal S528x256 .f32) (sb : BitVec 32) (h) (r : Fin 528) (c : Fin 256) :
    dynamicRotate 0 sb none x h (ix2 r c) = x (ix2 ⟨(r.val + 528 - sb.toNat % 528) % 528, Nat.mod_lt _ (by decide)⟩ c) :=
  dynamicRotate_apply 0 sb x h _ _ (show ∀ b : Fin 2, _ from Fin.forall_fin_two.2 ⟨rfl, rfl⟩)

/-- Row r of a column holds the sum of the last n terms up to r. -/
def Back (x : FVec Ideal S528x256 .f32) (c : Fin 256) (y : ℕ → EReal) (n : ℕ) : Prop :=
  ∀ r : Fin 528, n ≤ r.val + 1 → x (ix2 r c) = (∑ k ∈ Finset.Ico (r.val + 1 - n) (r.val + 1), y k : EReal)

theorem Back.dbl {x : FVec Ideal S528x256 .f32} {c : Fin 256} {y : ℕ → EReal} {n : ℕ} (hx : Back x c y n) (sb : BitVec 32) (h) (hn : sb.toNat = n) (h1 : 1 ≤ n) (h8 : n ≤ 8) :
    Back (addf x (dynamicRotate 0 sb none x h)) c y (2 * n) := by
  intro r hr
  refine (show _ = x (ix2 r c) + dynamicRotate 0 sb none x h (ix2 r c) from rfl).trans ?_
  have hlt := r.isLt
  have e : (⟨(r.val + 528 - sb.toNat % 528) % 528, Nat.mod_lt _ (by decide)⟩ : Fin 528) = ⟨r.val - n, by omega⟩ := Fin.ext (by
    show (r.val + 528 - sb.toNat % 528) % 528 = r.val - n
    rw [hn]
    omega)
  rw [roll_at, e, hx r (by omega), hx ⟨r.val - n, by omega⟩ (by show n ≤ r.val - n + 1; omega)]
  show (_ + (∑ k ∈ Finset.Ico (r.val - n + 1 - n) (r.val - n + 1), y k : EReal)) = _
  rw [show r.val - n + 1 - n = r.val + 1 - 2 * n by omega, show r.val - n + 1 = r.val + 1 - n by omega, add_comm]
  exact Finset.sum_Ico_consecutive _ (by omega) (by omega)

theorem low_at (x : FVec Ideal S528x256 .f32) (h2) (i : Fin 512) (c : Fin 256) : extractStridedSlice S512x256 ![8, 0] x h2 (ix2 i c) = x (ix2 ⟨i.val + 8, by omega⟩ c) := by
  pointwise
  exact congrArg (fun u => x (ix2 u c)) (Fin.ext (Nat.add_comm _ _))
/-- The rows past the halo, centred: row i holds the window of i + 8. -/
theorem Back.mid {x : FVec Ideal S528x256 .f32} {c : Fin 256} {y : ℕ → EReal} {m : ℕ} (hx : Back x c y (2 * m)) (sb : BitVec 32) (h) (h2) (hn : sb.toNat + (m - 1) = 528) (h1 : 2 ≤ m) (h8 : m ≤ 8) (i : Fin 512) :
    extractStridedSlice S512x256 ![8, 0] (dynamicRotate 0 sb none x h) h2 (ix2 i c) = (∑ k ∈ Finset.Ico (i.val + 8 - m) (i.val + 8 + m), y k : EReal) := by
  have hlt := i.isLt
  refine Eq.trans (b := dynamicRotate 0 sb none x h (ix2 ⟨i.val + 8, by omega⟩ c)) (low_at _ h2 i c) ?_
  have e : (⟨(i.val + 8 + 528 - sb.toNat % 528) % 528, Nat.mod_lt _ (by decide)⟩ : Fin 528) = ⟨i.val + 8 + (m - 1), by omega⟩ := Fin.ext (by
    show (i.val + 8 + 528 - sb.toNat % 528) % 528 = i.val + 8 + (m - 1)
    omega)
  rw [roll_at]
  refine (congrArg (fun u => x (ix2 u c)) e).trans ?_
  rw [hx _ (by show 2 * m ≤ i.val + 8 + (m - 1) + 1; omega)]
  show (∑ k ∈ Finset.Ico (i.val + 8 + (m - 1) + 1 - 2 * m) (i.val + 8 + (m - 1) + 1), y k : EReal) = _
  rw [show i.val + 8 + (m - 1) + 1 - 2 * m = i.val + 8 - m by omega, show i.val + 8 + (m - 1) + 1 = i.val + 8 + m by omega]
/-- The two-wide window needs no centring. -/
theorem Back.mid1 {x : FVec Ideal S528x256 .f32} {c : Fin 256} {y : ℕ → EReal} (hx : Back x c y 2) (h2) (i : Fin 512) :
    extractStridedSlice S512x256 ![8, 0] x h2 (ix2 i c) = (∑ k ∈ Finset.Ico (i.val + 8 - 1) (i.val + 8 + 1), y k : EReal) := by
  refine Eq.trans (b := x (ix2 ⟨i.val + 8, by omega⟩ c)) (low_at _ h2 i c) ?_
  exact hx _ (by show 2 ≤ i.val + 8 + 1; omega)

theorem back_one {x : FVec Ideal S528x256 .f32} {c : Fin 256} {y : ℕ → EReal} (hx : ∀ r : Fin 528, x (ix2 r c) = y r.val) : Back x c y 1 := by
  intro r _
  rw [hx r, show r.val + 1 - 1 = r.val by omega, Nat.Ico_succ_singleton, Finset.sum_singleton]

/-- A group's columns of the extended block, and its windows. -/
def col (o : ℕ) (h : S528x1024.Slices ![0, o] S528x256) (E : FVec Ideal S528x1024 .f32) : FVec Ideal S528x256 .f32 := extractStridedSlice S528x256 ![0, o] E h
def step (sb : BitVec 32) (x : FVec Ideal S528x256 .f32) : FVec Ideal S528x256 .f32 := addf x (dynamicRotate 0 sb none x rotates_S528x256_d0)
def win0 (E : FVec Ideal S528x1024 .f32) : FVec Ideal S512x256 .f32 := extractStridedSlice S512x256 ![8, 0] (step 1#32 (col 0 slices_S528x1024_o0_0_S528x256 E)) slices_S528x256_o8_0_S512x256
def win1 (E : FVec Ideal S528x1024 .f32) : FVec Ideal S512x256 .f32 := extractStridedSlice S512x256 ![8, 0] (dynamicRotate 0 527#32 none (step 2#32 (step 1#32 (col 256 slices_S528x1024_o0_256_S528x256 E))) rotates_S528x256_d0) slices_S528x256_o8_0_S512x256
def win2 (E : FVec Ideal S528x1024 .f32) : FVec Ideal S512x256 .f32 := extractStridedSlice S512x256 ![8, 0] (dynamicRotate 0 525#32 none (step 4#32 (step 2#32 (step 1#32 (col 512 slices_S528x1024_o0_512_S528x256 E)))) rotates_S528x256_d0) slices_S528x256_o8_0_S512x256
def win3 (E : FVec Ideal S528x1024 .f32) : FVec Ideal S512x256 .f32 := extractStridedSlice S512x256 ![8, 0] (dynamicRotate 0 521#32 none (step 8#32 (step 4#32 (step 2#32 (step 1#32 (col 768 slices_S528x1024_o0_768_S528x256 E))))) rotates_S528x256_d0) slices_S528x256_o8_0_S512x256

variable (E : FVec Ideal S528x1024 .f32) (y : Fin 1024 → ℕ → EReal) (hE : ∀ (r : Fin 528) (e : Fin 1024), E (ix2 r e) = y e r.val)
include hE
theorem col_back (o : ℕ) (h : S528x1024.Slices ![0, o] S528x256) (c : Fin 256) (ho : o + c.val < 1024) : Back (col o h E) c (y ⟨o + c.val, ho⟩) 1 := by
  refine back_one fun r => ?_
  rw [← hE]
  unfold col
  pointwise
theorem win0_at (i : Fin 512) (c : Fin 256) : win0 E (ix2 i c) = (∑ k ∈ Finset.Ico (i.val + 8 - 1) (i.val + 8 + 1), y ⟨0 + c.val, by omega⟩ k : EReal) :=
  Back.mid1 ((col_back E y hE 0 _ c _).dbl 1#32 _ rfl (by decide) (by decide)) _ i
theorem win1_at (i : Fin 512) (c : Fin 256) : win1 E (ix2 i c) = (∑ k ∈ Finset.Ico (i.val + 8 - 2) (i.val + 8 + 2), y ⟨256 + c.val, by omega⟩ k : EReal) :=
  Back.mid (m := 2) (((col_back E y hE 256 _ c _).dbl 1#32 _ rfl (by decide) (by decide)).dbl 2#32 _ rfl (by decide) (by decide)) 527#32 _ _ rfl (by decide) (by decide) i
theorem win2_at (i : Fin 512) (c : Fin 256) : win2 E (ix2 i c) = (∑ k ∈ Finset.Ico (i.val + 8 - 4) (i.val + 8 + 4), y ⟨512 + c.val, by omega⟩ k : EReal) :=
  Back.mid (m := 4) ((((col_back E y hE 512 _ c _).dbl 1#32 _ rfl (by decide) (by decide)).dbl 2#32 _ rfl (by decide) (by decide)).dbl 4#32 _ rfl (by decide) (by decide)) 525#32 _ _ rfl (by decide) (by decide) i
theorem win3_at (i : Fin 512) (c : Fin 256) : win3 E (ix2 i c) = (∑ k ∈ Finset.Ico (i.val + 8 - 8) (i.val + 8 + 8), y ⟨768 + c.val, by omega⟩ k : EReal) :=
  Back.mid (m := 8) (((((col_back E y hE 768 _ c _).dbl 1#32 _ rfl (by decide) (by decide)).dbl 2#32 _ rfl (by decide) (by decide)).dbl 4#32 _ rfl (by decide) (by decide)).dbl 8#32 _ rfl (by decide) (by decide)) 521#32 _ _ rfl (by decide) (by decide) i
omit hE

/-! ## A group's product, and what follows -/

def grp (hw : BitVec 32) (pos : IVec S512x1 32) (V p : FVec Ideal S512x256 .f32) (W : FVec Ideal S1x256x256 .bf16) : FVec Ideal S512x256 .f32 :=
  matmul dot_S512x256_S256x256_S512x256_1_0_0_1_n_n none
    (truncf .bf16 (subf (divf V (broadcastTo S512x256 (sitofp .f32 (addi (subi
      (minsi (broadcast S512x1 2047#32) (maxsi (broadcast S512x1 0#32) (subi (addi pos (broadcast S512x1 hw)) (broadcast S512x1 1#32))))
      (minsi (broadcast S512x1 2047#32) (maxsi (broadcast S512x1 0#32) (subi pos (broadcast S512x1 hw))))) (broadcast S512x1 1#32))) broadcasts_S512x1_S512x256))
      (shapeCast S512x256 p shapeCasts_S512x256_S512x256)) bitsLt_bf16_f32)
    (shapeCast S256x256 W shapeCasts_S1x256x256_S256x256) (constant S512x256 .f32 0x00000000#32)
theorem grp_at (hw : BitVec 32) (pos : IVec S512x1 32) (V p : FVec Ideal S512x256 .f32) (W : FVec Ideal S1x256x256 .bf16) (i : Fin 512) (d : Fin 256) :
    grp hw pos V p W (ix2 i d) = (∑ k : Fin 256, (Ideal.div (V (ix2 i k)) (((cntW hw (pos (ix2 i 0))).toInt : ℝ) : EReal) - p (ix2 i k)) * W (ix3 0 k d) : EReal) := by
  unfold grp cntW loW hiW
  pointwise
  rfl
def comb (am gp : FVec Ideal S512x256 .bf16) (m : FVec Ideal S512x256 .f32) (sc : FVec Ideal S1x256 .f32) : FVec Ideal S512x256 .f32 :=
  addf (extf .f32 (shapeCast S512x256 am shapeCasts_S512x256_S512x256) bitsLt_bf16_f32) (mulf (extf .f32 (shapeCast S512x256 gp shapeCasts_S512x256_S512x256) bitsLt_bf16_f32)
    (mulf m (broadcastTo S512x256 (shapeCast S1x256 sc shapeCasts_S1x256_S1x256) broadcasts_S1x256_S512x256)))
theorem comb_at (am gp : FVec Ideal S512x256 .bf16) (m : FVec Ideal S512x256 .f32) (sc : FVec Ideal S1x256 .f32) (i : Fin 512) (d : Fin 256) :
    comb am gp m sc (ix2 i d) = am (ix2 i d) + gp (ix2 i d) * (m (ix2 i d) * sc (ix2 0 d)) := by
  unfold comb
  pointwise
def cat (a b c d : FVec Ideal S512x256 .f32) : FVec Ideal S512x1024 .f32 := concatenate S512x1024 1 [⟨S512x256, a⟩, ⟨S512x256, b⟩, ⟨S512x256, c⟩, ⟨S512x256, d⟩] concatenates_S512x256_S512x256_S512x256_S512x256_S512x1024_d1
theorem cat0 (a b c d : FVec Ideal S512x256 .f32) (i : Fin 512) (k : Fin 256) (h) : cat a b c d (ix2 i ⟨0 * 256 + k.val, h⟩) = a (ix2 i k) := by
  unfold cat
  pointwise
theorem cat1 (a b c d : FVec Ideal S512x256 .f32) (i : Fin 512) (k : Fin 256) (h) : cat a b c d (ix2 i ⟨1 * 256 + k.val, h⟩) = b (ix2 i k) := by
  unfold cat
  pointwise
theorem cat2 (a b c d : FVec Ideal S512x256 .f32) (i : Fin 512) (k : Fin 256) (h) : cat a b c d (ix2 i ⟨2 * 256 + k.val, h⟩) = c (ix2 i k) := by
  unfold cat
  pointwise
  exact (dif_neg (by omega)).trans ((dif_neg (by omega)).trans ((dif_pos (by omega)).trans (congrArg (fun u => c (ix2 i u)) (Fin.ext (show 512 + k.val - 256 - 256 = k.val by omega)))))
theorem cat3 (a b c d : FVec Ideal S512x256 .f32) (i : Fin 512) (k : Fin 256) (h) : cat a b c d (ix2 i ⟨3 * 256 + k.val, h⟩) = d (ix2 i k) := by
  unfold cat
  pointwise
  exact (dif_neg (by omega)).trans ((dif_neg (by omega)).trans ((dif_neg (by omega)).trans (congrArg (fun u => d (ix2 i u)) (Fin.ext (show 768 + k.val - 256 - 256 - 256 = k.val by omega)))))
def outp (M : FVec Ideal S512x1024 .f32) (W : FVec Ideal S1024x1024 .bf16) (x : FVec Ideal S512x1024 .f32) (m : FVec Ideal S1x1x1024 .f32) : FVec Ideal S512x1024 .f32 :=
  addf (shapeCast S512x1024 x shapeCasts_S512x1024_S512x1024) (mulf (broadcastTo S512x1024 (shapeCast S1x1024 m shapeCasts_S1x1x1024_S1x1024) broadcasts_S1x1024_S512x1024)
    (matmul dot_S512x1024_S1024x1024_S512x1024_1_0_0_1_n_n none (truncf .bf16 M bitsLt_bf16_f32) (shapeCast S1024x1024 W shapeCasts_S1024x1024_S1024x1024) (constant S512x1024 .f32 0x00000000#32)))
theorem outp_at (M : FVec Ideal S512x1024 .f32) (W : FVec Ideal S1024x1024 .bf16) (x : FVec Ideal S512x1024 .f32) (m : FVec Ideal S1x1x1024 .f32) (i : Fin 512) (e : Fin 1024) :
    outp M W x m (ix2 i e) = x (ix2 i e) + m (ix3 0 0 e) * (∑ n : Fin 1024, M (ix2 i n) * W (ix2 n e) : EReal) := by
  unfold outp
  pointwise
def sqs (Y : FVec Ideal S512x1024 .f32) : FVec Ideal S512x1 .f32 :=
  shapeCast S512x1 (multiReduction .add [1] S512 (mulf Y Y) 0x00000000#32 reduces_S512x1024_S512 (.inl rfl) rfl) shapeCasts_S512_S512x1
theorem sqs_at (Y : FVec Ideal S512x1024 .f32) (i : Fin 512) : sqs Y (ix2 i 0) = (∑ d : Fin 1024, Y (ix2 i d) * Y (ix2 i d) : EReal) := by
  unfold sqs
  pointwise
theorem pay16_at (Y : FVec Ideal S512x1024 .f32) (q : FVec Ideal S512x1 .f32) (g : FVec Ideal S1x1024 .f32) (m4 m3 : FVec Ideal S1x1x1024 .f32) (i : Fin 512) (e : Fin 1024) :
    k0_pay16 Y q g m4 m3 (ix2 i e) = Y (ix2 i e) * Ideal.rsqrt (Ideal.div (q (ix2 i 0)) (Ideal.ofBits FTy.f32 0x44800000#32) + Ideal.ofBits FTy.f32 0x358637BD#32) * g (ix2 0 e)
      * (Ideal.ofBits FTy.f32 0x3F800000#32 + m4 (ix3 0 0 e)) + m3 (ix3 0 0 e) := by
  unfold k0_pay16
  pointwise
theorem pay17_at (Y : FVec Ideal S512x1024 .f32) (q : FVec Ideal S512x1 .f32) (g : FVec Ideal S1x1024 .f32) (m4 m3 : FVec Ideal S1x1x1024 .f32) (i : Fin 512) (e : Fin 1024) :
    k0_pay17 Y q g m4 m3 (ix2 i e) = k0_pay16 Y q g m4 m3 (ix2 i e) := rfl
theorem pay18_at (Y : FVec Ideal S512x1024 .f32) (q : FVec Ideal S512x1 .f32) (g : FVec Ideal S1x1024 .f32) (m4 m3 : FVec Ideal S1x1x1024 .f32) (w : FVec Ideal S512x1024 .bf16) (w' : FVec Ideal S256x1024 .bf16) (k : Fin 256) (i : Fin 512) :
    k0_pay18 Y q g m4 m3 w w' (ix2 k i) = (∑ e : Fin 1024, w (ix2 ⟨k.val, by omega⟩ e) * k0_pay16 Y q g m4 m3 (ix2 i e) : EReal)
      + (∑ e : Fin 1024, w (ix2 ⟨256 + k.val, by omega⟩ e) * k0_pay16 Y q g m4 m3 (ix2 i e) : EReal)
      + (∑ e : Fin 1024, w' (ix2 k e) * (k0_pay16 Y q g m4 m3 (ix2 i e) - k0_pay16 Y q g m4 m3 (ix2 i e)) : EReal) := by
  unfold k0_pay18
  generalize k0_pay16 Y q g m4 m3 = H
  pointwise

/-! ## Positions, and the extended block -/

/-- The first position of a block, as a word. -/
def baseW (a : BitVec 32) : BitVec 32 :=
  let v1 : BitVec 32 := Scalar.select (Scalar.cmpi .eq 4#32 0#32) 1#32 4#32
  let v2 : BitVec 32 := Scalar.remsi a v1
  Scalar.muli (Scalar.select (Scalar.andi (Scalar.xori (Scalar.cmpi .slt v2 0#32) (Scalar.cmpi .slt v1 0#32)) (Scalar.cmpi .ne v2 0#32)) (Scalar.addi v2 v1) v2) 512#32
theorem baseW_eq : ∀ t : Fin 128, baseW (BitVec.ofNat 32 t.val) = BitVec.ofNat 32 (t.val % 4 * 512) := by decide +kernel

theorem pay2_at (i : grid0.Coords) (t : Fin 128) (ht : (i 0).val = t.val) (r : Fin 512) : k0_pay2 i (ix2 r 0) = BitVec.ofNat 32 (t.val % 4 * 512 + r.val) := by
  have e : k0_pay2 i = addi (broadcast S512x1 (baseW (BitVec.ofNat 32 (i 0).val))) (iota .tc S512x1 32 [0] iota_S512x1_d0_w32) := rfl
  rw [e, ht, baseW_eq, BitVec.ofNat_add]
  pointwise
  rfl

/-- Whether a row of the extended block lies within the sequence. -/
def inside (b : BitVec 32) (r : ℕ) : BitVec 1 :=
  IntOp.andi (IntOp.cmpi .sge (IntOp.addi (IntOp.subi b 8#32) (BitVec.ofNat 32 r)) 0#32) (IntOp.cmpi .slt (IntOp.addi (IntOp.subi b 8#32) (BitVec.ofNat 32 r)) 2048#32)
theorem inside_eq : ∀ (u : Fin 4) (r : Fin 528), (inside (BitVec.ofNat 32 (u.val * 512)) r.val = 1#1) = (8 ≤ u.val * 512 + r.val ∧ u.val * 512 + r.val < 2056) := by
  have h : ∀ (u : Fin 4) (r : Fin 528), (inside (BitVec.ofNat 32 (u.val * 512)) r.val = 1#1) ↔ (8 ≤ u.val * 512 + r.val ∧ u.val * 512 + r.val < 2056) := by decide +kernel
  exact fun u r => propext (h u r)

theorem ext3_at (a : FVec Ideal S8x1024 .f32) (b : FVec Ideal S512x1024 .f32) (c : FVec Ideal S8x1024 .f32) (h) (r : Fin 528) (e : Fin 1024) :
    concatenate S528x1024 0 [⟨S8x1024, a⟩, ⟨S512x1024, b⟩, ⟨S8x1024, c⟩] h (ix2 r e)
      = if h1 : r.val < 8 then a (ix2 ⟨r.val, h1⟩ e) else if h2 : r.val < 520 then b (ix2 ⟨r.val - 8, by omega⟩ e) else c (ix2 ⟨r.val - 520, by omega⟩ e) := by
  pointwise
  by_cases h1 : r.val < 8
  · rw [dif_pos h1, dif_pos h1]
  · rw [dif_neg h1, dif_neg h1]
    by_cases h2 : r.val < 520
    · rw [dif_pos h2]
      exact dif_pos (by omega)
    · rw [dif_neg h2]
      exact (dif_neg (by omega)).trans (congrArg (fun u => c (ix2 u e)) (Fin.ext (show r.val - 8 - 512 = r.val - 520 by omega)))

def msk (b : BitVec 32) (E : FVec Ideal S528x1024 .f32) : FVec Ideal S528x1024 .f32 :=
  select (broadcastTo S528x1024 (shapeCast S528x1 (andi
      (cmpi .sge (addi (broadcast S528x1 (Scalar.subi b 8#32)) (iota .tc S528x1 32 [0] iota_S528x1_d0_w32)) (broadcast S528x1 0#32))
      (cmpi .slt (addi (broadcast S528x1 (Scalar.subi b 8#32)) (iota .tc S528x1 32 [0] iota_S528x1_d0_w32)) (broadcast S528x1 2048#32))) shapeCasts_S528x1_S528x1) broadcasts_S528x1_S528x1024)
      E (broadcast S528x1024 (Scalar.ofBits .f32 0x00000000#32))
theorem msk_at (b : BitVec 32) (E : FVec Ideal S528x1024 .f32) (r : Fin 528) (e : Fin 1024) : msk b E (ix2 r e) = if inside b r.val = 1#1 then E (ix2 r e) else 0 := by
  unfold msk inside
  pointwise
  rfl

theorem pay1_at (i : grid0.Coords) (t : Fin 128) (ht : (i 0).val = t.val) (a : FVec Ideal S8x1024 .f32) (b : FVec Ideal S512x1024 .f32) (c : FVec Ideal S8x1024 .f32) (p : Fin 1024 → ℕ → EReal)
    (ha : ∀ (q : Fin 8) (e : Fin 1024), 0 < t.val % 4 → a (ix2 q e) = p e (t.val % 4 * 512 + q.val - 8)) (hb : ∀ (q : Fin 512) (e : Fin 1024), b (ix2 q e) = p e (t.val % 4 * 512 + q.val))
    (hc : ∀ (q : Fin 8) (e : Fin 1024), t.val % 4 < 3 → c (ix2 q e) = p e (t.val % 4 * 512 + 512 + q.val)) (r : Fin 528) (e : Fin 1024) :
    k0_pay1 (F := Ideal) i a b c (ix2 r e) = padded (p e) (t.val % 4 * 512 + r.val) := by
  have h0 : k0_pay1 (F := Ideal) i a b c = msk (baseW (BitVec.ofNat 32 (i 0).val)) (concatenate S528x1024 0 [⟨S8x1024, shapeCast S8x1024 a shapeCasts_S8x1024_S8x1024⟩, ⟨S512x1024, shapeCast S512x1024 b shapeCasts_S512x1024_S512x1024⟩, ⟨S8x1024, shapeCast S8x1024 c shapeCasts_S8x1024_S8x1024⟩] concatenates_S8x1024_S512x1024_S8x1024_S528x1024_d0) := rfl
  rw [h0, ht, baseW_eq, shapeCast_self, shapeCast_self, shapeCast_self, msk_at, ext3_at]
  rw [if_congr (iff_of_eq (inside_eq ⟨t.val % 4, by omega⟩ r)) rfl rfl]
  unfold padded
  by_cases hin : 8 ≤ t.val % 4 * 512 + r.val ∧ t.val % 4 * 512 + r.val < 2056
  · rw [if_pos hin, if_pos hin]
    by_cases h1 : r.val < 8
    · rw [dif_pos h1, ha _ _ (by omega)]
    · rw [dif_neg h1]
      by_cases h2 : r.val < 520
      · rw [dif_pos h2, hb]
        exact congrArg (p e) (show t.val % 4 * 512 + (r.val - 8) = t.val % 4 * 512 + r.val - 8 by omega)
      · rw [dif_neg h2, hc _ _ (by omega)]
        exact congrArg (p e) (show t.val % 4 * 512 + 512 + (r.val - 520) = t.val % 4 * 512 + r.val - 8 by omega)
  · rw [if_neg hin, if_neg hin]

/-- A window of the extended block is the window of the sequence. -/
theorem slide (p : ℕ → EReal) (base i h : ℕ) (hs : base + i < 2048) (h1 : 1 ≤ h) (h8 : h ≤ 8) :
    (∑ k ∈ Finset.Ico (i + 8 - h) (i + 8 + h), padded p (base + k) : EReal) = (∑ q ∈ Finset.Ico (base + i - h) (min 2048 (base + i + h)), p q : EReal) := by
  rw [← win_padded p (base + i) h hs h1 h8, show base + i + 8 - h = i + 8 - h + base by omega, show base + i + 8 + h = i + 8 + h + base by omega]
  exact (@Finset.sum_congr _ EReal _ _ _ _ _ rfl fun k _ => congrArg (padded p) (add_comm base k)).trans (Finset.sum_Ico_add' (fun k => padded p k) _ _ base)
end Cert.Kernel4Ideal.Mix
-- ==== Proof.MixBody.lean ====
/- What a grid point of the pooling mixer writes, from what its blocks hold. -/
module
public import proofs.«01_k».proof.Proof.MixPay
public import Idealize.ShloMosaic.Lib.Pipeline.ValueKit
@[expose] public section
set_option maxRecDepth 16384
noncomputable section
open Idealize.ShloMosaic Idealize.SL.Sem PoolMix
namespace Cert.Kernel4Ideal.Mix
open Cert.Kernel4Ideal Cert.Kernel4Ideal.Gen

/-! ## Reading a block through a load -/

theorem ld_col {φ : EltTy} (x : Vec Ideal S512x1024 φ) (o : ℕ) (h) (i : Fin 512) (d : Fin 256) (ho : o + d.val < 1024) :
    (View.ld x (Rect.unit (s := S512x1024) ![0, o] S512x256.size h) : Vec Ideal S512x256 φ) (ix2 i d) = x (ix2 i ⟨o + d.val, ho⟩) := by
  refine View.ld_unit_apply_of x _ _ _ _ _ ?_
  show ∀ a : Fin 2, _
  exact Fin.forall_fin_two.2 ⟨(Nat.zero_add _).symm, rfl⟩
theorem ld_sc (x : Vec Ideal S1x1024 .f32) (o : ℕ) (h) (d : Fin 256) (ho : o + d.val < 1024) :
    (View.ld x (Rect.unit (s := S1x1024) ![0, o] S1x256.size h) : Vec Ideal S1x256 .f32) (ix2 0 d) = x (ix2 0 ⟨o + d.val, ho⟩) := by
  refine View.ld_unit_apply_of x _ _ _ _ _ ?_
  show ∀ a : Fin 2, _
  exact Fin.forall_fin_two.2 ⟨rfl, rfl⟩
theorem ld_pw (x : Vec Ideal S4x256x256 .bf16) (g : ℕ) (h) (hg : g < 4) (k d : Fin 256) :
    (View.ld x (Rect.unit (s := S4x256x256) ![g, 0, 0] S1x256x256.size h) : Vec Ideal S1x256x256 .bf16) (ix3 0 k d) = x (ix3 ⟨g, hg⟩ k d) := by
  refine View.ld_unit_apply_of x _ _ _ _ _ ?_
  show ∀ a : Fin 3, _
  exact Fin.forall_fin_succ.2 ⟨rfl, Fin.forall_fin_two.2 ⟨(Nat.zero_add _).symm, (Nat.zero_add _).symm⟩⟩
theorem ld_mod (x : Vec Ideal S1x6x1024 .f32) (j : ℕ) (h) (hj : j < 6) (e : Fin 1024) :
    (View.ld x (Rect.unit (s := S1x6x1024) ![0, j, 0] S1x1x1024.size h) : Vec Ideal S1x1x1024 .f32) (ix3 0 0 e) = x (ix3 0 ⟨j, hj⟩ e) := by
  refine View.ld_unit_apply_of x _ _ _ _ _ ?_
  show ∀ a : Fin 3, _
  exact Fin.forall_fin_succ.2 ⟨rfl, Fin.forall_fin_two.2 ⟨rfl, (Nat.zero_add _).symm⟩⟩
theorem ld_rows {φ : EltTy} (x : Vec Ideal S512x1024 φ) (i : Fin 512) (e : Fin 1024) : (View.ld x r0_1 : Vec Ideal S512x1024 φ) (ix2 i e) = x (ix2 i e) := by
  refine View.ld_unit_apply_of x _ _ _ _ _ ?_
  show ∀ a : Fin 2, _
  exact Fin.forall_fin_two.2 ⟨(Nat.zero_add _).symm, (Nat.zero_add _).symm⟩
theorem ld_edge (x : Vec Ideal S8x1024 .f32) (i : Fin 8) (e : Fin 1024) : (View.ld x r0_0 : Vec Ideal S8x1024 .f32) (ix2 i e) = x (ix2 i e) := by
  refine View.ld_unit_apply_of x _ _ _ _ _ ?_
  show ∀ a : Fin 2, _
  exact Fin.forall_fin_two.2 ⟨(Nat.zero_add _).symm, (Nat.zero_add _).symm⟩
theorem ld_wo (x : Vec Ideal S1024x1024 .bf16) (i e : Fin 1024) : (View.ld x r0_14 : Vec Ideal S1024x1024 .bf16) (ix2 i e) = x (ix2 i e) := by
  refine View.ld_unit_apply_of x _ _ _ _ _ ?_
  show ∀ a : Fin 2, _
  exact Fin.forall_fin_two.2 ⟨(Nat.zero_add _).symm, (Nat.zero_add _).symm⟩
theorem ld_g (x : Vec Ideal S1x1024 .f32) (e : Fin 1024) : (View.ld x r0_16 : Vec Ideal S1x1024 .f32) (ix2 0 e) = x (ix2 0 e) := by
  refine View.ld_unit_apply_of x _ _ _ _ _ ?_
  show ∀ a : Fin 2, _
  exact Fin.forall_fin_two.2 ⟨rfl, (Nat.zero_add _).symm⟩
theorem ld_wr (x : Vec Ideal S512x1024 .bf16) (k : Fin 256) (e : Fin 1024) : (View.ld x r0_19 : Vec Ideal S256x1024 .bf16) (ix2 k e) = x (ix2 ⟨k.val, by omega⟩ e) := by
  refine View.ld_unit_apply_of x _ _ _ _ _ ?_
  show ∀ a : Fin 2, _
  exact Fin.forall_fin_two.2 ⟨(Nat.zero_add _).symm, (Nat.zero_add _).symm⟩

theorem by_group {f g : Fin 1024 → EReal} (h0 : ∀ d : Fin 256, f ⟨0 * 256 + d.val, by omega⟩ = g ⟨0 * 256 + d.val, by omega⟩) (h1 : ∀ d : Fin 256, f ⟨1 * 256 + d.val, by omega⟩ = g ⟨1 * 256 + d.val, by omega⟩)
    (h2 : ∀ d : Fin 256, f ⟨2 * 256 + d.val, by omega⟩ = g ⟨2 * 256 + d.val, by omega⟩) (h3 : ∀ d : Fin 256, f ⟨3 * 256 + d.val, by omega⟩ = g ⟨3 * 256 + d.val, by omega⟩) (n : Fin 1024) : f n = g n := by
  have hn := n.isLt
  have e : ∀ (q : ℕ) (hq : q * 256 + n.val % 256 < 1024), n.val / 256 = q → (⟨q * 256 + n.val % 256, hq⟩ : Fin 1024) = n := fun q hq h => Fin.ext (show q * 256 + n.val % 256 = n.val by omega)
  have c : n.val / 256 = 0 ∨ n.val / 256 = 1 ∨ n.val / 256 = 2 ∨ n.val / 256 = 3 := by omega
  rcases c with h | h | h | h
  · have := h0 ⟨n.val % 256, by omega⟩
    rwa [show (⟨0 * 256 + (⟨n.val % 256, by omega⟩ : Fin 256).val, by omega⟩ : Fin 1024) = n from e 0 (by omega) h] at this
  · have := h1 ⟨n.val % 256, by omega⟩
    rwa [show (⟨1 * 256 + (⟨n.val % 256, by omega⟩ : Fin 256).val, by omega⟩ : Fin 1024) = n from e 1 (by omega) h] at this
  · have := h2 ⟨n.val % 256, by omega⟩
    rwa [show (⟨2 * 256 + (⟨n.val % 256, by omega⟩ : Fin 256).val, by omega⟩ : Fin 1024) = n from e 2 (by omega) h] at this
  · have := h3 ⟨n.val % 256, by omega⟩
    rwa [show (⟨3 * 256 + (⟨n.val % 256, by omega⟩ : Fin 256).val, by omega⟩ : Fin 1024) = n from e 3 (by omega) h] at this

/-! ## The arrays, and what a grid point's blocks hold of them -/

/-- Position of a row of block t. -/
def bat (t : Fin 128) : Fin 32 := ⟨t.val / 4, by omega⟩
def row (t : Fin 128) (i : Fin 512) : Fin 2048 := ⟨t.val % 4 * 512 + i.val, by omega⟩

variable (X AM GP P : (⟨3, ![32, 2048, 1024]⟩ : Shape).Idx → EReal) (MOD : (⟨3, ![32, 6, 1024]⟩ : Shape).Idx → EReal)
  (PW : (⟨4, ![1, 4, 256, 256]⟩ : Shape).Idx → EReal) (PS : (⟨2, ![1, 1024]⟩ : Shape).Idx → EReal) (WO : (⟨3, ![1, 1024, 1024]⟩ : Shape).Idx → EReal)
  (G : (⟨2, ![1, 1024]⟩ : Shape).Idx → EReal) (WR : (⟨3, ![1, 1024, 256]⟩ : Shape).Idx → EReal)

structure Holds (t : Fin 128) (x0 : Vec Ideal S512x1024 .f32) (x1 x2 : Vec Ideal S512x1024 .bf16) (x3 : Vec Ideal S512x1024 .f32) (x4 x5 : Vec Ideal S8x1024 .f32) (x6 : Vec Ideal S1x6x1024 .f32)
    (x7 : Vec Ideal S4x256x256 .bf16) (x8 : Vec Ideal S1x1024 .f32) (x9 : Vec Ideal S1024x1024 .bf16) (x10 : Vec Ideal S1x1024 .f32) (x11 : Vec Ideal S512x1024 .bf16) : Prop where
  h0 : ∀ (i : Fin 512) (e : Fin 1024), x0 (ix2 i e) = X (ix3 (bat t) (row t i) e)
  h1 : ∀ (i : Fin 512) (e : Fin 1024), x1 (ix2 i e) = AM (ix3 (bat t) (row t i) e)
  h2 : ∀ (i : Fin 512) (e : Fin 1024), x2 (ix2 i e) = GP (ix3 (bat t) (row t i) e)
  h3 : ∀ (i : Fin 512) (e : Fin 1024), x3 (ix2 i e) = P (ix3 (bat t) (row t i) e)
  h4 : ∀ (q : Fin 8) (e : Fin 1024), 0 < t.val % 4 → x4 (ix2 q e) = seq P (bat t) e (t.val % 4 * 512 + q.val - 8)
  h5 : ∀ (q : Fin 8) (e : Fin 1024), t.val % 4 < 3 → x5 (ix2 q e) = seq P (bat t) e (t.val % 4 * 512 + 512 + q.val)
  h6 : ∀ (j : Fin 6) (e : Fin 1024), x6 (ix3 0 j e) = MOD (ix3 (bat t) j e)
  h7 : ∀ (g : Fin 4) (k d : Fin 256), x7 (ix3 g k d) = PW (ix4 0 g k d)
  h8 : ∀ n : Fin 1024, x8 (ix2 0 n) = PS (ix2 0 n)
  h9 : ∀ n e : Fin 1024, x9 (ix2 n e) = WO (ix3 0 n e)
  h10 : ∀ e : Fin 1024, x10 (ix2 0 e) = G (ix2 0 e)
  h11 : ∀ (k : Fin 256) (e : Fin 1024), x11 (ix2 ⟨k.val, by omega⟩ e) = WR (ix3 0 e k)
  h12 : ∀ (k : Fin 256) (e : Fin 1024), x11 (ix2 ⟨256 + k.val, by omega⟩ e) = WR (ix3 0 e k) - WR (ix3 0 e k)

variable {X AM GP P MOD PW PS WO G WR}
variable {t : Fin 128} {x0 : Vec Ideal S512x1024 .f32} {x1 x2 : Vec Ideal S512x1024 .bf16} {x3 : Vec Ideal S512x1024 .f32} {x4 x5 : Vec Ideal S8x1024 .f32} {x6 : Vec Ideal S1x6x1024 .f32}
    {x7 : Vec Ideal S4x256x256 .bf16} {x8 : Vec Ideal S1x1024 .f32} {x9 : Vec Ideal S1024x1024 .bf16} {x10 : Vec Ideal S1x1024 .f32} {x11 : Vec Ideal S512x1024 .bf16}
variable (i : grid0.Coords) (ht : (i 0).val = t.val) (H : Holds X AM GP P MOD PW PS WO G WR t x0 x1 x2 x3 x4 x5 x6 x7 x8 x9 x10 x11)

theorem seq_row (b : Fin 32) (n : Fin 1024) (s : Fin 2048) : seq P b n s.val = P (ix3 b s n) := by
  unfold seq
  rw [dif_pos s.isLt]

include ht H
theorem ext_at (r : Fin 528) (e : Fin 1024) : k0_pay1 (F := Ideal) i (View.ld x4 r0_0) (View.ld x3 r0_1) (View.ld x5 r0_0) (ix2 r e) = padded (seq P (bat t) e) (t.val % 4 * 512 + r.val) :=
  pay1_at i t ht _ _ _ (fun e => seq P (bat t) e) (fun q e h => (ld_edge x4 q e).trans (H.h4 q e h))
    (fun q e => (ld_rows x3 q e).trans ((H.h3 q e).trans (seq_row (bat t) e (row t q)).symm)) (fun q e h => (ld_edge x5 q e).trans (H.h5 q e h)) r e
omit ht H

/-- One group of a row. -/
theorem group_at (g : Fin 4) (ht : (i 0).val = t.val) (hw : BitVec 32) (hhw : hw = halfW g) (V p : FVec Ideal S512x256 .f32) (W : FVec Ideal S1x256x256 .bf16) (am gp : FVec Ideal S512x256 .bf16) (sc : FVec Ideal S1x256 .f32)
    (hV : ∀ (i : Fin 512) (k : Fin 256), V (ix2 i k) = winSum P (bat t) (row t i) g k)
    (hp : ∀ (i : Fin 512) (k : Fin 256), p (ix2 i k) = P (ix3 (bat t) (row t i) ⟨g.val * 256 + k.val, by omega⟩))
    (hW : ∀ k d : Fin 256, W (ix3 0 k d) = PW (ix4 0 g k d))
    (ham : ∀ (i : Fin 512) (k : Fin 256), am (ix2 i k) = AM (ix3 (bat t) (row t i) ⟨g.val * 256 + k.val, by omega⟩))
    (hgp : ∀ (i : Fin 512) (k : Fin 256), gp (ix2 i k) = GP (ix3 (bat t) (row t i) ⟨g.val * 256 + k.val, by omega⟩))
    (hsc : ∀ k : Fin 256, sc (ix2 0 k) = PS (ix2 0 ⟨g.val * 256 + k.val, by omega⟩)) (r : Fin 512) (d : Fin 256) :
    comb am gp (grp hw (k0_pay2 i) V p W) sc (ix2 r d) = mrg (winSum P) AM GP P PW PS (bat t) (row t r) ⟨g.val * 256 + d.val, by omega⟩ := by
  have hd := d.isLt
  rw [comb_at, grp_at, ham, hgp, hsc, pay2_at i t ht]
  subst hhw
  unfold mrg
  have e : pooled (winSum P) P PW (bat t) (row t r) ⟨(g.val * 256 + d.val) / 256, by omega⟩ ⟨(g.val * 256 + d.val) % 256, by omega⟩ = pooled (winSum P) P PW (bat t) (row t r) g d :=
    congrArg₂ (pooled (winSum P) P PW (bat t) (row t r)) (Fin.ext (show (g.val * 256 + d.val) / 256 = g.val by omega)) (Fin.ext (show (g.val * 256 + d.val) % 256 = d.val by omega))
  refine congrArg (fun u : EReal => _ + _ * (u * _)) (Eq.trans ?_ e.symm)
  unfold pooled mix cnt
  refine @Finset.sum_congr _ EReal _ _ _ _ _ rfl fun k _ => ?_
  rw [hV, hp, hW]
  rfl

include ht H
theorem part0 (r : Fin 512) (d : Fin 256) : (comb (View.ld x1 r0_2) (View.ld x2 r0_2) (grp 1#32 (k0_pay2 i) (win0 (k0_pay1 (F := Ideal) i (View.ld x4 r0_0) (View.ld x3 r0_1) (View.ld x5 r0_0))) (View.ld x3 r0_2) (View.ld x7 r0_3)) (View.ld x8 r0_4)) (ix2 r d) = mrg (winSum P) AM GP P PW PS (bat t) (row t r) ⟨0 * 256 + d.val, by omega⟩ :=
  group_at i 0 ht 1#32 rfl _ _ _ _ _ _
    (fun q k => (win0_at _ (fun e r => padded (seq P (bat t) e) (t.val % 4 * 512 + r)) (ext_at i ht H) q k).trans (slide _ (t.val % 4 * 512) q.val 1 (row t q).isLt (by decide) (by decide)))
    (fun q k => (ld_col x3 0 _ q k (by omega)).trans (H.h3 q _)) (fun k d => (ld_pw x7 0 _ (by decide) k d).trans (H.h7 0 k d))
    (fun q k => (ld_col x1 0 _ q k (by omega)).trans (H.h1 q _)) (fun q k => (ld_col x2 0 _ q k (by omega)).trans (H.h2 q _))
    (fun k => (ld_sc x8 0 _ k (by omega)).trans (H.h8 _)) r d
omit ht H

include ht H
theorem part1 (r : Fin 512) (d : Fin 256) : (comb (View.ld x1 r0_5) (View.ld x2 r0_5) (grp 2#32 (k0_pay2 i) (win1 (k0_pay1 (F := Ideal) i (View.ld x4 r0_0) (View.ld x3 r0_1) (View.ld x5 r0_0))) (View.ld x3 r0_5) (View.ld x7 r0_6)) (View.ld x8 r0_7)) (ix2 r d) = mrg (winSum P) AM GP P PW PS (bat t) (row t r) ⟨1 * 256 + d.val, by omega⟩ :=
  group_at i 1 ht 2#32 rfl _ _ _ _ _ _
    (fun q k => (win1_at _ (fun e r => padded (seq P (bat t) e) (t.val % 4 * 512 + r)) (ext_at i ht H) q k).trans (slide _ (t.val % 4 * 512) q.val 2 (row t q).isLt (by decide) (by decide)))
    (fun q k => (ld_col x3 256 _ q k (by omega)).trans (H.h3 q _)) (fun k d => (ld_pw x7 1 _ (by decide) k d).trans (H.h7 1 k d))
    (fun q k => (ld_col x1 256 _ q k (by omega)).trans (H.h1 q _)) (fun q k => (ld_col x2 256 _ q k (by omega)).trans (H.h2 q _))
    (fun k => (ld_sc x8 256 _ k (by omega)).trans (H.h8 _)) r d
omit ht H

include ht H
theorem part2 (r : Fin 512) (d : Fin 256) : (comb (View.ld x1 r0_8) (View.ld x2 r0_8) (grp 4#32 (k0_pay2 i) (win2 (k0_pay1 (F := Ideal) i (View.ld x4 r0_0) (View.ld x3 r0_1) (View.ld x5 r0_0))) (View.ld x3 r0_8) (View.ld x7 r0_9)) (View.ld x8 r0_10)) (ix2 r d) = mrg (winSum P) AM GP P PW PS (bat t) (row t r) ⟨2 * 256 + d.val, by omega⟩ :=
  group_at i 2 ht 4#32 rfl _ _ _ _ _ _
    (fun q k => (win2_at _ (fun e r => padded (seq P (bat t) e) (t.val % 4 * 512 + r)) (ext_at i ht H) q k).trans (slide _ (t.val % 4 * 512) q.val 4 (row t q).isLt (by decide) (by decide)))
    (fun q k => (ld_col x3 512 _ q k (by omega)).trans (H.h3 q _)) (fun k d => (ld_pw x7 2 _ (by decide) k d).trans (H.h7 2 k d))
    (fun q k => (ld_col x1 512 _ q k (by omega)).trans (H.h1 q _)) (fun q k => (ld_col x2 512 _ q k (by omega)).trans (H.h2 q _))
    (fun k => (ld_sc x8 512 _ k (by omega)).trans (H.h8 _)) r d
omit ht H

include ht H
theorem part3 (r : Fin 512) (d : Fin 256) : (comb (View.ld x1 r0_11) (View.ld x2 r0_11) (grp 8#32 (k0_pay2 i) (win3 (k0_pay1 (F := Ideal) i (View.ld x4 r0_0) (View.ld x3 r0_1) (View.ld x5 r0_0))) (View.ld x3 r0_11) (View.ld x7 r0_12)) (View.ld x8 r0_13)) (ix2 r d) = mrg (winSum P) AM GP P PW PS (bat t) (row t r) ⟨3 * 256 + d.val, by omega⟩ :=
  group_at i 3 ht 8#32 rfl _ _ _ _ _ _
    (fun q k => (win3_at _ (fun e r => padded (seq P (bat t) e) (t.val % 4 * 512 + r)) (ext_at i ht H) q k).trans (slide _ (t.val % 4 * 512) q.val 8 (row t q).isLt (by decide) (by decide)))
    (fun q k => (ld_col x3 768 _ q k (by omega)).trans (H.h3 q _)) (fun k d => (ld_pw x7 3 _ (by decide) k d).trans (H.h7 3 k d))
    (fun q k => (ld_col x1 768 _ q k (by omega)).trans (H.h1 q _)) (fun q k => (ld_col x2 768 _ q k (by omega)).trans (H.h2 q _))
    (fun k => (ld_sc x8 768 _ k (by omega)).trans (H.h8 _)) r d
omit ht H

/-- The merged row block. -/
def mergedB (i : grid0.Coords) (x1 x2 : Vec Ideal S512x1024 .bf16) (x3 : Vec Ideal S512x1024 .f32) (x4 x5 : Vec Ideal S8x1024 .f32) (x7 : Vec Ideal S4x256x256 .bf16) (x8 : Vec Ideal S1x1024 .f32) : FVec Ideal S512x1024 .f32 :=
  cat (comb (View.ld x1 r0_2) (View.ld x2 r0_2) (grp 1#32 (k0_pay2 i) (win0 (k0_pay1 (F := Ideal) i (View.ld x4 r0_0) (View.ld x3 r0_1) (View.ld x5 r0_0))) (View.ld x3 r0_2) (View.ld x7 r0_3)) (View.ld x8 r0_4))
    (comb (View.ld x1 r0_5) (View.ld x2 r0_5) (grp 2#32 (k0_pay2 i) (win1 (k0_pay1 (F := Ideal) i (View.ld x4 r0_0) (View.ld x3 r0_1) (View.ld x5 r0_0))) (View.ld x3 r0_5) (View.ld x7 r0_6)) (View.ld x8 r0_7))
    (comb (View.ld x1 r0_8) (View.ld x2 r0_8) (grp 4#32 (k0_pay2 i) (win2 (k0_pay1 (F := Ideal) i (View.ld x4 r0_0) (View.ld x3 r0_1) (View.ld x5 r0_0))) (View.ld x3 r0_8) (View.ld x7 r0_9)) (View.ld x8 r0_10))
    (comb (View.ld x1 r0_11) (View.ld x2 r0_11) (grp 8#32 (k0_pay2 i) (win3 (k0_pay1 (F := Ideal) i (View.ld x4 r0_0) (View.ld x3 r0_1) (View.ld x5 r0_0))) (View.ld x3 r0_11) (View.ld x7 r0_12)) (View.ld x8 r0_13))

theorem pay26_eq : k0_pay26 (F := Ideal) i x0 x1 x2 x3 x4 x5 x6 x7 x8 x9 x10 x11 = outp (mergedB i x1 x2 x3 x4 x5 x7 x8) (View.ld x9 r0_14) (View.ld x0 r0_1) (View.ld x6 r0_15) := rfl
theorem pay27_eq : k0_pay27 (F := Ideal) i x0 x1 x2 x3 x4 x5 x6 x7 x8 x9 x10 x11 = sqs (k0_pay26 (F := Ideal) i x0 x1 x2 x3 x4 x5 x6 x7 x8 x9 x10 x11) := rfl

include ht H
theorem mergedB_at (r : Fin 512) (n : Fin 1024) : mergedB i x1 x2 x3 x4 x5 x7 x8 (ix2 r n) = mrg (winSum P) AM GP P PW PS (bat t) (row t r) n :=
  by_group (f := fun n => mergedB i x1 x2 x3 x4 x5 x7 x8 (ix2 r n)) (g := fun n => mrg (winSum P) AM GP P PW PS (bat t) (row t r) n)
    (fun d => (cat0 _ _ _ _ r d (by omega)).trans (part0 i ht H r d)) (fun d => (cat1 _ _ _ _ r d (by omega)).trans (part1 i ht H r d))
    (fun d => (cat2 _ _ _ _ r d (by omega)).trans (part2 i ht H r d)) (fun d => (cat3 _ _ _ _ r d (by omega)).trans (part3 i ht H r d)) n

theorem pay26_at (r : Fin 512) (e : Fin 1024) : k0_pay26 (F := Ideal) i x0 x1 x2 x3 x4 x5 x6 x7 x8 x9 x10 x11 (ix2 r e) = res (winSum P) X AM GP P MOD PW PS WO (bat t) (row t r) e := by
  rw [pay26_eq, outp_at]
  unfold res
  refine congrArg₂ (fun u v : EReal => u + v) ((ld_rows x0 r e).trans (H.h0 r e)) (congrArg₂ (fun u v : EReal => u * v) ((ld_mod x6 2 _ (by decide) e).trans (H.h6 2 e)) ?_)
  exact @Finset.sum_congr _ EReal _ _ _ _ _ rfl fun n _ => congrArg₂ (fun u v : EReal => u * v) (mergedB_at i ht H r n) ((ld_wo x9 n e).trans (H.h9 n e))

theorem pay27_at (r : Fin 512) : k0_pay27 (F := Ideal) i x0 x1 x2 x3 x4 x5 x6 x7 x8 x9 x10 x11 (ix2 r 0) = (∑ d : Fin 1024, res (winSum P) X AM GP P MOD PW PS WO (bat t) (row t r) d * res (winSum P) X AM GP P MOD PW PS WO (bat t) (row t r) d : EReal) := by
  rw [pay27_eq, sqs_at]
  exact @Finset.sum_congr _ EReal _ _ _ _ _ rfl fun d _ => congrArg₂ (fun u v : EReal => u * v) (pay26_at i ht H r d) (pay26_at i ht H r d)

theorem h2_at (r : Fin 512) (e : Fin 1024) :
    k0_pay16 (F := Ideal) (k0_pay26 i x0 x1 x2 x3 x4 x5 x6 x7 x8 x9 x10 x11) (k0_pay27 i x0 x1 x2 x3 x4 x5 x6 x7 x8 x9 x10 x11) (View.ld x10 r0_16) (View.ld x6 r0_17) (View.ld x6 r0_18) (ix2 r e) = nrm MOD G (fun d => res (winSum P) X AM GP P MOD PW PS WO (bat t) (row t r) d) (bat t) e := by
  rw [pay16_at, pay26_at i ht H r e, pay27_at i ht H r, (ld_g x10 e).trans (H.h10 e), (ld_mod x6 4 _ (by decide) e).trans (H.h6 4 e), (ld_mod x6 3 _ (by decide) e).trans (H.h6 3 e)]
  rfl

theorem out12_at (r : Fin 512) (e : Fin 1024) : out0_12 (F := Ideal) i x0 x1 x2 x3 x4 x5 x6 x7 x8 x9 x10 x11 (ix2 r e) = res (winSum P) X AM GP P MOD PW PS WO (bat t) (row t r) e := by
  unfold out0_12
  rw [View.canon_cons_unit_lit _ _ _ (by decide)]
  exact pay26_at i ht H r e
theorem out13_at (r : Fin 512) (e : Fin 1024) : out0_13 (F := Ideal) i x0 x1 x2 x3 x4 x5 x6 x7 x8 x9 x10 x11 (ix2 r e) = nrm MOD G (fun d => res (winSum P) X AM GP P MOD PW PS WO (bat t) (row t r) d) (bat t) e := by
  unfold out0_13
  rw [View.canon_cons_unit_lit _ _ _ (by decide)]
  exact (pay17_at _ _ _ _ _ r e).trans (h2_at i ht H r e)
/-- The logits as the kernel splits them. -/
theorem out14_at (k : Fin 256) (r : Fin 512) : out0_14 (F := Ideal) i x0 x1 x2 x3 x4 x5 x6 x7 x8 x9 x10 x11 (ix2 k r)
    = (fun h : Fin 1024 → EReal => (∑ e : Fin 1024, WR (ix3 0 e k) * h e : EReal) + (∑ e : Fin 1024, (WR (ix3 0 e k) - WR (ix3 0 e k)) * h e : EReal) + (∑ e : Fin 1024, WR (ix3 0 e k) * (h e - h e) : EReal))
      (fun e => nrm MOD G (fun d => res (winSum P) X AM GP P MOD PW PS WO (bat t) (row t r) d) (bat t) e) := by
  unfold out0_14
  rw [View.canon_cons_unit_lit _ _ _ (by decide)]
  refine (pay18_at _ _ _ _ _ _ _ k r).trans (congrArg₂ (fun u v : EReal => u + v) (congrArg₂ (fun u v : EReal => u + v) ?_ ?_) ?_)
  · exact @Finset.sum_congr _ EReal _ _ _ _ _ rfl fun e _ => congrArg₂ (fun u v : EReal => u * v) ((ld_rows x11 _ e).trans (H.h11 k e)) (h2_at i ht H r e)
  · exact @Finset.sum_congr _ EReal _ _ _ _ _ rfl fun e _ => congrArg₂ (fun u v : EReal => u * v) ((ld_rows x11 _ e).trans (H.h12 k e)) (h2_at i ht H r e)
  · exact @Finset.sum_congr _ EReal _ _ _ _ _ rfl fun e _ => congrArg₂ (fun u v : EReal => u * v) ((ld_wr x11 k e).trans (H.h11 k e)) (congrArg₂ (fun u v : EReal => u - v) (h2_at i ht H r e) (h2_at i ht H r e))
end Cert.Kernel4Ideal.Mix
-- ==== Proof.MixArr.lean ====
/- The pooling mixer's result arrays, from the arguments. -/
module
public import proofs.«01_k».proof.Proof.MixBody
public import proofs.«01_k».proof.Proof.Gen.Kernel4Ideal.Value
public import Idealize.ShloMosaic.Lib.StableHlo.ReadAt
public import Idealize.ShloMosaic.Lib.Pointwise
public import Idealize.ShloMosaic.Lib.Pipeline.ValueKit
public import Idealize.ShloMosaic.Lib.Pipeline.Covers
@[expose] public section
set_option maxRecDepth 16384
noncomputable section
open Idealize.ShloMosaic Idealize.ShloMosaic.TcCoe Idealize.SL.Sem PoolMix
namespace Cert.Kernel4Ideal.Mix
open Cert.Kernel4Ideal Cert.Kernel4Ideal.Gen
variable (m : (ℓ : Loc nD τ sig) → Buf (Elt Ideal) ℓ) (c : Dev nD)

abbrev aX : FVec Ideal S32x2048x1024 .f32 := m ((c : Thread nD τ).loc main_arg0)
abbrev aAM : FVec Ideal S32x2048x1024 .f32 := m ((c : Thread nD τ).loc main_arg1)
abbrev aGP : FVec Ideal S32x2048x1024 .f32 := m ((c : Thread nD τ).loc main_arg2)
abbrev aP : FVec Ideal S32x2048x1024 .f32 := m ((c : Thread nD τ).loc main_arg3)
abbrev aMOD : FVec Ideal S32x6x1024 .f32 := m ((c : Thread nD τ).loc main_arg4)
abbrev aPW : FVec Ideal S1x4x256x256 .f32 := m ((c : Thread nD τ).loc main_arg5)
abbrev aPS : FVec Ideal S1x1024 .f32 := m ((c : Thread nD τ).loc main_arg6)
abbrev aWO : FVec Ideal S1x1024x1024 .f32 := m ((c : Thread nD τ).loc main_arg7)
abbrev aG : FVec Ideal S1x1024 .f32 := m ((c : Thread nD τ).loc main_arg8)
abbrev aWR : FVec Ideal S1x1024x256 .f32 := m ((c : Thread nD τ).loc main_arg9)

/-! ## The arrays the call reads -/

theorem v0_at (r : Fin 65536) (e : Fin 1024) : (V m c main_v0 : FVec Ideal S65536x1024 .f32) (ix2 r e) = aX m c (ix3 ⟨r.val / 2048, by omega⟩ ⟨r.val % 2048, by omega⟩ e) := by
  unfold V
  after_reads_at
theorem v2_at (r : Fin 65536) (e : Fin 1024) : (V m c main_v2 : FVec Ideal S65536x1024 .bf16) (ix2 r e) = aAM m c (ix3 ⟨r.val / 2048, by omega⟩ ⟨r.val % 2048, by omega⟩ e) := by
  unfold V
  after_reads_at
theorem v4_at (r : Fin 65536) (e : Fin 1024) : (V m c main_v4 : FVec Ideal S65536x1024 .bf16) (ix2 r e) = aGP m c (ix3 ⟨r.val / 2048, by omega⟩ ⟨r.val % 2048, by omega⟩ e) := by
  unfold V
  after_reads_at
theorem v5_at (r : Fin 65536) (e : Fin 1024) : (V m c main_v5 : FVec Ideal S65536x1024 .f32) (ix2 r e) = aP m c (ix3 ⟨r.val / 2048, by omega⟩ ⟨r.val % 2048, by omega⟩ e) := by
  unfold V
  after_reads_at
theorem varg4_at (b : Fin 32) (j : Fin 6) (e : Fin 1024) : (V m c main_arg4 : FVec Ideal S32x6x1024 .f32) (ix3 b j e) = aMOD m c (ix3 b j e) := by
  unfold V
  after_reads_at
theorem v7_at (g : Fin 4) (k d : Fin 256) : (V m c main_v7 : FVec Ideal S4x256x256 .bf16) (ix3 g k d) = aPW m c (ix4 0 g k d) := by
  unfold V
  after_reads_at
theorem v9_at (e : Fin 1024) : (V m c main_v9 : FVec Ideal S1x1024 .f32) (ix2 0 e) = aPS m c (ix2 0 e) := by
  unfold V
  after_reads_at
theorem v11_at (d e : Fin 1024) : (V m c main_v11 : FVec Ideal S1024x1024 .bf16) (ix2 d e) = aWO m c (ix3 0 d e) := by
  unfold V
  after_reads_at
theorem v13_at (e : Fin 1024) : (V m c main_v13 : FVec Ideal S1x1024 .f32) (ix2 0 e) = aG m c (ix2 0 e) := by
  unfold V
  after_reads_at
theorem v20_hi (k : Fin 256) (e : Fin 1024) : (V m c main_v20 : FVec Ideal S512x1024 .bf16) (ix2 ⟨k.val, by omega⟩ e) = aWR m c (ix3 0 e k) := by
  unfold V
  after_reads_at
theorem v20_lo (k : Fin 256) (e : Fin 1024) : (V m c main_v20 : FVec Ideal S512x1024 .bf16) (ix2 ⟨256 + k.val, by omega⟩ e) = (aWR m c (ix3 0 e k) - aWR m c (ix3 0 e k) : EReal) := by
  unfold V
  after_reads_at

/-! ## The blocks -/

theorem idx : ∀ t : Fin cfg0.N, win0_0.index t = ![t.val, 0] ∧ win0_1.index t = ![t.val, 0] ∧ win0_2.index t = ![t.val, 0] ∧ win0_3.index t = ![t.val, 0]
    ∧ win0_4.index t = ![64 * t.val - 1, 0] ∧ win0_5.index t = ![min (64 * t.val + 64) 8191, 0] ∧ win0_6.index t = ![t.val / 4, 0, 0] ∧ win0_7.index t = ![0, 0, 0]
    ∧ win0_8.index t = ![0, 0] ∧ win0_9.index t = ![0, 0] ∧ win0_10.index t = ![0, 0] ∧ win0_11.index t = ![0, 0]
    ∧ win0_12.index t = ![t.val, 0] ∧ win0_13.index t = ![t.val, 0] ∧ win0_14.index t = ![0, t.val] := by decide +kernel
theorem crd : ∀ t : Fin cfg0.N, (grid0.coords t 0).val = t.val := by decide +kernel
theorem pt_lt (t : Fin cfg0.N) : t.val < 128 := t.isLt

theorem b0 (t : Fin cfg0.N) (i : Fin 512) (e : Fin 1024) : (iblk m c 0 t : Vec Ideal S512x1024 .f32) (ix2 i e) = (V m c main_v0 : FVec Ideal S65536x1024 .f32) (ix2 ⟨t.val * 512 + i.val, by have := pt_lt t; omega⟩ e) := by
  blk_ext [iblk, idx t]
theorem b1 (t : Fin cfg0.N) (i : Fin 512) (e : Fin 1024) : (iblk m c 1 t : Vec Ideal S512x1024 .bf16) (ix2 i e) = (V m c main_v2 : FVec Ideal S65536x1024 .bf16) (ix2 ⟨t.val * 512 + i.val, by have := pt_lt t; omega⟩ e) := by
  blk_ext [iblk, idx t]
theorem b2 (t : Fin cfg0.N) (i : Fin 512) (e : Fin 1024) : (iblk m c 2 t : Vec Ideal S512x1024 .bf16) (ix2 i e) = (V m c main_v4 : FVec Ideal S65536x1024 .bf16) (ix2 ⟨t.val * 512 + i.val, by have := pt_lt t; omega⟩ e) := by
  blk_ext [iblk, idx t]
theorem b3 (t : Fin cfg0.N) (i : Fin 512) (e : Fin 1024) : (iblk m c 3 t : Vec Ideal S512x1024 .f32) (ix2 i e) = (V m c main_v5 : FVec Ideal S65536x1024 .f32) (ix2 ⟨t.val * 512 + i.val, by have := pt_lt t; omega⟩ e) := by
  blk_ext [iblk, idx t]
theorem b4 (t : Fin cfg0.N) (q : Fin 8) (e : Fin 1024) : (iblk m c 4 t : Vec Ideal S8x1024 .f32) (ix2 q e) = (V m c main_v5 : FVec Ideal S65536x1024 .f32) (ix2 ⟨(64 * t.val - 1) * 8 + q.val, by have := pt_lt t; omega⟩ e) := by
  blk_ext [iblk, idx t]
theorem b5 (t : Fin cfg0.N) (q : Fin 8) (e : Fin 1024) : (iblk m c 5 t : Vec Ideal S8x1024 .f32) (ix2 q e) = (V m c main_v5 : FVec Ideal S65536x1024 .f32) (ix2 ⟨min (64 * t.val + 64) 8191 * 8 + q.val, by have := pt_lt t; omega⟩ e) := by
  blk_ext [iblk, idx t]
theorem b6 (t : Fin cfg0.N) (j : Fin 6) (e : Fin 1024) : (iblk m c 6 t : Vec Ideal S1x6x1024 .f32) (ix3 0 j e) = (V m c main_arg4 : FVec Ideal S32x6x1024 .f32) (ix3 ⟨t.val / 4, by have := pt_lt t; omega⟩ j e) := by
  blk_ext [iblk, idx t]
theorem b7 (t : Fin cfg0.N) (g : Fin 4) (k d : Fin 256) : (iblk m c 7 t : Vec Ideal S4x256x256 .bf16) (ix3 g k d) = (V m c main_v7 : FVec Ideal S4x256x256 .bf16) (ix3 g k d) := by
  blk_ext [iblk, idx t]
theorem b8 (t : Fin cfg0.N) (e : Fin 1024) : (iblk m c 8 t : Vec Ideal S1x1024 .f32) (ix2 0 e) = (V m c main_v9 : FVec Ideal S1x1024 .f32) (ix2 0 e) := by
  blk_ext [iblk, idx t]
theorem b9 (t : Fin cfg0.N) (d e : Fin 1024) : (iblk m c 9 t : Vec Ideal S1024x1024 .bf16) (ix2 d e) = (V m c main_v11 : FVec Ideal S1024x1024 .bf16) (ix2 d e) := by
  blk_ext [iblk, idx t]
theorem b10 (t : Fin cfg0.N) (e : Fin 1024) : (iblk m c 10 t : Vec Ideal S1x1024 .f32) (ix2 0 e) = (V m c main_v13 : FVec Ideal S1x1024 .f32) (ix2 0 e) := by
  blk_ext [iblk, idx t]
theorem b11 (t : Fin cfg0.N) (k : Fin 512) (e : Fin 1024) : (iblk m c 11 t : Vec Ideal S512x1024 .bf16) (ix2 k e) = (V m c main_v20 : FVec Ideal S512x1024 .bf16) (ix2 k e) := by
  blk_ext [iblk, idx t]

/-- A point's number. -/
def pn (t : Fin cfg0.N) : Fin 128 := ⟨t.val, pt_lt t⟩

theorem at_row (A : (⟨3, ![32, 2048, 1024]⟩ : Shape).Idx → EReal) (t : Fin cfg0.N) (i : Fin 512) (e : Fin 1024) (h1 h2) :
    A (ix3 (⟨(t.val * 512 + i.val) / 2048, h1⟩ : Fin 32) (⟨(t.val * 512 + i.val) % 2048, h2⟩ : Fin 2048) e) = A (ix3 (bat (pn t)) (row (pn t) i) e) := by
  have ht := pt_lt t
  exact congrArg₂ (fun b s => A (ix3 b s e)) (Fin.ext (show (t.val * 512 + i.val) / 2048 = t.val / 4 by omega)) (Fin.ext (show (t.val * 512 + i.val) % 2048 = t.val % 4 * 512 + i.val by omega))

theorem at_seq (A : (⟨3, ![32, 2048, 1024]⟩ : Shape).Idx → EReal) (t : Fin cfg0.N) (n s : ℕ) (e : Fin 1024) (hn : n / 2048 = t.val / 4) (hs : n % 2048 = s) (h1 h2) :
    A (ix3 (⟨n / 2048, h1⟩ : Fin 32) (⟨n % 2048, h2⟩ : Fin 2048) e) = seq A (bat (pn t)) e s := by
  subst hs
  unfold seq
  rw [dif_pos h2]
  exact congrArg (fun b => A (ix3 b (⟨n % 2048, h2⟩ : Fin 2048) e)) (Fin.ext hn)

theorem holds (t : Fin cfg0.N) : Holds (aX m c) (aAM m c) (aGP m c) (aP m c) (aMOD m c) (aPW m c) (aPS m c) (aWO m c) (aG m c) (aWR m c) (pn t)
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) where
  h0 i e := (b0 m c t i e).trans ((v0_at m c _ e).trans (at_row _ t i e _ _))
  h1 i e := (b1 m c t i e).trans ((v2_at m c _ e).trans (at_row _ t i e _ _))
  h2 i e := (b2 m c t i e).trans ((v4_at m c _ e).trans (at_row _ t i e _ _))
  h3 i e := (b3 m c t i e).trans ((v5_at m c _ e).trans (at_row _ t i e _ _))
  h4 q e h := by
    have ht := pt_lt t
    have h' : 0 < t.val % 4 := h
    exact (b4 m c t q e).trans ((v5_at m c _ e).trans (at_seq _ t ((64 * t.val - 1) * 8 + q.val) _ e (by omega) (show _ = t.val % 4 * 512 + q.val - 8 by omega) _ _))
  h5 q e h := by
    have ht := pt_lt t
    have h' : t.val % 4 < 3 := h
    exact (b5 m c t q e).trans ((v5_at m c _ e).trans (at_seq _ t (min (64 * t.val + 64) 8191 * 8 + q.val) _ e (by omega) (show _ = t.val % 4 * 512 + 512 + q.val by omega) _ _))
  h6 j e := (b6 m c t j e).trans (varg4_at m c _ j e)
  h7 g k d := (b7 m c t g k d).trans (v7_at m c g k d)
  h8 n := (b8 m c t n).trans (v9_at m c n)
  h9 n e := (b9 m c t n e).trans (v11_at m c n e)
  h10 e := (b10 m c t e).trans (v13_at m c e)
  h11 k e := (b11 m c t _ e).trans (v20_hi m c k e)
  h12 k e := (b11 m c t _ e).trans (v20_lo m c k e)

/-! ## The results -/

/-- A row's residual, its norm, and its logits. -/
def valX (r : Fin 65536) (e : Fin 1024) : EReal := res (winSum (aP m c)) (aX m c) (aAM m c) (aGP m c) (aP m c) (aMOD m c) (aPW m c) (aPS m c) (aWO m c) ⟨r.val / 2048, by omega⟩ ⟨r.val % 2048, by omega⟩ e
def valH (r : Fin 65536) (e : Fin 1024) : EReal := nrm (aMOD m c) (aG m c) (fun d => valX m c r d) ⟨r.val / 2048, by omega⟩ e
def split (W : (⟨3, ![1, 1024, 256]⟩ : Shape).Idx → EReal) (h : Fin 1024 → EReal) (k : Fin 256) : EReal :=
  (∑ e : Fin 1024, W (ix3 0 e k) * h e : EReal) + (∑ e : Fin 1024, (W (ix3 0 e k) - W (ix3 0 e k)) * h e : EReal) + (∑ e : Fin 1024, W (ix3 0 e k) * (h e - h e) : EReal)
def valL (k : Fin 256) (r : Fin 65536) : EReal := split (aWR m c) (fun e => valH m c r e) k

def fin12 : FVec Ideal S65536x1024 .f32 := fun j => valX m c (j 0) (j 1)
def fin13 : FVec Ideal S65536x1024 .bf16 := fun j => valH m c (j 0) (j 1)
def fin14 : FVec Ideal S256x65536 .f32 := fun j => valL m c (j 0) (j 1)

theorem valX_pt (t : Fin cfg0.N) (i : Fin 512) (e : Fin 1024) : res (winSum (aP m c)) (aX m c) (aAM m c) (aGP m c) (aP m c) (aMOD m c) (aPW m c) (aPS m c) (aWO m c) (bat (pn t)) (row (pn t) i) e = valX m c ⟨t.val * 512 + i.val, by have := pt_lt t; omega⟩ e := by
  have ht := pt_lt t
  exact congrArg₂ (fun b s => res (winSum (aP m c)) (aX m c) (aAM m c) (aGP m c) (aP m c) (aMOD m c) (aPW m c) (aPS m c) (aWO m c) b s e)
    (Fin.ext (show t.val / 4 = (t.val * 512 + i.val) / 2048 by omega)) (Fin.ext (show t.val % 4 * 512 + i.val = (t.val * 512 + i.val) % 2048 by omega))
theorem valH_pt (t : Fin cfg0.N) (i : Fin 512) (e : Fin 1024) : nrm (aMOD m c) (aG m c) (fun d => res (winSum (aP m c)) (aX m c) (aAM m c) (aGP m c) (aP m c) (aMOD m c) (aPW m c) (aPS m c) (aWO m c) (bat (pn t)) (row (pn t) i) d) (bat (pn t)) e = valH m c ⟨t.val * 512 + i.val, by have := pt_lt t; omega⟩ e := by
  have ht := pt_lt t
  exact congrArg₂ (fun y b => nrm (aMOD m c) (aG m c) y b e) (funext fun d => valX_pt m c t i d) (Fin.ext (show t.val / 4 = (t.val * 512 + i.val) / 2048 by omega))

theorem o12 (t : Fin cfg0.N) (i : Fin 512) (e : Fin 1024) : ((dats m 0 c).after 12 t : Vec Ideal S512x1024 .f32) (ix2 i e) = valX m c ⟨t.val * 512 + i.val, by have := pt_lt t; omega⟩ e := by
  rw [after0_12]
  exact (out12_at (grid0.coords t) (crd t) (holds m c t) i e).trans (valX_pt m c t i e)
theorem o13 (t : Fin cfg0.N) (i : Fin 512) (e : Fin 1024) : ((dats m 0 c).after 13 t : Vec Ideal S512x1024 .bf16) (ix2 i e) = valH m c ⟨t.val * 512 + i.val, by have := pt_lt t; omega⟩ e := by
  rw [after0_13]
  exact (out13_at (grid0.coords t) (crd t) (holds m c t) i e).trans (valH_pt m c t i e)
theorem o14 (t : Fin cfg0.N) (k : Fin 256) (i : Fin 512) : ((dats m 0 c).after 14 t : Vec Ideal S256x512 .f32) (ix2 k i) = valL m c k ⟨t.val * 512 + i.val, by have := pt_lt t; omega⟩ := by
  rw [after0_14]
  exact (out14_at (grid0.coords t) (crd t) (holds m c t) k i).trans (congrArg (fun h => split (aWR m c) h k) (funext fun e => valH_pt m c t i e))

theorem ix_eta (y : S512x1024.Idx) : y = ix2 (show Fin 512 from y 0) (show Fin 1024 from y 1) := by
  funext a
  revert a
  exact Fin.forall_fin_two.2 ⟨rfl, rfl⟩
theorem ix_eta' (y : S256x512.Idx) : y = ix2 (show Fin 256 from y 0) (show Fin 512 from y 1) := by
  funext a
  revert a
  exact Fin.forall_fin_two.2 ⟨rfl, rfl⟩

theorem covers12 : (cfg0.win 12).Covers :=
  (cfg0.win 12).covers_of_index_surj rfl (by decide) fun β => by
    have h0 : (β (0 : Fin 2)).val < 128 := lt_of_lt_of_eq (β (0 : Fin 2)).isLt (by decide : (cfg0.win 12).nblk (0 : Fin 2) = 128)
    have h1 : (β (1 : Fin 2)).val < 1 := lt_of_lt_of_eq (β (1 : Fin 2)).isLt (by decide : (cfg0.win 12).nblk (1 : Fin 2) = 1)
    refine ⟨⟨(β (0 : Fin 2)).val, h0⟩, ?_⟩
    show ∀ a : Fin 2, win0_12.index _ a = (β a).val
    rw [(idx ⟨(β (0 : Fin 2)).val, h0⟩).2.2.2.2.2.2.2.2.2.2.2.2.1]
    exact Fin.forall_fin_two.2 ⟨rfl, (Nat.lt_one_iff.1 h1).symm⟩
theorem covers13 : (cfg0.win 13).Covers :=
  (cfg0.win 13).covers_of_index_surj rfl (by decide) fun β => by
    have h0 : (β (0 : Fin 2)).val < 128 := lt_of_lt_of_eq (β (0 : Fin 2)).isLt (by decide : (cfg0.win 13).nblk (0 : Fin 2) = 128)
    have h1 : (β (1 : Fin 2)).val < 1 := lt_of_lt_of_eq (β (1 : Fin 2)).isLt (by decide : (cfg0.win 13).nblk (1 : Fin 2) = 1)
    refine ⟨⟨(β (0 : Fin 2)).val, h0⟩, ?_⟩
    show ∀ a : Fin 2, win0_13.index _ a = (β a).val
    rw [(idx ⟨(β (0 : Fin 2)).val, h0⟩).2.2.2.2.2.2.2.2.2.2.2.2.2.1]
    exact Fin.forall_fin_two.2 ⟨rfl, (Nat.lt_one_iff.1 h1).symm⟩
theorem covers14 : (cfg0.win 14).Covers :=
  (cfg0.win 14).covers_of_index_surj rfl (by decide) fun β => by
    have h0 : (β (0 : Fin 2)).val < 1 := lt_of_lt_of_eq (β (0 : Fin 2)).isLt (by decide : (cfg0.win 14).nblk (0 : Fin 2) = 1)
    have h1 : (β (1 : Fin 2)).val < 128 := lt_of_lt_of_eq (β (1 : Fin 2)).isLt (by decide : (cfg0.win 14).nblk (1 : Fin 2) = 128)
    refine ⟨⟨(β (1 : Fin 2)).val, h1⟩, ?_⟩
    show ∀ a : Fin 2, win0_14.index _ a = (β a).val
    rw [(idx ⟨(β (1 : Fin 2)).val, h1⟩).2.2.2.2.2.2.2.2.2.2.2.2.2.2]
    exact Fin.forall_fin_two.2 ⟨(Nat.lt_one_iff.1 h0).symm, rfl⟩

theorem pt12 (t : Fin cfg0.N) (y : S512x1024.Idx) : ((dats m 0 c).after 12 t : Vec Ideal S512x1024 .f32) y
    = valX m c ⟨t.val * 512 + (y 0).val, by have := pt_lt t; have : (y 0).val < 512 := (y 0).isLt; omega⟩ ⟨(y 1).val, (y 1).isLt⟩ := by
  conv_lhs => rw [ix_eta y]
  exact o12 m c t (show Fin 512 from y 0) (show Fin 1024 from y 1)
theorem pt13 (t : Fin cfg0.N) (y : S512x1024.Idx) : ((dats m 0 c).after 13 t : Vec Ideal S512x1024 .bf16) y
    = valH m c ⟨t.val * 512 + (y 0).val, by have := pt_lt t; have : (y 0).val < 512 := (y 0).isLt; omega⟩ ⟨(y 1).val, (y 1).isLt⟩ := by
  conv_lhs => rw [ix_eta y]
  exact o13 m c t (show Fin 512 from y 0) (show Fin 1024 from y 1)
theorem pt14 (t : Fin cfg0.N) (y : S256x512.Idx) : ((dats m 0 c).after 14 t : Vec Ideal S256x512 .f32) y
    = valL m c ⟨(y 0).val, (y 0).isLt⟩ ⟨t.val * 512 + (y 1).val, by have := pt_lt t; have : (y 1).val < 512 := (y 1).isLt; omega⟩ := by
  conv_lhs => rw [ix_eta' y]
  exact o14 m c t (show Fin 256 from y 0) (show Fin 512 from y 1)

theorem arr12 : (dats m 0 c).arrAt 12 cfg0.N = fin12 m c := by
  refine (dats m 0 c).arrAt_eq_of_covers 12 _ covers12 fun t hf y => ?_
  blk_simp
  refine (pt12 m c t y).trans (congrArg₂ (valX m c) (Fin.ext ?_) (Fin.ext ?_))
  · blk_simp [idx t]
  · blk_simp [idx t]
theorem arr13 : (dats m 0 c).arrAt 13 cfg0.N = fin13 m c := by
  refine (dats m 0 c).arrAt_eq_of_covers 13 _ covers13 fun t hf y => ?_
  blk_simp
  refine (pt13 m c t y).trans (congrArg₂ (valH m c) (Fin.ext ?_) (Fin.ext ?_))
  · blk_simp [idx t]
  · blk_simp [idx t]
theorem arr14 : (dats m 0 c).arrAt 14 cfg0.N = fin14 m c := by
  refine (dats m 0 c).arrAt_eq_of_covers 14 _ covers14 fun t hf y => ?_
  refine (pt14 m c t y).trans (congrArg₂ (valL m c) (Fin.ext ?_) (Fin.ext ?_))
  · blk_simp [idx t]
  · blk_simp [idx t]
end Cert.Kernel4Ideal.Mix
-- ==== Proof.MixRef.lean ====
/- The pooling mixer's call in the plain mathematics, read at an element. -/
module
public import proofs.«01_k».proof.Proof.Gen.Reference4Ideal.Run
public import proofs.«01_k».proof.Proof.MixSpec
public import Idealize.ShloMosaic.Lib.Pointwise
public import Idealize.ShloMosaic.Lib.Tactic.CleanTypes
@[expose] public section
set_option maxRecDepth 16384
noncomputable section
open Idealize.ShloMosaic Idealize.ShloMosaic.TcCoe Idealize.SL.Sem PoolMix
namespace Cert.Reference4Ideal.Mix
open Cert.Reference4Ideal Cert.Reference4Ideal.Gen Cert.Reference4Ideal.Value

def halves : IVec S2048x4 32 := broadcastInDim S2048x4 ![0, 1] bcast_S1x4_S2048x4_0_1 (broadcastInDim S1x4 ![1] bcast_S4_S1x4_1 ((fun i => lit0 (S4.rowMajor i))))
def posns : IVec S2048x4 32 := broadcastInDim S2048x4 ![0, 1] bcast_S2048x1_S2048x4_0_1 (broadcastInDim S2048x1 ![0] bcast_S2048_S2048x1_0 (iotaInDim S2048 32 0))
def hiIx : IVec S2048x4 32 := minsi (broadcastInDim S2048x4 ![] bcast_S_S2048x4 (id (constantI S_ 32 2047#32))) (maxsi (broadcastInDim S2048x4 ![] bcast_S_S2048x4 (id (constantI S_ 32 0#32))) (subi (addi posns halves) (broadcastInDim S2048x4 ![] bcast_S_S2048x4 (constantI S_ 32 1#32))))
def loIx : IVec S2048x4 32 := minsi (broadcastInDim S2048x4 ![] bcast_S_S2048x4 (id (constantI S_ 32 2047#32))) (maxsi (broadcastInDim S2048x4 ![] bcast_S_S2048x4 (id (constantI S_ 32 0#32))) (subi posns halves))
def table (P : FVec Ideal S32x2048x1024 .f32) : FVec Ideal S32x2049x4x256 .f32 := concatenate S32x2049x4x256 1 [⟨S32x1x4x256, (broadcastInDim S32x1x4x256 ![] bcast_S_S32x1x4x256 (constant S_ .f32 0x00000000#32))⟩, ⟨S32x2048x4x256, (Host.reduceWindowAdd ![1, 2048, 1, 1] ![1, 1, 1, 1] ![0, 2047, 0, 0] ![0, 0, 0, 0] (shapeCast _ P shapeCasts_S32x2048x1024_S32x2048x4x256) (broadcastInDim S_ ![] bcast_S_S_ (constant S_ .f32 0x00000000#32)) reduceWindows_S32x2048x4x256_S32x2048x4x256_w1s1p0_0_w2048s1p2047_0_w1s1p0_0_w1s1p0_0 h_S_)⟩] concatenates_S32x1x4x256_S32x2048x4x256_S32x2049x4x256_d1
def hiPair : IVec S2048x4x2 32 := concatenate S2048x4x2 2 [⟨S2048x4x1, (broadcastInDim S2048x4x1 ![0, 1] bcast_S2048x4_S2048x4x1_0_1 (select (cmpi .slt (addi hiIx (broadcastInDim S2048x4 ![] bcast_S_S2048x4 (constantI S_ 32 1#32))) (broadcastInDim S2048x4 ![] bcast_S_S2048x4 (constantI S_ 32 0#32))) (addi (addi hiIx (broadcastInDim S2048x4 ![] bcast_S_S2048x4 (constantI S_ 32 1#32))) (broadcastInDim S2048x4 ![] bcast_S_S2048x4 (constantI S_ 32 2049#32))) (addi hiIx (broadcastInDim S2048x4 ![] bcast_S_S2048x4 (constantI S_ 32 1#32)))))⟩, ⟨S2048x4x1, (broadcastInDim S2048x4x1 ![0, 1] bcast_S2048x4_S2048x4x1_0_1 (broadcastInDim S2048x4 ![0, 1] bcast_S1x4_S2048x4_0_1 (select (cmpi .slt (broadcastInDim S1x4 ![1] bcast_S4_S1x4_1 (iotaInDim S4 32 0)) (broadcastInDim S1x4 ![] bcast_S_S1x4 (constantI S_ 32 0#32))) (addi (broadcastInDim S1x4 ![1] bcast_S4_S1x4_1 (iotaInDim S4 32 0)) (broadcastInDim S1x4 ![] bcast_S_S1x4 (constantI S_ 32 4#32))) (broadcastInDim S1x4 ![1] bcast_S4_S1x4_1 (iotaInDim S4 32 0)))))⟩] concatenates_S2048x4x1_S2048x4x1_S2048x4x2_d2
def loPair : IVec S2048x4x2 32 := concatenate S2048x4x2 2 [⟨S2048x4x1, (broadcastInDim S2048x4x1 ![0, 1] bcast_S2048x4_S2048x4x1_0_1 (select (cmpi .slt loIx (broadcastInDim S2048x4 ![] bcast_S_S2048x4 (constantI S_ 32 0#32))) (addi loIx (broadcastInDim S2048x4 ![] bcast_S_S2048x4 (constantI S_ 32 2049#32))) loIx))⟩, ⟨S2048x4x1, (broadcastInDim S2048x4x1 ![0, 1] bcast_S2048x4_S2048x4x1_0_1 (broadcastInDim S2048x4 ![0, 1] bcast_S1x4_S2048x4_0_1 (select (cmpi .slt (broadcastInDim S1x4 ![1] bcast_S4_S1x4_1 (iotaInDim S4 32 0)) (broadcastInDim S1x4 ![] bcast_S_S1x4 (constantI S_ 32 0#32))) (addi (broadcastInDim S1x4 ![1] bcast_S4_S1x4_1 (iotaInDim S4 32 0)) (broadcastInDim S1x4 ![] bcast_S_S1x4 (constantI S_ 32 4#32))) (broadcastInDim S1x4 ![1] bcast_S4_S1x4_1 (iotaInDim S4 32 0)))))⟩] concatenates_S2048x4x1_S2048x4x1_S2048x4x2_d2
def sums (P : FVec Ideal S32x2048x1024 .f32) : FVec Ideal S32x2048x4x256 .f32 := subf (Host.gather gather_S32x2049x4x256_S2048x4x2_S32x2048x4x256_03_12_n_n_12_2_3211256 (table P) hiPair) (Host.gather gather_S32x2049x4x256_S2048x4x2_S32x2048x4x256_03_12_n_n_12_2_3211256 (table P) loPair)
def counts : FVec Ideal S32x2048x4x256 .f32 := broadcastInDim S32x2048x4x256 ![0, 1, 2, 3] bcast_S1x2048x4x1_S32x2048x4x256_0_1_2_3 (broadcastInDim S1x2048x4x1 ![1, 2] bcast_S2048x4_S1x2048x4x1_1_2 (sitofp .f32 (addi (subi hiIx loIx) (broadcastInDim S2048x4 ![] bcast_S_S2048x4 (constantI S_ 32 1#32)))))
def mixed (P : FVec Ideal S32x2048x1024 .f32) : FVec Ideal S32x2048x4x256 .f32 := subf (Host.divf (sums P) counts) (shapeCast _ P shapeCasts_S32x2048x1024_S32x2048x4x256)
def pool (P : FVec Ideal S32x2048x1024 .f32) (PW : FVec Ideal S1x4x256x256 .f32) : FVec Ideal S32x2048x1024 .f32 := shapeCast _ (transpose S32x2048x4x256 [2, 3, 0, 1] (Host.dotGeneral dot_S4x256x256_S32x2048x4x256_S4x256x32x2048_1_3_2_01_0_2 none (shapeCast _ PW shapeCasts_S1x4x256x256_S4x256x256) (mixed P)) transposes_S4x256x32x2048_S32x2048x4x256_2_3_0_1) shapeCasts_S32x2048x4x256_S32x2048x1024
def merged (AM : FVec Ideal S32x2048x1024 .f32) (GP : FVec Ideal S32x2048x1024 .f32) (P : FVec Ideal S32x2048x1024 .f32) (PW : FVec Ideal S1x4x256x256 .f32) (PS : FVec Ideal S1x1024 .f32) : FVec Ideal S32x2048x1024 .f32 := addf AM (mulf GP (mulf (pool P PW) (broadcastInDim S32x2048x1024 ![0, 1, 2] bcast_S1x1x1024_S32x2048x1024_0_1_2 (broadcastInDim S1x1x1024 ![2] bcast_S1024_S1x1x1024_2 (shapeCast _ PS shapeCasts_S1x1024_S1024)))))
def resid (X : FVec Ideal S32x2048x1024 .f32) (AM : FVec Ideal S32x2048x1024 .f32) (GP : FVec Ideal S32x2048x1024 .f32) (P : FVec Ideal S32x2048x1024 .f32) (MOD : FVec Ideal S32x6x1024 .f32) (PW : FVec Ideal S1x4x256x256 .f32) (PS : FVec Ideal S1x1024 .f32) (WO : FVec Ideal S1x1024x1024 .f32) : FVec Ideal S32x2048x1024 .f32 := addf X (mulf (broadcastInDim S32x2048x1024 ![0, 1, 2] bcast_S32x1x1024_S32x2048x1024_0_1_2 (broadcastInDim S32x1x1024 ![0, 2] bcast_S32x1024_S32x1x1024_0_2 (shapeCast _ (extractStridedSlice S32x1x1024 ![0, 2, 0] MOD slices_S32x6x1024_S32x1x1024_0_2_0) shapeCasts_S32x1x1024_S32x1024))) (Host.dotGeneral dot_S32x2048x1024_S1024x1024_S32x2048x1024_2_0_01_1_n_n none (merged AM GP P PW PS) (shapeCast _ WO shapeCasts_S1x1024x1024_S1024x1024)))
def h2of (Y : FVec Ideal S32x2048x1024 .f32) (MOD : FVec Ideal S32x6x1024 .f32) (G : FVec Ideal S1x1024 .f32) : FVec Ideal S32x2048x1024 .f32 := addf (mulf (mulf (mulf Y (broadcastInDim S32x2048x1024 ![0, 1, 2] bcast_S32x2048x1_S32x2048x1024_0_1_2 (Host.rsqrt (addf (Host.divf (broadcastInDim S32x2048x1 ![0, 1] bcast_S32x2048_S32x2048x1_0_1 (Host.reduceAdd (mulf Y Y) (constant S_ .f32 0x00000000#32) reducesTo_S32x2048x1024_S32x2048_d2 h_S_)) (broadcastInDim S32x2048x1 ![] bcast_S_S32x2048x1 (constant S_ .f32 0x44800000#32))) (broadcastInDim S32x2048x1 ![] bcast_S_S32x2048x1 (constant S_ .f32 0x358637BD#32)))))) (broadcastInDim S32x2048x1024 ![0, 1, 2] bcast_S1x1x1024_S32x2048x1024_0_1_2 (broadcastInDim S1x1x1024 ![2] bcast_S1024_S1x1x1024_2 (shapeCast _ G shapeCasts_S1x1024_S1024)))) (broadcastInDim S32x2048x1024 ![0, 1, 2] bcast_S32x1x1024_S32x2048x1024_0_1_2 (addf (broadcastInDim S32x1x1024 ![] bcast_S_S32x1x1024 (constant S_ .f32 0x3F800000#32)) (broadcastInDim S32x1x1024 ![0, 2] bcast_S32x1024_S32x1x1024_0_2 (shapeCast _ (extractStridedSlice S32x1x1024 ![0, 4, 0] MOD slices_S32x6x1024_S32x1x1024_0_4_0) shapeCasts_S32x1x1024_S32x1024))))) (broadcastInDim S32x2048x1024 ![0, 1, 2] bcast_S32x1x1024_S32x2048x1024_0_1_2 (broadcastInDim S32x1x1024 ![0, 2] bcast_S32x1024_S32x1x1024_0_2 (shapeCast _ (extractStridedSlice S32x1x1024 ![0, 3, 0] MOD slices_S32x6x1024_S32x1x1024_0_3_0) shapeCasts_S32x1x1024_S32x1024)))

/-- The three results. -/
def res_x (Y : FVec Ideal S32x2048x1024 .f32) : FVec Ideal S65536x1024 .f32 := shapeCast _ Y shapeCasts_S32x2048x1024_S65536x1024
def res_h (H : FVec Ideal S32x2048x1024 .f32) : FVec Ideal S65536x1024 .bf16 := truncf .bf16 (shapeCast _ H shapeCasts_S32x2048x1024_S65536x1024) bitsLt_bf16_f32
def res_l (H : FVec Ideal S32x2048x1024 .f32) (WR : FVec Ideal S1x1024x256 .f32) : FVec Ideal S256x65536 .f32 :=
  transpose S256x65536 [1, 0] (Host.dotGeneral dot_S65536x1024_S1024x256_S65536x256_1_0_0_1_n_n none (shapeCast _ H shapeCasts_S32x2048x1024_S65536x1024) (shapeCast _ WR shapeCasts_S1x1024x256_S1024x256)) transposes_S65536x256_S256x65536_1_0

theorem halves_at (s : Fin 2048) (g : Fin 4) : halves (ix2 s g) = halfW g := by
  unfold halves
  have e : ∀ g : Fin 4, lit0 (S4.rowMajor (ix1 g)) = halfW g := by decide +kernel
  rw [← e]
  pointwise
theorem posns_at (s : Fin 2048) (g : Fin 4) : posns (ix2 s g) = BitVec.ofNat 32 s.val := by
  unfold posns
  pointwise
theorem hiIx_at (s : Fin 2048) (g : Fin 4) : hiIx (ix2 s g) = hiW (halfW g) (BitVec.ofNat 32 s.val) := by
  unfold hiIx hiW
  rw [← posns_at s g, ← halves_at s g]
  generalize posns = p
  generalize halves = h
  pointwise
  rfl
theorem loIx_at (s : Fin 2048) (g : Fin 4) : loIx (ix2 s g) = loW (halfW g) (BitVec.ofNat 32 s.val) := by
  unfold loIx loW
  rw [← posns_at s g, ← halves_at s g]
  generalize posns = p
  generalize halves = h
  pointwise
  rfl

theorem hiPair_pos (s : Fin 2048) (g : Fin 4) : hiPair (ix3 s g 0) = wrapW (IntOp.addi (hiW (halfW g) (BitVec.ofNat 32 s.val)) 1#32) := by
  unfold hiPair wrapW
  rw [← hiIx_at s g]
  generalize hiIx = h
  pointwise
  rfl
theorem loPair_pos (s : Fin 2048) (g : Fin 4) : loPair (ix3 s g 0) = wrapW (loW (halfW g) (BitVec.ofNat 32 s.val)) := by
  unfold loPair wrapW
  rw [← loIx_at s g]
  generalize loIx = h
  pointwise
  rfl
/-- A group's own index, as a start index. -/
def grpW (g : Fin 4) : BitVec 32 := if IntOp.cmpi .slt (BitVec.ofNat 32 g.val) 0#32 = 1#1 then IntOp.addi (BitVec.ofNat 32 g.val) 4#32 else BitVec.ofNat 32 g.val
theorem hiPair_grp (s : Fin 2048) (g : Fin 4) : hiPair (ix3 s g 1) = grpW g := by
  unfold hiPair grpW
  generalize hiIx = h
  pointwise
  rfl
theorem loPair_grp (s : Fin 2048) (g : Fin 4) : loPair (ix3 s g 1) = grpW g := by
  unfold loPair grpW
  generalize loIx = h
  pointwise
  rfl
theorem grp_eq : ∀ g : Fin 4, grpOf (grpW g) = g := by decide +kernel

variable (X AM GP P : FVec Ideal S32x2048x1024 .f32) (MOD : FVec Ideal S32x6x1024 .f32) (PW : FVec Ideal S1x4x256x256 .f32) (PS : FVec Ideal S1x1024 .f32) (WO : FVec Ideal S1x1024x1024 .f32) (G : FVec Ideal S1x1024 .f32) (WR : FVec Ideal S1x1024x256 .f32)

theorem cast_at (b : Fin 32) (q : Fin 2048) (g : Fin 4) (k : Fin 256) : (shapeCast S32x2048x4x256 P shapeCasts_S32x2048x1024_S32x2048x4x256 : FVec Ideal S32x2048x4x256 .f32) (ix4 b q g k) = P (ix3 b q ⟨g.val * 256 + k.val, by omega⟩) := by
  pointwise

theorem table_at (b : Fin 32) (j : Fin 2049) (g : Fin 4) (k : Fin 256) :
    table P (ix4 b j g k) = (∑ q ∈ Finset.range j.val, seq P b ⟨g.val * 256 + k.val, by omega⟩ q : EReal) := by
  unfold table
  have hR := fun (j : Fin 2048) => prefix_at (shapeCast S32x2048x4x256 P shapeCasts_S32x2048x1024_S32x2048x4x256) (broadcastInDim S_ ![] bcast_S_S_ (constant S_ .f32 0x00000000#32)) reduceWindows_S32x2048x4x256_S32x2048x4x256_w1s1p0_0_w2048s1p2047_0_w1s1p0_0_w1s1p0_0 h_S_
    (fun i => by unfold broadcastInDim constant; exact Ideal.ofBits_zero_f32) b j g k (seq P b ⟨g.val * 256 + k.val, by omega⟩) (fun q => by
      rw [cast_at]
      unfold seq
      rw [dif_pos q.isLt])
  generalize Host.reduceWindowAdd (F := Ideal) _ _ _ _ _ _ _ _ = R at hR ⊢
  by_cases h : j.val < 1
  · have e : j.val = 0 := by omega
    rw [e, Finset.range_zero, Finset.sum_empty]
    pointwise
    exact dif_pos h
  · refine Eq.trans (b := R (ix4 b ⟨j.val - 1, by omega⟩ g k)) ?_ ((hR _).trans ?_)
    · pointwise
      exact dif_neg h
    · show (∑ q ∈ Finset.range (j.val - 1 + 1), _ : EReal) = _
      rw [show j.val - 1 + 1 = j.val by omega]

theorem sums_at (b : Fin 32) (s : Fin 2048) (g : Fin 4) (k : Fin 256) : sums P (ix4 b s g k) = winDiff P b s g k := by
  unfold sums winDiff
  refine congrArg₂ (fun u v : EReal => u - v) ?_ ?_
  · refine (gather_pair _ _ _ b s g k).trans ?_
    rw [hiPair_pos, hiPair_grp, grp_eq, table_at, hi_pos]
  · refine (gather_pair _ _ _ b s g k).trans ?_
    rw [loPair_pos, loPair_grp, grp_eq, table_at, lo_pos]

theorem counts_at (b : Fin 32) (s : Fin 2048) (g : Fin 4) (k : Fin 256) : counts (ix4 b s g k) = cnt g s := by
  unfold counts cnt cntW
  rw [← hiIx_at s g, ← loIx_at s g]
  generalize hiIx = h
  generalize loIx = l
  pointwise
  rfl

theorem mixed_at (b : Fin 32) (s : Fin 2048) (g : Fin 4) (k : Fin 256) : mixed P (ix4 b s g k) = mix (winDiff P) P b s g k := by
  unfold mixed mix
  rw [← sums_at P b s g k, ← counts_at b s g k]
  generalize sums P = u
  generalize counts = v
  pointwise

theorem pool_at (b : Fin 32) (s : Fin 2048) (n : Fin 1024) : pool P PW (ix3 b s n) = pooled (winDiff P) P PW b s ⟨n.val / 256, by omega⟩ ⟨n.val % 256, by omega⟩ := by
  unfold pool pooled
  refine Eq.trans ?_ (@Finset.sum_congr _ EReal _ _ _ _ _ rfl fun k _ => congrArg (· * PW (ix4 0 ⟨n.val / 256, by omega⟩ k ⟨n.val % 256, by omega⟩)) (mixed_at P b s ⟨n.val / 256, by omega⟩ k))
  generalize mixed P = u
  pointwise
  exact @Finset.sum_congr _ EReal _ _ _ _ _ rfl fun k _ => mul_comm _ _

theorem merged_at (b : Fin 32) (s : Fin 2048) (n : Fin 1024) : merged AM GP P PW PS (ix3 b s n) = mrg (winDiff P) AM GP P PW PS b s n := by
  unfold merged mrg
  rw [← pool_at P PW b s n]
  generalize pool P PW = u
  pointwise

theorem resid_at (b : Fin 32) (s : Fin 2048) (e : Fin 1024) : resid X AM GP P MOD PW PS WO (ix3 b s e) = res (winDiff P) X AM GP P MOD PW PS WO b s e := by
  unfold resid res
  simp only [← merged_at AM GP P PW PS b s]
  generalize merged AM GP P PW PS = u
  pointwise

theorem h2of_at (Y : FVec Ideal S32x2048x1024 .f32) (b : Fin 32) (s : Fin 2048) (e : Fin 1024) : h2of Y MOD G (ix3 b s e) = nrm MOD G (fun d => Y (ix3 b s d)) b e := by
  unfold h2of nrm
  pointwise

theorem res_x_at (Y : FVec Ideal S32x2048x1024 .f32) (r : Fin 65536) (e : Fin 1024) : res_x Y (ix2 r e) = Y (ix3 ⟨r.val / 2048, by omega⟩ ⟨r.val % 2048, by omega⟩ e) := by
  unfold res_x
  pointwise
theorem res_h_at (H : FVec Ideal S32x2048x1024 .f32) (r : Fin 65536) (e : Fin 1024) : res_h H (ix2 r e) = H (ix3 ⟨r.val / 2048, by omega⟩ ⟨r.val % 2048, by omega⟩ e) := by
  unfold res_h
  pointwise
theorem res_l_at (H : FVec Ideal S32x2048x1024 .f32) (r : Fin 65536) (k : Fin 256) : res_l H WR (ix2 k r) = lgt WR (fun e => H (ix3 ⟨r.val / 2048, by omega⟩ ⟨r.val % 2048, by omega⟩ e)) k := by
  unfold res_l lgt
  pointwise
end Cert.Reference4Ideal.Mix
-- ==== Proof.MixSame.lean ====
/- The kernel's windows, norm and logits are the plain ones. -/
module
public import proofs.«01_k».proof.Proof.MixArr
public import proofs.«01_k».proof.Proof.MixRef
public import proofs.«01_k».proof.Proof.Gen.Reference4Ideal.Run
@[expose] public section
set_option maxRecDepth 16384
noncomputable section
open Idealize.ShloMosaic Idealize.ShloMosaic.TcCoe Idealize.SL.Sem
namespace PoolMix

theorem bits_1024 : Ideal.ofBits FTy.f32 0x44800000#32 = ((1024 : ℝ) : EReal) := by
  simp [Ideal.ofBits, Ideal.ieee]
  rw [← EReal.coe_mul]
  norm_num
theorem bits_small : ∃ e : ℝ, 0 < e ∧ Ideal.ofBits FTy.f32 0x358637BD#32 = (e : EReal) := by
  refine ⟨8796093 * (2 ^ 43)⁻¹, by positivity, ?_⟩
  simp [Ideal.ofBits, Ideal.ieee]

theorem sq_nonneg (x : EReal) : 0 ≤ x * x := by
  induction x using EReal.rec with
  | bot => simp
  | top => simp
  | coe r => exact_mod_cast mul_self_nonneg r
theorem sq_top (x : EReal) (h : x * x ≠ ⊤) : Rl x := by
  induction x using EReal.rec with
  | bot => simp at h
  | top => simp at h
  | coe r => exact ⟨r, rfl⟩

/-- An entry times the reciprocal root mean square of its row is a number, whatever the row: an infinity in the row makes the reciprocal zero. -/
theorem unit_real (y : Fin 1024 → EReal) (e : Fin 1024) :
    Rl (y e * Ideal.rsqrt (Ideal.div (∑ d : Fin 1024, y d * y d : EReal) (Ideal.ofBits FTy.f32 0x44800000#32) + Ideal.ofBits FTy.f32 0x358637BD#32)) := by
  obtain ⟨ε, hε, he⟩ := bits_small
  rw [he, bits_1024]
  have h0 : 0 ≤ (∑ d : Fin 1024, y d * y d : EReal) := Finset.sum_nonneg fun d _ => sq_nonneg _
  have hle : y e * y e ≤ (∑ d : Fin 1024, y d * y d : EReal) := Finset.single_le_sum (f := fun d => y d * y d) (fun d _ => sq_nonneg _) (Finset.mem_univ e)
  generalize (∑ d : Fin 1024, y d * y d : EReal) = S at h0 hle ⊢
  have h1024 : ((1024 : ℝ) : EReal) ≠ 0 := by norm_num
  unfold Ideal.div
  rw [if_neg h1024, ← EReal.coe_inv]
  induction S using EReal.rec with
  | bot => exact absurd h0 (by simp)
  | top =>
    rw [EReal.top_mul_coe_of_pos (by norm_num), EReal.top_add_coe, show Ideal.rsqrt ⊤ = 0 from rfl, mul_zero]
    exact ⟨0, rfl⟩
  | coe s =>
    have hy : Rl (y e) := sq_top _ (ne_top_of_le_ne_top (EReal.coe_ne_top s) hle)
    have hs : 0 ≤ s := by exact_mod_cast h0
    rw [← EReal.coe_mul, ← EReal.coe_add]
    refine hy.mul ?_
    have hp : 0 < s * (1024 : ℝ)⁻¹ + ε := by positivity
    generalize s * (1024 : ℝ)⁻¹ + ε = u at hp
    exact ⟨(Real.sqrt u)⁻¹, (if_neg (not_lt.2 hp.le)).trans (if_neg hp.ne')⟩

variable {MOD : (⟨3, ![32, 6, 1024]⟩ : Shape).Idx → EReal} {G : (⟨2, ![1, 1024]⟩ : Shape).Idx → EReal} {WR : (⟨3, ![1, 1024, 256]⟩ : Shape).Idx → EReal}

theorem nrm_real (h3 : ∀ (b : Fin 32) (e : Fin 1024), Rl (MOD (ix3 b 3 e))) (h4 : ∀ (b : Fin 32) (e : Fin 1024), Rl (MOD (ix3 b 4 e))) (hG : ∀ e : Fin 1024, Rl (G (ix2 0 e))) (y : Fin 1024 → EReal) (b : Fin 32) (e : Fin 1024) : Rl (nrm MOD G y b e) := by
  unfold nrm
  rw [Ideal.ofBits_one_f32]
  exact (((unit_real y e).mul (hG e)).mul (Rl.add ⟨1, rfl⟩ (h4 b e))).add (h3 b e)

theorem Rl.self_sub {x : EReal} (hx : Rl x) : x - x = 0 := by
  obtain ⟨r, rfl⟩ := hx
  exact EReal.sub_self (EReal.coe_ne_top r) (EReal.coe_ne_bot r)

/-- The split logits are the logits. -/
theorem split_eq (hW : ∀ i, Rl (WR i)) (h : Fin 1024 → EReal) (hh : ∀ e, Rl (h e)) (k : Fin 256) : Cert.Kernel4Ideal.Mix.split WR h k = lgt WR h k := by
  unfold Cert.Kernel4Ideal.Mix.split lgt
  have e1 : (∑ e : Fin 1024, (WR (ix3 0 e k) - WR (ix3 0 e k)) * h e : EReal) = 0 :=
    Finset.sum_eq_zero fun e _ => (congrArg (· * h e) (hW (ix3 0 e k)).self_sub).trans (zero_mul _)
  have e2 : (∑ e : Fin 1024, WR (ix3 0 e k) * (h e - h e) : EReal) = 0 :=
    Finset.sum_eq_zero fun e _ => (congrArg (WR (ix3 0 e k) * ·) (hh e).self_sub).trans (mul_zero _)
  rw [e1, e2, add_zero, add_zero]
  exact @Finset.sum_congr _ EReal _ _ _ _ _ rfl fun e _ => mul_comm _ _
end PoolMix

namespace Cert.Mix4
open PoolMix Cert.Kernel4Ideal Cert.Kernel4Ideal.Mix
section
variable (m : (ℓ : Loc Cert.Kernel4Ideal.nD Cert.Kernel4Ideal.τ Cert.Kernel4Ideal.sig) → Buf (Elt Ideal) ℓ) (c : Dev Cert.Kernel4Ideal.nD)

/-- The residual rows of the plain mathematics. -/
def Y : FVec Ideal S32x2048x1024 .f32 := Cert.Reference4Ideal.Mix.resid (aX m c) (aAM m c) (aGP m c) (aP m c) (aMOD m c) (aPW m c) (aPS m c) (aWO m c)

variable (hP : ∀ i, Rl (aP m c i)) (h3 : ∀ (b : Fin 32) (e : Fin 1024), Rl (aMOD m c (ix3 b 3 e))) (h4 : ∀ (b : Fin 32) (e : Fin 1024), Rl (aMOD m c (ix3 b 4 e)))
  (hG : ∀ e : Fin 1024, Rl (aG m c (ix2 0 e))) (hW : ∀ i, Rl (aWR m c i))

include hP
theorem Y_at (r : Fin 65536) (e : Fin 1024) : Y m c (ix3 ⟨r.val / 2048, by omega⟩ ⟨r.val % 2048, by omega⟩ e) = valX m c r e := by
  unfold Y valX
  rw [Cert.Reference4Ideal.Mix.resid_at]
  exact congrArg (fun w => res w (aX m c) (aAM m c) (aGP m c) (aP m c) (aMOD m c) (aPW m c) (aPS m c) (aWO m c) (⟨r.val / 2048, by omega⟩ : Fin 32) (⟨r.val % 2048, by omega⟩ : Fin 2048) e)
    (funext fun b => funext fun s => funext fun g => funext fun k => win_same _ hP b s g k)
theorem H_at (r : Fin 65536) (e : Fin 1024) : Cert.Reference4Ideal.Mix.h2of (Y m c) (aMOD m c) (aG m c) (ix3 ⟨r.val / 2048, by omega⟩ ⟨r.val % 2048, by omega⟩ e) = valH m c r e := by
  unfold valH
  rw [Cert.Reference4Ideal.Mix.h2of_at]
  exact congrArg (fun y => nrm (aMOD m c) (aG m c) y (⟨r.val / 2048, by omega⟩ : Fin 32) e) (funext fun d => Y_at m c hP r d)

theorem same12 : Cert.Reference4Ideal.Mix.res_x (Y m c) = fin12 m c := by
  funext j
  have ej : j = ix2 (show Fin 65536 from j 0) (show Fin 1024 from j 1) := by
    funext a
    revert a
    exact Fin.forall_fin_two.2 ⟨rfl, rfl⟩
  rw [ej, Cert.Reference4Ideal.Mix.res_x_at]
  exact Y_at m c hP _ _
theorem same13 : Cert.Reference4Ideal.Mix.res_h (Cert.Reference4Ideal.Mix.h2of (Y m c) (aMOD m c) (aG m c)) = fin13 m c := by
  funext j
  have ej : j = ix2 (show Fin 65536 from j 0) (show Fin 1024 from j 1) := by
    funext a
    revert a
    exact Fin.forall_fin_two.2 ⟨rfl, rfl⟩
  rw [ej, Cert.Reference4Ideal.Mix.res_h_at]
  exact H_at m c hP _ _
include h3 h4 hG hW
theorem same14 : Cert.Reference4Ideal.Mix.res_l (Cert.Reference4Ideal.Mix.h2of (Y m c) (aMOD m c) (aG m c)) (aWR m c) = fin14 m c := by
  funext j
  have ej : j = ix2 (show Fin 256 from j 0) (show Fin 65536 from j 1) := by
    funext a
    revert a
    exact Fin.forall_fin_two.2 ⟨rfl, rfl⟩
  rw [ej, Cert.Reference4Ideal.Mix.res_l_at]
  refine (congrArg (fun h => lgt (aWR m c) h _) (funext fun e => H_at m c hP (show Fin 65536 from j 1) e)).trans ?_
  exact (split_eq hW _ (fun e => nrm_real h3 h4 hG _ _ _) _).symm
end

/-! ## The reference's results by their names -/
section
open Cert.Reference4Ideal.Mix (res_x res_h res_l h2of resid)
variable (m' : (ℓ : Loc Cert.Reference4Ideal.nD Cert.Reference4Ideal.τ Cert.Reference4Ideal.sig) → Buf (Elt Ideal) ℓ) (d : Dev Cert.Reference4Ideal.nD)

abbrev Y' : FVec Ideal Cert.Reference4Ideal.S32x2048x1024 .f32 :=
  resid (m' ((d.tc : Thread Cert.Reference4Ideal.nD Cert.Reference4Ideal.τ).loc Cert.Reference4Ideal.main_arg0)) (m' ((d.tc : Thread Cert.Reference4Ideal.nD Cert.Reference4Ideal.τ).loc Cert.Reference4Ideal.main_arg1)) (m' ((d.tc : Thread Cert.Reference4Ideal.nD Cert.Reference4Ideal.τ).loc Cert.Reference4Ideal.main_arg2)) (m' ((d.tc : Thread Cert.Reference4Ideal.nD Cert.Reference4Ideal.τ).loc Cert.Reference4Ideal.main_arg3)) (m' ((d.tc : Thread Cert.Reference4Ideal.nD Cert.Reference4Ideal.τ).loc Cert.Reference4Ideal.main_arg4)) (m' ((d.tc : Thread Cert.Reference4Ideal.nD Cert.Reference4Ideal.τ).loc Cert.Reference4Ideal.main_arg5)) (m' ((d.tc : Thread Cert.Reference4Ideal.nD Cert.Reference4Ideal.τ).loc Cert.Reference4Ideal.main_arg6)) (m' ((d.tc : Thread Cert.Reference4Ideal.nD Cert.Reference4Ideal.τ).loc Cert.Reference4Ideal.main_arg7))

theorem out0 : Cert.Reference4Ideal.Value.res_main_v106 m' d = res_x (Y' m' d) := by
  unfold Cert.Reference4Ideal.Value.res_main_v106 Y' Cert.Reference4Ideal.Mix.res_x Cert.Reference4Ideal.Mix.resid Cert.Reference4Ideal.Mix.merged Cert.Reference4Ideal.Mix.pool Cert.Reference4Ideal.Mix.mixed Cert.Reference4Ideal.Mix.counts Cert.Reference4Ideal.Mix.sums Cert.Reference4Ideal.Mix.hiPair Cert.Reference4Ideal.Mix.loPair Cert.Reference4Ideal.Mix.table Cert.Reference4Ideal.Mix.hiIx Cert.Reference4Ideal.Mix.loIx Cert.Reference4Ideal.Mix.posns Cert.Reference4Ideal.Mix.halves
  rfl
theorem out1 : Cert.Reference4Ideal.Value.res_main_v107 m' d = res_h (h2of (Y' m' d) (m' ((d.tc : Thread Cert.Reference4Ideal.nD Cert.Reference4Ideal.τ).loc Cert.Reference4Ideal.main_arg4)) (m' ((d.tc : Thread Cert.Reference4Ideal.nD Cert.Reference4Ideal.τ).loc Cert.Reference4Ideal.main_arg8))) := by
  unfold Cert.Reference4Ideal.Value.res_main_v107 Y' Cert.Reference4Ideal.Mix.res_h Cert.Reference4Ideal.Mix.resid Cert.Reference4Ideal.Mix.merged Cert.Reference4Ideal.Mix.pool Cert.Reference4Ideal.Mix.mixed Cert.Reference4Ideal.Mix.counts Cert.Reference4Ideal.Mix.sums Cert.Reference4Ideal.Mix.hiPair Cert.Reference4Ideal.Mix.loPair Cert.Reference4Ideal.Mix.table Cert.Reference4Ideal.Mix.hiIx Cert.Reference4Ideal.Mix.loIx Cert.Reference4Ideal.Mix.posns Cert.Reference4Ideal.Mix.halves Cert.Reference4Ideal.Mix.h2of
  rfl
theorem out2 : Cert.Reference4Ideal.Value.res_main_v110 m' d = res_l (h2of (Y' m' d) (m' ((d.tc : Thread Cert.Reference4Ideal.nD Cert.Reference4Ideal.τ).loc Cert.Reference4Ideal.main_arg4)) (m' ((d.tc : Thread Cert.Reference4Ideal.nD Cert.Reference4Ideal.τ).loc Cert.Reference4Ideal.main_arg8))) (m' ((d.tc : Thread Cert.Reference4Ideal.nD Cert.Reference4Ideal.τ).loc Cert.Reference4Ideal.main_arg9)) := by
  unfold Cert.Reference4Ideal.Value.res_main_v110 Y' Cert.Reference4Ideal.Mix.res_l Cert.Reference4Ideal.Mix.resid Cert.Reference4Ideal.Mix.merged Cert.Reference4Ideal.Mix.pool Cert.Reference4Ideal.Mix.mixed Cert.Reference4Ideal.Mix.counts Cert.Reference4Ideal.Mix.sums Cert.Reference4Ideal.Mix.hiPair Cert.Reference4Ideal.Mix.loPair Cert.Reference4Ideal.Mix.table Cert.Reference4Ideal.Mix.hiIx Cert.Reference4Ideal.Mix.loIx Cert.Reference4Ideal.Mix.posns Cert.Reference4Ideal.Mix.halves Cert.Reference4Ideal.Mix.h2of
  rfl
end
end Cert.Mix4
-- ==== Proof.Pre4.lean ====
module
public import proofs.«01_k».proof.Proof.Pre
@[expose] public section
set_option maxRecDepth 16384
noncomputable section
open Idealize.ShloMosaic Idealize.SL.Sem
namespace Cert.Pre_finite4
open Cert.Pre_finite (real_of_lt)

theorem facts : Facts where
  bcast_S_S32x2048x1024 := by decide
  reducesTo_S32x2048x1024_S_d0_1_2 := by decide
  h_S_ := by decide
  slices_S32x6x1024_S32x2x1024_0_3_0 := by decide
  bcast_S_S32x2x1024 := by decide
  reducesTo_S32x2x1024_S_d0_1_2 := by decide
  bcast_S_S1x1024 := by decide
  reducesTo_S1x1024_S_d0_1 := by decide
  bcast_S_S1x1024x256 := by decide
  reducesTo_S1x1024x256_S_d0_1_2 := by decide

instance : Subsingleton (Shape.Idx S_) := ⟨fun a b => funext fun i => i.elim0⟩

theorem slice_at (hs : S32x6x1024.Slices ![0, 3, 0] S32x2x1024) (M : FVec Ideal S32x6x1024 .f32) (b : Fin 32) (k : Fin 2) (e : Fin 1024) :
    extractStridedSlice S32x2x1024 ![0, 3, 0] M hs (ix3 b k e) = M (ix3 b ⟨3 + k.val, by omega⟩ e) := by
  refine congrArg M (funext ?_)
  exact Fin.forall_fin_succ.2 ⟨Fin.ext (Nat.zero_add _), Fin.forall_fin_succ.2 ⟨Fin.ext rfl, Fin.forall_fin_succ.2 ⟨Fin.ext (Nat.zero_add _), fun i => i.elim0⟩⟩⟩

theorem unpack [hf : Facts] (a0 a1 a2 a3 : FVec Ideal S32x2048x1024 .f32) (a4 : FVec Ideal S32x6x1024 .f32) (a5 : FVec Ideal S1x4x256x256 .f32)
    (a6 : FVec Ideal S1x1024 .f32) (a7 : FVec Ideal S1x1024x1024 .f32) (a8 : FVec Ideal S1x1024 .f32) (a9 : FVec Ideal S1x1024x256 .f32) (h : fn (F := Ideal) a0 a1 a2 a3 a4 a5 a6 a7 a8 a9 = fun _ => 1#1) :
    (∀ i, ∃ r : ℝ, a3 i = (r : EReal)) ∧ (∀ (b : Fin 32) (e : Fin 1024), ∃ r : ℝ, a4 (ix3 b 3 e) = (r : EReal)) ∧ (∀ (b : Fin 32) (e : Fin 1024), ∃ r : ℝ, a4 (ix3 b 4 e) = (r : EReal)) ∧
      (∀ i, ∃ r : ℝ, a8 i = (r : EReal)) ∧ (∀ i, ∃ r : ℝ, a9 i = (r : EReal)) := by
  have h := congrFun h (Shape.Idx.first hf.h_S_)
  dsimp only [fn, fn_part1] at h
  obtain ⟨h, e9⟩ := IntOp.andi_eq_one.1 h
  obtain ⟨h, e8⟩ := IntOp.andi_eq_one.1 h
  obtain ⟨e3, e4⟩ := IntOp.andi_eq_one.1 h
  have top : Ideal.ofBits .f32 0x7F800000#32 = ⊤ := by simp [Ideal.ofBits, Ideal.ieee]
  have r4 := fun i => real_of_lt _ _ i top (Host.reduce_andi_all _ _ _ _ _ e4 i)
  refine ⟨fun i => real_of_lt _ _ i top (Host.reduce_andi_all _ _ _ _ _ e3 i), fun b e => ?_, fun b e => ?_,
    fun i => real_of_lt _ _ i top (Host.reduce_andi_all _ _ _ _ _ e8 i), fun i => real_of_lt _ _ i top (Host.reduce_andi_all _ _ _ _ _ e9 i)⟩
  · obtain ⟨r, hr⟩ := r4 (ix3 b 0 e)
    exact ⟨r, (slice_at _ a4 b 0 e).symm.trans hr⟩
  · obtain ⟨r, hr⟩ := r4 (ix3 b 1 e)
    exact ⟨r, (slice_at _ a4 b 1 e).symm.trans hr⟩

end Cert.Pre_finite4
-- ==== Proof.Bias.lean ====
/- The relative position bias strip: the row numbers lie in the table, the block's payload picks the row, and the plain mathematics, element by element. -/
module
public import proofs.«01_k».proof.Proof.Spec
public import proofs.«01_k».proof.Proof.Gen.Kernel5Ideal.Value
public import proofs.«01_k».proof.Proof.Gen.Reference5Ideal.Run
public import Idealize.ShloMosaic.Lib.StableHlo.ReadAt
public import Idealize.ShloMosaic.Lib.Pointwise
public import Idealize.ShloMosaic.Lib.Pipeline.ValueKit
public import Idealize.ShloMosaic.Lib.Pipeline.Covers
@[expose] public section
set_option maxRecDepth 16384
noncomputable section
open Idealize.ShloMosaic Idealize.ShloMosaic.TcCoe Idealize.SL.Sem

namespace BiasStrip
open DiffAttn

/-- The distance at column `j`. -/
def gap (j : ℕ) : BitVec 32 := IntOp.subi (BitVec.ofNat 32 j) 2048#32

theorem near (j : Fin 4096) : (IntOp.cmpi CmpIPredicate.slt (IntOp.absi (gap j.val)) 8#32 = 1#1 ∧ (IntOp.absi (gap j.val)).toNat < 16)
    ∨ (IntOp.cmpi CmpIPredicate.slt (IntOp.absi (gap j.val)) 8#32 = 0#1 ∧ 8 ≤ (IntOp.maxsi (IntOp.absi (gap j.val)) 1#32).toInt ∧ (IntOp.maxsi (IntOp.absi (gap j.val)) 1#32).toInt ≤ 2048) := by
  revert j
  decide +kernel

theorem low (z : Fin 2041) : (IntOp.minsi (IntOp.addi 8#32 (BitVec.ofNat 32 z.val)) 15#32).toNat < 16 := by
  revert z
  decide +kernel

theorem eight : Ideal.ofBits FTy.f32 1090519040#32 = ((8 : ℝ) : EReal) := by
  simp [Ideal.ofBits, Ideal.ieee]
  try (rw [← EReal.coe_mul]; norm_num)

theorem ln16 : ∃ r : ℝ, 1 ≤ r ∧ Ideal.ofBits FTy.f32 1076982296#32 = (r : EReal) := by
  refine ⟨11629080 * (2 : ℝ) ^ (-22 : ℤ), by norm_num, ?_⟩
  simp [Ideal.ofBits, Ideal.ieee]
  try (rw [← EReal.coe_mul]; norm_num)

theorem div_real (x y : ℝ) (h : y ≠ 0) : Ideal.div (x : EReal) (y : EReal) = ((x * y⁻¹ : ℝ) : EReal) := by
  unfold Ideal.div
  rw [if_neg (by exact_mod_cast h), ← EReal.coe_inv, ← EReal.coe_mul]

theorem far (x : BitVec 32) (h0 : 8 ≤ x.toInt) (h1 : x.toInt ≤ 2048) : ∃ z : Fin 2041,
    FloatOps.fptosi (F := Ideal) (φ := .f32) 32
      (Ideal.div (Ideal.log (Ideal.div (FloatOps.sitofp (F := Ideal) FTy.f32 x) (Ideal.ofBits FTy.f32 1090519040#32))) (Ideal.ofBits FTy.f32 1076982296#32) * Ideal.ofBits FTy.f32 1090519040#32)
      = BitVec.ofNat 32 z.val := by
  obtain ⟨r, hr, e⟩ := ln16
  have a0 : (8 : ℝ) ≤ (x.toInt : ℝ) := by exact_mod_cast h0
  have a1 : (x.toInt : ℝ) ≤ 2048 := by exact_mod_cast h1
  have q0 : (1 : ℝ) ≤ (x.toInt : ℝ) * (8 : ℝ)⁻¹ := by linarith
  have q1 : (x.toInt : ℝ) * (8 : ℝ)⁻¹ ≤ 256 := by linarith
  have l0 : 0 ≤ Real.log ((x.toInt : ℝ) * (8 : ℝ)⁻¹) := Real.log_nonneg q0
  have l1 : Real.log ((x.toInt : ℝ) * (8 : ℝ)⁻¹) ≤ 255 := by
    have := Real.log_le_sub_one_of_pos (lt_of_lt_of_le one_pos q0)
    linarith
  have rp : 0 < r := lt_of_lt_of_le one_pos hr
  have i1 : r⁻¹ ≤ 1 := inv_le_one_of_one_le₀ hr
  have i0 : 0 ≤ r⁻¹ := (inv_pos.2 rp).le
  have s0 : 0 ≤ Real.log ((x.toInt : ℝ) * (8 : ℝ)⁻¹) * r⁻¹ * 8 := mul_nonneg (mul_nonneg l0 i0) (by norm_num)
  have s1 : Real.log ((x.toInt : ℝ) * (8 : ℝ)⁻¹) * r⁻¹ * 8 ≤ 2040 := by
    have : Real.log ((x.toInt : ℝ) * (8 : ℝ)⁻¹) * r⁻¹ ≤ 255 * 1 := mul_le_mul l1 i1 i0 (by norm_num)
    linarith
  have f0 : 0 ≤ ⌊Real.log ((x.toInt : ℝ) * (8 : ℝ)⁻¹) * r⁻¹ * 8⌋ := Int.floor_nonneg.2 s0
  have f1 : ⌊Real.log ((x.toInt : ℝ) * (8 : ℝ)⁻¹) * r⁻¹ * 8⌋ ≤ 2040 := by
    have : ⌊Real.log ((x.toInt : ℝ) * (8 : ℝ)⁻¹) * r⁻¹ * 8⌋ ≤ ⌊(2040 : ℝ)⌋ := Int.floor_le_floor s1
    simpa using this
  obtain ⟨n, hn⟩ := Int.eq_ofNat_of_zero_le f0
  refine ⟨⟨n, by omega⟩, ?_⟩
  rw [e, eight]
  show Ideal.fptosi 32 (Ideal.div (Ideal.log (Ideal.div ((x.toInt : ℝ) : EReal) ((8 : ℝ) : EReal))) (r : EReal) * ((8 : ℝ) : EReal)) = _
  rw [div_real _ _ (by norm_num), Ideal.log_coe, if_neg (by linarith), div_real _ _ rp.ne', ← EReal.coe_mul]
  show BitVec.ofInt 32 (max _ (min _ (if 0 ≤ _ then _ else _))) = _
  rw [if_pos s0, hn]
  have : max (-((2 ^ (32 - 1) : ℕ) : ℤ)) (min (((2 ^ (32 - 1) : ℕ) : ℤ) - 1) (n : ℤ)) = (n : ℤ) := by
    rw [min_eq_right (by norm_num; omega), max_eq_right (by norm_num)]
  refine (congrArg (BitVec.ofInt 32) this).trans ?_
  exact BitVec.ofInt_natCast 32 n

theorem sum_small (a x : BitVec 32) (ha : a = 16#32 ∨ a = 0#32) (hx : x.toNat < 16) : (IntOp.addi a x).toNat < 32 := by
  show (a + x).toNat < 32
  rw [BitVec.toNat_add]
  rcases ha with rfl | rfl
  · show (16 + x.toNat) % 2 ^ 32 < 32
    omega
  · show (0 + x.toNat) % 2 ^ 32 < 32
    omega

/-- Every distance of the strip has its row number in the table. -/
theorem bkt_lt (j : Fin 4096) : (bkt (gap j.val)).toNat < 32 := by
  unfold bkt
  refine sum_small _ _ ?_ ?_
  · unfold Scalar.select
    split
    · exact Or.inl rfl
    · exact Or.inr rfl
  · rcases near j with ⟨h, hl⟩ | ⟨h, h0, h1⟩
    · rw [h]
      exact hl
    · rw [h]
      obtain ⟨z, hz⟩ := far _ h0 h1
      rw [hz]
      exact low z

/-- The row a distance of the strip picks. -/
def row (j : Fin 4096) : Fin 32 := ⟨(bkt (gap j.val)).toNat, bkt_lt j⟩

theorem row_eq (j : Fin 4096) : rowOf (bktw (gap j.val)) = row j := by
  have h := bkt_lt j
  have e : (bkt (gap j.val)).toInt = ((bkt (gap j.val)).toNat : ℤ) := BitVec.toInt_eq_toNat_of_lt (by omega)
  have s : IntOp.cmpi CmpIPredicate.slt (bkt (gap j.val)) 0#32 = 0#1 := by
    show BitVec.ofBool (BitVec.slt _ _) = _
    rw [show BitVec.slt (bkt (gap j.val)) 0#32 = false by
      rw [BitVec.slt, e]
      simp]
    rfl
  unfold bktw
  rw [s]
  refine Fin.ext ?_
  show min (bkt (gap j.val)).toInt.toNat 31 = (bkt (gap j.val)).toNat
  rw [e]
  omega

theorem eq_word (n : ℕ) (w : BitVec 32) (hn : n < 2 ^ 32) : IntOp.cmpi CmpIPredicate.eq (BitVec.ofNat 32 n) w = if n = w.toNat then 1#1 else 0#1 := by
  show BitVec.ofBool (BitVec.ofNat 32 n == w) = _
  by_cases h : n = w.toNat
  · rw [if_pos h, h]
    simp
  · rw [if_neg h, show (BitVec.ofNat 32 n == w) = false from ?_]
    · rfl
    · refine beq_eq_false_iff_ne.2 fun e => h ?_
      rw [← e]
      exact (Nat.mod_eq_of_lt hn).symm

theorem onehot (n : ℕ) (w : BitVec 32) (hn : n < 2 ^ 32) : FloatOps.sitofp (F := Ideal) FTy.f32 (BitVec.setWidth 32 (IntOp.cmpi CmpIPredicate.eq (BitVec.ofNat 32 n) w)) = if n = w.toNat then (1 : EReal) else 0 := by
  rw [eq_word n w hn]
  split
  · show ((((1#32 : BitVec 32).toInt : ℤ) : ℝ) : EReal) = 1
    simp
  · show ((((0#32 : BitVec 32).toInt : ℤ) : ℝ) : EReal) = 0
    simp

/-- One element of the strip. -/
def strip (tab : (⟨2, ![32, 8]⟩ : Shape).Idx → EReal) (h : Fin 8) (j : Fin 4096) : EReal := tab (ix2 (row j) h)

end BiasStrip

namespace Cert.Kernel5Ideal.Bias
open Cert.Kernel5Ideal Cert.Kernel5Ideal.Gen BiasStrip

theorem p1 (x : Vec Ideal S1x4096 .i32) (w : Vec Ideal S32x8 .f32) (h : Fin 8) (j : Fin 4096) :
    (k0_pay1 (F := Ideal) x w) (ix2 h j) = (∑ k : Fin 32, w (ix2 k h) * (if k.val = (x (ix2 0 j)).toNat then (1 : EReal) else 0) : EReal) := by
  refine Eq.trans (b := (∑ k : Fin 32, w (ix2 k h) * FloatOps.sitofp (F := Ideal) FTy.f32 (BitVec.setWidth 32 (IntOp.cmpi CmpIPredicate.eq (BitVec.ofNat 32 k.val) (x (ix2 0 j)))) : EReal)) ?_ ?_
  · unfold k0_pay1
    pointwise
  · refine @Finset.sum_congr _ EReal _ _ _ _ _ rfl fun k _ => ?_
    rw [onehot _ _ (by omega)]

theorem pick (w : FVec Ideal S32x8 .f32) (h : Fin 8) (r : Fin 32) : (∑ k : Fin 32, w (ix2 k h) * (if k.val = r.val then (1 : EReal) else 0) : EReal) = w (ix2 r h) := by
  rw [Finset.sum_eq_single r]
  · rw [if_pos rfl, mul_one]
  · intro k _ hk
    rw [if_neg (fun e => hk (Fin.ext e)), mul_zero]
  · intro hr
    exact absurd (Finset.mem_univ r) hr

variable (m : (ℓ : Loc nD τ sig) → Buf (Elt Ideal) ℓ) (c : Dev nD)
abbrev TB : FVec Ideal S32x8 .f32 := m ((c : Thread nD τ).loc main_arg0)

theorem v27_at (j : Fin 4096) : (V m c main_v27 : IVec S1x4096 32) (ix2 0 j) = DiffAttn.bkt (gap j.val) := by
  unfold V
  after_reads_at
  unfold DiffAttn.bkt gap
  pointwise
  try simp only [id]
  try pointwise
theorem v_at (k : Fin 32) (h : Fin 8) : (V m c main_arg0 : FVec Ideal S32x8 .f32) (ix2 k h) = TB m c (ix2 k h) := by
  unfold V
  after_reads_at

theorem idx : ∀ t : Fin cfg0.N, win0_0.index t = ![0, 0] ∧ win0_1.index t = ![0, 0] ∧ win0_2.index t = ![0, 0] := by decide +kernel

theorem b0 (t : Fin cfg0.N) (j : Fin 4096) : (iblk m c 0 t : Vec Ideal S1x4096 .i32) (ix2 0 j) = (V m c main_v27 : IVec S1x4096 32) (ix2 0 j) := by
  blk_ext [iblk, idx t]
theorem b1 (t : Fin cfg0.N) (k : Fin 32) (h : Fin 8) : (iblk m c 1 t : Vec Ideal S32x8 .f32) (ix2 k h) = (V m c main_arg0 : FVec Ideal S32x8 .f32) (ix2 k h) := by
  blk_ext [iblk, idx t]

theorem ld_x (x : Vec Ideal S1x4096 .i32) (j : Fin 4096) : (View.ld x r0_0 : Vec Ideal S1x4096 .i32) (ix2 0 j) = x (ix2 0 j) := by
  refine View.ld_unit_apply_of x _ _ _ _ _ ?_
  show ∀ a : Fin 2, _
  exact Fin.forall_fin_two.2 ⟨rfl, (Nat.zero_add _).symm⟩
theorem ld_w (x : Vec Ideal S32x8 .f32) (k : Fin 32) (h : Fin 8) : (View.ld x r0_1 : Vec Ideal S32x8 .f32) (ix2 k h) = x (ix2 k h) := by
  refine View.ld_unit_apply_of x _ _ _ _ _ ?_
  show ∀ a : Fin 2, _
  exact Fin.forall_fin_two.2 ⟨(Nat.zero_add _).symm, (Nat.zero_add _).symm⟩

theorem o2 (t : Fin cfg0.N) (h : Fin 8) (j : Fin 4096) : ((dats m 0 c).after 2 t : Vec Ideal S8x4096 .f32) (ix2 h j) = strip (TB m c) h j := by
  rw [after0_2]
  unfold out0_2
  rw [View.canon_cons_unit_lit _ _ _ (by decide)]
  refine (p1 _ _ h j).trans ?_
  rw [ld_x, b0, v27_at]
  refine Eq.trans ?_ (pick (TB m c) h (row j))
  refine @Finset.sum_congr _ EReal _ _ _ _ _ rfl fun k _ => ?_
  rw [ld_w, b1, v_at]
  rfl

theorem ix_eta (y : S8x4096.Idx) : y = ix2 (show Fin 8 from y 0) (show Fin 4096 from y 1) := by
  funext a
  revert a
  exact Fin.forall_fin_two.2 ⟨rfl, rfl⟩

/-- The result array. -/
def fin2 : FVec Ideal S8x4096 .f32 := fun j => strip (TB m c) (j 0) (j 1)

theorem covers2 : (cfg0.win 2).Covers :=
  (cfg0.win 2).covers_of_index_surj rfl (by decide) fun β => by
    have h0 : (β (0 : Fin 2)).val < 1 := lt_of_lt_of_eq (β (0 : Fin 2)).isLt (by decide : (cfg0.win 2).nblk (0 : Fin 2) = 1)
    have h1 : (β (1 : Fin 2)).val < 1 := lt_of_lt_of_eq (β (1 : Fin 2)).isLt (by decide : (cfg0.win 2).nblk (1 : Fin 2) = 1)
    refine ⟨⟨0, by decide⟩, ?_⟩
    show ∀ a : Fin 2, win0_2.index _ a = (β a).val
    rw [(idx ⟨0, by decide⟩).2.2]
    exact Fin.forall_fin_two.2 ⟨(Nat.lt_one_iff.1 h0).symm, (Nat.lt_one_iff.1 h1).symm⟩

theorem pt2 (t : Fin cfg0.N) (y : S8x4096.Idx) : ((dats m 0 c).after 2 t : Vec Ideal S8x4096 .f32) y
    = strip (TB m c) ⟨(y 0).val, (y 0).isLt⟩ ⟨(y 1).val, (y 1).isLt⟩ := by
  conv_lhs => rw [ix_eta y]
  exact o2 m c t (show Fin 8 from y 0) (show Fin 4096 from y 1)

theorem arr2 : (dats m 0 c).arrAt 2 cfg0.N = fin2 m c := by
  refine (dats m 0 c).arrAt_eq_of_covers 2 _ covers2 fun t hf y => ?_
  refine (pt2 m c t y).trans (congrArg₂ (strip (TB m c)) (Fin.ext ?_) (Fin.ext ?_))
  · blk_simp [idx t]
  · blk_simp [idx t]
end Cert.Kernel5Ideal.Bias

namespace Cert.Reference5Ideal.Bias
open Cert.Reference5Ideal Cert.Reference5Ideal.Gen BiasStrip

variable (m : (ℓ : Loc nD τ sig) → Buf (Elt Ideal) ℓ) (c : Dev nD)
theorem result_at (h : Fin 8) (j : Fin 4096) : (Value.res_main_v34 m c : FVec Ideal S8x4096 .f32) (ix2 h j)
    = strip (m ((c.tc : Thread nD τ).loc main_arg0) : FVec Ideal S32x8 .f32) h j := by
  unfold strip
  rw [← row_eq]
  unfold Value.res_main_v34
  pointwise
  refine (DiffAttn.gather_list _ _ _ _ _).trans ?_
  refine congrArg (fun w => (m ((c.tc : Thread nD τ).loc main_arg0) : FVec Ideal S32x8 .f32) (ix2 (DiffAttn.rowOf w) _)) ?_
  unfold DiffAttn.bktw DiffAttn.bkt gap
  pointwise
  try simp only [id]
  try pointwise
end Cert.Reference5Ideal.Bias
-- ==== Proof.Dest.lean ====
/- The destination of every routed row: the block's payload picks the expert's base and adds the rank, the result array, and the plain mathematics, element by element. -/
module
public import proofs.«01_k».proof.Proof.Bias
public import proofs.«01_k».proof.Proof.Gen.Kernel6Ideal.Value
public import proofs.«01_k».proof.Proof.Gen.Reference6Ideal.Run
public import proofs.«01_k».proof.Pre_experts6
public import Idealize.ShloMosaic.Lib.ReduceAll
public import Idealize.ShloMosaic.Lib.Pointwise
@[expose] public section
set_option maxRecDepth 16384
noncomputable section
open Idealize.ShloMosaic Idealize.ShloMosaic.TcCoe Idealize.SL.Sem

namespace RowDest

/-- The expert an index word stands for. -/
def exp (w : BitVec 32) : Fin 256 := ⟨min w.toInt.toNat 255, Nat.lt_of_le_of_lt (Nat.min_le_right _ _) (by decide)⟩

/-- One routed row's destination. -/
def dst (E R : (⟨2, ![8, 65536]⟩ : Shape).Idx → BitVec 32) (B : (⟨1, ![256]⟩ : Shape).Idx → BitVec 32) (k : Fin 8) (t : Fin 65536) : BitVec 32 :=
  IntOp.addi (B (ix1 (exp (E (ix2 k t))))) (R (ix2 k t))

theorem exp_val (w : BitVec 32) (h : w.toNat < 256) : (exp w).val = w.toNat := by
  have e : w.toInt = (w.toNat : ℤ) := BitVec.toInt_eq_toNat_of_lt (by omega)
  show min w.toInt.toNat 255 = w.toNat
  rw [e]
  omega

/-- A word read as a number and back is itself. -/
theorem back (w : BitVec 32) : FloatOps.fptosi (F := Ideal) (φ := .f32) 32 (FloatOps.sitofp (F := Ideal) FTy.f32 w) = w := by
  show BitVec.ofInt 32 (max (-((2 ^ (32 - 1) : ℕ) : ℤ)) (min (((2 ^ (32 - 1) : ℕ) : ℤ) - 1) (if 0 ≤ ((w.toInt : ℤ) : ℝ) then ⌊((w.toInt : ℤ) : ℝ)⌋ else ⌈((w.toInt : ℤ) : ℝ)⌉))) = w
  rw [Int.floor_intCast, Int.ceil_intCast, ite_self]
  have h0 := BitVec.toInt_lt (x := w)
  have h1 := BitVec.le_toInt (x := w)
  have : max (-((2 ^ (32 - 1) : ℕ) : ℤ)) (min (((2 ^ (32 - 1) : ℕ) : ℤ) - 1) w.toInt) = w.toInt := by
    norm_num at h0 h1 ⊢
    omega
  rw [this, BitVec.ofInt_toInt]

theorem gather_pair {α : Type} {n m : ℕ} (w : GatherDims.WF ⟨1, ![256]⟩ ⟨3, ![n, m, 1]⟩ ⟨2, ![n, m]⟩ [] [0] [] [0] [] 2 ![1]) (x : (⟨1, ![256]⟩ : Shape).Idx → α) (idx : IVec ⟨3, ![n, m, 1]⟩ 32)
    (c : Fin n) (e : Fin m) : Host.gather (⟨[], [0], [], [], [0], 2, ![1], w⟩ : GatherDims _ _ _) x idx (ix2 c e) = x (ix1 (exp (idx (ix3 c e (0 : Fin 1))))) := by
  unfold Host.gather
  refine congrArg x (funext fun a => Fin.ext ?_)
  match a with
  | ⟨0, _⟩ =>
    show GatherDims.start _ (ix2 c e) idx 0 + GatherDims.batchCoord _ (ix2 c e) 0 + GatherDims.offCoord _ (ix2 c e) 0 = _
    rw [GatherDims.batchCoord_eq_zero _ _ _ (show (0 : Fin 1) ∉ ([] : List (Fin 1)) by decide), GatherDims.offCoord_eq_zero _ _ _ (show (0 : Fin 1) ∉ ([] : List (Fin 1)) by decide)]
    simp only [Nat.add_zero]
    unfold GatherDims.start
    rw [dif_pos (show (0 : Fin 1) ∈ ([0] : List (Fin 1)) by decide)]
    have e' : GatherDims.siIdx (⟨[], [0], [], [], [0], 2, ![1], w⟩ : GatherDims ⟨1, ![256]⟩ ⟨3, ![n, m, 1]⟩ ⟨2, ![n, m]⟩) (ix2 c e) ⟨0, Nat.one_pos⟩ = ix3 c e (0 : Fin 1) := by
      funext b
      match b with
      | ⟨0, _⟩ => rfl
      | ⟨1, _⟩ => rfl
      | ⟨2, _⟩ => rfl
    exact congrArg (fun j => min (idx j).toInt.toNat 255) e'

theorem bit_true (b : Bool) (h : BitVec.ofBool b = 1#1) : b = true := by
  cases b
  · exact absurd h (by decide)
  · rfl

theorem small (w : BitVec 32) (h0 : IntOp.cmpi CmpIPredicate.sge w 0#32 = 1#1) (h1 : IntOp.cmpi CmpIPredicate.slt w 256#32 = 1#1) : w.toNat < 256 := by
  have a : 0 ≤ w.toInt := by
    have := bit_true (BitVec.sle 0#32 w) h0
    rw [BitVec.sle] at this
    simpa using this
  have b : w.toInt < 256 := by
    have := bit_true (BitVec.slt w 256#32) h1
    rw [BitVec.slt] at this
    simpa using this
  have := w.isLt
  rw [BitVec.toInt_eq_toNat_cond] at a b
  split at b <;> omega
end RowDest

namespace Cert.Pre_experts6
theorem facts : Facts where
  bcast_S_S8x65536 := by decide
  reducesTo_S8x65536_S_d0_1 := by decide
  h_S_ := by decide

instance : Subsingleton (Shape.Idx S_) := ⟨fun a b => funext fun i => i.elim0⟩

theorem unpack [hf : Facts] (a0 a1 : IVec S8x65536 32) (a2 : IVec S256 32) (h : fn (F := Ideal) a0 a1 a2 = fun _ => 1#1) : ∀ i, (a0 i).toNat < 256 := by
  have h := congrFun h (Shape.Idx.first hf.h_S_)
  dsimp only [fn] at h
  obtain ⟨e0, e1⟩ := IntOp.andi_eq_one.1 h
  exact fun i => RowDest.small _ (Host.reduce_andi_all _ _ _ _ _ e0 i) (Host.reduce_andi_all _ _ _ _ _ e1 i)
end Cert.Pre_experts6

namespace Cert.Kernel6Ideal.Dest
open Cert.Kernel6Ideal Cert.Kernel6Ideal.Gen RowDest

/-- The sum that picks the expert's base. -/
def tot (v : Vec Ideal S256x1 .f32) (e : BitVec 32) : EReal :=
  ∑ x : Fin 256, Scalar.select (IntOp.cmpi CmpIPredicate.eq (BitVec.ofNat 32 x.val) e) (v (ix2 x 0)) 0
/-- One element of the block. -/
def hit (v : Vec Ideal S256x1 .f32) (e r : BitVec 32) : BitVec 32 := IntOp.addi (FloatOps.fptosi (F := Ideal) (φ := .f32) 32 (tot v e)) r

theorem q0 (v : Vec Ideal S256x1 .f32) (e : Vec Ideal S1x512 .i32) (j : Fin 512) : (k0_pay2 (F := Ideal) v e) (ix2 0 j) = tot v (e (ix2 0 j)) := by
  unfold k0_pay2 k0_pay1 tot
  pointwise
theorem q1 (v : Vec Ideal S256x1 .f32) (e : Vec Ideal S1x512 .i32) (j : Fin 512) : (k0_pay3 (F := Ideal) v e) (ix2 0 j) = tot v (e (ix2 0 j)) := by
  unfold k0_pay3 k0_pay1 tot
  pointwise
theorem q2 (v : Vec Ideal S256x1 .f32) (e : Vec Ideal S1x512 .i32) (j : Fin 512) : (k0_pay4 (F := Ideal) v e) (ix2 0 j) = tot v (e (ix2 0 j)) := by
  unfold k0_pay4 k0_pay1 tot
  pointwise
theorem q3 (v : Vec Ideal S256x1 .f32) (e : Vec Ideal S1x512 .i32) (j : Fin 512) : (k0_pay5 (F := Ideal) v e) (ix2 0 j) = tot v (e (ix2 0 j)) := by
  unfold k0_pay5 k0_pay1 tot
  pointwise
theorem r0 (v0 : IVec S256x512 32) (v2 : FVec Ideal S256x1 .f32) (a b c d : FVec Ideal S1x512 .f32) (e f g h : Vec Ideal S1x512 .i32) (r : Vec Ideal S8x512 .i32) (j : Fin 512) :
    (k0_pay6 (F := Ideal) v0 v2 a b c d e f g h r) (ix2 0 j) = IntOp.addi (FloatOps.fptosi (F := Ideal) (φ := .f32) 32 (a (ix2 0 j))) (r (ix2 0 j)) := by
  unfold k0_pay6
  pointwise
theorem r1 (v0 : IVec S256x512 32) (v2 : FVec Ideal S256x1 .f32) (a b c d : FVec Ideal S1x512 .f32) (e f g h : Vec Ideal S1x512 .i32) (r : Vec Ideal S8x512 .i32) (j : Fin 512) :
    (k0_pay6 (F := Ideal) v0 v2 a b c d e f g h r) (ix2 1 j) = IntOp.addi (FloatOps.fptosi (F := Ideal) (φ := .f32) 32 (b (ix2 0 j))) (r (ix2 1 j)) := by
  unfold k0_pay6
  pointwise
theorem r2 (v0 : IVec S256x512 32) (v2 : FVec Ideal S256x1 .f32) (a b c d : FVec Ideal S1x512 .f32) (e f g h : Vec Ideal S1x512 .i32) (r : Vec Ideal S8x512 .i32) (j : Fin 512) :
    (k0_pay6 (F := Ideal) v0 v2 a b c d e f g h r) (ix2 2 j) = IntOp.addi (FloatOps.fptosi (F := Ideal) (φ := .f32) 32 (c (ix2 0 j))) (r (ix2 2 j)) := by
  unfold k0_pay6
  pointwise
theorem r3 (v0 : IVec S256x512 32) (v2 : FVec Ideal S256x1 .f32) (a b c d : FVec Ideal S1x512 .f32) (e f g h : Vec Ideal S1x512 .i32) (r : Vec Ideal S8x512 .i32) (j : Fin 512) :
    (k0_pay6 (F := Ideal) v0 v2 a b c d e f g h r) (ix2 3 j) = IntOp.addi (FloatOps.fptosi (F := Ideal) (φ := .f32) 32 (d (ix2 0 j))) (r (ix2 3 j)) := by
  unfold k0_pay6
  pointwise
theorem r4 (v : Vec Ideal S256x1 .f32) (a b c d : FVec Ideal S1x512 .f32) (e f g h : Vec Ideal S1x512 .i32) (r : Vec Ideal S8x512 .i32) (j : Fin 512) :
    (k0_pay6 (F := Ideal) (iota .tc S256x512 32 [0] iota_S256x512_d0_w32) (k0_pay1 v) a b c d e f g h r) (ix2 4 j) = hit v (e (ix2 0 j)) (r (ix2 4 j)) := by
  unfold k0_pay6 k0_pay1 hit tot
  pointwise
theorem r5 (v : Vec Ideal S256x1 .f32) (a b c d : FVec Ideal S1x512 .f32) (e f g h : Vec Ideal S1x512 .i32) (r : Vec Ideal S8x512 .i32) (j : Fin 512) :
    (k0_pay6 (F := Ideal) (iota .tc S256x512 32 [0] iota_S256x512_d0_w32) (k0_pay1 v) a b c d e f g h r) (ix2 5 j) = hit v (f (ix2 0 j)) (r (ix2 5 j)) := by
  unfold k0_pay6 k0_pay1 hit tot
  pointwise
theorem r6 (v : Vec Ideal S256x1 .f32) (a b c d : FVec Ideal S1x512 .f32) (e f g h : Vec Ideal S1x512 .i32) (r : Vec Ideal S8x512 .i32) (j : Fin 512) :
    (k0_pay6 (F := Ideal) (iota .tc S256x512 32 [0] iota_S256x512_d0_w32) (k0_pay1 v) a b c d e f g h r) (ix2 6 j) = hit v (g (ix2 0 j)) (r (ix2 6 j)) := by
  unfold k0_pay6 k0_pay1 hit tot
  pointwise
theorem r7 (v : Vec Ideal S256x1 .f32) (a b c d : FVec Ideal S1x512 .f32) (e f g h : Vec Ideal S1x512 .i32) (r : Vec Ideal S8x512 .i32) (j : Fin 512) :
    (k0_pay6 (F := Ideal) (iota .tc S256x512 32 [0] iota_S256x512_d0_w32) (k0_pay1 v) a b c d e f g h r) (ix2 7 j) = hit v (h (ix2 0 j)) (r (ix2 7 j)) := by
  unfold k0_pay6 k0_pay1 hit tot
  pointwise

theorem ld_b (x : Vec Ideal S256x1 .f32) (k : Fin 256) : (View.ld x r0_0 : Vec Ideal S256x1 .f32) (ix2 k 0) = x (ix2 k 0) := by
  refine View.ld_unit_apply_of x _ _ _ _ _ ?_
  show ∀ a : Fin 2, _
  exact Fin.forall_fin_two.2 ⟨(Nat.zero_add _).symm, rfl⟩
theorem ld_r (x : Vec Ideal S8x512 .i32) (i : Fin 8) (j : Fin 512) : (View.ld x r0_9 : Vec Ideal S8x512 .i32) (ix2 i j) = x (ix2 i j) := by
  refine View.ld_unit_apply_of x _ _ _ _ _ ?_
  show ∀ a : Fin 2, _
  exact Fin.forall_fin_two.2 ⟨(Nat.zero_add _).symm, (Nat.zero_add _).symm⟩
theorem ld_e0 (x : Vec Ideal S8x512 .i32) (j : Fin 512) : (View.ld x r0_1 : Vec Ideal S1x512 .i32) (ix2 0 j) = x (ix2 0 j) := by
  refine View.ld_unit_apply_of x _ _ _ _ _ ?_
  show ∀ a : Fin 2, _
  exact Fin.forall_fin_two.2 ⟨rfl, (Nat.zero_add _).symm⟩
theorem ld_e1 (x : Vec Ideal S8x512 .i32) (j : Fin 512) : (View.ld x r0_2 : Vec Ideal S1x512 .i32) (ix2 0 j) = x (ix2 1 j) := by
  refine View.ld_unit_apply_of x _ _ _ _ _ ?_
  show ∀ a : Fin 2, _
  exact Fin.forall_fin_two.2 ⟨rfl, (Nat.zero_add _).symm⟩
theorem ld_e2 (x : Vec Ideal S8x512 .i32) (j : Fin 512) : (View.ld x r0_3 : Vec Ideal S1x512 .i32) (ix2 0 j) = x (ix2 2 j) := by
  refine View.ld_unit_apply_of x _ _ _ _ _ ?_
  show ∀ a : Fin 2, _
  exact Fin.forall_fin_two.2 ⟨rfl, (Nat.zero_add _).symm⟩
theorem ld_e3 (x : Vec Ideal S8x512 .i32) (j : Fin 512) : (View.ld x r0_4 : Vec Ideal S1x512 .i32) (ix2 0 j) = x (ix2 3 j) := by
  refine View.ld_unit_apply_of x _ _ _ _ _ ?_
  show ∀ a : Fin 2, _
  exact Fin.forall_fin_two.2 ⟨rfl, (Nat.zero_add _).symm⟩
theorem ld_e4 (x : Vec Ideal S8x512 .i32) (j : Fin 512) : (View.ld x r0_5 : Vec Ideal S1x512 .i32) (ix2 0 j) = x (ix2 4 j) := by
  refine View.ld_unit_apply_of x _ _ _ _ _ ?_
  show ∀ a : Fin 2, _
  exact Fin.forall_fin_two.2 ⟨rfl, (Nat.zero_add _).symm⟩
theorem ld_e5 (x : Vec Ideal S8x512 .i32) (j : Fin 512) : (View.ld x r0_6 : Vec Ideal S1x512 .i32) (ix2 0 j) = x (ix2 5 j) := by
  refine View.ld_unit_apply_of x _ _ _ _ _ ?_
  show ∀ a : Fin 2, _
  exact Fin.forall_fin_two.2 ⟨rfl, (Nat.zero_add _).symm⟩
theorem ld_e6 (x : Vec Ideal S8x512 .i32) (j : Fin 512) : (View.ld x r0_7 : Vec Ideal S1x512 .i32) (ix2 0 j) = x (ix2 6 j) := by
  refine View.ld_unit_apply_of x _ _ _ _ _ ?_
  show ∀ a : Fin 2, _
  exact Fin.forall_fin_two.2 ⟨rfl, (Nat.zero_add _).symm⟩
theorem ld_e7 (x : Vec Ideal S8x512 .i32) (j : Fin 512) : (View.ld x r0_8 : Vec Ideal S1x512 .i32) (ix2 0 j) = x (ix2 7 j) := by
  refine View.ld_unit_apply_of x _ _ _ _ _ ?_
  show ∀ a : Fin 2, _
  exact Fin.forall_fin_two.2 ⟨rfl, (Nat.zero_add _).symm⟩
theorem tot_ld (x : Vec Ideal S256x1 .f32) (e : BitVec 32) : tot (View.ld x r0_0) e = tot x e :=
  @Finset.sum_congr _ EReal _ _ _ _ _ rfl fun k _ => congrArg (fun w => Scalar.select _ w _) (ld_b x k)

theorem body (x0 x1 : Vec Ideal S8x512 .i32) (x2 : Vec Ideal S256x1 .f32) (i : Fin 8) (j : Fin 512) : (out0_3 (F := Ideal) x0 x1 x2) (ix2 i j) = hit x2 (x0 (ix2 i j)) (x1 (ix2 i j)) := by
  unfold out0_3
  rw [View.canon_cons_unit_lit _ _ _ (by decide)]
  match i with
  | 0 =>
    refine (r0 _ _ _ _ _ _ _ _ _ _ _ j).trans ?_
    rw [q0, ld_e0, ld_r]
    exact congrArg (fun w => IntOp.addi (FloatOps.fptosi (F := Ideal) (φ := .f32) 32 w) (x1 (ix2 0 j))) (tot_ld x2 _)
  | 1 =>
    refine (r1 _ _ _ _ _ _ _ _ _ _ _ j).trans ?_
    rw [q1, ld_e1, ld_r]
    exact congrArg (fun w => IntOp.addi (FloatOps.fptosi (F := Ideal) (φ := .f32) 32 w) (x1 (ix2 1 j))) (tot_ld x2 _)
  | 2 =>
    refine (r2 _ _ _ _ _ _ _ _ _ _ _ j).trans ?_
    rw [q2, ld_e2, ld_r]
    exact congrArg (fun w => IntOp.addi (FloatOps.fptosi (F := Ideal) (φ := .f32) 32 w) (x1 (ix2 2 j))) (tot_ld x2 _)
  | 3 =>
    refine (r3 _ _ _ _ _ _ _ _ _ _ _ j).trans ?_
    rw [q3, ld_e3, ld_r]
    exact congrArg (fun w => IntOp.addi (FloatOps.fptosi (F := Ideal) (φ := .f32) 32 w) (x1 (ix2 3 j))) (tot_ld x2 _)
  | 4 =>
    refine (r4 _ _ _ _ _ _ _ _ _ _ j).trans ?_
    rw [ld_e4, ld_r]
    exact congrArg (fun w => IntOp.addi (FloatOps.fptosi (F := Ideal) (φ := .f32) 32 w) (x1 (ix2 4 j))) (tot_ld x2 _)
  | 5 =>
    refine (r5 _ _ _ _ _ _ _ _ _ _ j).trans ?_
    rw [ld_e5, ld_r]
    exact congrArg (fun w => IntOp.addi (FloatOps.fptosi (F := Ideal) (φ := .f32) 32 w) (x1 (ix2 5 j))) (tot_ld x2 _)
  | 6 =>
    refine (r6 _ _ _ _ _ _ _ _ _ _ j).trans ?_
    rw [ld_e6, ld_r]
    exact congrArg (fun w => IntOp.addi (FloatOps.fptosi (F := Ideal) (φ := .f32) 32 w) (x1 (ix2 6 j))) (tot_ld x2 _)
  | 7 =>
    refine (r7 _ _ _ _ _ _ _ _ _ _ j).trans ?_
    rw [ld_e7, ld_r]
    exact congrArg (fun w => IntOp.addi (FloatOps.fptosi (F := Ideal) (φ := .f32) 32 w) (x1 (ix2 7 j))) (tot_ld x2 _)

theorem tot_real (v : Vec Ideal S256x1 .f32) (e : BitVec 32) (h : e.toNat < 256) : tot v e = v (ix2 (exp e) 0) := by
  have hv := exp_val e h
  unfold tot
  rw [Finset.sum_eq_single (exp e)]
  · rw [BiasStrip.eq_word _ _ (by omega), if_pos hv]
    rfl
  · intro k _ hk
    rw [BiasStrip.eq_word _ _ (by omega), if_neg (fun q => hk (Fin.ext (q.trans hv.symm)))]
    rfl
  · intro hr
    exact absurd (Finset.mem_univ _) hr

variable (m : (ℓ : Loc nD τ sig) → Buf (Elt Ideal) ℓ) (c : Dev nD)
abbrev E : IVec S8x65536 32 := m ((c : Thread nD τ).loc main_arg0)
abbrev R : IVec S8x65536 32 := m ((c : Thread nD τ).loc main_arg1)
abbrev B : IVec S256 32 := m ((c : Thread nD τ).loc main_arg2)

theorem v1_at (k : Fin 256) : (V m c main_v1 : FVec Ideal S256x1 .f32) (ix2 k 0) = FloatOps.sitofp (F := Ideal) FTy.f32 (B m c (ix1 k)) := by
  unfold V
  after_reads_at
theorem ve_at (k : Fin 8) (t : Fin 65536) : (V m c main_arg0 : IVec S8x65536 32) (ix2 k t) = E m c (ix2 k t) := by
  unfold V
  after_reads_at
theorem vr_at (k : Fin 8) (t : Fin 65536) : (V m c main_arg1 : IVec S8x65536 32) (ix2 k t) = R m c (ix2 k t) := by
  unfold V
  after_reads_at

theorem idx : ∀ t : Fin cfg0.N, win0_0.index t = ![0, t.val] ∧ win0_1.index t = ![0, t.val] ∧ win0_2.index t = ![0, 0] ∧ win0_3.index t = ![0, t.val] := by decide +kernel
theorem pt_lt (t : Fin cfg0.N) : t.val < 128 := t.isLt

theorem b0 (t : Fin cfg0.N) (k : Fin 8) (e : Fin 512) : (iblk m c 0 t : Vec Ideal S8x512 .i32) (ix2 k e) = (V m c main_arg0 : IVec S8x65536 32) (ix2 k ⟨t.val * 512 + e.val, by have := pt_lt t; omega⟩) := by
  blk_ext [iblk, idx t]
theorem b1 (t : Fin cfg0.N) (k : Fin 8) (e : Fin 512) : (iblk m c 1 t : Vec Ideal S8x512 .i32) (ix2 k e) = (V m c main_arg1 : IVec S8x65536 32) (ix2 k ⟨t.val * 512 + e.val, by have := pt_lt t; omega⟩) := by
  blk_ext [iblk, idx t]
theorem b2 (t : Fin cfg0.N) (k : Fin 256) : (iblk m c 2 t : Vec Ideal S256x1 .f32) (ix2 k 0) = (V m c main_v1 : FVec Ideal S256x1 .f32) (ix2 k 0) := by
  blk_ext [iblk, idx t]

theorem o3 (hE : ∀ i, (E m c i).toNat < 256) (t : Fin cfg0.N) (i : Fin 8) (e : Fin 512) : ((dats m 0 c).after 3 t : Vec Ideal S8x512 .i32) (ix2 i e) = dst (E m c) (R m c) (B m c) i ⟨t.val * 512 + e.val, by have := pt_lt t; omega⟩ := by
  rw [after0_3]
  refine (body _ _ _ i e).trans ?_
  rw [b0, b1, ve_at, vr_at]
  unfold hit dst
  rw [tot_real _ _ (hE _), b2, v1_at, back]

theorem ix_eta (y : S8x512.Idx) : y = ix2 (show Fin 8 from y 0) (show Fin 512 from y 1) := by
  funext a
  revert a
  exact Fin.forall_fin_two.2 ⟨rfl, rfl⟩

/-- The result array. -/
def fin3 : IVec S8x65536 32 := fun j => dst (E m c) (R m c) (B m c) (j 0) (j 1)

theorem covers3 : (cfg0.win 3).Covers :=
  (cfg0.win 3).covers_of_index_surj rfl (by decide) fun β => by
    have h0 : (β (0 : Fin 2)).val < 1 := lt_of_lt_of_eq (β (0 : Fin 2)).isLt (by decide : (cfg0.win 3).nblk (0 : Fin 2) = 1)
    have h1 : (β (1 : Fin 2)).val < 128 := lt_of_lt_of_eq (β (1 : Fin 2)).isLt (by decide : (cfg0.win 3).nblk (1 : Fin 2) = 128)
    refine ⟨⟨(β (1 : Fin 2)).val, h1⟩, ?_⟩
    show ∀ a : Fin 2, win0_3.index _ a = (β a).val
    rw [(idx ⟨(β (1 : Fin 2)).val, h1⟩).2.2.2]
    exact Fin.forall_fin_two.2 ⟨(Nat.lt_one_iff.1 h0).symm, rfl⟩

theorem pt3 (hE : ∀ i, (E m c i).toNat < 256) (t : Fin cfg0.N) (y : S8x512.Idx) : ((dats m 0 c).after 3 t : Vec Ideal S8x512 .i32) y
    = dst (E m c) (R m c) (B m c) ⟨(y 0).val, (y 0).isLt⟩ ⟨t.val * 512 + (y 1).val, by have := pt_lt t; have : (y 1).val < 512 := (y 1).isLt; omega⟩ := by
  conv_lhs => rw [ix_eta y]
  exact o3 m c hE t (show Fin 8 from y 0) (show Fin 512 from y 1)

theorem arr3 (hE : ∀ i, (E m c i).toNat < 256) : (dats m 0 c).arrAt 3 cfg0.N = fin3 m c := by
  refine (dats m 0 c).arrAt_eq_of_covers 3 _ covers3 fun t hf y => ?_
  refine (pt3 m c hE t y).trans (congrArg₂ (dst (E m c) (R m c) (B m c)) (Fin.ext ?_) (Fin.ext ?_))
  · blk_simp [idx t]
  · blk_simp [idx t]
end Cert.Kernel6Ideal.Dest

namespace Cert.Reference6Ideal.Dest
open Cert.Reference6Ideal Cert.Reference6Ideal.Gen RowDest

/-- The reference's result. -/
def result (E R : IVec S8x65536 32) (B : IVec S256 32) : IVec S8x65536 32 :=
  addi (Host.gather gather_S256_S8x65536x1_S8x65536_n_0_n_n_0_2_1 B (broadcastInDim S8x65536x1 ![0, 1] bcast_S8x65536_S8x65536x1_0_1 (select (cmpi .slt E (broadcastInDim S8x65536 ![] bcast_S_S8x65536 (constantI S_ 32 0#32))) (addi E (broadcastInDim S8x65536 ![] bcast_S_S8x65536 (constantI S_ 32 256#32))) E))) R

theorem result_at (E R : IVec S8x65536 32) (B : IVec S256 32) (k : Fin 8) (t : Fin 65536) (h : (E (ix2 k t)).toNat < 256) : result E R B (ix2 k t) = dst E R B k t := by
  unfold result dst
  refine congrArg (fun w => IntOp.addi w (R (ix2 k t))) ?_
  refine (gather_pair _ _ _ _ _).trans ?_
  refine congrArg (fun w => B (ix1 (exp w))) ?_
  refine Eq.trans (b := Scalar.select (IntOp.cmpi CmpIPredicate.slt (E (ix2 k t)) 0#32) (IntOp.addi (E (ix2 k t)) 256#32) (E (ix2 k t))) ?_ ?_
  · pointwise
  · have e : (E (ix2 k t)).toInt = ((E (ix2 k t)).toNat : ℤ) := BitVec.toInt_eq_toNat_of_lt (by omega)
    have s : IntOp.cmpi CmpIPredicate.slt (E (ix2 k t)) 0#32 = 0#1 := by
      show BitVec.ofBool (BitVec.slt _ _) = _
      rw [show BitVec.slt (E (ix2 k t)) 0#32 = false by
        rw [BitVec.slt, e]
        simp]
      rfl
    rw [s]
    rfl
end Cert.Reference6Ideal.Dest
-- ==== Proof.Pre7.lean ====
module
public import proofs.«01_k».proof.Proof.Pre
public import proofs.«01_k».proof.Pre_above7
public import Idealize.ShloMosaic.Lib.ReduceAll
@[expose] public section
noncomputable section
open Idealize.ShloMosaic Idealize.SL.Sem
namespace Cert.Pre_above7

theorem facts : Facts where
  bcast_S_S1x256 := by decide
  reducesTo_S1x256_S_d0_1 := by decide
  h_S_ := by decide

instance : Subsingleton (Shape.Idx S_) := ⟨fun a b => funext fun i => i.elim0⟩

theorem above (x : EReal) (h : FloatOps.cmpf (F := Ideal) (φ := .f32) .ogt x (Ideal.ofBits FTy.f32 0xFF800000#32) = 1#1) : ⊥ < x := by
  have e : Ideal.ofBits FTy.f32 0xFF800000#32 = ⊥ := by simp [Ideal.ofBits, Ideal.ieee]
  rw [e] at h
  by_contra q
  have : FloatOps.cmpf (F := Ideal) (φ := .f32) .ogt x ⊥ = 0#1 := by
    show BitVec.ofBool (decide ((⊥ : EReal) < x)) = 0#1
    rw [decide_eq_false q]
    rfl
  rw [this] at h
  exact absurd h (by decide)

theorem unpack [hf : Facts] (a0 : FVec Ideal S256x65536 .f32) (a1 : FVec Ideal S1x256 .f32) (h : fn (F := Ideal) a0 a1 = fun _ => 1#1) (i : S1x256.Idx) : ⊥ < a1 i :=
  above _ (Host.reduce_andi_all _ _ _ _ _ (congrFun h (Shape.Idx.first hf.h_S_)) i)
end Cert.Pre_above7
end
end
-- ==== Proof.RoutePick.lean ====
/- The choice of the greatest: rounds of "take the greatest, its first index, and strike it out" pick the entries of the stable descending order one after the other. -/
module
public import proofs.«01_k».proof.Proof.Bias
public import Idealize.ShloMosaic.Lib.SortFacts
@[expose] public section
noncomputable section
open Idealize.ShloMosaic

namespace Routing
variable {n : ℕ}

theorem bot_word : Ideal.ofBits FTy.f32 4286578688#32 = (⊥ : EReal) := by
  simp [Ideal.ofBits, Ideal.ieee]

/-- The greatest entry. -/
def top (f : Fin n → EReal) : EReal := Finset.fold max (Ideal.ofBits FTy.f32 4286578688#32) f Finset.univ

/-- The first index of the greatest entry. -/
def am (N : BitVec 32) (f : Fin n → EReal) : BitVec 32 :=
  Finset.fold IntOp.minsi 2147483647#32 (fun e : Fin n => if f e = top f then BitVec.ofNat 32 e.val else N) Finset.univ

/-- The entry struck out. -/
def nx (N : BitVec 32) (f : Fin n → EReal) (e : Fin n) : EReal :=
  if e.val = (am N f).toNat then ⊥ else f e

/-- `r` entries struck out. -/
def it (N : BitVec 32) (f : Fin n → EReal) : ℕ → Fin n → EReal
  | 0 => f
  | r + 1 => nx N (it N f r)

/-- The stable descending order of the entries. -/
def srt (f : Fin n → EReal) : Fin n → Fin n := sortedFrom fun k k' => FloatOps.cmpfTotal (F := Ideal) (φ := .f32) .gt (f k) (f k') == 1#1

theorem before (f : Fin n → EReal) (a b : Fin n) : (FloatOps.cmpfTotal (F := Ideal) (φ := .f32) .gt (f a) (f b) == 1#1) = true ↔ f b < f a := by
  show (BitVec.ofBool (decide (f b < f a)) == 1#1) = true ↔ _
  by_cases h : f b < f a <;> simp [h]

/-- `b` stands before `c`. -/
def Bef (f : Fin n → EReal) (b c : Fin n) : Prop := f c < f b ∨ (f c = f b ∧ b < c)

theorem ins (f : Fin n → EReal) (R : Fin n → Fin n → Bool) (hR : ∀ a b, R a b = true ↔ f b < f a) (a : Fin n) (l : List (Fin n)) (ha : ∀ c ∈ l, a < c)
    (hl : l.Pairwise (Bef f)) : (insertBefore R a l).Pairwise (Bef f) := by
  induction l with
  | nil => exact List.pairwise_singleton _ _
  | cons b l ih =>
    have hl' := List.pairwise_cons.1 hl
    unfold insertBefore
    split
    · rename_i h
      refine List.pairwise_cons.2 ⟨fun c hc => ?_, ih (fun c hc => ha c (List.mem_cons_of_mem _ hc)) hl'.2⟩
      rcases List.mem_cons.1 ((perm_insertBefore R a l).mem_iff.1 hc) with rfl | hc
      · exact Or.inl ((hR _ _).1 h)
      · exact hl'.1 c hc
    · rename_i h
      have hab : f b ≤ f a := not_lt.1 fun q => h ((hR _ _).2 q)
      refine List.pairwise_cons.2 ⟨fun c hc => ?_, hl⟩
      have hcb : f c ≤ f b := by
        rcases List.mem_cons.1 hc with rfl | hc
        · exact le_rfl
        · rcases hl'.1 c hc with q | q
          · exact q.le
          · exact q.1.le
      rcases lt_or_eq_of_le (hcb.trans hab) with q | q
      · exact Or.inl q
      · exact Or.inr ⟨q, ha c hc⟩

theorem srtl (f : Fin n → EReal) (R : Fin n → Fin n → Bool) (hR : ∀ a b, R a b = true ↔ f b < f a) (l : List (Fin n)) (hl : l.Pairwise (· < ·)) :
    (stableSort R l).Pairwise (Bef f) := by
  induction l with
  | nil => exact List.Pairwise.nil
  | cons a l ih =>
    have hl' := List.pairwise_cons.1 hl
    unfold stableSort
    exact ins f R hR a _ (fun c hc => hl'.1 c ((perm_stableSort R l).mem_iff.1 hc)) (ih hl'.2)

theorem srt_bef (f : Fin n → EReal) (i j : Fin n) (hij : i < j) : Bef f (srt f i) (srt f j) := by
  have hp : ∀ a b : Fin (sortPositions n fun k k' => FloatOps.cmpfTotal (F := Ideal) (φ := .f32) .gt (f k) (f k') == 1#1).length, a < b →
      Bef f ((sortPositions n fun k k' => FloatOps.cmpfTotal (F := Ideal) (φ := .f32) .gt (f k) (f k') == 1#1).get a) ((sortPositions n fun k k' => FloatOps.cmpfTotal (F := Ideal) (φ := .f32) .gt (f k) (f k') == 1#1).get b) :=
    List.pairwise_iff_get.mp (srtl f _ (before f) (List.finRange n) (List.pairwise_lt_finRange n))
  unfold srt sortedFrom
  exact hp _ _ (by simp only [Fin.lt_def, Fin.val_cast]; exact hij)

theorem srt_inj (f : Fin n → EReal) : Function.Injective (srt f) := sortedFrom_injective _
theorem srt_surj (f : Fin n → EReal) : Function.Surjective (srt f) := sortedFrom_surjective _

theorem srt_le (f : Fin n → EReal) (i j : Fin n) (hij : i ≤ j) : f (srt f j) ≤ f (srt f i) := by
  rcases lt_or_eq_of_le hij with h | rfl
  · rcases srt_bef f i j h with q | q
    · exact q.le
    · exact q.1.le
  · exact le_rfl

theorem top_eq (f : Fin n → EReal) (p : Fin n) (h : ∀ e, f e ≤ f p) : top f = f p := by
  unfold top
  rw [bot_word]
  refine le_antisymm (Finset.fold_max_le _ |>.2 ⟨bot_le, fun e _ => h e⟩) (Finset.le_fold_max _ |>.2 (Or.inr ⟨p, Finset.mem_univ _, le_rfl⟩))

theorem min_l (P y : BitVec 32) (h : P.toInt ≤ y.toInt) : IntOp.minsi P y = P := by
  unfold IntOp.minsi
  simp only [BitVec.slt]
  split
  · rename_i q
    have := of_decide_eq_true q
    first | rfl | (exfalso; omega) | exact BitVec.eq_of_toInt_eq (by omega)
  · rename_i q
    have : ¬ _ := fun z => q (decide_eq_true z)
    first | rfl | exact BitVec.eq_of_toInt_eq (by omega)

theorem min_r (P x : BitVec 32) (h : P.toInt ≤ x.toInt) : IntOp.minsi x P = P := by
  unfold IntOp.minsi
  simp only [BitVec.slt]
  split
  · rename_i q
    have := of_decide_eq_true q
    first | rfl | (exfalso; omega) | exact BitVec.eq_of_toInt_eq (by omega)
  · rename_i q
    have : ¬ _ := fun z => q (decide_eq_true z)
    first | rfl | exact BitVec.eq_of_toInt_eq (by omega)

theorem min_ge (P x y : BitVec 32) (hx : P.toInt ≤ x.toInt) (hy : P.toInt ≤ y.toInt) : P.toInt ≤ (IntOp.minsi x y).toInt := by
  unfold IntOp.minsi
  split <;> assumption

theorem fold_min (P b : BitVec 32) (h : Fin n → BitVec 32) (hb : P.toInt ≤ b.toInt) (hh : ∀ e, P.toInt ≤ (h e).toInt) (S : Finset (Fin n)) :
    P.toInt ≤ (Finset.fold IntOp.minsi b h S).toInt ∧ ((∃ e ∈ S, h e = P) → Finset.fold IntOp.minsi b h S = P) := by
  classical
  induction S using Finset.induction_on with
  | empty => exact ⟨hb, fun ⟨e, he, _⟩ => absurd he (Finset.notMem_empty e)⟩
  | insert a S ha ih =>
    rw [Finset.fold_insert ha]
    refine ⟨min_ge _ _ _ (hh a) ih.1, fun ⟨e, he, q⟩ => ?_⟩
    rcases Finset.mem_insert.1 he with rfl | he
    · rw [q]
      exact min_l _ _ ih.1
    · rw [ih.2 ⟨e, he, q⟩]
      exact min_r _ _ (hh a)

theorem int_word (k : ℕ) (h : k < 2 ^ 31) : (BitVec.ofNat 32 k).toInt = k := by
  rw [BitVec.toInt_eq_toNat_of_lt (by rw [BitVec.toNat_ofNat]; omega), BitVec.toNat_ofNat, Nat.mod_eq_of_lt (by omega)]

theorem am_eq (N : BitVec 32) (hN : n ≤ N.toNat) (hN2 : N.toNat < 2 ^ 31) (f : Fin n → EReal) (p : Fin n) (h : ∀ e, f e ≤ f p) (h2 : ∀ e, f e = f p → p ≤ e) :
    am N f = BitVec.ofNat 32 p.val := by
  have hp := p.isLt
  unfold am
  refine (fold_min _ _ _ ?_ (fun e => ?_) _).2 ⟨p, Finset.mem_univ _, if_pos (top_eq f p h).symm⟩
  · rw [int_word _ (by omega)]
    have : (2147483647#32 : BitVec 32).toInt = 2147483647 := by decide
    omega
  · rw [int_word _ (by omega)]
    split
    · rename_i q
      have := h2 e (q.trans (top_eq f p h))
      have he := e.isLt
      rw [int_word _ (by omega)]
      exact_mod_cast this
    · rw [BitVec.toInt_eq_toNat_of_lt (by omega)]
      omega

/-- The entries after `r` rounds: the first `r` of the order struck out. -/
def Str (N : BitVec 32) (f : Fin n → EReal) (r : ℕ) : Prop := ∀ j : Fin n, it N f r (srt f j) = if j.val < r then ⊥ else f (srt f j)

theorem round (N : BitVec 32) (hN : n ≤ N.toNat) (hN2 : N.toNat < 2 ^ 31) (f : Fin n → EReal) (r : Fin n) (hs : Str N f r.val) (hb : ⊥ < f (srt f r)) :
    top (it N f r.val) = f (srt f r) ∧ am N (it N f r.val) = BitVec.ofNat 32 (srt f r).val := by
  have e0 : it N f r.val (srt f r) = f (srt f r) := (hs r).trans (if_neg (lt_irrefl _))
  have h1 : ∀ e, it N f r.val e ≤ it N f r.val (srt f r) := fun e => by
    obtain ⟨j, rfl⟩ := srt_surj f e
    rw [e0, hs j]
    split
    · exact bot_le
    · rename_i q
      exact srt_le f r j (not_lt.1 q)
  refine ⟨(top_eq _ _ h1).trans e0, am_eq N hN hN2 _ _ h1 fun e q => ?_⟩
  obtain ⟨j, rfl⟩ := srt_surj f e
  rw [e0, hs j] at q
  split at q
  · exact absurd hb (by rw [← q]; exact lt_irrefl _)
  · rename_i w
    rcases lt_or_eq_of_le (not_lt.1 w) with z | z
    · rcases srt_bef f r j z with y | y
      · exact absurd y (by rw [q]; exact lt_irrefl _)
      · exact y.2.le
    · rw [Fin.ext z]

theorem str_succ (N : BitVec 32) (hN : n ≤ N.toNat) (hN2 : N.toNat < 2 ^ 31) (f : Fin n → EReal) (r : Fin n) (hs : Str N f r.val) (hb : ⊥ < f (srt f r)) :
    Str N f (r.val + 1) := fun j => by
  have hr := (srt f r).isLt
  show nx N (it N f r.val) (srt f j) = _
  unfold nx
  rw [(round N hN hN2 f r hs hb).2, BitVec.toNat_ofNat, Nat.mod_eq_of_lt (by omega), hs j]
  by_cases h : j = r
  · rw [h, if_pos rfl, if_pos (Nat.lt_succ_self _)]
  · rw [if_neg fun q => h (srt_inj f (Fin.ext q))]
    have : j.val ≠ r.val := fun q => h (Fin.ext q)
    by_cases q : j.val < r.val
    · rw [if_pos q, if_pos (by omega)]
    · rw [if_neg q, if_neg (by omega)]

theorem str (N : BitVec 32) (hN : n ≤ N.toNat) (hN2 : N.toNat < 2 ^ 31) (f : Fin n → EReal) : ∀ (r : ℕ) (hr : r < n), ⊥ < f (srt f ⟨r, hr⟩) → Str N f r
  | 0, _, _ => fun j => (if_neg (Nat.not_lt_zero _)).symm
  | r + 1, hr, hb => by
    have hb' : ⊥ < f (srt f ⟨r, Nat.lt_of_succ_lt hr⟩) := lt_of_lt_of_le hb (srt_le f _ _ (Nat.le_succ r))
    exact str_succ N hN hN2 f ⟨r, Nat.lt_of_succ_lt hr⟩ (str N hN hN2 f r _ hb') hb'

/-- Round `r` reads the entry of the order. -/
theorem rounds (N : BitVec 32) (hN : n ≤ N.toNat) (hN2 : N.toNat < 2 ^ 31) (f : Fin n → EReal) (r : Fin n) (hb : ⊥ < f (srt f r)) :
    top (it N f r.val) = f (srt f r) ∧ am N (it N f r.val) = BitVec.ofNat 32 (srt f r).val :=
  round N hN hN2 f r (str N hN hN2 f r.val r.isLt hb) hb

/-- More entries than `r` above `−∞` put the order's entry `r` above it. -/
theorem alive (f : Fin n → EReal) (S : Finset (Fin n)) (hS : ∀ e ∈ S, ⊥ < f e) (r : Fin n) (hr : r.val < S.card) : ⊥ < f (srt f r) := by
  classical
  by_contra h
  have h0 : f (srt f r) = ⊥ := not_bot_lt_iff.1 h
  have hsub : S ⊆ (Finset.univ.filter fun j : Fin n => j < r).image (srt f) := fun e he => by
    obtain ⟨j, rfl⟩ := srt_surj f e
    refine Finset.mem_image.2 ⟨j, Finset.mem_filter.2 ⟨Finset.mem_univ _, ?_⟩, rfl⟩
    by_contra q
    have := srt_le f r j (not_lt.1 q)
    rw [h0] at this
    exact absurd (hS _ he) (not_lt.2 this)
  have := (Finset.card_le_card hsub).trans Finset.card_image_le
  rw [show (Finset.univ.filter fun j : Fin n => j < r) = Finset.Iio r by ext; simp, Fin.card_Iio] at this
  omega

theorem nx_eq (N : BitVec 32) (f : Fin n → EReal) (hn : n < 2 ^ 32) (e : Fin n) : Scalar.select (IntOp.cmpi CmpIPredicate.eq (BitVec.ofNat 32 e.val) (am N f)) (Ideal.ofBits FTy.f32 4286578688#32) (f e) = nx N f e := by
  rw [BiasStrip.eq_word _ _ (lt_trans e.isLt hn), bot_word]
  unfold nx
  split
  · rfl
  · rfl
end Routing
end
end
-- ==== Proof.RouteK.lean ====
/- The routing kernel's block, column by column: the groups' scores, four rounds over the groups, eight rounds over the experts of the chosen groups, and the weights. -/
module
public import proofs.«01_k».proof.Proof.RoutePick
public import proofs.«01_k».proof.Proof.Gen.Kernel7Ideal.Value
public import Idealize.ShloMosaic.Lib.Pointwise
public import Idealize.ShloMosaic.Lib.Pipeline.ValueKit
public import Idealize.ShloMosaic.Lib.Pipeline.Covers
@[expose] public section
set_option maxRecDepth 16384
noncomputable section
open Idealize.ShloMosaic Idealize.ShloMosaic.TcCoe Idealize.SL.Sem

namespace Routing
/-- Entry `k` of group `g`. -/
def ent (g : Fin 8) (k : Fin 32) : Fin 256 := ⟨g.val * 32 + k.val, by omega⟩
/-- A group's entries. -/
def grp (b : Fin 256 → EReal) (g : Fin 8) : Fin 32 → EReal := fun k => b (ent g k)
/-- A group's score by rounds. -/
def gscore (b : Fin 256 → EReal) (g : Fin 8) : EReal := top (grp b g) + top (nx 32#32 (grp b g))
/-- Round `r` picks group `g`. -/
def gpick (b : Fin 256 → EReal) (r : ℕ) (g : Fin 8) : BitVec 1 := IntOp.cmpi .eq (BitVec.ofNat 32 g.val) (am 8#32 (it 8#32 (gscore b) r))
/-- Group `g` is chosen. -/
def gsel (b : Fin 256 → EReal) (g : Fin 8) : BitVec 1 :=
  IntOp.ori (IntOp.ori (IntOp.ori (IntOp.ori 0#1 (gpick b 0 g)) (gpick b 1 g)) (gpick b 2 g)) (gpick b 3 g)
/-- The entries of the chosen groups. -/
def kept (b : Fin 256 → EReal) (e : Fin 256) : EReal := Scalar.select (gsel b ⟨e.val / 32, by omega⟩) (b e) (Ideal.ofBits FTy.f32 4286578688#32)
/-- The expert of round `r`. -/
def pickE (b : Fin 256 → EReal) (r : ℕ) : BitVec 32 := am 256#32 (it 256#32 (kept b) r)
/-- Its score. -/
def rawE (s b : Fin 256 → EReal) (r : ℕ) : EReal := ∑ e : Fin 256, Scalar.select (IntOp.cmpi .eq (BitVec.ofNat 32 e.val) (pickE b r)) (s e) 0
end Routing

namespace Cert.Kernel7Ideal.Rt
open Cert.Kernel7Ideal Cert.Kernel7Ideal.Gen DiffAttn Routing

def ioG : IVec S8x512 32 := iota .tc S8x512 32 [0] iota_S8x512_d0_w32
def ioE : IVec S256x512 32 := iota .tc S256x512 32 [0] iota_S256x512_d0_w32

def pG (v : FVec Ideal S8x512 .f32) : IVec S8x512 1 :=
  cmpi .eq ioG (broadcastTo S8x512 (shapeCast S1x512 (multiReductionI .minsi [0] S512 (select (cmpf .oeq v (broadcastTo S8x512 (shapeCast S1x512 (multiReduction .maximumf [0] S512 v 0xFF800000#32 reduces_S8x512_S512 (.inl rfl) rfl) shapeCasts_S512_S1x512) broadcasts_S1x512_S8x512)) ioG (broadcast S8x512 8#32)) 2147483647#32 reduces_S8x512_S512 rfl) shapeCasts_S512_S1x512) broadcasts_S1x512_S8x512)
def sG (v : FVec Ideal S8x512 .f32) : FVec Ideal S8x512 .f32 := select (pG v) (broadcast S8x512 (Scalar.ofBits (F := Ideal) .f32 0xFF800000#32)) v
def mG (v9 : FVec Ideal S8x32x512 .f32) (p : IVec S8x512 1) : FVec Ideal S256x512 .f32 :=
  shapeCast S256x512 (select (broadcastTo S8x32x512 (shapeCast S8x1x512 (shapeCast S8x1x512 p shapeCasts_S8x512_S8x1x512) shapeCasts_S8x1x512_S8x1x512) broadcasts_S8x1x512_S8x32x512) v9 (broadcast S8x32x512 (Scalar.ofBits (F := Ideal) .f32 0xFF800000#32))) shapeCasts_S8x32x512_S256x512
def aE (v : FVec Ideal S256x512 .f32) : IVec S1x512 32 :=
  shapeCast S1x512 (multiReductionI .minsi [0] S512 (select (cmpf .oeq v (broadcastTo S256x512 (shapeCast S1x512 (multiReduction .maximumf [0] S512 v 0xFF800000#32 reduces_S256x512_S512 (.inl rfl) rfl) shapeCasts_S512_S1x512) broadcasts_S1x512_S256x512)) ioE (broadcast S256x512 256#32)) 2147483647#32 reduces_S256x512_S512 rfl) shapeCasts_S512_S1x512
def hE (w : IVec S1x512 32) : IVec S256x512 1 := cmpi .eq ioE (broadcastTo S256x512 w broadcasts_S1x512_S256x512)
def sE (v : FVec Ideal S256x512 .f32) : FVec Ideal S256x512 .f32 := select (hE (aE v)) (broadcast S256x512 (Scalar.ofBits (F := Ideal) .f32 0xFF800000#32)) v
def rE (s : FVec Ideal S256x512 .f32) (w : IVec S1x512 32) : FVec Ideal S1x512 .f32 :=
  shapeCast S1x512 (multiReduction .add [0] S512 (select (hE w) s (broadcast S256x512 (Scalar.ofBits (F := Ideal) .f32 0x00000000#32))) 0x00000000#32 reduces_S256x512_S512 (.inl rfl) rfl) shapeCasts_S512_S1x512

theorem pG_at (v : FVec Ideal S8x512 .f32) (f : Fin 8 → EReal) (x : Fin 512) (hf : ∀ g, v (ix2 g x) = f g) (g : Fin 8) : pG v (ix2 g x) = IntOp.cmpi .eq (BitVec.ofNat 32 g.val) (am 8#32 f) := by
  obtain rfl : (fun g => v (ix2 g x)) = f := funext hf
  unfold pG ioG am top
  pointwise
theorem sG_at (v : FVec Ideal S8x512 .f32) (f : Fin 8 → EReal) (x : Fin 512) (hf : ∀ g, v (ix2 g x) = f g) (g : Fin 8) : sG v (ix2 g x) = nx 8#32 f g := by
  rw [← nx_eq 8#32 f (by decide) g, ← hf g, ← pG_at v f x hf g]
  rfl
theorem mG_at (v9 : FVec Ideal S8x32x512 .f32) (p : IVec S8x512 1) (e : Fin 256) (x : Fin 512) : mG v9 p (ix2 e x)
    = Scalar.select (p (ix2 ⟨e.val / 32, by omega⟩ x)) (v9 (ix3 ⟨e.val / 32, by omega⟩ ⟨e.val % 32, by omega⟩ x)) (Ideal.ofBits FTy.f32 4286578688#32) := by
  unfold mG
  pointwise
theorem aE_at (v : FVec Ideal S256x512 .f32) (f : Fin 256 → EReal) (x : Fin 512) (hf : ∀ g, v (ix2 g x) = f g) : aE v (ix2 0 x) = am 256#32 f := by
  obtain rfl : (fun g => v (ix2 g x)) = f := funext hf
  unfold aE ioE am top
  pointwise
theorem hE_at (w : IVec S1x512 32) (e : Fin 256) (x : Fin 512) : hE w (ix2 e x) = IntOp.cmpi .eq (BitVec.ofNat 32 e.val) (w (ix2 0 x)) := by
  unfold hE ioE
  pointwise
theorem sE_at (v : FVec Ideal S256x512 .f32) (f : Fin 256 → EReal) (x : Fin 512) (hf : ∀ g, v (ix2 g x) = f g) (g : Fin 256) : sE v (ix2 g x) = nx 256#32 f g := by
  rw [← nx_eq 256#32 f (by decide) g, ← hf g, ← aE_at v f x hf, ← hE_at]
  rfl
theorem rE_at (s : FVec Ideal S256x512 .f32) (w : IVec S1x512 32) (x : Fin 512) : rE s w (ix2 0 x) = ∑ e : Fin 256, Scalar.select (IntOp.cmpi .eq (BitVec.ofNat 32 e.val) (w (ix2 0 x))) (s (ix2 e x)) 0 := by
  unfold rE hE ioE
  pointwise

variable (v3 : FVec Ideal S256x512 .f32) (v5 : FVec Ideal S256x1 .f32)
/-- Column `x` of the scores. -/
def sc (x : Fin 512) (e : Fin 256) : EReal := Ideal.logistic (v3 (ix2 e x))
/-- Column `x` of the biased scores. -/
def bi (x : Fin 512) (e : Fin 256) : EReal := sc v3 x e + v5 (ix2 e 0)

theorem p3_at (g : Fin 8) (k : Fin 32) (x : Fin 512) : k0_pay3 (F := Ideal) v3 v5 (ix3 g k x) = grp (bi v3 v5 x) g k := by
  unfold k0_pay3 k0_pay2 grp bi sc ent
  pointwise
theorem p4_at (g : Fin 8) (x : Fin 512) : k0_pay4 (F := Ideal) v3 v5 (ix2 g x) = gscore (bi v3 v5 x) g := by
  unfold gscore
  rw [show grp (bi v3 v5 x) g = fun k => k0_pay3 (F := Ideal) v3 v5 (ix3 g k x) from funext fun k => (p3_at v3 v5 g k x).symm]
  unfold k0_pay4
  generalize k0_pay3 (F := Ideal) v3 v5 = w
  rw [show nx 32#32 (fun k => w (ix3 g k x)) = fun k => Scalar.select (IntOp.cmpi CmpIPredicate.eq (BitVec.ofNat 32 k.val) (am 32#32 (fun k => w (ix3 g k x)))) (Ideal.ofBits FTy.f32 4286578688#32) (w (ix3 g k x)) from funext fun k => (nx_eq _ _ (by decide) k).symm]
  unfold am top
  pointwise

/-- The masked scores of the block. -/
def cur0 : FVec Ideal S256x512 .f32 := mG (k0_pay3 (F := Ideal) v3 v5) (ori (ori (ori (ori (broadcast S8x512 0#1) (pG (k0_pay4 (F := Ideal) v3 v5))) (pG (sG (k0_pay4 (F := Ideal) v3 v5)))) (pG (sG (sG (k0_pay4 (F := Ideal) v3 v5))))) (pG (sG (sG (sG (k0_pay4 (F := Ideal) v3 v5))))))
theorem cur0_at (e : Fin 256) (x : Fin 512) : cur0 v3 v5 (ix2 e x) = kept (bi v3 v5 x) e := by
  unfold cur0 kept
  rw [mG_at, p3_at]
  have h0 : ∀ g, k0_pay4 (F := Ideal) v3 v5 (ix2 g x) = it 8#32 (gscore (bi v3 v5 x)) 0 g := fun g => p4_at v3 v5 g x
  have h1 := sG_at _ _ x h0
  have h2 := sG_at _ _ x h1
  have h3 := sG_at _ _ x h2
  refine congrArg₂ (fun a b => Scalar.select a b _) ?_ (congrArg (bi v3 v5 x) (Fin.ext ?_))
  · show IntOp.ori (IntOp.ori (IntOp.ori (IntOp.ori 0#1 _) _) _) _ = _
    rw [pG_at _ _ x h0, pG_at _ _ x h1, pG_at _ _ x h2, pG_at _ _ x h3]
    rfl
  · show e.val / 32 * 32 + e.val % 32 = e.val
    omega

def cur : ℕ → FVec Ideal S256x512 .f32
  | 0 => cur0 v3 v5
  | r + 1 => sE (cur r)
theorem cur_at (x : Fin 512) : ∀ (r : ℕ) (e : Fin 256), cur v3 v5 r (ix2 e x) = it 256#32 (kept (bi v3 v5 x)) r e
  | 0, e => cur0_at v3 v5 e x
  | r + 1, e => sE_at _ _ x (cur_at x r) e
theorem idx_at (r : ℕ) (x : Fin 512) : aE (cur v3 v5 r) (ix2 0 x) = pickE (bi v3 v5 x) r := aE_at _ _ x (cur_at v3 v5 x r)
theorem raw_at (r : ℕ) (x : Fin 512) : rE (k0_pay2 v3) (aE (cur v3 v5 r)) (ix2 0 x) = Routing.rawE (sc v3 x) (bi v3 v5 x) r := by
  rw [rE_at, idx_at]
  rfl

/-- The block of the chosen experts. -/
def oI : IVec S8x512 32 := concatenate S8x512 0 [⟨S1x512, aE (cur v3 v5 0)⟩, ⟨S1x512, aE (cur v3 v5 1)⟩, ⟨S1x512, aE (cur v3 v5 2)⟩, ⟨S1x512, aE (cur v3 v5 3)⟩, ⟨S1x512, aE (cur v3 v5 4)⟩, ⟨S1x512, aE (cur v3 v5 5)⟩, ⟨S1x512, aE (cur v3 v5 6)⟩, ⟨S1x512, aE (cur v3 v5 7)⟩] concatenates_S1x512_S1x512_S1x512_S1x512_S1x512_S1x512_S1x512_S1x512_S8x512_d0
end Cert.Kernel7Ideal.Rt
end
end
-- ==== Proof.RouteO.lean ====
/- The routing kernel's two blocks at a grid point. -/
module
public import proofs.«01_k».proof.Proof.RouteK
@[expose] public section
set_option maxRecDepth 16384
set_option maxHeartbeats 800000
noncomputable section
open Idealize.ShloMosaic Idealize.ShloMosaic.TcCoe Idealize.SL.Sem

namespace Cert.Kernel7Ideal.Rt
open Cert.Kernel7Ideal Cert.Kernel7Ideal.Gen DiffAttn Routing

section
variable (v3 : FVec Ideal S256x512 .f32) (v5 : FVec Ideal S256x1 .f32)
/-- The block of the weights. -/
def oW : FVec Ideal S8x512 .f32 := k0_pay45 (F := Ideal) (concatenate S8x512 0 [⟨S1x512, rE (k0_pay2 v3) (aE (cur v3 v5 0))⟩, ⟨S1x512, rE (k0_pay2 v3) (aE (cur v3 v5 1))⟩, ⟨S1x512, rE (k0_pay2 v3) (aE (cur v3 v5 2))⟩, ⟨S1x512, rE (k0_pay2 v3) (aE (cur v3 v5 3))⟩, ⟨S1x512, rE (k0_pay2 v3) (aE (cur v3 v5 4))⟩, ⟨S1x512, rE (k0_pay2 v3) (aE (cur v3 v5 5))⟩, ⟨S1x512, rE (k0_pay2 v3) (aE (cur v3 v5 6))⟩, ⟨S1x512, rE (k0_pay2 v3) (aE (cur v3 v5 7))⟩] concatenates_S1x512_S1x512_S1x512_S1x512_S1x512_S1x512_S1x512_S1x512_S8x512_d0)

theorem rows_at {α : Type} (w : Fin 8 → S1x512.Idx → α) (r : Fin 8) (x : Fin 512) : concatenate S8x512 0 [⟨S1x512, w 0⟩, ⟨S1x512, w 1⟩, ⟨S1x512, w 2⟩, ⟨S1x512, w 3⟩, ⟨S1x512, w 4⟩, ⟨S1x512, w 5⟩, ⟨S1x512, w 6⟩, ⟨S1x512, w 7⟩] concatenates_S1x512_S1x512_S1x512_S1x512_S1x512_S1x512_S1x512_S1x512_S8x512_d0 (ix2 r x) = w r (ix2 0 x) := by
  match r with
  | ⟨0, _⟩ => exact Eq.trans (b := w 0 (ix2 0 x)) (by pointwise) rfl
  | ⟨1, _⟩ => exact Eq.trans (b := w 1 (ix2 0 x)) (by pointwise) rfl
  | ⟨2, _⟩ => exact Eq.trans (b := w 2 (ix2 0 x)) (by pointwise) rfl
  | ⟨3, _⟩ => exact Eq.trans (b := w 3 (ix2 0 x)) (by pointwise) rfl
  | ⟨4, _⟩ => exact Eq.trans (b := w 4 (ix2 0 x)) (by pointwise) rfl
  | ⟨5, _⟩ => exact Eq.trans (b := w 5 (ix2 0 x)) (by pointwise) rfl
  | ⟨6, _⟩ => exact Eq.trans (b := w 6 (ix2 0 x)) (by pointwise) rfl
  | ⟨7, _⟩ => exact Eq.trans (b := w 7 (ix2 0 x)) (by pointwise) rfl

theorem oI_at (r : Fin 8) (x : Fin 512) : oI v3 v5 (ix2 r x) = pickE (bi v3 v5 x) r.val :=
  (rows_at (fun r => aE (cur v3 v5 r.val)) r x).trans (idx_at v3 v5 r.val x)

theorem p45_at (w : FVec Ideal S8x512 .f32) (r : Fin 8) (x : Fin 512) : k0_pay45 (F := Ideal) w (ix2 r x) = Ideal.div (w (ix2 r x)) (∑ k : Fin 8, w (ix2 k x)) * Ideal.ofBits FTy.f32 0x40200000#32 := by
  unfold k0_pay45
  pointwise

theorem oW_at (r : Fin 8) (x : Fin 512) : oW v3 v5 (ix2 r x) = Ideal.div (rawE (sc v3 x) (bi v3 v5 x) r.val) (∑ k : Fin 8, rawE (sc v3 x) (bi v3 v5 x) k.val) * Ideal.ofBits FTy.f32 0x40200000#32 := by
  have h : ∀ k : Fin 8, _ = rawE (sc v3 x) (bi v3 v5 x) k.val := fun k => (rows_at (fun r => rE (k0_pay2 v3) (aE (cur v3 v5 r.val))) k x).trans (raw_at v3 v5 k.val x)
  unfold oW
  rw [p45_at]
  exact congrArg (· * _) (congrArg₂ Ideal.div (h r) (Finset.sum_congr rfl fun k _ => h k))
end

theorem out_A_3 (c : Dev nD) (i : grid0.Coords) (arg1 : Memref sig .tc .vmem S256x512 .f32) (harg1 : arg1.IsWhole) (arg2 : Memref sig .tc .vmem S256x1 .f32) (harg2 : arg2.IsWhole) (arg3 : Memref sig .tc .vmem S512x512 .bf16) (harg3 : arg3.IsWhole) (arg4 : Memref sig .tc .vmem S8x512 .i32) (harg4 : arg4.IsWhole) (arg5 : Memref sig .tc .vmem S8x512 .i32) (harg5 : arg5.IsWhole) (arg6 : Memref sig .tc .vmem S8x512 .f32) (harg6 : arg6.IsWhole) (arg7 : Memref sig .tc .vmem S256x1 .f32) (harg7 : arg7.IsWhole) (hc0 : cond0_0 i)
    (x0 : Vec Ideal S256x512 .f32) (x1 : Vec Ideal S256x1 .f32) (x2 : Vec Ideal S512x512 .bf16) :
    out0_A_3 (F := Ideal) c i arg1 harg1 arg2 harg2 arg3 harg3 arg4 harg4 arg5 harg5 arg6 harg6 arg7 harg7 hc0 x0 x1 x2 = oI x0 x1 := by
  frame_open
  frame_out
  rfl

theorem out_B_3 (c : Dev nD) (i : grid0.Coords) (arg1 : Memref sig .tc .vmem S256x512 .f32) (harg1 : arg1.IsWhole) (arg2 : Memref sig .tc .vmem S256x1 .f32) (harg2 : arg2.IsWhole) (arg3 : Memref sig .tc .vmem S512x512 .bf16) (harg3 : arg3.IsWhole) (arg4 : Memref sig .tc .vmem S8x512 .i32) (harg4 : arg4.IsWhole) (arg5 : Memref sig .tc .vmem S8x512 .i32) (harg5 : arg5.IsWhole) (arg6 : Memref sig .tc .vmem S8x512 .f32) (harg6 : arg6.IsWhole) (arg7 : Memref sig .tc .vmem S256x1 .f32) (harg7 : arg7.IsWhole) (hc0 : ¬cond0_0 i)
    (x0 : Vec Ideal S256x512 .f32) (x1 : Vec Ideal S256x1 .f32) (x2 : Vec Ideal S512x512 .bf16) (xo6 : Vec Ideal S256x1 .f32) :
    out0_B_3 (F := Ideal) c i arg1 harg1 arg2 harg2 arg3 harg3 arg4 harg4 arg5 harg5 arg6 harg6 arg7 harg7 hc0 x0 x1 x2 xo6 = oI x0 x1 := by
  frame_open
  frame_out
  rfl

theorem out_A_5 (c : Dev nD) (i : grid0.Coords) (arg1 : Memref sig .tc .vmem S256x512 .f32) (harg1 : arg1.IsWhole) (arg2 : Memref sig .tc .vmem S256x1 .f32) (harg2 : arg2.IsWhole) (arg3 : Memref sig .tc .vmem S512x512 .bf16) (harg3 : arg3.IsWhole) (arg4 : Memref sig .tc .vmem S8x512 .i32) (harg4 : arg4.IsWhole) (arg5 : Memref sig .tc .vmem S8x512 .i32) (harg5 : arg5.IsWhole) (arg6 : Memref sig .tc .vmem S8x512 .f32) (harg6 : arg6.IsWhole) (arg7 : Memref sig .tc .vmem S256x1 .f32) (harg7 : arg7.IsWhole) (hc0 : cond0_0 i)
    (x0 : Vec Ideal S256x512 .f32) (x1 : Vec Ideal S256x1 .f32) (x2 : Vec Ideal S512x512 .bf16) :
    out0_A_5 (F := Ideal) c i arg1 harg1 arg2 harg2 arg3 harg3 arg4 harg4 arg5 harg5 arg6 harg6 arg7 harg7 hc0 x0 x1 x2 = oW x0 x1 := by
  frame_open
  frame_out
  rfl

theorem out_B_5 (c : Dev nD) (i : grid0.Coords) (arg1 : Memref sig .tc .vmem S256x512 .f32) (harg1 : arg1.IsWhole) (arg2 : Memref sig .tc .vmem S256x1 .f32) (harg2 : arg2.IsWhole) (arg3 : Memref sig .tc .vmem S512x512 .bf16) (harg3 : arg3.IsWhole) (arg4 : Memref sig .tc .vmem S8x512 .i32) (harg4 : arg4.IsWhole) (arg5 : Memref sig .tc .vmem S8x512 .i32) (harg5 : arg5.IsWhole) (arg6 : Memref sig .tc .vmem S8x512 .f32) (harg6 : arg6.IsWhole) (arg7 : Memref sig .tc .vmem S256x1 .f32) (harg7 : arg7.IsWhole) (hc0 : ¬cond0_0 i)
    (x0 : Vec Ideal S256x512 .f32) (x1 : Vec Ideal S256x1 .f32) (x2 : Vec Ideal S512x512 .bf16) (xo6 : Vec Ideal S256x1 .f32) :
    out0_B_5 (F := Ideal) c i arg1 harg1 arg2 harg2 arg3 harg3 arg4 harg4 arg5 harg5 arg6 harg6 arg7 harg7 hc0 x0 x1 x2 xo6 = oW x0 x1 := by
  frame_open
  frame_out
  rfl

end Cert.Kernel7Ideal.Rt
end
end
-- ==== Proof.RouteG.lean ====
/- The rounds and the ranking name the same groups and the same experts. -/
module
public import proofs.«01_k».proof.Proof.RouteK
@[expose] public section
noncomputable section
open Idealize.ShloMosaic Idealize.ShloMosaic.TcCoe Idealize.SL.Sem DiffAttn

namespace Routing
theorem word_eq {n : ℕ} (hn : n < 2 ^ 32) (a b : Fin n) : IntOp.cmpi .eq (BitVec.ofNat 32 a.val) (BitVec.ofNat 32 b.val) = if a = b then 1#1 else 0#1 := by
  have h : (BitVec.ofNat 32 a.val = BitVec.ofNat 32 b.val) ↔ a = b := by
    rw [← BitVec.toNat_inj, BitVec.toNat_ofNat, BitVec.toNat_ofNat, Nat.mod_eq_of_lt (lt_trans a.isLt hn), Nat.mod_eq_of_lt (lt_trans b.isLt hn), Fin.ext_iff]
  show BitVec.ofBool (BitVec.ofNat 32 a.val == BitVec.ofNat 32 b.val) = _
  by_cases q : a = b
  · rw [if_pos q, q]; simp
  · rw [if_neg q, beq_eq_false_iff_ne.2 (fun e => q (h.1 e))]; rfl

/-- A token's scores. -/
def scol (L : FVec Ideal ⟨2, ![256, 65536]⟩ .f32) (t : Fin 65536) (e : Fin 256) : EReal := Ideal.logistic (L (ix2 e t))
/-- A token's biased scores. -/
def bcol (L : FVec Ideal ⟨2, ![256, 65536]⟩ .f32) (B : FVec Ideal ⟨2, ![1, 256]⟩ .f32) (t : Fin 65536) (e : Fin 256) : EReal := scol L t e + B (ix2 (0 : Fin 1) e)
/-- A token's expert of round `r`. -/
def eRow (L : FVec Ideal ⟨2, ![256, 65536]⟩ .f32) (B : FVec Ideal ⟨2, ![1, 256]⟩ .f32) (r : Fin 8) (t : Fin 65536) : BitVec 32 := pickE (bcol L B t) r.val
/-- Its weight. -/
def wRow (L : FVec Ideal ⟨2, ![256, 65536]⟩ .f32) (B : FVec Ideal ⟨2, ![1, 256]⟩ .f32) (r : Fin 8) (t : Fin 65536) : EReal :=
  Ideal.div (rawE (scol L t) (bcol L B t) r.val) (∑ k : Fin 8, rawE (scol L t) (bcol L B t) k.val) * Ideal.ofBits FTy.f32 0x40200000#32

variable (b : Fin 256 → EReal)

/-- Group `g` is one of the four best. -/
def Sel (g : Fin 8) : Prop := ((g = srt (gscore b) 0 ∨ g = srt (gscore b) 1) ∨ g = srt (gscore b) 2) ∨ g = srt (gscore b) 3

instance (g : Fin 8) : Decidable (Sel b g) :=
  inferInstanceAs (Decidable (((g = srt (gscore b) 0 ∨ g = srt (gscore b) 1) ∨ g = srt (gscore b) 2) ∨ g = srt (gscore b) 3))

theorem one_of (p q r s : Prop) [Decidable p] [Decidable q] [Decidable r] [Decidable s] [Decidable (((p ∨ q) ∨ r) ∨ s)] :
    IntOp.ori (IntOp.ori (IntOp.ori (IntOp.ori 0#1 (if p then 1#1 else 0#1)) (if q then 1#1 else 0#1)) (if r then 1#1 else 0#1)) (if s then 1#1 else 0#1) = if ((p ∨ q) ∨ r) ∨ s then 1#1 else 0#1 := by
  by_cases hp : p <;> by_cases hq : q <;> by_cases hr : r <;> by_cases hs : s <;> simp [hp, hq, hr, hs, IntOp.ori]

theorem some_of (p q r s : Prop) [Decidable p] [Decidable q] [Decidable r] [Decidable s] :
    (0 : EReal) < (if p then 1 else 0) + (if q then 1 else 0) + (if r then 1 else 0) + (if s then 1 else 0) ↔ ((p ∨ q) ∨ r) ∨ s := by
  by_cases hp : p <;> by_cases hq : q <;> by_cases hr : r <;> by_cases hs : s <;> simp [hp, hq, hr, hs] <;> norm_cast

theorem bit_val (p : Prop) [Decidable p] : FloatOps.uitofp (F := Ideal) FTy.f32 (if p then 1#1 else 0#1) = if p then (1 : EReal) else 0 := by
  by_cases hp : p <;> simp [hp, FloatOps.uitofp]

/-- The masked entry by ranking. -/
theorem count (g : Fin 8) : (0 : EReal) < ∑ r : Fin 4, FloatOps.uitofp (F := Ideal) FTy.f32 (IntOp.cmpi .eq (BitVec.ofNat 32 (srt (gscore b) ⟨r.val, by omega⟩).val) (BitVec.ofNat 32 g.val)) ↔ Sel b g := by
  rw [Fin.sum_univ_four, word_eq (by decide), word_eq (by decide), word_eq (by decide), word_eq (by decide), bit_val, bit_val, bit_val, bit_val, some_of]
  unfold Sel
  rw [eq_comm (a := g), eq_comm (a := g), eq_comm (a := g), eq_comm (a := g)]
  rfl

variable (hb : ∀ e, ⊥ < b e)
include hb

theorem gscore_eq (g : Fin 8) : gscore b g = grp b g (srt (grp b g) 0) + grp b g (srt (grp b g) 1) :=
  congrArg₂ (· + ·) (rounds 32#32 (by decide) (by decide) (grp b g) 0 (hb _)).1 (rounds 32#32 (by decide) (by decide) (grp b g) 1 (hb _)).1

theorem gscore_bot (g : Fin 8) : ⊥ < gscore b g := by
  rw [gscore_eq b hb]
  exact EReal.bot_lt_add_iff.2 ⟨hb _, hb _⟩

theorem gpick_eq (r g : Fin 8) : gpick b r.val g = if g = srt (gscore b) r then 1#1 else 0#1 := by
  unfold gpick
  rw [(rounds 8#32 (by decide) (by decide) (gscore b) r (gscore_bot b hb _)).2, word_eq (by decide)]

theorem gsel_eq (g : Fin 8) : gsel b g = if Sel b g then 1#1 else 0#1 := by
  unfold gsel Sel
  rw [show gpick b 0 g = _ from gpick_eq b hb 0 g, show gpick b 1 g = _ from gpick_eq b hb 1 g, show gpick b 2 g = _ from gpick_eq b hb 2 g, show gpick b 3 g = _ from gpick_eq b hb 3 g, one_of]
  rfl

theorem kept_eq (e : Fin 256) : kept b e = if Sel b ⟨e.val / 32, by omega⟩ then b e else ⊥ := by
  unfold kept
  rw [gsel_eq b hb, bot_word]
  split <;> rfl

theorem ent_inj (g : Fin 8) : Function.Injective (ent g) := fun a c h => Fin.ext (by
  have := congrArg Fin.val h
  simp only [ent] at this
  omega)

theorem kept_bot (r : Fin 256) (hr : r.val < 8) : ⊥ < kept b (srt (kept b) r) := by
  classical
  refine alive (kept b) (Finset.univ.map ⟨ent (srt (gscore b) 0), ent_inj b hb _⟩) (fun e he => ?_) r ?_
  · obtain ⟨k, _, rfl⟩ := Finset.mem_map.1 he
    have h : (⟨(ent (srt (gscore b) 0) k).val / 32, by omega⟩ : Fin 8) = srt (gscore b) 0 := Fin.ext (by simp only [ent]; omega)
    show ⊥ < kept b (ent (srt (gscore b) 0) k)
    rw [kept_eq b hb, h, if_pos (show Sel b _ from .inl (.inl (.inl rfl)))]
    exact hb _
  · rw [Finset.card_map, Finset.card_univ, Fintype.card_fin]
    omega

theorem pickE_eq (r : Fin 256) (hr : r.val < 8) : pickE b r.val = BitVec.ofNat 32 (srt (kept b) r).val :=
  (rounds 256#32 (by decide) (by decide) (kept b) r (kept_bot b hb r hr)).2

theorem rawE_eq (s : Fin 256 → EReal) (r : Fin 256) (hr : r.val < 8) : rawE s b r.val = s (srt (kept b) r) := by
  unfold rawE
  rw [pickE_eq b hb r hr, Finset.sum_eq_single (srt (kept b) r)]
  · rw [word_eq (by decide), if_pos rfl]; rfl
  · intro e _ he
    rw [word_eq (by decide), if_neg he]; rfl
  · exact fun h => absurd (Finset.mem_univ _) h
end Routing

namespace Routing
theorem scol_bot (L : FVec Ideal ⟨2, ![256, 65536]⟩ .f32) (t : Fin 65536) (e : Fin 256) : ⊥ < scol L t e := by
  have h : ∀ y : EReal, ⊥ < Ideal.logistic y := fun y => by
    induction y with
    | bot => simp
    | coe r => rw [Ideal.logistic_coe]; exact EReal.bot_lt_coe _
    | top => rw [Ideal.logistic_top]; exact EReal.bot_lt_coe 1
  exact h _
theorem bcol_bot (L : FVec Ideal ⟨2, ![256, 65536]⟩ .f32) (B : FVec Ideal ⟨2, ![1, 256]⟩ .f32) (hB : ∀ e : Fin 256, ⊥ < B (ix2 (0 : Fin 1) e)) (t : Fin 65536) (e : Fin 256) : ⊥ < bcol L B t e :=
  EReal.bot_lt_add_iff.2 ⟨scol_bot L t e, hB e⟩
end Routing
end
end
-- ==== Proof.RouteA.lean ====
/- The routing kernel's two result arrays. -/
module
public import proofs.«01_k».proof.Proof.RouteO
public import proofs.«01_k».proof.Proof.RouteG
@[expose] public section
set_option maxRecDepth 16384
set_option maxHeartbeats 800000
noncomputable section
open Idealize.ShloMosaic Idealize.ShloMosaic.TcCoe Idealize.SL.Sem

namespace Cert.Kernel7Ideal.Rt
open Cert.Kernel7Ideal Cert.Kernel7Ideal.Gen DiffAttn Routing

variable (m : (ℓ : Loc nD τ sig) → Buf (Elt Ideal) ℓ) (c : Dev nD)
abbrev L : FVec Ideal S256x65536 .f32 := m ((c : Thread nD τ).loc main_arg0)
abbrev B : FVec Ideal S1x256 .f32 := m ((c : Thread nD τ).loc main_arg1)

theorem vl_at (e : Fin 256) (t : Fin 65536) : (V m c main_arg0 : FVec Ideal S256x65536 .f32) (ix2 e t) = L m c (ix2 e t) := by
  unfold V
  after_reads_at
theorem vb_at (e : Fin 256) : (V m c main_v9 : FVec Ideal S256x1 .f32) (ix2 e 0) = B m c (ix2 0 e) := by
  unfold V
  after_reads_at

theorem idx : ∀ t : Fin cfg0.N, win0_0.index t = ![0, t.val] ∧ win0_1.index t = ![0, 0] ∧ win0_3.index t = ![0, t.val] ∧ win0_5.index t = ![0, t.val] := by decide +kernel
theorem pt_lt (t : Fin cfg0.N) : t.val < 128 := t.isLt

theorem b0 (t : Fin cfg0.N) (e : Fin 256) (x : Fin 512) : (iblk m c 0 t : Vec Ideal S256x512 .f32) (ix2 e x) = (V m c main_arg0 : FVec Ideal S256x65536 .f32) (ix2 e ⟨t.val * 512 + x.val, by have := pt_lt t; omega⟩) := by
  blk_ext [iblk, idx t]
theorem b1 (t : Fin cfg0.N) (e : Fin 256) : (iblk m c 1 t : Vec Ideal S256x1 .f32) (ix2 e 0) = (V m c main_v9 : FVec Ideal S256x1 .f32) (ix2 e 0) := by
  blk_ext [iblk, idx t]

theorem sc_col (t : Fin cfg0.N) (x : Fin 512) : sc (iblk m c 0 t : Vec Ideal S256x512 .f32) x = scol (L m c) ⟨t.val * 512 + x.val, by have := pt_lt t; omega⟩ :=
  funext fun e => congrArg Ideal.logistic ((b0 m c t e x).trans (vl_at m c e _))
theorem bi_col (t : Fin cfg0.N) (x : Fin 512) : bi (iblk m c 0 t : Vec Ideal S256x512 .f32) (iblk m c 1 t : Vec Ideal S256x1 .f32) x = bcol (L m c) (B m c) ⟨t.val * 512 + x.val, by have := pt_lt t; omega⟩ :=
  funext fun e => congrArg₂ (· + ·) (congrFun (sc_col m c t x) e) ((b1 m c t e).trans (vb_at m c e))

theorem a3 (t : Fin cfg0.N) : ((dats m 0 c).after 3 t : Vec Ideal S8x512 .i32) = oI (iblk m c 0 t) (iblk m c 1 t) := by
  rw [after0_3]
  by_cases h : t.val % 128 = 0
  · exact (congrArg (fun p => p.1) (outsAt0_A m c t h)).trans (out_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h) (iblk m c 0 t) (iblk m c 1 t) (iblk m c 2 t))
  · exact (congrArg (fun p => p.1) (outsAt0_B m c t h)).trans (out_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun q => h ((hcond0_0 t).mp q)) (iblk m c 0 t) (iblk m c 1 t) (iblk m c 2 t) (outsAt0 m c (t.val - 1) (Nat.lt_of_le_of_lt (Nat.sub_le _ _) t.isLt)).2.2.2)
theorem a5 (t : Fin cfg0.N) : ((dats m 0 c).after 5 t : Vec Ideal S8x512 .f32) = oW (iblk m c 0 t) (iblk m c 1 t) := by
  rw [after0_5]
  by_cases h : t.val % 128 = 0
  · exact (congrArg (fun p => p.2.2.1) (outsAt0_A m c t h)).trans (out_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h) (iblk m c 0 t) (iblk m c 1 t) (iblk m c 2 t))
  · exact (congrArg (fun p => p.2.2.1) (outsAt0_B m c t h)).trans (out_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun q => h ((hcond0_0 t).mp q)) (iblk m c 0 t) (iblk m c 1 t) (iblk m c 2 t) (outsAt0 m c (t.val - 1) (Nat.lt_of_le_of_lt (Nat.sub_le _ _) t.isLt)).2.2.2)

theorem ix_eta (y : S8x512.Idx) : y = ix2 (show Fin 8 from y 0) (show Fin 512 from y 1) := by
  funext a
  revert a
  exact Fin.forall_fin_two.2 ⟨rfl, rfl⟩

/-- The array of the chosen experts. -/
def fin3 : IVec S8x65536 32 := fun j => eRow (L m c) (B m c) (j 0) (j 1)
/-- The array of the weights. -/
def fin5 : FVec Ideal S8x65536 .f32 := fun j => wRow (L m c) (B m c) (j 0) (j 1)

theorem covers3 : (cfg0.win 3).Covers :=
  (cfg0.win 3).covers_of_index_surj rfl (by decide) fun β => by
    have h0 : (β (0 : Fin 2)).val < 1 := lt_of_lt_of_eq (β (0 : Fin 2)).isLt (by decide : (cfg0.win 3).nblk (0 : Fin 2) = 1)
    have h1 : (β (1 : Fin 2)).val < 128 := lt_of_lt_of_eq (β (1 : Fin 2)).isLt (by decide : (cfg0.win 3).nblk (1 : Fin 2) = 128)
    refine ⟨⟨(β (1 : Fin 2)).val, h1⟩, ?_⟩
    show ∀ a : Fin 2, win0_3.index _ a = (β a).val
    rw [(idx ⟨(β (1 : Fin 2)).val, h1⟩).2.2.1]
    exact Fin.forall_fin_two.2 ⟨(Nat.lt_one_iff.1 h0).symm, rfl⟩
theorem covers5 : (cfg0.win 5).Covers :=
  (cfg0.win 5).covers_of_index_surj rfl (by decide) fun β => by
    have h0 : (β (0 : Fin 2)).val < 1 := lt_of_lt_of_eq (β (0 : Fin 2)).isLt (by decide : (cfg0.win 5).nblk (0 : Fin 2) = 1)
    have h1 : (β (1 : Fin 2)).val < 128 := lt_of_lt_of_eq (β (1 : Fin 2)).isLt (by decide : (cfg0.win 5).nblk (1 : Fin 2) = 128)
    refine ⟨⟨(β (1 : Fin 2)).val, h1⟩, ?_⟩
    show ∀ a : Fin 2, win0_5.index _ a = (β a).val
    rw [(idx ⟨(β (1 : Fin 2)).val, h1⟩).2.2.2]
    exact Fin.forall_fin_two.2 ⟨(Nat.lt_one_iff.1 h0).symm, rfl⟩

theorem o3 (t : Fin cfg0.N) (i : Fin 8) (x : Fin 512) : ((dats m 0 c).after 3 t : Vec Ideal S8x512 .i32) (ix2 i x) = eRow (L m c) (B m c) i ⟨t.val * 512 + x.val, by have := pt_lt t; omega⟩ := by
  rw [a3, oI_at, bi_col]
  rfl
theorem o5 (t : Fin cfg0.N) (i : Fin 8) (x : Fin 512) : ((dats m 0 c).after 5 t : Vec Ideal S8x512 .f32) (ix2 i x) = wRow (L m c) (B m c) i ⟨t.val * 512 + x.val, by have := pt_lt t; omega⟩ := by
  rw [a5, oW_at, bi_col, sc_col]
  rfl

theorem arr3 : (dats m 0 c).arrAt 3 cfg0.N = fin3 m c := by
  refine (dats m 0 c).arrAt_eq_of_covers 3 _ covers3 fun t hf y => ?_
  refine Eq.trans (b := eRow (L m c) (B m c) ⟨(y 0).val, (y 0).isLt⟩ ⟨t.val * 512 + (y 1).val, by have := pt_lt t; have : (y 1).val < 512 := (y 1).isLt; omega⟩) ?_ (congrArg₂ (eRow (L m c) (B m c)) (Fin.ext ?_) (Fin.ext ?_))
  · refine (congrArg ((dats m 0 c).after 3 t : Vec Ideal S8x512 .i32) (ix_eta y)).trans ?_
    exact o3 m c t (show Fin 8 from y 0) (show Fin 512 from y 1)
  · blk_simp [idx t]
  · blk_simp [idx t]
theorem arr5 : (dats m 0 c).arrAt 5 cfg0.N = fin5 m c := by
  refine (dats m 0 c).arrAt_eq_of_covers 5 _ covers5 fun t hf y => ?_
  refine Eq.trans (b := wRow (L m c) (B m c) ⟨(y 0).val, (y 0).isLt⟩ ⟨t.val * 512 + (y 1).val, by have := pt_lt t; have : (y 1).val < 512 := (y 1).isLt; omega⟩) ?_ (congrArg₂ (wRow (L m c) (B m c)) (Fin.ext ?_) (Fin.ext ?_))
  · refine (congrArg ((dats m 0 c).after 5 t : Vec Ideal S8x512 .f32) (ix_eta y)).trans ?_
    exact o5 m c t (show Fin 8 from y 0) (show Fin 512 from y 1)
  · blk_simp [idx t]
  · blk_simp [idx t]
end Cert.Kernel7Ideal.Rt
end
end
-- ==== Proof.RouteR.lean ====
/- The reference's routing, element by element: the groups' scores, the four best groups, the eight best experts of those groups and their weights. -/
module
public import proofs.«01_k».proof.Proof.RouteG
public import proofs.«01_k».proof.Proof.Gen.Reference7Ideal.Run
public import Idealize.ShloMosaic.Lib.StableHlo.ReadAt
public import Idealize.ShloMosaic.Lib.Pointwise
@[expose] public section
set_option maxRecDepth 16384
noncomputable section
open Idealize.ShloMosaic Idealize.ShloMosaic.TcCoe Idealize.SL.Sem
namespace Cert.Reference7Ideal.Rt
open Cert.Reference7Ideal Cert.Reference7Ideal.Gen DiffAttn Routing
theorem up2 {T n : ℕ} (t : Fin T) (r e : Fin n) (h : 1 < 2) : (Shape.Idx.along (s := ⟨2, ![T, n]⟩) (ix2 t r) ⟨1, h⟩ (show Fin n from e)) = ix2 t e := by
  funext a
  match a with
  | ⟨0, _⟩ => rfl
  | ⟨1, _⟩ => rfl
theorem up3 {T m n : ℕ} (t : Fin T) (g : Fin m) (r e : Fin n) (h : 2 < 3) : (Shape.Idx.along (s := ⟨3, ![T, m, n]⟩) (ix3 t g r) ⟨2, h⟩ (show Fin n from e)) = ix3 t g e := by
  funext a
  match a with
  | ⟨0, _⟩ => rfl
  | ⟨1, _⟩ => rfl
  | ⟨2, _⟩ => rfl
theorem cut2 {T n k : ℕ} {α : Type} (y : (⟨2, ![T, n]⟩ : Shape).Idx → α) (h : (⟨2, ![T, n]⟩ : Shape).Slices (fun _ => 0) ⟨2, ![T, k]⟩) (hk : k ≤ n) (t : Fin T) (r : Fin k) :
    extractStridedSlice ⟨2, ![T, k]⟩ (fun _ => 0) y h (ix2 t r) = y (ix2 t ⟨r.val, lt_of_lt_of_le r.isLt hk⟩) := by
  unfold extractStridedSlice
  refine congrArg y (funext fun a => Fin.ext ?_)
  match a with
  | ⟨0, _⟩ => exact Nat.zero_add _
  | ⟨1, _⟩ => exact Nat.zero_add _
theorem cut3 {T m n k : ℕ} {α : Type} (y : (⟨3, ![T, m, n]⟩ : Shape).Idx → α) (h : (⟨3, ![T, m, n]⟩ : Shape).Slices (fun _ => 0) ⟨3, ![T, m, k]⟩) (hk : k ≤ n) (t : Fin T) (g : Fin m) (r : Fin k) :
    extractStridedSlice ⟨3, ![T, m, k]⟩ (fun _ => 0) y h (ix3 t g r) = y (ix3 t g ⟨r.val, lt_of_lt_of_le r.isLt hk⟩) := by
  unfold extractStridedSlice
  refine congrArg y (funext fun a => Fin.ext ?_)
  match a with
  | ⟨0, _⟩ => exact Nat.zero_add _
  | ⟨1, _⟩ => exact Nat.zero_add _
  | ⟨2, _⟩ => exact Nat.zero_add _
theorem topk2 {T n k : ℕ} (x : (⟨2, ![T, n]⟩ : Shape).Idx → EReal) (h : (⟨2, ![T, n]⟩ : Shape).Slices (fun _ => 0) ⟨2, ![T, k]⟩) (hk : k ≤ n) (t : Fin T) (r : Fin k) :
    (Host.topK ⟨2, ![T, k]⟩ 1 (FloatOps.cmpfTotal (F := Ideal) (φ := .f32) .gt) x h).2 (ix2 t r) = BitVec.ofNat 32 (srt (fun e => x (ix2 t e)) ⟨r.val, lt_of_lt_of_le r.isLt hk⟩).val := by
  unfold Host.topK Host.sort2
  dsimp only
  rw [cut2 _ h hk]
  show BitVec.ofNat 32 (sortedFrom (fun a b : Fin n => FloatOps.cmpfTotal (F := Ideal) (φ := .f32) .gt (x (Shape.Idx.along (s := ⟨2, ![T, n]⟩) (ix2 t ⟨r.val, lt_of_lt_of_le r.isLt hk⟩) ⟨1, Nat.lt_succ_self 1⟩ (show Fin n from a))) (x (Shape.Idx.along (s := ⟨2, ![T, n]⟩) (ix2 t ⟨r.val, lt_of_lt_of_le r.isLt hk⟩) ⟨1, Nat.lt_succ_self 1⟩ (show Fin n from b))) == 1#1) ⟨r.val, lt_of_lt_of_le r.isLt hk⟩).val = _
  simp only [up2]
  rfl
theorem topk3 {T m n k : ℕ} (x : (⟨3, ![T, m, n]⟩ : Shape).Idx → EReal) (h : (⟨3, ![T, m, n]⟩ : Shape).Slices (fun _ => 0) ⟨3, ![T, m, k]⟩) (hk : k ≤ n) (t : Fin T) (g : Fin m) (r : Fin k) :
    (Host.topK ⟨3, ![T, m, k]⟩ 2 (FloatOps.cmpfTotal (F := Ideal) (φ := .f32) .gt) x h).1 (ix3 t g r) = x (ix3 t g (srt (fun e => x (ix3 t g e)) ⟨r.val, lt_of_lt_of_le r.isLt hk⟩)) := by
  unfold Host.topK Host.sort2
  dsimp only
  rw [cut3 _ h hk]
  show x (Shape.Idx.along (s := ⟨3, ![T, m, n]⟩) (ix3 t g ⟨r.val, lt_of_lt_of_le r.isLt hk⟩) ⟨2, Nat.lt_succ_self 2⟩ (show Fin n from (sortedFrom (fun a b : Fin n => FloatOps.cmpfTotal (F := Ideal) (φ := .f32) .gt (x (Shape.Idx.along (s := ⟨3, ![T, m, n]⟩) (ix3 t g ⟨r.val, lt_of_lt_of_le r.isLt hk⟩) ⟨2, Nat.lt_succ_self 2⟩ (show Fin n from a))) (x (Shape.Idx.along (s := ⟨3, ![T, m, n]⟩) (ix3 t g ⟨r.val, lt_of_lt_of_le r.isLt hk⟩) ⟨2, Nat.lt_succ_self 2⟩ (show Fin n from b))) == 1#1) ⟨r.val, lt_of_lt_of_le r.isLt hk⟩))) = _
  simp only [up3]
  rfl
theorem gather_along {α : Type} {n : ℕ} (w : GatherDims.WF ⟨2, ![n, 256]⟩ ⟨3, ![n, 8, 1]⟩ ⟨2, ![n, 8]⟩ [] [1] [0] [1] [0] 2 ![1, 1]) (x : (⟨2, ![n, 256]⟩ : Shape).Idx → α) (i : IVec ⟨3, ![n, 8, 1]⟩ 32) (t : Fin n) (r : Fin 8) :
    Host.gather (⟨[], [1], [0], [0], [1], 2, ![1, 1], w⟩ : GatherDims _ _ _) x i (ix2 t r) = x (ix2 t ⟨min (i (ix3 t r (0 : Fin 1))).toInt.toNat 255, by omega⟩) := by
  unfold Host.gather
  refine congrArg x (funext fun a => Fin.ext ?_)
  match a with
  | ⟨0, _⟩ =>
    show GatherDims.start _ (ix2 t r) i 0 + GatherDims.batchCoord _ (ix2 t r) 0 + GatherDims.offCoord _ (ix2 t r) 0 = t.val
    rw [GatherDims.offCoord_eq_zero _ _ _ (show (0 : Fin 2) ∉ ([] : List (Fin 2)) by decide)]
    unfold GatherDims.start GatherDims.batchCoord
    rw [dif_neg (show (0 : Fin 2) ∉ ([1] : List (Fin 2)) by decide), dif_pos (show (0 : Fin 2) ∈ ([0] : List (Fin 2)) by decide)]
    simp only [Nat.add_zero, Nat.zero_add]
    rfl
  | ⟨1, _⟩ =>
    show GatherDims.start _ (ix2 t r) i 1 + GatherDims.batchCoord _ (ix2 t r) 1 + GatherDims.offCoord _ (ix2 t r) 1 = _
    rw [GatherDims.batchCoord_eq_zero _ _ _ (show (1 : Fin 2) ∉ ([0] : List (Fin 2)) by decide), GatherDims.offCoord_eq_zero _ _ _ (show (1 : Fin 2) ∉ ([] : List (Fin 2)) by decide)]
    unfold GatherDims.start
    rw [dif_pos (show (1 : Fin 2) ∈ ([1] : List (Fin 2)) by decide)]
    simp only [Nat.add_zero]
    have e : GatherDims.siIdx (⟨[], [1], [0], [0], [1], 2, ![1, 1], w⟩ : GatherDims ⟨2, ![n, 256]⟩ ⟨3, ![n, 8, 1]⟩ ⟨2, ![n, 8]⟩) (ix2 t r) ⟨0, Nat.one_pos⟩ = ix3 t r (0 : Fin 1) := by
      funext b
      match b with
      | ⟨0, _⟩ => rfl
      | ⟨1, _⟩ => rfl
      | ⟨2, _⟩ => rfl
    exact congrArg (fun j => min (i j).toInt.toNat 255) e

section
variable (L : FVec Ideal S256x65536 .f32) (B : FVec Ideal S1x256 .f32)
/-- The scores. -/
def sc_of : FVec Ideal S65536x256 .f32 := Host.divf (broadcastInDim S65536x256 ![] bcast_S_S65536x256 (constant S_ .f32 0x3F800000#32)) (addf (broadcastInDim S65536x256 ![] bcast_S_S65536x256 (constant S_ .f32 0x3F800000#32)) (Host.exp (Host.negf (transpose S65536x256 [1, 0] L transposes_S256x65536_S65536x256_1_0))))
def bi_of : FVec Ideal S65536x256 .f32 := addf (sc_of L) (broadcastInDim S65536x256 ![0, 1] bcast_S1x256_S65536x256_0_1 (broadcastInDim S1x256 ![1] bcast_S256_S1x256_1 (shapeCast _ B shapeCasts_S1x256_S256)))
def gs_of : FVec Ideal S65536x8 .f32 := Host.reduceAdd ((Host.topK S65536x8x2 2 (FloatOps.cmpfTotal .gt) (shapeCast _ (bi_of L B) shapeCasts_S65536x256_S65536x8x32) sliceFits_S65536x8x32_S65536x8x2).1) (constant S_ .f32 0x00000000#32) reducesTo_S65536x8x2_S65536x8_d2 h_S_
def gi_of : IVec S65536x4 32 := (Host.topK S65536x4 1 (FloatOps.cmpfTotal .gt) (gs_of L B) sliceFits_S65536x8_S65536x4).2
def cnt_of (gi : IVec S65536x4 32) : FVec Ideal S65536x8 .f32 := Host.reduceAdd (uitofp .f32 (cmpi .eq (broadcastInDim S65536x4x8 ![0, 1, 2] bcast_S65536x4x1_S65536x4x8_0_1_2 (broadcastInDim S65536x4x1 ![0, 1] bcast_S65536x4_S65536x4x1_0_1 gi)) (broadcastInDim S65536x4x8 ![0, 1, 2] bcast_S1x1x8_S65536x4x8_0_1_2 (iotaInDim S1x1x8 32 2)))) (constant S_ .f32 0x00000000#32) reducesTo_S65536x4x8_S65536x8_d1 h_S_
def mk_of (ct : FVec Ideal S65536x8 .f32) (b : FVec Ideal S65536x256 .f32) : FVec Ideal S65536x256 .f32 := select (shapeCast _ (broadcastInDim S65536x8x32 ![0, 1] bcast_S65536x8_S65536x8x32_0_1 (cmpf .ogt ct (broadcastInDim S65536x8 ![] bcast_S_S65536x8 (constant S_ .f32 0x00000000#32)))) shapeCasts_S65536x8x32_S65536x256) b (broadcastInDim S65536x256 ![] bcast_S_S65536x256 (id (constant S_ .f32 0xFF800000#32)))
def ei_of : IVec S65536x8 32 := (Host.topK S65536x8 1 (FloatOps.cmpfTotal .gt) (mk_of (cnt_of (gi_of L B)) (bi_of L B)) sliceFits_S65536x256_S65536x8).2
def ix_of (e : IVec S65536x8 32) : IVec S65536x8x1 32 := shapeCast _ (select (cmpi .slt e (broadcastInDim S65536x8 ![] bcast_S_S65536x8 (constantI S_ 32 0#32))) (addi e (broadcastInDim S65536x8 ![] bcast_S_S65536x8 (constantI S_ 32 256#32))) e) shapeCasts_S65536x8_S65536x8x1

/-- The chosen experts' scores. -/
def ga_of (i : IVec S65536x8x1 32) : FVec Ideal S65536x8 .f32 := select (Host.reduce IntOp.andi (andi (cmpi .sge i (broadcastInDim S65536x8x1 ![] bcast_S_S65536x8x1 (constantI S_ 32 0#32))) (cmpi .sle i (broadcastInDim S65536x8x1 ![0, 1, 2] bcast_S1x1x1_S65536x8x1_0_1_2 (broadcastInDim S1x1x1 ![2] bcast_S1_S1x1x1_2 (constantI S1 32 255#32))))) (constantI S_ 1 1#1) reducesTo_S65536x8x1_S65536x8_d2 h_S_) (Host.gather gather_S65536x256_S65536x8x1_S65536x8_n_1_0_0_1_2_11 (sc_of L) i) (broadcastInDim S65536x8 ![] bcast_S_S65536x8 (constant S_ .f32 0x7FC00000#32))
def wt_of (g : FVec Ideal S65536x8 .f32) : FVec Ideal S8x65536 .f32 := transpose S8x65536 [1, 0] (mulf (Host.divf g (broadcastInDim S65536x8 ![0, 1] bcast_S65536x1_S65536x8_0_1 (broadcastInDim S65536x1 ![0] bcast_S65536_S65536x1_0 (Host.reduceAdd g (constant S_ .f32 0x00000000#32) reducesTo_S65536x8_S65536_d1 h_S_)))) (broadcastInDim S65536x8 ![] bcast_S_S65536x8 (constant S_ .f32 0x40200000#32))) transposes_S65536x8_S8x65536_1_0

theorem sc_at (t : Fin 65536) (e : Fin 256) : sc_of L (ix2 t e) = scol L t e := by
  refine Eq.trans (b := Ideal.div 1 (1 + Ideal.exp (-L (ix2 e t)))) ?_ rfl
  unfold sc_of
  pointwise
theorem bi_at (t : Fin 65536) (e : Fin 256) : bi_of L B (ix2 t e) = bcol L B t e := by
  unfold bcol
  rw [← sc_at]
  unfold bi_of
  pointwise
theorem grp_at (t : Fin 65536) (g : Fin 8) (k : Fin 32) : (shapeCast S65536x8x32 (bi_of L B) shapeCasts_S65536x256_S65536x8x32) (ix3 t g k) = grp (bcol L B t) g k := by
  unfold grp ent
  rw [← bi_at]
  pointwise
theorem ix_at (e : IVec S65536x8 32) (t : Fin 65536) (r : Fin 8) : ix_of e (ix3 t r 0) = Scalar.select (IntOp.cmpi CmpIPredicate.slt (e (ix2 t r)) 0#32) (IntOp.addi (e (ix2 t r)) 256#32) (e (ix2 t r)) := by
  unfold ix_of
  pointwise
theorem wt_at (g : FVec Ideal S65536x8 .f32) (t : Fin 65536) (r : Fin 8) : wt_of g (ix2 r t) = Ideal.div (g (ix2 t r)) (∑ k : Fin 8, g (ix2 t k)) * Ideal.ofBits FTy.f32 0x40200000#32 := by
  unfold wt_of
  pointwise

theorem small (k : ℕ) (h : k < 256) : Scalar.select (IntOp.cmpi CmpIPredicate.slt (BitVec.ofNat 32 k) 0#32) (IntOp.addi (BitVec.ofNat 32 k) 256#32) (BitVec.ofNat 32 k) = BitVec.ofNat 32 k := by
  have s : IntOp.cmpi CmpIPredicate.slt (BitVec.ofNat 32 k) 0#32 = 0#1 := by
    show BitVec.ofBool (BitVec.slt _ _) = _
    rw [show BitVec.slt (BitVec.ofNat 32 k) 0#32 = false by
      rw [BitVec.slt, int_word k (by omega)]
      simp]
    rfl
  rw [s]
  rfl
theorem inside (k : ℕ) (h : k < 256) : IntOp.andi (IntOp.cmpi CmpIPredicate.sge (BitVec.ofNat 32 k) 0#32) (IntOp.cmpi CmpIPredicate.sle (BitVec.ofNat 32 k) 255#32) = 1#1 := by
  have a : IntOp.cmpi CmpIPredicate.sge (BitVec.ofNat 32 k) 0#32 = 1#1 := by
    show BitVec.ofBool (BitVec.sle _ _) = _
    rw [show BitVec.sle 0#32 (BitVec.ofNat 32 k) = true by
      rw [BitVec.sle, int_word k (by omega)]
      simp]
    rfl
  have b : IntOp.cmpi CmpIPredicate.sle (BitVec.ofNat 32 k) 255#32 = 1#1 := by
    show BitVec.ofBool (BitVec.sle _ _) = _
    rw [show BitVec.sle (BitVec.ofNat 32 k) 255#32 = true by
      rw [BitVec.sle, int_word k (by omega), show (255#32 : BitVec 32).toInt = 255 from rfl]
      simp only [decide_eq_true_eq]
      omega]
    rfl
  rw [a, b]
  rfl

theorem select_one {α : Type} {s : Shape} (p : IVec s 1) (a b : s.Idx → α) (j : s.Idx) (h : p j = 1#1) : select p a b j = a j := by
  show Scalar.select (p j) (a j) (b j) = a j
  rw [h]
  rfl
theorem ga_at (i : IVec S65536x8x1 32) (t : Fin 65536) (r : Fin 8) (k : Fin 256) (h : i (ix3 t r 0) = BitVec.ofNat 32 k.val) : ga_of L i (ix2 t r) = scol L t k := by
  have hg : Host.gather gather_S65536x256_S65536x8x1_S65536x8_n_1_0_0_1_2_11 (sc_of L) i (ix2 t r) = scol L t k := by
    refine (gather_along _ (sc_of L) i t r).trans ?_
    rw [← sc_at]
    refine congrArg (fun k => sc_of L (ix2 t k)) (Fin.ext ?_)
    show min (i (ix3 t r 0)).toInt.toNat 255 = k.val
    rw [h, int_word k.val (by omega)]
    have := k.isLt
    simp only [Int.toNat_natCast]
    omega
  have hm : (Host.reduce IntOp.andi (andi (cmpi .sge i (broadcastInDim S65536x8x1 ![] bcast_S_S65536x8x1 (constantI S_ 32 0#32))) (cmpi .sle i (broadcastInDim S65536x8x1 ![0, 1, 2] bcast_S1x1x1_S65536x8x1_0_1_2 (broadcastInDim S1x1x1 ![2] bcast_S1_S1x1x1_2 (constantI S1 32 255#32))))) (constantI S_ 1 1#1) reducesTo_S65536x8x1_S65536x8_d2 h_S_) (ix2 t r) = 1#1 := by
    pointwise
    rw [Finset.univ_unique, Finset.fold_singleton]
    show IntOp.andi (IntOp.andi (IntOp.cmpi CmpIPredicate.sge (i (ix3 t r 0)) 0#32) (IntOp.cmpi CmpIPredicate.sle (i (ix3 t r 0)) 255#32)) 1#1 = 1#1
    rw [h, inside k.val k.isLt]
    rfl
  unfold ga_of
  exact (select_one _ _ _ _ hm).trans hg

section
variable (hB : ∀ e : Fin 256, ⊥ < B (ix2 (0 : Fin 1) e))
include hB
theorem gs_at (t : Fin 65536) (g : Fin 8) : gs_of L B (ix2 t g) = gscore (bcol L B t) g := by
  have e : (fun k : Fin 32 => (shapeCast S65536x8x32 (bi_of L B) shapeCasts_S65536x256_S65536x8x32) (ix3 t g k)) = grp (bcol L B t) g := funext fun k => grp_at L B t g k
  have h : ∀ r : Fin 2, (Host.topK S65536x8x2 2 (FloatOps.cmpfTotal (F := Ideal) (φ := .f32) .gt) (shapeCast S65536x8x32 (bi_of L B) shapeCasts_S65536x256_S65536x8x32) sliceFits_S65536x8x32_S65536x8x2).1 (ix3 t g r)
      = grp (bcol L B t) g (srt (grp (bcol L B t) g) ⟨r.val, by omega⟩) := fun r => by
    refine (topk3 _ sliceFits_S65536x8x32_S65536x8x2 (by decide) t g r).trans ?_
    rw [e, grp_at]
  rw [gscore_eq _ (bcol_bot L B hB t)]
  refine Eq.trans (b := ∑ r : Fin 2, (Host.topK S65536x8x2 2 (FloatOps.cmpfTotal (F := Ideal) (φ := .f32) .gt) (shapeCast S65536x8x32 (bi_of L B) shapeCasts_S65536x256_S65536x8x32) sliceFits_S65536x8x32_S65536x8x2).1 (ix3 t g r)) ?_ ?_
  · unfold gs_of
    pointwise
  · rw [Fin.sum_univ_two, h, h]
    rfl
theorem gi_at (t : Fin 65536) (r : Fin 4) : gi_of L B (ix2 t r) = BitVec.ofNat 32 (srt (gscore (bcol L B t)) ⟨r.val, by omega⟩).val := by
  refine (topk2 (gs_of L B) sliceFits_S65536x8_S65536x4 (by decide) t r).trans ?_
  rw [show (fun g : Fin 8 => gs_of L B (ix2 t g)) = gscore (bcol L B t) from funext fun g => gs_at L B hB t g]
theorem cnt_at (t : Fin 65536) (g : Fin 8) : cnt_of (gi_of L B) (ix2 t g) = ∑ r : Fin 4, FloatOps.uitofp (F := Ideal) FTy.f32 (IntOp.cmpi .eq (BitVec.ofNat 32 (srt (gscore (bcol L B t)) ⟨r.val, by omega⟩).val) (BitVec.ofNat 32 g.val)) := by
  refine Eq.trans (b := ∑ r : Fin 4, FloatOps.uitofp (F := Ideal) FTy.f32 (IntOp.cmpi .eq (gi_of L B (ix2 t r)) (BitVec.ofNat 32 g.val))) ?_ (Finset.sum_congr rfl fun r _ => ?_)
  · unfold cnt_of
    pointwise
  · rw [gi_at L B hB]
theorem mk_at (t : Fin 65536) (e : Fin 256) : mk_of (cnt_of (gi_of L B)) (bi_of L B) (ix2 t e) = kept (bcol L B t) e := by
  refine Eq.trans (b := if 0 < cnt_of (gi_of L B) (ix2 t ⟨e.val / 32, by omega⟩) then bi_of L B (ix2 t e) else Ideal.ofBits FTy.f32 4286578688#32) ?_ ?_
  · unfold mk_of
    pointwise
    simp only [id]
    pointwise
  · rw [kept_eq _ (bcol_bot L B hB t), bi_at, bot_word, cnt_at L B hB]
    exact if_congr (count _ _) rfl rfl
theorem ei_at (t : Fin 65536) (r : Fin 8) : ei_of L B (ix2 t r) = BitVec.ofNat 32 (srt (kept (bcol L B t)) ⟨r.val, by omega⟩).val := by
  refine (topk2 (mk_of (cnt_of (gi_of L B)) (bi_of L B)) sliceFits_S65536x256_S65536x8 (by decide) t r).trans ?_
  rw [show (fun e : Fin 256 => mk_of (cnt_of (gi_of L B)) (bi_of L B) (ix2 t e)) = kept (bcol L B t) from funext fun e => mk_at L B hB t e]

theorem row_e (r : Fin 8) (t : Fin 65536) : transpose S8x65536 [1, 0] (ei_of L B) transposes_S65536x8_S8x65536_1_0 (ix2 r t) = eRow L B r t := by
  refine Eq.trans (b := ei_of L B (ix2 t r)) (by pointwise) ?_
  rw [ei_at L B hB]
  exact (pickE_eq _ (bcol_bot L B hB t) ⟨r.val, by omega⟩ r.isLt).symm
theorem row_g (r : Fin 8) (t : Fin 65536) : ga_of L (ix_of (ei_of L B)) (ix2 t r) = rawE (scol L t) (bcol L B t) r.val := by
  refine (ga_at L _ t r (srt (kept (bcol L B t)) ⟨r.val, by omega⟩) ?_).trans (rawE_eq _ (bcol_bot L B hB t) (scol L t) ⟨r.val, by omega⟩ r.isLt).symm
  rw [ix_at, ei_at L B hB]
  exact small _ (Fin.isLt _)
theorem row_w (r : Fin 8) (t : Fin 65536) : wt_of (ga_of L (ix_of (ei_of L B))) (ix2 r t) = wRow L B r t := by
  unfold wRow
  rw [wt_at, row_g L B hB]
  simp only [row_g L B hB]
end
end

theorem res_w (m : (ℓ : Loc nD τ sig) → Buf (Elt Ideal) ℓ) (c : Dev nD) : Value.res_main_v28 m c = wt_of (ga_of (m ((c.tc : Thread nD τ).loc main_arg0)) (ix_of (ei_of (m ((c.tc : Thread nD τ).loc main_arg0)) (m ((c.tc : Thread nD τ).loc main_arg1))))) := by
  unfold Value.res_main_v28
  rfl
end Cert.Reference7Ideal.Rt
end
end
-- ==== Proof.lean ====
/- The claims: the frames, the named constant, and the values of the attention, of the input projection, of the modulation, of the mixer, of the position bias strip and of the destinations against the plain mathematics. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Kernel7
public import proofs.«01_k».proof.Proof.Gen.Kernel7.Frame
public import proofs.«01_k».proof.Proof.Gen.Kernel7Ideal.Value
public import proofs.«01_k».proof.Proof.Gen.Reference7Ideal.Run
public import proofs.«01_k».proof.Proof.Arr
public import proofs.«01_k».proof.Proof.Ref
public import proofs.«01_k».proof.Proof.Pre
public import proofs.«01_k».proof.Proof.Same
public import proofs.«01_k».proof.Proof.InSame
public import proofs.«01_k».proof.Proof.Ada
public import proofs.«01_k».proof.Proof.MixSame
public import proofs.«01_k».proof.Proof.Pre4
public import proofs.«01_k».proof.Proof.Bias
public import proofs.«01_k».proof.Proof.Dest
public import proofs.«01_k».proof.Proof.Pre7
public import proofs.«01_k».proof.Proof.RouteA
public import proofs.«01_k».proof.Proof.RouteR
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

local instance : Cert.Kernel.Facts := Cert.Kernel.Gen.facts
local instance : Cert.KernelIdeal.Facts := Cert.KernelIdeal.Gen.facts
local instance : Cert.ReferenceIdeal.Facts := Cert.ReferenceIdeal.Gen.facts
local instance : Cert.Kernel2.Facts := Cert.Kernel2.Gen.facts
local instance : Cert.Kernel2Ideal.Facts := Cert.Kernel2Ideal.Gen.facts
local instance : Cert.Reference2Ideal.Facts := Cert.Reference2Ideal.Gen.facts
local instance : Cert.Kernel3.Facts := Cert.Kernel3.Gen.facts
local instance : Cert.Kernel3Ideal.Facts := Cert.Kernel3Ideal.Gen.facts
local instance : Cert.Reference3Ideal.Facts := Cert.Reference3Ideal.Gen.facts
local instance : Cert.Kernel4.Facts := Cert.Kernel4.Gen.facts
local instance : Cert.Kernel4Ideal.Facts := Cert.Kernel4Ideal.Gen.facts
local instance : Cert.Reference4Ideal.Facts := Cert.Reference4Ideal.Gen.facts
local instance : Cert.Kernel5.Facts := Cert.Kernel5.Gen.facts
local instance : Cert.Kernel5Ideal.Facts := Cert.Kernel5Ideal.Gen.facts
local instance : Cert.Reference5Ideal.Facts := Cert.Reference5Ideal.Gen.facts
local instance : Cert.Kernel6.Facts := Cert.Kernel6.Gen.facts
local instance : Cert.Kernel6Ideal.Facts := Cert.Kernel6Ideal.Gen.facts
local instance : Cert.Reference6Ideal.Facts := Cert.Reference6Ideal.Gen.facts
local instance : Cert.Kernel7.Facts := Cert.Kernel7.Gen.facts
local instance : Cert.Kernel7Ideal.Facts := Cert.Kernel7Ideal.Gen.facts
local instance : Cert.Reference7Ideal.Facts := Cert.Reference7Ideal.Gen.facts
local instance : Cert.Pre_finite.Facts := Cert.Pre_finite.facts
local instance : Cert.Pre_finite4.Facts := Cert.Pre_finite4.facts
local instance : Cert.Pre_experts6.Facts := Cert.Pre_experts6.facts
local instance : Cert.Pre_above7.Facts := Cert.Pre_above7.facts

theorem frame_p : Cert.quiescent_Kernel := fun m ρ _ => Cert.Kernel.Gen.frame m ρ
theorem frame_pi : Cert.quiescent_KernelIdeal := fun m ρ _ => Cert.KernelIdeal.Gen.frame m ρ
theorem frame_pi_pre : Cert.quiescent_KernelIdeal_pre_finite := fun m ρ _ => Cert.KernelIdeal.Gen.frame m ρ

theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)
theorem frame_ri_pre : Cert.quiescent_ReferenceIdeal_pre_finite := fun m ρ _ => frame_ri m ρ trivial

theorem preserves : Cert.preserves_Kernel_KernelIdeal :=
  IdealRules.named_const.statement Cert.KernelIdeal.κ "log2e" .f32 0x3FB8AA3B#32 (((Real.log 2)⁻¹ : ℝ) : EReal) rfl

/-- The kernel's result array and the reference's, from equal arguments. -/
theorem same (m : (ℓ : Loc Cert.KernelIdeal.nD Cert.KernelIdeal.τ Cert.KernelIdeal.sig) → Buf (Elt Ideal) ℓ)
    (V0 : Valuation Cert.ReferenceIdeal.τ Cert.ReferenceIdeal.sig (Elt Ideal)) (c : Dev Cert.KernelIdeal.nD)
    (hpre : Cert.Pre_KernelIdeal_finite m)
    (e0 : Cert.ReferenceIdeal.Attn.Q V0 = Cert.KernelIdeal.Attn.Q m c) (e1 : Cert.ReferenceIdeal.Attn.K V0 = Cert.KernelIdeal.Attn.K m c)
    (e2 : Cert.ReferenceIdeal.Attn.W V0 = Cert.KernelIdeal.Attn.W m c) (e3 : Cert.ReferenceIdeal.Attn.GA V0 = Cert.KernelIdeal.Attn.GA m c)
    (e4 : Cert.ReferenceIdeal.Attn.TB V0 = Cert.KernelIdeal.Attn.TB m c) (e5 : Cert.ReferenceIdeal.Attn.L1 V0 = Cert.KernelIdeal.Attn.L1 m c)
    (e6 : Cert.ReferenceIdeal.Attn.L2 V0 = Cert.KernelIdeal.Attn.L2 m c) (e7 : Cert.ReferenceIdeal.Attn.L3 V0 = Cert.KernelIdeal.Attn.L3 m c)
    (e8 : Cert.ReferenceIdeal.Attn.L4 V0 = Cert.KernelIdeal.Attn.L4 m c) (e9 : Cert.ReferenceIdeal.Attn.SG V0 = Cert.KernelIdeal.Attn.SG m c) :
    Cert.ReferenceIdeal.Attn.result V0 = Cert.KernelIdeal.Attn.fin7 m c := by
  obtain ⟨p2, p5, p6, p7, p8⟩ := Cert.Pre_finite.unpack _ _ _ _ _ _ _ _ _ _ (hpre c)
  funext j
  have ej : j = ix2 (show Fin 65536 from j 0) (show Fin 1024 from j 1) := by
    funext a
    revert a
    exact Fin.forall_fin_two.2 ⟨rfl, rfl⟩
  rw [ej, Cert.ReferenceIdeal.Attn.result_at, e0, e1, e2, e3, e4, e5, e6, e7, e8, e9]
  exact (DiffAttn.out_same _ _ _ _ (fun k d => p2 _) (DiffAttn.lam_real _ _ _ _ p5 p6 p7 p8) _ _ _).symm

theorem algebraic : Cert.algebraic_KernelIdeal_ReferenceIdeal_pre_finite := by
  intro m ρ m' ρ' hpre hagree
  refine ⟨_, Cert.KernelIdeal.Value.run_blocks m ρ, ?_⟩
  refine (θ_run Cert.ReferenceIdeal.defs _ _).mono (fun r h c => ⟨(h c).1.trans ?_, (h c).2⟩) (Cert.ReferenceIdeal.Value.run (F := Ideal) m' ρ')
  obtain ⟨e0, e1, e2, e3, e4, e5, e6, e7, e8, e9⟩ := hagree c
  exact (same m (StableHlo.launchContents m' c) c hpre e0 e1 e2 e3 e4 e5 e6 e7 e8 e9).trans (Cert.KernelIdeal.Attn.arr_eq m c).symm

/-! ## The input projection -/

theorem frame_p2 : Cert.quiescent_Kernel2 := fun m ρ _ => Cert.Kernel2.Gen.frame m ρ
theorem frame_pi2 : Cert.quiescent_Kernel2Ideal := fun m ρ _ => Cert.Kernel2Ideal.Gen.frame m ρ

theorem frame_ri2 : Cert.quiescent_Reference2Ideal := fun m ρ _ =>
  (θ_run Cert.Reference2Ideal.defs _ _).mono (fun r h => ⟨fun c => (h c).2.2.2.2.2.2, sem_eq_zero_of_no_sems (by decide) r.2⟩)
    (Cert.Reference2Ideal.Value.run (F := Ideal) m ρ)

theorem preserves2 : Cert.preserves_Kernel2_Kernel2Ideal := trivial

theorem algebraic2 : Cert.algebraic_Kernel2Ideal_Reference2Ideal := by
  intro m ρ m' ρ' _ hagree
  refine ⟨_, _, _, _, _, _, Cert.Kernel2Ideal.Value.run_blocks m ρ, ?_⟩
  refine (θ_run Cert.Reference2Ideal.defs _ _).mono (fun r h c => ?_) (Cert.Reference2Ideal.Value.run (F := Ideal) m' ρ')
  obtain ⟨h0, h1, h2, h3, h4, h5, hk⟩ := h c
  obtain ⟨e0, e1, e2, e3, e4, e5⟩ := hagree c
  have eP : InProj.P' m' c = Cert.Reference2Ideal.In.proj (Cert.Kernel2Ideal.In.X m c) (Cert.Kernel2Ideal.In.M m c) (Cert.Kernel2Ideal.In.G m c) (Cert.Kernel2Ideal.In.W m c) := by
    unfold InProj.P'
    rw [e0, e1, e2, e3]
  refine ⟨h0.trans ((InProj.res8 m' c).trans ?_), h1.trans ((InProj.res9 m' c).trans ?_), h2.trans ?_, h3.trans ?_, h4.trans ?_, h5.trans ?_, hk⟩
  · rw [eP, e4]
    exact (InProj.same8 m c).trans (Cert.Kernel2Ideal.In.arr8 m c).symm
  · rw [eP, e5]
    exact (InProj.same9 m c).trans (Cert.Kernel2Ideal.In.arr9 m c).symm
  · exact (congrArg Cert.Reference2Ideal.In.v_of eP).trans ((InProj.same10 m c).trans (Cert.Kernel2Ideal.In.arr10 m c).symm)
  · exact (congrArg Cert.Reference2Ideal.In.p_of eP).trans ((InProj.same11 m c).trans (Cert.Kernel2Ideal.In.arr11 m c).symm)
  · exact (congrArg Cert.Reference2Ideal.In.ga_of eP).trans ((InProj.same12 m c).trans (Cert.Kernel2Ideal.In.arr12 m c).symm)
  · exact (congrArg Cert.Reference2Ideal.In.gp_of eP).trans ((InProj.same13 m c).trans (Cert.Kernel2Ideal.In.arr13 m c).symm)

/-! ## The modulation -/

theorem frame_p3 : Cert.quiescent_Kernel3 := fun m ρ _ => Cert.Kernel3.Gen.frame m ρ
theorem frame_pi3 : Cert.quiescent_Kernel3Ideal := fun m ρ _ => Cert.Kernel3Ideal.Gen.frame m ρ

theorem frame_ri3 : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

theorem preserves3 : Cert.preserves_Kernel3_Kernel3Ideal := trivial

theorem same3 (m : (ℓ : Loc Cert.Kernel3Ideal.nD Cert.Kernel3Ideal.τ Cert.Kernel3Ideal.sig) → Buf (Elt Ideal) ℓ) (c : Dev Cert.Kernel3Ideal.nD) :
    Cert.Reference3Ideal.Ada.result (Cert.Kernel3Ideal.Ada.C m c) (Cert.Kernel3Ideal.Ada.W m c) (Cert.Kernel3Ideal.Ada.B m c) = Cert.Kernel3Ideal.Ada.fin3 m c := by
  funext j
  have ej : j = ix2 (show Fin 32 from j 0) (show Fin 6144 from j 1) := by
    funext a
    revert a
    exact Fin.forall_fin_two.2 ⟨rfl, rfl⟩
  rw [ej, Cert.Reference3Ideal.Ada.result_at]
  rfl

theorem algebraic3 : Cert.algebraic_Kernel3Ideal_Reference3Ideal := by
  intro m ρ m' ρ' _ hagree
  refine ⟨_, Cert.Kernel3Ideal.Value.run_blocks m ρ, ?_⟩
  refine (θ_run Cert.Reference3Ideal.defs _ _).mono (fun r h c => ⟨(h c).1.trans ?_, (h c).2⟩) (Cert.Reference3Ideal.Value.run (F := Ideal) m' ρ')
  obtain ⟨e0, e1, e2⟩ := hagree c
  rw [e0, e1, e2]
  exact (same3 m c).trans (Cert.Kernel3Ideal.Ada.arr3 m c).symm

/-! ## The mixer -/

theorem frame_p4 : Cert.quiescent_Kernel4 := fun m ρ _ => Cert.Kernel4.Gen.frame m ρ
theorem frame_pi4 : Cert.quiescent_Kernel4Ideal := fun m ρ _ => Cert.Kernel4Ideal.Gen.frame m ρ
theorem frame_pi4_pre : Cert.quiescent_Kernel4Ideal_pre_finite4 := fun m ρ _ => Cert.Kernel4Ideal.Gen.frame m ρ

theorem frame_ri4 : Cert.quiescent_Reference4Ideal := fun m ρ _ =>
  (θ_run Cert.Reference4Ideal.defs _ _).mono (fun r h => ⟨fun c => (h c).2.2.2, sem_eq_zero_of_no_sems (by decide) r.2⟩)
    (Cert.Reference4Ideal.Value.run (F := Ideal) m ρ)
theorem frame_ri4_pre : Cert.quiescent_Reference4Ideal_pre_finite4 := fun m ρ _ => frame_ri4 m ρ trivial

theorem preserves4 : Cert.preserves_Kernel4_Kernel4Ideal := trivial

theorem algebraic4 : Cert.algebraic_Kernel4Ideal_Reference4Ideal_pre_finite4 := by
  intro m ρ m' ρ' hpre hagree
  refine ⟨_, _, _, Cert.Kernel4Ideal.Value.run_blocks m ρ, ?_⟩
  refine (θ_run Cert.Reference4Ideal.defs _ _).mono (fun r h c => ?_) (Cert.Reference4Ideal.Value.run (F := Ideal) m' ρ')
  obtain ⟨h0, h1, h2, hk⟩ := h c
  obtain ⟨e0, e1, e2, e3, e4, e5, e6, e7, e8, e9⟩ := hagree c
  obtain ⟨p3, q3, q4, p8, p9⟩ := Cert.Pre_finite4.unpack _ _ _ _ _ _ _ _ _ _ (hpre c)
  have eY : Cert.Mix4.Y' m' c = Cert.Mix4.Y m c := by
    unfold Cert.Mix4.Y' Cert.Mix4.Y
    rw [e0, e1, e2, e3, e4, e5, e6, e7]
  refine ⟨h0.trans ((Cert.Mix4.out0 m' c).trans ?_), h1.trans ((Cert.Mix4.out1 m' c).trans ?_), h2.trans ((Cert.Mix4.out2 m' c).trans ?_), hk⟩
  · rw [eY]
    exact (Cert.Mix4.same12 m c p3).trans (Cert.Kernel4Ideal.Mix.arr12 m c).symm
  · rw [eY, e4, e8]
    exact (Cert.Mix4.same13 m c p3).trans (Cert.Kernel4Ideal.Mix.arr13 m c).symm
  · rw [eY, e4, e8, e9]
    exact (Cert.Mix4.same14 m c p3 q3 q4 (fun e => p8 _) p9).trans (Cert.Kernel4Ideal.Mix.arr14 m c).symm

/-! ## The position bias strip -/

theorem frame_p5 : Cert.quiescent_Kernel5 := fun m ρ _ => Cert.Kernel5.Gen.frame m ρ
theorem frame_pi5 : Cert.quiescent_Kernel5Ideal := fun m ρ _ => Cert.Kernel5Ideal.Gen.frame m ρ

theorem frame_ri5 : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

theorem preserves5 : Cert.preserves_Kernel5_Kernel5Ideal := trivial

theorem algebraic5 : Cert.algebraic_Kernel5Ideal_Reference5Ideal := by
  intro m ρ m' ρ' _ hagree
  refine ⟨_, Cert.Kernel5Ideal.Value.run_blocks m ρ, ?_⟩
  refine (θ_run Cert.Reference5Ideal.defs _ _).mono (fun r h c => ⟨(h c).1.trans ?_, (h c).2⟩) (Cert.Reference5Ideal.Value.run (F := Ideal) m' ρ')
  have e0 := hagree c
  refine Eq.trans (b := Cert.Kernel5Ideal.Bias.fin2 m c) ?_ (Cert.Kernel5Ideal.Bias.arr2 m c).symm
  funext j
  have ej : j = ix2 (show Fin 8 from j 0) (show Fin 4096 from j 1) := by
    funext a
    revert a
    exact Fin.forall_fin_two.2 ⟨rfl, rfl⟩
  rw [ej]
  refine (Cert.Reference5Ideal.Bias.result_at m' c _ _).trans ?_
  rw [e0]
  rfl

/-! ## The destinations -/

theorem frame_p6 : Cert.quiescent_Kernel6 := fun m ρ _ => Cert.Kernel6.Gen.frame m ρ
theorem frame_pi6 : Cert.quiescent_Kernel6Ideal := fun m ρ _ => Cert.Kernel6Ideal.Gen.frame m ρ
theorem frame_pi6_pre : Cert.quiescent_Kernel6Ideal_pre_experts6 := fun m ρ _ => Cert.Kernel6Ideal.Gen.frame m ρ

theorem frame_ri6 : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)
theorem frame_ri6_pre : Cert.quiescent_Reference6Ideal_pre_experts6 := fun m ρ _ => frame_ri6 m ρ trivial

theorem preserves6 : Cert.preserves_Kernel6_Kernel6Ideal := trivial

theorem algebraic6 : Cert.algebraic_Kernel6Ideal_Reference6Ideal_pre_experts6 := by
  intro m ρ m' ρ' hpre hagree
  refine ⟨_, Cert.Kernel6Ideal.Value.run_blocks m ρ, ?_⟩
  refine (θ_run Cert.Reference6Ideal.defs _ _).mono (fun r h c => ⟨(h c).1.trans ?_, (h c).2⟩) (Cert.Reference6Ideal.Value.run (F := Ideal) m' ρ')
  obtain ⟨e0, e1, e2⟩ := hagree c
  have hE : ∀ i, (Cert.Kernel6Ideal.Dest.E m c i).toNat < 256 := Cert.Pre_experts6.unpack _ _ _ (hpre c)
  rw [e0, e1, e2]
  refine Eq.trans (b := Cert.Kernel6Ideal.Dest.fin3 m c) ?_ (Cert.Kernel6Ideal.Dest.arr3 m c hE).symm
  funext j
  have ej : j = ix2 (show Fin 8 from j 0) (show Fin 65536 from j 1) := by
    funext a
    revert a
    exact Fin.forall_fin_two.2 ⟨rfl, rfl⟩
  rw [ej]
  exact Cert.Reference6Ideal.Dest.result_at (Cert.Kernel6Ideal.Dest.E m c) (Cert.Kernel6Ideal.Dest.R m c) (Cert.Kernel6Ideal.Dest.B m c) _ _ (hE _)

theorem frame_p7 : Cert.quiescent_Kernel7 := fun m ρ _ => Cert.Kernel7.Gen.frame m ρ
theorem frame_pi7 : Cert.quiescent_Kernel7Ideal := fun m ρ _ => Cert.Kernel7Ideal.Gen.frame m ρ
theorem frame_pi7_pre : Cert.quiescent_Kernel7Ideal_pre_above7 := fun m ρ _ => Cert.Kernel7Ideal.Gen.frame m ρ

theorem frame_ri7 : Cert.quiescent_Reference7Ideal := fun m ρ _ =>
  (θ_run Cert.Reference7Ideal.defs _ _).mono (fun r h => ⟨fun c => (h c).2.2, sem_eq_zero_of_no_sems (by decide) r.2⟩)
    (Cert.Reference7Ideal.Value.run (F := Ideal) m ρ)
theorem frame_ri7_pre : Cert.quiescent_Reference7Ideal_pre_above7 := fun m ρ _ => frame_ri7 m ρ trivial

theorem preserves7 : Cert.preserves_Kernel7_Kernel7Ideal := trivial

theorem ix_eta7 (j : (⟨2, ![8, 65536]⟩ : Shape).Idx) : j = ix2 (show Fin 8 from j 0) (show Fin 65536 from j 1) := by
  funext a
  revert a
  exact Fin.forall_fin_two.2 ⟨rfl, rfl⟩

theorem algebraic7 : Cert.algebraic_Kernel7Ideal_Reference7Ideal_pre_above7 := by
  intro m ρ m' ρ' hpre hagree
  refine ⟨_, _, (θ_run Cert.Kernel7Ideal.defs _ _).mono (fun r h c => ⟨(h c).1, (h c).2.2.1, (h c).2.2.2.2⟩) (Cert.Kernel7Ideal.Value.run_blocks m ρ), ?_⟩
  refine (θ_run Cert.Reference7Ideal.defs _ _).mono (fun r h c => ⟨(h c).1.trans ?_, (h c).2.1.trans ?_, (h c).2.2⟩) (Cert.Reference7Ideal.Value.run (F := Ideal) m' ρ')
  · obtain ⟨e0, e1⟩ := hagree c
    have hB : ∀ e : Fin 256, ⊥ < Cert.Kernel7Ideal.Rt.B m c (ix2 (0 : Fin 1) e) := fun e => Cert.Pre_above7.unpack _ _ (hpre c) _
    rw [e0, e1]
    refine Eq.trans (b := Cert.Kernel7Ideal.Rt.fin3 m c) ?_ (Cert.Kernel7Ideal.Rt.arr3 m c).symm
    funext j
    rw [ix_eta7 j]
    exact Cert.Reference7Ideal.Rt.row_e (Cert.Kernel7Ideal.Rt.L m c) (Cert.Kernel7Ideal.Rt.B m c) hB _ _
  · obtain ⟨e0, e1⟩ := hagree c
    have hB : ∀ e : Fin 256, ⊥ < Cert.Kernel7Ideal.Rt.B m c (ix2 (0 : Fin 1) e) := fun e => Cert.Pre_above7.unpack _ _ (hpre c) _
    rw [Cert.Reference7Ideal.Rt.res_w, e0, e1]
    refine Eq.trans (b := Cert.Kernel7Ideal.Rt.fin5 m c) ?_ (Cert.Kernel7Ideal.Rt.arr5 m c).symm
    funext j
    rw [ix_eta7 j]
    exact Cert.Reference7Ideal.Rt.row_w (Cert.Kernel7Ideal.Rt.L m c) (Cert.Kernel7Ideal.Rt.B m c) hB _ _

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts,
    Cert.Kernel3.Gen.facts, Cert.Kernel3Ideal.Gen.facts, Cert.Reference3Ideal.Gen.facts, Cert.Kernel4.Gen.facts, Cert.Kernel4Ideal.Gen.facts, Cert.Reference4Ideal.Gen.facts,
    Cert.Kernel5.Gen.facts, Cert.Kernel5Ideal.Gen.facts, Cert.Reference5Ideal.Gen.facts, Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Pre_finite.facts, Cert.Pre_finite4.facts, Cert.Pre_experts6.facts, Cert.Pre_above7.facts,
    frame_p, frame_pi, frame_pi_pre, frame_ri, frame_ri_pre, frame_p2, frame_pi2, frame_ri2, frame_p3, frame_pi3, frame_ri3, frame_p4, frame_pi4, frame_pi4_pre, frame_ri4, frame_ri4_pre,
    frame_p5, frame_pi5, frame_ri5, frame_p6, frame_pi6, frame_pi6_pre, frame_ri6, frame_ri6_pre,
    frame_p7, frame_pi7, frame_pi7_pre, frame_ri7, frame_ri7_pre,
    preserves, algebraic, preserves2, algebraic2, preserves3, algebraic3, preserves4, algebraic4, preserves5, algebraic5, preserves6, algebraic6, preserves7, algebraic7⟩

end Cert.Proof

end
